-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_XKernel (m : (ℓ : Loc Cert.XKernel.nD Cert.XKernel.τ Cert.XKernel.sig) → Buf (Elt Bits) ℓ) : Prop :=
  True

def Pre_XKernelIdeal (m : (ℓ : Loc Cert.XKernelIdeal.nD Cert.XKernelIdeal.τ Cert.XKernelIdeal.sig) → Buf (Elt Ideal) ℓ) : Prop :=
  True

def Pre_XReferenceIdeal (m : (ℓ : Loc Cert.XReferenceIdeal.nD Cert.XReferenceIdeal.τ Cert.XReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_XKernel [hXKernel : Cert.XKernel.Facts] : Prop :=
  ∀ (m : (ℓ : Loc Cert.XKernel.nD Cert.XKernel.τ Cert.XKernel.sig) → Buf (Elt Bits) ℓ) (g : Dev Cert.XKernel.nD → PrngReg), Pre_XKernel m →
    θ_run (Cert.XKernel.defs (F := Bits)) (onTc (τ := Cert.XKernel.τ) (Cert.XKernel.main (F := Bits))) ⟨m, fun _ => 0, g⟩ (fun r => (∀ c : Dev Cert.XKernel.nD,
      r.2.mem ((c.tc : Thread Cert.XKernel.nD Cert.XKernel.τ).loc Cert.XKernel.main_arg0) = m ((c.tc : Thread Cert.XKernel.nD Cert.XKernel.τ).loc Cert.XKernel.main_arg0)
      ∧ r.2.mem ((c.tc : Thread Cert.XKernel.nD Cert.XKernel.τ).loc Cert.XKernel.main_arg1) = m ((c.tc : Thread Cert.XKernel.nD Cert.XKernel.τ).loc Cert.XKernel.main_arg1))
      ∧ r.2.sem = fun _ => 0)

def quiescent_XKernelIdeal [hXKernelIdeal : Cert.XKernelIdeal.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_XKernel_XKernelIdeal : Prop :=
  True

def algebraic_XKernelIdeal_XReferenceIdeal [hXKernelIdeal : Cert.XKernelIdeal.Facts] [hXReferenceIdeal : Cert.XReferenceIdeal.Facts] : Prop :=
  ∀ (m : (ℓ : Loc Cert.XKernelIdeal.nD Cert.XKernelIdeal.τ Cert.XKernelIdeal.sig) → Buf (Elt Ideal) ℓ) (g : Dev Cert.XKernelIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XKernelIdeal m →
    (∀ c : Dev Cert.XKernelIdeal.nD,
      m' ((c.tc : Thread Cert.XReferenceIdeal.nD Cert.XReferenceIdeal.τ).loc Cert.XReferenceIdeal.main_arg0) = m ((c.tc : Thread Cert.XKernelIdeal.nD Cert.XKernelIdeal.τ).loc Cert.XKernelIdeal.main_arg0)
      ∧ m' ((c.tc : Thread Cert.XReferenceIdeal.nD Cert.XReferenceIdeal.τ).loc Cert.XReferenceIdeal.main_arg1) = m ((c.tc : Thread Cert.XKernelIdeal.nD Cert.XKernelIdeal.τ).loc Cert.XKernelIdeal.main_arg1)) →
    ∃ (v0 : (c : Dev Cert.XKernelIdeal.nD) → Buf (Elt Ideal) ((c.tc : Thread Cert.XKernelIdeal.nD Cert.XKernelIdeal.τ).loc Cert.XKernelIdeal.main_v1_0)) (v1 : (c : Dev Cert.XKernelIdeal.nD) → Buf (Elt Ideal) ((c.tc : Thread Cert.XKernelIdeal.nD Cert.XKernelIdeal.τ).loc Cert.XKernelIdeal.main_v1_1)),
      θ_run (Cert.XKernelIdeal.defs (F := Ideal)) (onTc (τ := Cert.XKernelIdeal.τ) (Cert.XKernelIdeal.main (F := Ideal))) ⟨m, fun _ => 0, g⟩ (fun r => ∀ c : Dev Cert.XKernelIdeal.nD,
          r.2.mem ((c.tc : Thread Cert.XKernelIdeal.nD Cert.XKernelIdeal.τ).loc Cert.XKernelIdeal.main_v1_0) = v0 c
          ∧ r.2.mem ((c.tc : Thread Cert.XKernelIdeal.nD Cert.XKernelIdeal.τ).loc Cert.XKernelIdeal.main_v1_1) = v1 c
          ∧ r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
          ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v1_0) = v0 c
          ∧ r.2.mem ((c.tc : Thread Cert.XReferenceIdeal.nD Cert.XReferenceIdeal.τ).loc Cert.XReferenceIdeal.main_v1_1) = v1 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1))

def preserves_QKernel_QKernelIdeal : Prop :=
  True

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)) →
    ∃ (v0 : (c : Dev Cert.QKernelIdeal.nD) → Buf (Elt Ideal) ((c.tc : Thread Cert.QKernelIdeal.nD Cert.QKernelIdeal.τ).loc Cert.QKernelIdeal.main_v0_0)) (v1 : (c : Dev Cert.QKernelIdeal.nD) → Buf (Elt Ideal) ((c.tc : Thread Cert.QKernelIdeal.nD Cert.QKernelIdeal.τ).loc Cert.QKernelIdeal.main_v0_1)) (v2 : (c : Dev Cert.QKernelIdeal.nD) → Buf (Elt Ideal) ((c.tc : Thread Cert.QKernelIdeal.nD Cert.QKernelIdeal.τ).loc Cert.QKernelIdeal.main_v0_2)) (v3 : (c : Dev Cert.QKernelIdeal.nD) → Buf (Elt Ideal) ((c.tc : Thread Cert.QKernelIdeal.nD Cert.QKernelIdeal.τ).loc Cert.QKernelIdeal.main_v0_3)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v0_0) = v0 c
          ∧ r.2.mem ((c.tc : Thread Cert.QKernelIdeal.nD Cert.QKernelIdeal.τ).loc Cert.QKernelIdeal.main_v0_1) = v1 c
          ∧ r.2.mem ((c.tc : Thread Cert.QKernelIdeal.nD Cert.QKernelIdeal.τ).loc Cert.QKernelIdeal.main_v0_2) = v2 c
          ∧ r.2.mem ((c.tc : Thread Cert.QKernelIdeal.nD Cert.QKernelIdeal.τ).loc Cert.QKernelIdeal.main_v0_3) = v3 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v0_0) = v0 c
          ∧ r.2.mem ((c.tc : Thread Cert.QReferenceIdeal.nD Cert.QReferenceIdeal.τ).loc Cert.QReferenceIdeal.main_v0_1) = v1 c
          ∧ r.2.mem ((c.tc : Thread Cert.QReferenceIdeal.nD Cert.QReferenceIdeal.τ).loc Cert.QReferenceIdeal.main_v0_2) = v2 c
          ∧ r.2.mem ((c.tc : Thread Cert.QReferenceIdeal.nD Cert.QReferenceIdeal.τ).loc Cert.QReferenceIdeal.main_v0_3) = v3 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1))

def Claim : Prop :=
  ∃ (hKernel : Cert.Kernel.Facts) (hKernelIdeal : Cert.KernelIdeal.Facts) (hReferenceIdeal : Cert.ReferenceIdeal.Facts) (hXKernel : Cert.XKernel.Facts) (hXKernelIdeal : Cert.XKernelIdeal.Facts) (hXReferenceIdeal : Cert.XReferenceIdeal.Facts) (hQKernel : Cert.QKernel.Facts) (hQKernelIdeal : Cert.QKernelIdeal.Facts) (hQReferenceIdeal : Cert.QReferenceIdeal.Facts),
    quiescent_Kernel (hKernel := hKernel)
    ∧ quiescent_KernelIdeal (hKernelIdeal := hKernelIdeal)
    ∧ quiescent_ReferenceIdeal (hReferenceIdeal := hReferenceIdeal)
    ∧ quiescent_XKernel (hXKernel := hXKernel)
    ∧ quiescent_XKernelIdeal (hXKernelIdeal := hXKernelIdeal)
    ∧ quiescent_XReferenceIdeal (hXReferenceIdeal := hXReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ preserves_Kernel_KernelIdeal
    ∧ algebraic_KernelIdeal_ReferenceIdeal (hKernelIdeal := hKernelIdeal) (hReferenceIdeal := hReferenceIdeal)
    ∧ preserves_XKernel_XKernelIdeal
    ∧ algebraic_XKernelIdeal_XReferenceIdeal (hXKernelIdeal := hXKernelIdeal) (hXReferenceIdeal := hXReferenceIdeal)
    ∧ preserves_QKernel_QKernelIdeal
    ∧ algebraic_QKernelIdeal_QReferenceIdeal (hQKernelIdeal := hQKernelIdeal) (hQReferenceIdeal := hQReferenceIdeal)
-- ==== Kernel.lean ====
abbrev S72x5120 : Shape := ⟨2, ![72, 5120]⟩
abbrev S5120 : Shape := ⟨1, ![5120]⟩
abbrev S5120x21504 : Shape := ⟨2, ![5120, 21504]⟩
abbrev S21504 : Shape := ⟨1, ![21504]⟩
abbrev S10752x5120 : Shape := ⟨2, ![10752, 5120]⟩
abbrev S1x5120 : Shape := ⟨2, ![1, 5120]⟩
abbrev S84x1x256 : Shape := ⟨3, ![84, 1, 256]⟩
abbrev S1x72 : Shape := ⟨2, ![1, 72]⟩
abbrev S72x10752 : Shape := ⟨2, ![72, 10752]⟩
abbrev S12x512x5120 : Shape := ⟨3, ![12, 512, 5120]⟩
abbrev S80x5120 : Shape := ⟨2, ![80, 5120]⟩
abbrev S12 : Shape := ⟨1, ![12]⟩
abbrev S16 : Shape := ⟨1, ![16]⟩
abbrev S1 : Shape := ⟨1, ![1]⟩
abbrev S_ : Shape := ⟨0, ![]⟩
abbrev S1x512x256 : Shape := ⟨3, ![1, 512, 256]⟩
abbrev S512x256 : Shape := ⟨2, ![512, 256]⟩
abbrev S1x512x5120 : Shape := ⟨3, ![1, 512, 5120]⟩
abbrev S512x5120 : Shape := ⟨2, ![512, 5120]⟩
abbrev S42x72x256 : Shape := ⟨3, ![42, 72, 256]⟩
abbrev S21x80x512 : Shape := ⟨3, ![21, 80, 512]⟩
abbrev S72x128 : Shape := ⟨2, ![72, 128]⟩
abbrev S72x512 : Shape := ⟨2, ![72, 512]⟩
abbrev S72 : Shape := ⟨1, ![72]⟩
abbrev S72x1 : Shape := ⟨2, ![72, 1]⟩
abbrev S1x512 : Shape := ⟨2, ![1, 512]⟩
abbrev S128x72 : Shape := ⟨2, ![128, 72]⟩
abbrev S80x512 : Shape := ⟨2, ![80, 512]⟩
abbrev S1x512x512 : Shape := ⟨3, ![1, 512, 512]⟩
abbrev S512x512 : Shape := ⟨2, ![512, 512]⟩
abbrev S72x256 : Shape := ⟨2, ![72, 256]⟩
abbrev S1x1x256 : Shape := ⟨3, ![1, 1, 256]⟩
abbrev S1x256 : Shape := ⟨2, ![1, 256]⟩
abbrev S1x72x256 : Shape := ⟨3, ![1, 72, 256]⟩
abbrev S21x8x512 : Shape := ⟨3, ![21, 8, 512]⟩
abbrev S1x80x512 : Shape := ⟨3, ![1, 80, 512]⟩

abbrev nBuf : Space → Nat
  | .hbm => 14
  | .vmem => 16
  | .smem => 0
  | _ => 0

abbrev bufTy : (tb : Table) → Fin (tcTables nBuf tb) → BufTy
  | .hbm, ⟨0, _⟩ => ⟨S72x5120, .f32⟩
  | .hbm, ⟨1, _⟩ => ⟨S5120, .f32⟩
  | .hbm, ⟨2, _⟩ => ⟨S5120x21504, .i8⟩
  | .hbm, ⟨3, _⟩ => ⟨S21504, .f32⟩
  | .hbm, ⟨4, _⟩ => ⟨S10752x5120, .i8⟩
  | .hbm, ⟨5, _⟩ => ⟨S5120, .f32⟩
  | .hbm, ⟨6, _⟩ => ⟨S1x5120, .f32⟩
  | .hbm, ⟨7, _⟩ => ⟨S84x1x256, .f32⟩
  | .hbm, ⟨8, _⟩ => ⟨S1x5120, .f32⟩
  | .hbm, ⟨9, _⟩ => ⟨S72x5120, .bf16⟩
  | .hbm, ⟨10, _⟩ => ⟨S72x5120, .i8⟩
  | .hbm, ⟨11, _⟩ => ⟨S1x72, .f32⟩
  | .hbm, ⟨12, _⟩ => ⟨S72x10752, .i8⟩
  | .hbm, ⟨13, _⟩ => ⟨S1x72, .f32⟩
  | .local _ .vmem, ⟨0, _⟩ => ⟨S72x5120, .f32⟩
  | .local _ .vmem, ⟨1, _⟩ => ⟨S1x5120, .f32⟩
  | .local _ .vmem, ⟨2, _⟩ => ⟨S84x1x256, .f32⟩
  | .local _ .vmem, ⟨3, _⟩ => ⟨S1x5120, .f32⟩
  | .local _ .vmem, ⟨4, _⟩ => ⟨S1x72, .f32⟩
  | .local _ .vmem, ⟨5, _⟩ => ⟨S1x72, .f32⟩
  | .local _ .vmem, ⟨6, _⟩ => ⟨S12x512x5120, .i8⟩
  | .local _ .vmem, ⟨7, _⟩ => ⟨S80x5120, .bf16⟩
  | .local _ .vmem, ⟨8, _⟩ => ⟨S72x5120, .f32⟩
  | .local _ .vmem, ⟨9, _⟩ => ⟨S80x5120, .f32⟩
  | .local _ .vmem, ⟨10, _⟩ => ⟨S80x5120, .f32⟩
  | .local _ .vmem, ⟨11, _⟩ => ⟨S42x72x256, .f32⟩
  | .local _ .vmem, ⟨12, _⟩ => ⟨S21x80x512, .bf16⟩
  | .local _ .vmem, ⟨13, _⟩ => ⟨S72x5120, .i8⟩
  | .local _ .vmem, ⟨14, _⟩ => ⟨S72x10752, .i8⟩
  | .local _ .vmem, ⟨15, _⟩ => ⟨S72x5120, .bf16⟩
  | _, _ => ⟨S72x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scoped0 : Ref sig .tc := ⟨.vmem, 9, rfl⟩
abbrev cc0_scoped1 : Ref sig .tc := ⟨.vmem, 10, rfl⟩
abbrev cc0_scoped2 : Ref sig .tc := ⟨.vmem, 11, rfl⟩
abbrev cc0_scoped3 : Ref sig .tc := ⟨.vmem, 12, rfl⟩
abbrev cc0_scoped4 : Ref sig .tc := ⟨.vmem, 13, rfl⟩
abbrev cc0_scoped5 : Ref sig .tc := ⟨.vmem, 14, rfl⟩
abbrev cc0_scoped6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v0 : BitVec 32 := Scalar.addi c0_i32 c12_i32
  let c1_i32 : BitVec 32 := 1#32
  ⟨c0_i32, v0, c1_i32⟩
def k0_cond1 (k0_t1 : Fin k0_t1_loop.trips) : BitVec 1 :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32 : BitVec 32 := 21#32
  let v5 : BitVec 1 := Scalar.cmpi .sge v3 c21_i32
  let c63_i32 : BitVec 32 := 63#32
  let v6 : BitVec 1 := Scalar.cmpi .slt v3 c63_i32
  let v7 : BitVec 1 := Scalar.andi v5 v6
  let v8 : BitVec 32 := Scalar.extui v7
  let c0_i32_4 : BitVec 32 := 0#32
  let v9 : BitVec 1 := Scalar.cmpi .ne v8 c0_i32_4
  v9

def k0_off1 (k0_t1 : Fin k0_t1_loop.trips) : Fin 1 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  ![v4.toNat]
def k0_off2 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_9 : BitVec 32 := 0#32
  let c0_i32_10 : BitVec 32 := 0#32
  ![v4.toNat, 0, 0]
def k0_off3 (k0_t1 : Fin k0_t1_loop.trips) (c0_i32_8 : BitVec 32) : Fin 2 → Nat :=
  let c0_i32_11 : BitVec 32 := 0#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v17 : BitVec 32 := Scalar.addi v16 c0_i32_8
  ![0, v17.toNat]
def k0_off4 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_12 : BitVec 32 := 0#32
  let c256_i32_13 : BitVec 32 := 256#32
  ![v4.toNat, 0, 256]
def k0_off5 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_16 : BitVec 32 := 0#32
  let c512_i32 : BitVec 32 := 512#32
  ![v4.toNat, 0, 512]
def k0_off6 (k0_t1 : Fin k0_t1_loop.trips) (c0_i32_15 : BitVec 32) : Fin 2 → Nat :=
  let c512_i32_17 : BitVec 32 := 512#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v29 : BitVec 32 := Scalar.addi v16 c0_i32_15
  ![512, v29.toNat]
def k0_off7 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_19 : BitVec 32 := 0#32
  let c768_i32 : BitVec 32 := 768#32
  ![v4.toNat, 0, 768]
def k0_off8 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_22 : BitVec 32 := 0#32
  let c1024_i32 : BitVec 32 := 1024#32
  ![v4.toNat, 0, 1024]
def k0_off9 (k0_t1 : Fin k0_t1_loop.trips) (c0_i32_21 : BitVec 32) : Fin 2 → Nat :=
  let c1024_i32_23 : BitVec 32 := 1024#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v41 : BitVec 32 := Scalar.addi v16 c0_i32_21
  ![1024, v41.toNat]
def k0_off10 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_25 : BitVec 32 := 0#32
  let c1280_i32 : BitVec 32 := 1280#32
  ![v4.toNat, 0, 1280]
def k0_off11 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_28 : BitVec 32 := 0#32
  let c1536_i32 : BitVec 32 := 1536#32
  ![v4.toNat, 0, 1536]
def k0_off12 (k0_t1 : Fin k0_t1_loop.trips) (c0_i32_27 : BitVec 32) : Fin 2 → Nat :=
  let c1536_i32_29 : BitVec 32 := 1536#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v53 : BitVec 32 := Scalar.addi v16 c0_i32_27
  ![1536, v53.toNat]
def k0_off13 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_31 : BitVec 32 := 0#32
  let c1792_i32 : BitVec 32 := 1792#32
  ![v4.toNat, 0, 1792]
def k0_off14 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_34 : BitVec 32 := 0#32
  let c2048_i32 : BitVec 32 := 2048#32
  ![v4.toNat, 0, 2048]
def k0_off15 (k0_t1 : Fin k0_t1_loop.trips) (c0_i32_33 : BitVec 32) : Fin 2 → Nat :=
  let c2048_i32_35 : BitVec 32 := 2048#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v65 : BitVec 32 := Scalar.addi v16 c0_i32_33
  ![2048, v65.toNat]
def k0_off16 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_37 : BitVec 32 := 0#32
  let c2304_i32 : BitVec 32 := 2304#32
  ![v4.toNat, 0, 2304]
def k0_off17 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_40 : BitVec 32 := 0#32
  let c2560_i32 : BitVec 32 := 2560#32
  ![v4.toNat, 0, 2560]
def k0_off18 (k0_t1 : Fin k0_t1_loop.trips) (c0_i32_39 : BitVec 32) : Fin 2 → Nat :=
  let c2560_i32_41 : BitVec 32 := 2560#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v77 : BitVec 32 := Scalar.addi v16 c0_i32_39
  ![2560, v77.toNat]
def k0_off19 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_43 : BitVec 32 := 0#32
  let c2816_i32 : BitVec 32 := 2816#32
  ![v4.toNat, 0, 2816]
def k0_off20 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_46 : BitVec 32 := 0#32
  let c3072_i32 : BitVec 32 := 3072#32
  ![v4.toNat, 0, 3072]
def k0_off21 (k0_t1 : Fin k0_t1_loop.trips) (c0_i32_45 : BitVec 32) : Fin 2 → Nat :=
  let c3072_i32_47 : BitVec 32 := 3072#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v89 : BitVec 32 := Scalar.addi v16 c0_i32_45
  ![3072, v89.toNat]
def k0_off22 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_49 : BitVec 32 := 0#32
  let c3328_i32 : BitVec 32 := 3328#32
  ![v4.toNat, 0, 3328]
def k0_off23 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_52 : BitVec 32 := 0#32
  let c3584_i32 : BitVec 32 := 3584#32
  ![v4.toNat, 0, 3584]
def k0_off24 (k0_t1 : Fin k0_t1_loop.trips) (c0_i32_51 : BitVec 32) : Fin 2 → Nat :=
  let c3584_i32_53 : BitVec 32 := 3584#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v101 : BitVec 32 := Scalar.addi v16 c0_i32_51
  ![3584, v101.toNat]
def k0_off25 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_55 : BitVec 32 := 0#32
  let c3840_i32 : BitVec 32 := 3840#32
  ![v4.toNat, 0, 3840]
def k0_off26 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_58 : BitVec 32 := 0#32
  let c4096_i32 : BitVec 32 := 4096#32
  ![v4.toNat, 0, 4096]
def k0_off27 (k0_t1 : Fin k0_t1_loop.trips) (c0_i32_57 : BitVec 32) : Fin 2 → Nat :=
  let c4096_i32_59 : BitVec 32 := 4096#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v113 : BitVec 32 := Scalar.addi v16 c0_i32_57
  ![4096, v113.toNat]
def k0_off28 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_61 : BitVec 32 := 0#32
  let c4352_i32 : BitVec 32 := 4352#32
  ![v4.toNat, 0, 4352]
def k0_off29 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_64 : BitVec 32 := 0#32
  let c4608_i32 : BitVec 32 := 4608#32
  ![v4.toNat, 0, 4608]
def k0_off30 (k0_t1 : Fin k0_t1_loop.trips) (c0_i32_63 : BitVec 32) : Fin 2 → Nat :=
  let c4608_i32_65 : BitVec 32 := 4608#32
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c21_i32_7 : BitVec 32 := 21#32
  let v15 : BitVec 32 := Scalar.subi v3 c21_i32_7
  let c256_i32 : BitVec 32 := 256#32
  let v16 : BitVec 32 := Scalar.muli v15 c256_i32
  let v125 : BitVec 32 := Scalar.addi v16 c0_i32_63
  ![4608, v125.toNat]
def k0_off31 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_67 : BitVec 32 := 0#32
  let c4864_i32 : BitVec 32 := 4864#32
  ![v4.toNat, 0, 4864]
def k0_cond2 (k0_t1 : Fin k0_t1_loop.trips) : BitVec 1 :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c63_i32_5 : BitVec 32 := 63#32
  let v10 : BitVec 1 := Scalar.cmpi .sge v3 c63_i32_5
  let c84_i32 : BitVec 32 := 84#32
  let v11 : BitVec 1 := Scalar.cmpi .slt v3 c84_i32
  let v12 : BitVec 1 := Scalar.andi v10 v11
  let v13 : BitVec 32 := Scalar.extui v12
  let c0_i32_6 : BitVec 32 := 0#32
  let v14 : BitVec 1 := Scalar.cmpi .ne v13 c0_i32_6
  v14

def k0_off32 (k0_t1 : Fin k0_t1_loop.trips) : Fin 1 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  ![v4.toNat]
def k0_off33 (k0_t1 : Fin k0_t1_loop.trips) : Fin 3 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c12_i32_3 : BitVec 32 := 12#32
  let v4 : BitVec 32 := Scalar.remsi v3 c12_i32_3
  let c0_i32_8 : BitVec 32 := 0#32
  let c0_i32_9 : BitVec 32 := 0#32
  ![v4.toNat, 0, 0]
def k0_off34 (k0_t1 : Fin k0_t1_loop.trips) : Fin 2 → Nat :=
  let c9_i32 : BitVec 32 := 9#32
  let c0_i32 : BitVec 32 := 0#32
  let c1_i32 : BitVec 32 := 1#32
  let arg16 : BitVec 32 := Scf.iv c0_i32 c1_i32 k0_t1
  let c1_i32_1 : BitVec 32 := 1#32
  let v1 : BitVec 32 := Scalar.muli arg16 c1_i32_1
  let v2 : BitVec 32 := Scalar.addi c9_i32 v1
  let c12_i32_2 : BitVec 32 := 12#32
  let v3 : BitVec 32 := Scalar.addi v2 c12_i32_2
  let c63_i32_7 : BitVec 32 := 63#32
  let v15 : BitVec 32 := Scalar.subi v3 c63_i32_7
  let c512_i32 : BitVec 32 := 512#32
  let v16 : BitVec 32 := Scalar.muli v15 c512_i32
  let c0_i32_10 : BitVec 32 := 0#32
  ![v16.toNat, 0]
@[reducible] def k0_t2_loop : Scf.Loop 32 :=
  let c0_i32_188_r0 : BitVec 32 := 0#32
  let c42_i32_r0 : BitVec 32 := 42#32
  let v505_r0 : BitVec 32 := Scalar.addi c0_i32_188_r0 c42_i32_r0
  let c1_i32_189_r0 : BitVec 32 := 1#32
  ⟨c0_i32_188_r0, v505_r0, c1_i32_189_r0⟩
def k0_off35 (k0_t2 : Fin k0_t2_loop.trips) : Fin 1 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  ![v1680_r0.toNat]
def k0_off36 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let c0_i32_767_r0 : BitVec 32 := 0#32
  let c0_i32_768_r0 : BitVec 32 := 0#32
  ![v1680_r0.toNat, 0, 0]
def k0_off37 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1687_r0 : Index := Scalar.indexCast v1680_r0
  let c0_773_r0 : Index := 0#32
  let c0_774_r0 : Index := 0#32
  ![v1687_r0.toNat, 0, 0]
def k0_off38 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1693_r0 : Index := Scalar.indexCast v1680_r0
  let c0_778_r0 : Index := 0#32
  let c512_779_r0 : Index := 512#32
  ![v1693_r0.toNat, 0, 512]
def k0_off39 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1700_r0 : Index := Scalar.indexCast v1680_r0
  let c0_783_r0 : Index := 0#32
  let c1024_784_r0 : Index := 1024#32
  ![v1700_r0.toNat, 0, 1024]
def k0_off40 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1707_r0 : Index := Scalar.indexCast v1680_r0
  let c0_788_r0 : Index := 0#32
  let c1536_789_r0 : Index := 1536#32
  ![v1707_r0.toNat, 0, 1536]
def k0_off41 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1714_r0 : Index := Scalar.indexCast v1680_r0
  let c0_793_r0 : Index := 0#32
  let c2048_794_r0 : Index := 2048#32
  ![v1714_r0.toNat, 0, 2048]
def k0_off42 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1721_r0 : Index := Scalar.indexCast v1680_r0
  let c0_798_r0 : Index := 0#32
  let c2560_799_r0 : Index := 2560#32
  ![v1721_r0.toNat, 0, 2560]
def k0_off43 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1728_r0 : Index := Scalar.indexCast v1680_r0
  let c0_803_r0 : Index := 0#32
  let c3072_804_r0 : Index := 3072#32
  ![v1728_r0.toNat, 0, 3072]
def k0_off44 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1735_r0 : Index := Scalar.indexCast v1680_r0
  let c0_808_r0 : Index := 0#32
  let c3584_809_r0 : Index := 3584#32
  ![v1735_r0.toNat, 0, 3584]
def k0_off45 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1742_r0 : Index := Scalar.indexCast v1680_r0
  let c0_813_r0 : Index := 0#32
  let c4096_814_r0 : Index := 4096#32
  ![v1742_r0.toNat, 0, 4096]
def k0_off46 (k0_t2 : Fin k0_t2_loop.trips) : Fin 3 → Nat :=
  let c21_i32_765_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c21_i32_765_r0 v1678_r0
  let c12_i32_766_r0 : BitVec 32 := 12#32
  let v1680_r0 : BitVec 32 := Scalar.remsi v1679_r0 c12_i32_766_r0
  let v1749_r0 : Index := Scalar.indexCast v1680_r0
  let c0_818_r0 : Index := 0#32
  let c4608_819_r0 : Index := 4608#32
  ![v1749_r0.toNat, 0, 4608]
def k0_off47 (k0_t2 : Fin k0_t2_loop.trips) : Fin 3 → Nat :=
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1758_r0 : Index := Scalar.indexCast v1678_r0
  let c0_821_r0 : Index := 0#32
  let c0_822_r0 : Index := 0#32
  ![v1758_r0.toNat, 0, 0]
def k0_off48 (k0_t2 : Fin k0_t2_loop.trips) : Fin 3 → Nat :=
  let c42_i32_823_r0 : BitVec 32 := 42#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1766_r0 : BitVec 32 := Scalar.addi c42_i32_823_r0 v1678_r0
  let v1767_r0 : Index := Scalar.indexCast v1766_r0
  let c0_824_r0 : Index := 0#32
  let c0_825_r0 : Index := 0#32
  ![v1767_r0.toNat, 0, 0]
def k0_off49 (k0_t2 : Fin k0_t2_loop.trips) : Fin 3 → Nat :=
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1775_r0 : Index := Scalar.indexCast v1678_r0
  let c0_826_r0 : Index := 0#32
  let c0_827_r0 : Index := 0#32
  ![v1775_r0.toNat, 0, 0]
def k0_cond3 (k0_t2 : Fin k0_t2_loop.trips) : BitVec 1 :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_831_r0 : BitVec 32 := 21#32
  let v1782_r0 : BitVec 1 := Scalar.cmpi .sge v1780_r0 c21_i32_831_r0
  let c63_i32_r0 : BitVec 32 := 63#32
  let v1783_r0 : BitVec 1 := Scalar.cmpi .slt v1780_r0 c63_i32_r0
  let v1784_r0 : BitVec 1 := Scalar.andi v1782_r0 v1783_r0
  let v1785_r0 : BitVec 32 := Scalar.extui v1784_r0
  let c0_i32_832_r0 : BitVec 32 := 0#32
  let v1786_r0 : BitVec 1 := Scalar.cmpi .ne v1785_r0 c0_i32_832_r0
  v1786_r0

def k0_off50 (k0_t2 : Fin k0_t2_loop.trips) : Fin 1 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  ![v1781_r0.toNat]
def k0_off51 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_837_r0 : BitVec 32 := 0#32
  let c0_i32_838_r0 : BitVec 32 := 0#32
  ![v1781_r0.toNat, 0, 0]
def k0_off52 (k0_t2 : Fin k0_t2_loop.trips) (c0_i32_836_r0 : BitVec 32) : Fin 2 → Nat :=
  let c0_i32_839_r0 : BitVec 32 := 0#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1794_r0 : BitVec 32 := Scalar.addi v1793_r0 c0_i32_836_r0
  ![0, v1794_r0.toNat]
def k0_off53 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_840_r0 : BitVec 32 := 0#32
  let c256_i32_841_r0 : BitVec 32 := 256#32
  ![v1781_r0.toNat, 0, 256]
def k0_off54 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_844_r0 : BitVec 32 := 0#32
  let c512_i32_r0 : BitVec 32 := 512#32
  ![v1781_r0.toNat, 0, 512]
def k0_off55 (k0_t2 : Fin k0_t2_loop.trips) (c0_i32_843_r0 : BitVec 32) : Fin 2 → Nat :=
  let c512_i32_845_r0 : BitVec 32 := 512#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1806_r0 : BitVec 32 := Scalar.addi v1793_r0 c0_i32_843_r0
  ![512, v1806_r0.toNat]
def k0_off56 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_847_r0 : BitVec 32 := 0#32
  let c768_i32_r0 : BitVec 32 := 768#32
  ![v1781_r0.toNat, 0, 768]
def k0_off57 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_850_r0 : BitVec 32 := 0#32
  let c1024_i32_r0 : BitVec 32 := 1024#32
  ![v1781_r0.toNat, 0, 1024]
def k0_off58 (k0_t2 : Fin k0_t2_loop.trips) (c0_i32_849_r0 : BitVec 32) : Fin 2 → Nat :=
  let c1024_i32_851_r0 : BitVec 32 := 1024#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1818_r0 : BitVec 32 := Scalar.addi v1793_r0 c0_i32_849_r0
  ![1024, v1818_r0.toNat]
def k0_off59 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_853_r0 : BitVec 32 := 0#32
  let c1280_i32_r0 : BitVec 32 := 1280#32
  ![v1781_r0.toNat, 0, 1280]
def k0_off60 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_856_r0 : BitVec 32 := 0#32
  let c1536_i32_r0 : BitVec 32 := 1536#32
  ![v1781_r0.toNat, 0, 1536]
def k0_off61 (k0_t2 : Fin k0_t2_loop.trips) (c0_i32_855_r0 : BitVec 32) : Fin 2 → Nat :=
  let c1536_i32_857_r0 : BitVec 32 := 1536#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1830_r0 : BitVec 32 := Scalar.addi v1793_r0 c0_i32_855_r0
  ![1536, v1830_r0.toNat]
def k0_off62 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_859_r0 : BitVec 32 := 0#32
  let c1792_i32_r0 : BitVec 32 := 1792#32
  ![v1781_r0.toNat, 0, 1792]
def k0_off63 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_862_r0 : BitVec 32 := 0#32
  let c2048_i32_r0 : BitVec 32 := 2048#32
  ![v1781_r0.toNat, 0, 2048]
def k0_off64 (k0_t2 : Fin k0_t2_loop.trips) (c0_i32_861_r0 : BitVec 32) : Fin 2 → Nat :=
  let c2048_i32_863_r0 : BitVec 32 := 2048#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1842_r0 : BitVec 32 := Scalar.addi v1793_r0 c0_i32_861_r0
  ![2048, v1842_r0.toNat]
def k0_off65 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_865_r0 : BitVec 32 := 0#32
  let c2304_i32_r0 : BitVec 32 := 2304#32
  ![v1781_r0.toNat, 0, 2304]
def k0_off66 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_868_r0 : BitVec 32 := 0#32
  let c2560_i32_r0 : BitVec 32 := 2560#32
  ![v1781_r0.toNat, 0, 2560]
def k0_off67 (k0_t2 : Fin k0_t2_loop.trips) (c0_i32_867_r0 : BitVec 32) : Fin 2 → Nat :=
  let c2560_i32_869_r0 : BitVec 32 := 2560#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1854_r0 : BitVec 32 := Scalar.addi v1793_r0 c0_i32_867_r0
  ![2560, v1854_r0.toNat]
def k0_off68 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_871_r0 : BitVec 32 := 0#32
  let c2816_i32_r0 : BitVec 32 := 2816#32
  ![v1781_r0.toNat, 0, 2816]
def k0_off69 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_874_r0 : BitVec 32 := 0#32
  let c3072_i32_r0 : BitVec 32 := 3072#32
  ![v1781_r0.toNat, 0, 3072]
def k0_off70 (k0_t2 : Fin k0_t2_loop.trips) (c0_i32_873_r0 : BitVec 32) : Fin 2 → Nat :=
  let c3072_i32_875_r0 : BitVec 32 := 3072#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1866_r0 : BitVec 32 := Scalar.addi v1793_r0 c0_i32_873_r0
  ![3072, v1866_r0.toNat]
def k0_off71 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_877_r0 : BitVec 32 := 0#32
  let c3328_i32_r0 : BitVec 32 := 3328#32
  ![v1781_r0.toNat, 0, 3328]
def k0_off72 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_880_r0 : BitVec 32 := 0#32
  let c3584_i32_r0 : BitVec 32 := 3584#32
  ![v1781_r0.toNat, 0, 3584]
def k0_off73 (k0_t2 : Fin k0_t2_loop.trips) (c0_i32_879_r0 : BitVec 32) : Fin 2 → Nat :=
  let c3584_i32_881_r0 : BitVec 32 := 3584#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1878_r0 : BitVec 32 := Scalar.addi v1793_r0 c0_i32_879_r0
  ![3584, v1878_r0.toNat]
def k0_off74 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_883_r0 : BitVec 32 := 0#32
  let c3840_i32_r0 : BitVec 32 := 3840#32
  ![v1781_r0.toNat, 0, 3840]
def k0_off75 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_886_r0 : BitVec 32 := 0#32
  let c4096_i32_r0 : BitVec 32 := 4096#32
  ![v1781_r0.toNat, 0, 4096]
def k0_off76 (k0_t2 : Fin k0_t2_loop.trips) (c0_i32_885_r0 : BitVec 32) : Fin 2 → Nat :=
  let c4096_i32_887_r0 : BitVec 32 := 4096#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1890_r0 : BitVec 32 := Scalar.addi v1793_r0 c0_i32_885_r0
  ![4096, v1890_r0.toNat]
def k0_off77 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_889_r0 : BitVec 32 := 0#32
  let c4352_i32_r0 : BitVec 32 := 4352#32
  ![v1781_r0.toNat, 0, 4352]
def k0_off78 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_892_r0 : BitVec 32 := 0#32
  let c4608_i32_r0 : BitVec 32 := 4608#32
  ![v1781_r0.toNat, 0, 4608]
def k0_off79 (k0_t2 : Fin k0_t2_loop.trips) (c0_i32_891_r0 : BitVec 32) : Fin 2 → Nat :=
  let c4608_i32_893_r0 : BitVec 32 := 4608#32
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c21_i32_835_r0 : BitVec 32 := 21#32
  let v1792_r0 : BitVec 32 := Scalar.subi v1780_r0 c21_i32_835_r0
  let c256_i32_r0 : BitVec 32 := 256#32
  let v1793_r0 : BitVec 32 := Scalar.muli v1792_r0 c256_i32_r0
  let v1902_r0 : BitVec 32 := Scalar.addi v1793_r0 c0_i32_891_r0
  ![4608, v1902_r0.toNat]
def k0_off80 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_895_r0 : BitVec 32 := 0#32
  let c4864_i32_r0 : BitVec 32 := 4864#32
  ![v1781_r0.toNat, 0, 4864]
def k0_cond4 (k0_t2 : Fin k0_t2_loop.trips) : BitVec 1 :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c63_i32_833_r0 : BitVec 32 := 63#32
  let v1787_r0 : BitVec 1 := Scalar.cmpi .sge v1780_r0 c63_i32_833_r0
  let c84_i32_r0 : BitVec 32 := 84#32
  let v1788_r0 : BitVec 1 := Scalar.cmpi .slt v1780_r0 c84_i32_r0
  let v1789_r0 : BitVec 1 := Scalar.andi v1787_r0 v1788_r0
  let v1790_r0 : BitVec 32 := Scalar.extui v1789_r0
  let c0_i32_834_r0 : BitVec 32 := 0#32
  let v1791_r0 : BitVec 1 := Scalar.cmpi .ne v1790_r0 c0_i32_834_r0
  v1791_r0

def k0_off81 (k0_t2 : Fin k0_t2_loop.trips) : Fin 1 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  ![v1781_r0.toNat]
def k0_off82 (k0_t2 : Fin k0_t2_loop.trips) : Fin 3 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c12_i32_830_r0 : BitVec 32 := 12#32
  let v1781_r0 : BitVec 32 := Scalar.remsi v1780_r0 c12_i32_830_r0
  let c0_i32_836_r0 : BitVec 32 := 0#32
  let c0_i32_837_r0 : BitVec 32 := 0#32
  ![v1781_r0.toNat, 0, 0]
def k0_off83 (k0_t2 : Fin k0_t2_loop.trips) : Fin 2 → Nat :=
  let c21_i32_828_r0 : BitVec 32 := 21#32
  let c0_i32_764_r0 : BitVec 32 := 0#32
  let c0_i32_188_r0 : BitVec 32 := 0#32
  let c1_i32_189_r0 : BitVec 32 := 1#32
  let arg16_r0 : BitVec 32 := Scf.iv c0_i32_188_r0 c1_i32_189_r0 k0_t2
  let c1_i32_763_r0 : BitVec 32 := 1#32
  let v1677_r0 : BitVec 32 := Scalar.muli arg16_r0 c1_i32_763_r0
  let v1678_r0 : BitVec 32 := Scalar.addi c0_i32_764_r0 v1677_r0
  let v1779_r0 : BitVec 32 := Scalar.addi c21_i32_828_r0 v1678_r0
  let c12_i32_829_r0 : BitVec 32 := 12#32
  let v1780_r0 : BitVec 32 := Scalar.addi v1779_r0 c12_i32_829_r0
  let c63_i32_835_r0 : BitVec 32 := 63#32
  let v1792_r0 : BitVec 32 := Scalar.subi v1780_r0 c63_i32_835_r0
  let c512_i32_r0 : BitVec 32 := 512#32
  let v1793_r0 : BitVec 32 := Scalar.muli v1792_r0 c512_i32_r0
  let c0_i32_838_r0 : BitVec 32 := 0#32
  ![v1793_r0.toNat, 0]
@[reducible] def k0_t3_loop : Scf.Loop 32 :=
  let c0_i32_677_r0 : BitVec 32 := 0#32
  let c21_i32_r0 : BitVec 32 := 21#32
  let v1538_r0 : BitVec 32 := Scalar.addi c0_i32_677_r0 c21_i32_r0
  let c1_i32_678_r0 : BitVec 32 := 1#32
  ⟨c0_i32_677_r0, v1538_r0, c1_i32_678_r0⟩
def k0_off84 (k0_t3 : Fin k0_t3_loop.trips) : Fin 1 → Nat :=
  let c63_i32_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c63_i32_r0 v1678_r0
  let c12_i32_765_r0 : BitVec 32 := 12#32
  let v1680_r0 : BitVec 32 := Scalar.remsi v1679_r0 c12_i32_765_r0
  ![v1680_r0.toNat]
def k0_off85 (k0_t3 : Fin k0_t3_loop.trips) : Fin 3 → Nat :=
  let c63_i32_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c63_i32_r0 v1678_r0
  let c12_i32_765_r0 : BitVec 32 := 12#32
  let v1680_r0 : BitVec 32 := Scalar.remsi v1679_r0 c12_i32_765_r0
  let c0_i32_766_r0 : BitVec 32 := 0#32
  let c0_i32_767_r0 : BitVec 32 := 0#32
  ![v1680_r0.toNat, 0, 0]
def k0_off86 (k0_t3 : Fin k0_t3_loop.trips) : Fin 3 → Nat :=
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1687_r0 : Index := Scalar.indexCast v1678_r0
  let c0_772_r0 : Index := 0#32
  let c0_773_r0 : Index := 0#32
  ![v1687_r0.toNat, 0, 0]
def k0_off87 (k0_t3 : Fin k0_t3_loop.trips) : Fin 3 → Nat :=
  let c63_i32_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1679_r0 : BitVec 32 := Scalar.addi c63_i32_r0 v1678_r0
  let c12_i32_765_r0 : BitVec 32 := 12#32
  let v1680_r0 : BitVec 32 := Scalar.remsi v1679_r0 c12_i32_765_r0
  let v1690_r0 : Index := Scalar.indexCast v1680_r0
  let c0_774_r0 : Index := 0#32
  let c0_775_r0 : Index := 0#32
  ![v1690_r0.toNat, 0, 0]
def k0_cond5 (k0_t3 : Fin k0_t3_loop.trips) : BitVec 1 :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_782_r0 : BitVec 32 := 21#32
  let v1702_r0 : BitVec 1 := Scalar.cmpi .sge v1700_r0 c21_i32_782_r0
  let c63_i32_783_r0 : BitVec 32 := 63#32
  let v1703_r0 : BitVec 1 := Scalar.cmpi .slt v1700_r0 c63_i32_783_r0
  let v1704_r0 : BitVec 1 := Scalar.andi v1702_r0 v1703_r0
  let v1705_r0 : BitVec 32 := Scalar.extui v1704_r0
  let c0_i32_784_r0 : BitVec 32 := 0#32
  let v1706_r0 : BitVec 1 := Scalar.cmpi .ne v1705_r0 c0_i32_784_r0
  v1706_r0

def k0_off88 (k0_t3 : Fin k0_t3_loop.trips) : Fin 1 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  ![v1701_r0.toNat]
def k0_off89 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_789_r0 : BitVec 32 := 0#32
  let c0_i32_790_r0 : BitVec 32 := 0#32
  ![v1701_r0.toNat, 0, 0]
def k0_off90 (k0_t3 : Fin k0_t3_loop.trips) (c0_i32_788_r0 : BitVec 32) : Fin 2 → Nat :=
  let c0_i32_791_r0 : BitVec 32 := 0#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1714_r0 : BitVec 32 := Scalar.addi v1713_r0 c0_i32_788_r0
  ![0, v1714_r0.toNat]
def k0_off91 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_792_r0 : BitVec 32 := 0#32
  let c256_i32_793_r0 : BitVec 32 := 256#32
  ![v1701_r0.toNat, 0, 256]
def k0_off92 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_796_r0 : BitVec 32 := 0#32
  let c512_i32_r0 : BitVec 32 := 512#32
  ![v1701_r0.toNat, 0, 512]
def k0_off93 (k0_t3 : Fin k0_t3_loop.trips) (c0_i32_795_r0 : BitVec 32) : Fin 2 → Nat :=
  let c512_i32_797_r0 : BitVec 32 := 512#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1726_r0 : BitVec 32 := Scalar.addi v1713_r0 c0_i32_795_r0
  ![512, v1726_r0.toNat]
def k0_off94 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_799_r0 : BitVec 32 := 0#32
  let c768_i32_r0 : BitVec 32 := 768#32
  ![v1701_r0.toNat, 0, 768]
def k0_off95 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_802_r0 : BitVec 32 := 0#32
  let c1024_i32_r0 : BitVec 32 := 1024#32
  ![v1701_r0.toNat, 0, 1024]
def k0_off96 (k0_t3 : Fin k0_t3_loop.trips) (c0_i32_801_r0 : BitVec 32) : Fin 2 → Nat :=
  let c1024_i32_803_r0 : BitVec 32 := 1024#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1738_r0 : BitVec 32 := Scalar.addi v1713_r0 c0_i32_801_r0
  ![1024, v1738_r0.toNat]
def k0_off97 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_805_r0 : BitVec 32 := 0#32
  let c1280_i32_r0 : BitVec 32 := 1280#32
  ![v1701_r0.toNat, 0, 1280]
def k0_off98 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_808_r0 : BitVec 32 := 0#32
  let c1536_i32_r0 : BitVec 32 := 1536#32
  ![v1701_r0.toNat, 0, 1536]
def k0_off99 (k0_t3 : Fin k0_t3_loop.trips) (c0_i32_807_r0 : BitVec 32) : Fin 2 → Nat :=
  let c1536_i32_809_r0 : BitVec 32 := 1536#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1750_r0 : BitVec 32 := Scalar.addi v1713_r0 c0_i32_807_r0
  ![1536, v1750_r0.toNat]
def k0_off100 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_811_r0 : BitVec 32 := 0#32
  let c1792_i32_r0 : BitVec 32 := 1792#32
  ![v1701_r0.toNat, 0, 1792]
def k0_off101 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_814_r0 : BitVec 32 := 0#32
  let c2048_i32_r0 : BitVec 32 := 2048#32
  ![v1701_r0.toNat, 0, 2048]
def k0_off102 (k0_t3 : Fin k0_t3_loop.trips) (c0_i32_813_r0 : BitVec 32) : Fin 2 → Nat :=
  let c2048_i32_815_r0 : BitVec 32 := 2048#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1762_r0 : BitVec 32 := Scalar.addi v1713_r0 c0_i32_813_r0
  ![2048, v1762_r0.toNat]
def k0_off103 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_817_r0 : BitVec 32 := 0#32
  let c2304_i32_r0 : BitVec 32 := 2304#32
  ![v1701_r0.toNat, 0, 2304]
def k0_off104 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_820_r0 : BitVec 32 := 0#32
  let c2560_i32_r0 : BitVec 32 := 2560#32
  ![v1701_r0.toNat, 0, 2560]
def k0_off105 (k0_t3 : Fin k0_t3_loop.trips) (c0_i32_819_r0 : BitVec 32) : Fin 2 → Nat :=
  let c2560_i32_821_r0 : BitVec 32 := 2560#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1774_r0 : BitVec 32 := Scalar.addi v1713_r0 c0_i32_819_r0
  ![2560, v1774_r0.toNat]
def k0_off106 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_823_r0 : BitVec 32 := 0#32
  let c2816_i32_r0 : BitVec 32 := 2816#32
  ![v1701_r0.toNat, 0, 2816]
def k0_off107 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_826_r0 : BitVec 32 := 0#32
  let c3072_i32_r0 : BitVec 32 := 3072#32
  ![v1701_r0.toNat, 0, 3072]
def k0_off108 (k0_t3 : Fin k0_t3_loop.trips) (c0_i32_825_r0 : BitVec 32) : Fin 2 → Nat :=
  let c3072_i32_827_r0 : BitVec 32 := 3072#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1786_r0 : BitVec 32 := Scalar.addi v1713_r0 c0_i32_825_r0
  ![3072, v1786_r0.toNat]
def k0_off109 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_829_r0 : BitVec 32 := 0#32
  let c3328_i32_r0 : BitVec 32 := 3328#32
  ![v1701_r0.toNat, 0, 3328]
def k0_off110 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_832_r0 : BitVec 32 := 0#32
  let c3584_i32_r0 : BitVec 32 := 3584#32
  ![v1701_r0.toNat, 0, 3584]
def k0_off111 (k0_t3 : Fin k0_t3_loop.trips) (c0_i32_831_r0 : BitVec 32) : Fin 2 → Nat :=
  let c3584_i32_833_r0 : BitVec 32 := 3584#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1798_r0 : BitVec 32 := Scalar.addi v1713_r0 c0_i32_831_r0
  ![3584, v1798_r0.toNat]
def k0_off112 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_835_r0 : BitVec 32 := 0#32
  let c3840_i32_r0 : BitVec 32 := 3840#32
  ![v1701_r0.toNat, 0, 3840]
def k0_off113 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_838_r0 : BitVec 32 := 0#32
  let c4096_i32_r0 : BitVec 32 := 4096#32
  ![v1701_r0.toNat, 0, 4096]
def k0_off114 (k0_t3 : Fin k0_t3_loop.trips) (c0_i32_837_r0 : BitVec 32) : Fin 2 → Nat :=
  let c4096_i32_839_r0 : BitVec 32 := 4096#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1810_r0 : BitVec 32 := Scalar.addi v1713_r0 c0_i32_837_r0
  ![4096, v1810_r0.toNat]
def k0_off115 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_841_r0 : BitVec 32 := 0#32
  let c4352_i32_r0 : BitVec 32 := 4352#32
  ![v1701_r0.toNat, 0, 4352]
def k0_off116 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_844_r0 : BitVec 32 := 0#32
  let c4608_i32_r0 : BitVec 32 := 4608#32
  ![v1701_r0.toNat, 0, 4608]
def k0_off117 (k0_t3 : Fin k0_t3_loop.trips) (c0_i32_843_r0 : BitVec 32) : Fin 2 → Nat :=
  let c4608_i32_845_r0 : BitVec 32 := 4608#32
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c21_i32_787_r0 : BitVec 32 := 21#32
  let v1712_r0 : BitVec 32 := Scalar.subi v1700_r0 c21_i32_787_r0
  let c256_i32_r0 : BitVec 32 := 256#32
  let v1713_r0 : BitVec 32 := Scalar.muli v1712_r0 c256_i32_r0
  let v1822_r0 : BitVec 32 := Scalar.addi v1713_r0 c0_i32_843_r0
  ![4608, v1822_r0.toNat]
def k0_off118 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_847_r0 : BitVec 32 := 0#32
  let c4864_i32_r0 : BitVec 32 := 4864#32
  ![v1701_r0.toNat, 0, 4864]
def k0_cond6 (k0_t3 : Fin k0_t3_loop.trips) : BitVec 1 :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c63_i32_785_r0 : BitVec 32 := 63#32
  let v1707_r0 : BitVec 1 := Scalar.cmpi .sge v1700_r0 c63_i32_785_r0
  let c84_i32_r0 : BitVec 32 := 84#32
  let v1708_r0 : BitVec 1 := Scalar.cmpi .slt v1700_r0 c84_i32_r0
  let v1709_r0 : BitVec 1 := Scalar.andi v1707_r0 v1708_r0
  let v1710_r0 : BitVec 32 := Scalar.extui v1709_r0
  let c0_i32_786_r0 : BitVec 32 := 0#32
  let v1711_r0 : BitVec 1 := Scalar.cmpi .ne v1710_r0 c0_i32_786_r0
  v1711_r0

def k0_off119 (k0_t3 : Fin k0_t3_loop.trips) : Fin 1 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  ![v1701_r0.toNat]
def k0_off120 (k0_t3 : Fin k0_t3_loop.trips) : Fin 3 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c12_i32_781_r0 : BitVec 32 := 12#32
  let v1701_r0 : BitVec 32 := Scalar.remsi v1700_r0 c12_i32_781_r0
  let c0_i32_788_r0 : BitVec 32 := 0#32
  let c0_i32_789_r0 : BitVec 32 := 0#32
  ![v1701_r0.toNat, 0, 0]
def k0_off121 (k0_t3 : Fin k0_t3_loop.trips) : Fin 2 → Nat :=
  let c63_i32_779_r0 : BitVec 32 := 63#32
  let c0_i32_764_r0 : BitVec 32 := 0#32
  let c0_i32_677_r0 : BitVec 32 := 0#32
  let c1_i32_678_r0 : BitVec 32 := 1#32
  let arg16_r0 : BitVec 32 := Scf.iv c0_i32_677_r0 c1_i32_678_r0 k0_t3
  let c1_i32_763_r0 : BitVec 32 := 1#32
  let v1677_r0 : BitVec 32 := Scalar.muli arg16_r0 c1_i32_763_r0
  let v1678_r0 : BitVec 32 := Scalar.addi c0_i32_764_r0 v1677_r0
  let v1699_r0 : BitVec 32 := Scalar.addi c63_i32_779_r0 v1678_r0
  let c12_i32_780_r0 : BitVec 32 := 12#32
  let v1700_r0 : BitVec 32 := Scalar.addi v1699_r0 c12_i32_780_r0
  let c63_i32_787_r0 : BitVec 32 := 63#32
  let v1712_r0 : BitVec 32 := Scalar.subi v1700_r0 c63_i32_787_r0
  let c512_i32_r0 : BitVec 32 := 512#32
  let v1713_r0 : BitVec 32 := Scalar.muli v1712_r0 c512_i32_r0
  let c0_i32_790_r0 : BitVec 32 := 0#32
  ![v1713_r0.toNat, 0]
abbrev stage0_0 : Fin 1 → Memref sig .tc .vmem S72x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S84x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S72x5120 : Shape := ⟨2, ![72, 5120]⟩
abbrev S5120 : Shape := ⟨1, ![5120]⟩
abbrev S5120x21504 : Shape := ⟨2, ![5120, 21504]⟩
abbrev S21504 : Shape := ⟨1, ![21504]⟩
abbrev S10752x5120 : Shape := ⟨2, ![10752, 5120]⟩
abbrev S1x5120 : Shape := ⟨2, ![1, 5120]⟩
abbrev S1x21504 : Shape := ⟨2, ![1, 21504]⟩
abbrev S1x72 : Shape := ⟨2, ![1, 72]⟩
abbrev S72x10752 : Shape := ⟨2, ![72, 10752]⟩
abbrev S72 : Shape := ⟨1, ![72]⟩
abbrev S72x1 : Shape := ⟨2, ![72, 1]⟩
abbrev S72x21504 : Shape := ⟨2, ![72, 21504]⟩

abbrev nBuf : Space → Nat
  | .hbm => 14
  | .vmem => 11
  | .smem => 0
  | _ => 0

abbrev bufTy : (tb : Table) → Fin (tcTables nBuf tb) → BufTy
  | .hbm, ⟨0, _⟩ => ⟨S72x5120, .f32⟩
  | .hbm, ⟨1, _⟩ => ⟨S5120, .f32⟩
  | .hbm, ⟨2, _⟩ => ⟨S5120x21504, .i8⟩
  | .hbm, ⟨3, _⟩ => ⟨S21504, .f32⟩
  | .hbm, ⟨4, _⟩ => ⟨S10752x5120, .i8⟩
  | .hbm, ⟨5, _⟩ => ⟨S5120, .f32⟩
  | .hbm, ⟨6, _⟩ => ⟨S1x5120, .f32⟩
  | .hbm, ⟨7, _⟩ => ⟨S1x21504, .f32⟩
  | .hbm, ⟨8, _⟩ => ⟨S1x5120, .f32⟩
  | .hbm, ⟨9, _⟩ => ⟨S72x5120, .bf16⟩
  | .hbm, ⟨10, _⟩ => ⟨S72x5120, .i8⟩
  | .hbm, ⟨11, _⟩ => ⟨S1x72, .f32⟩
  | .hbm, ⟨12, _⟩ => ⟨S72x10752, .i8⟩
  | .hbm, ⟨13, _⟩ => ⟨S1x72, .f32⟩
  | .local _ .vmem, ⟨0, _⟩ => ⟨S72x5120, .f32⟩
  | .local _ .vmem, ⟨1, _⟩ => ⟨S1x5120, .f32⟩
  | .local _ .vmem, ⟨2, _⟩ => ⟨S5120x21504, .i8⟩
  | .local _ .vmem, ⟨3, _⟩ => ⟨S1x21504, .f32⟩
  | .local _ .vmem, ⟨4, _⟩ => ⟨S10752x5120, .i8⟩
  | .local _ .vmem, ⟨5, _⟩ => ⟨S1x5120, .f32⟩
  | .local _ .vmem, ⟨6, _⟩ => ⟨S72x5120, .bf16⟩
  | .local _ .vmem, ⟨7, _⟩ => ⟨S72x5120, .i8⟩
  | .local _ .vmem, ⟨8, _⟩ => ⟨S1x72, .f32⟩
  | .local _ .vmem, ⟨9, _⟩ => ⟨S72x10752, .i8⟩
  | .local _ .vmem, ⟨10, _⟩ => ⟨S1x72, .f32⟩
  | _, _ => ⟨S72x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S72x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x21504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S72x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x72 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S72x10752 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x72 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== XKernel.lean ====
abbrev S72x5120 : Shape := ⟨2, ![72, 5120]⟩
abbrev S5120 : Shape := ⟨1, ![5120]⟩
abbrev S1x5120 : Shape := ⟨2, ![1, 5120]⟩
abbrev S1x72 : Shape := ⟨2, ![1, 72]⟩
abbrev S80x5120 : Shape := ⟨2, ![80, 5120]⟩
abbrev S16 : Shape := ⟨1, ![16]⟩
abbrev S72x128 : Shape := ⟨2, ![72, 128]⟩
abbrev S72x512 : Shape := ⟨2, ![72, 512]⟩
abbrev S72 : Shape := ⟨1, ![72]⟩
abbrev S72x1 : Shape := ⟨2, ![72, 1]⟩
abbrev S1x512 : Shape := ⟨2, ![1, 512]⟩
abbrev S128x72 : Shape := ⟨2, ![128, 72]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S72x5120, .bf16⟩
  | .hbm, ⟨1, _⟩ => ⟨S5120, .f32⟩
  | .hbm, ⟨2, _⟩ => ⟨S1x5120, .f32⟩
  | .hbm, ⟨3, _⟩ => ⟨S72x5120, .i8⟩
  | .hbm, ⟨4, _⟩ => ⟨S1x72, .f32⟩
  | .local _ .vmem, ⟨0, _⟩ => ⟨S72x5120, .bf16⟩
  | .local _ .vmem, ⟨1, _⟩ => ⟨S1x5120, .f32⟩
  | .local _ .vmem, ⟨2, _⟩ => ⟨S1x72, .f32⟩
  | .local _ .vmem, ⟨3, _⟩ => ⟨S80x5120, .bf16⟩
  | .local _ .vmem, ⟨4, _⟩ => ⟨S72x5120, .f32⟩
  | .local _ .vmem, ⟨5, _⟩ => ⟨S72x5120, .i8⟩
  | _, _ => ⟨S72x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scoped0 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S72x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== XReferenceIdeal.lean ====
abbrev S72x5120 : Shape := ⟨2, ![72, 5120]⟩
abbrev S5120 : Shape := ⟨1, ![5120]⟩
abbrev S1x5120 : Shape := ⟨2, ![1, 5120]⟩
abbrev S1x72 : Shape := ⟨2, ![1, 72]⟩
abbrev S72 : Shape := ⟨1, ![72]⟩
abbrev S72x1 : Shape := ⟨2, ![72, 1]⟩

abbrev nBuf : Space → Nat
  | .hbm => 5
  | .vmem => 4
  | .smem => 0
  | _ => 0

abbrev bufTy : (tb : Table) → Fin (tcTables nBuf tb) → BufTy
  | .hbm, ⟨0, _⟩ => ⟨S72x5120, .bf16⟩
  | .hbm, ⟨1, _⟩ => ⟨S5120, .f32⟩
  | .hbm, ⟨2, _⟩ => ⟨S1x5120, .f32⟩
  | .hbm, ⟨3, _⟩ => ⟨S72x5120, .i8⟩
  | .hbm, ⟨4, _⟩ => ⟨S1x72, .f32⟩
  | .local _ .vmem, ⟨0, _⟩ => ⟨S72x5120, .bf16⟩
  | .local _ .vmem, ⟨1, _⟩ => ⟨S1x5120, .f32⟩
  | .local _ .vmem, ⟨2, _⟩ => ⟨S72x5120, .i8⟩
  | .local _ .vmem, ⟨3, _⟩ => ⟨S1x72, .f32⟩
  | _, _ => ⟨S72x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S72x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QKernel.lean ====
abbrev S72x1280 : Shape := ⟨2, ![72, 1280]⟩
abbrev S72x2048 : Shape := ⟨2, ![72, 2048]⟩
abbrev S1x72 : Shape := ⟨2, ![1, 72]⟩
abbrev S72x5120 : Shape := ⟨2, ![72, 5120]⟩
abbrev S3x80x512 : Shape := ⟨3, ![3, 80, 512]⟩
abbrev S4x80x512 : Shape := ⟨3, ![4, 80, 512]⟩
abbrev S72x128 : Shape := ⟨2, ![72, 128]⟩
abbrev S72 : Shape := ⟨1, ![72]⟩
abbrev S72x1 : Shape := ⟨2, ![72, 1]⟩
abbrev S128x72 : Shape := ⟨2, ![128, 72]⟩
abbrev S72x256 : Shape := ⟨2, ![72, 256]⟩
abbrev S1x72x256 : Shape := ⟨3, ![1, 72, 256]⟩
abbrev S72x512 : Shape := ⟨2, ![72, 512]⟩
abbrev S1x72x512 : Shape := ⟨3, ![1, 72, 512]⟩

abbrev nBuf : Space → Nat
  | .hbm => 6
  | .vmem => 9
  | .smem => 0
  | _ => 0

abbrev bufTy : (tb : Table) → Fin (tcTables nBuf tb) → BufTy
  | .hbm, ⟨0, _⟩ => ⟨S72x1280, .f32⟩
  | .hbm, ⟨1, _⟩ => ⟨S72x2048, .f32⟩
  | .hbm, ⟨2, _⟩ => ⟨S72x1280, .i8⟩
  | .hbm, ⟨3, _⟩ => ⟨S1x72, .f32⟩
  | .hbm, ⟨4, _⟩ => ⟨S72x2048, .i8⟩
  | .hbm, ⟨5, _⟩ => ⟨S1x72, .f32⟩
  | .local _ .vmem, ⟨0, _⟩ => ⟨S72x1280, .f32⟩
  | .local _ .vmem, ⟨1, _⟩ => ⟨S72x2048, .f32⟩
  | .local _ .vmem, ⟨2, _⟩ => ⟨S72x1280, .i8⟩
  | .local _ .vmem, ⟨3, _⟩ => ⟨S1x72, .f32⟩
  | .local _ .vmem, ⟨4, _⟩ => ⟨S72x2048, .i8⟩
  | .local _ .vmem, ⟨5, _⟩ => ⟨S1x72, .f32⟩
  | .local _ .vmem, ⟨6, _⟩ => ⟨S72x5120, .f32⟩
  | .local _ .vmem, ⟨7, _⟩ => ⟨S3x80x512, .bf16⟩
  | .local _ .vmem, ⟨8, _⟩ => ⟨S4x80x512, .bf16⟩
  | _, _ => ⟨S72x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QReferenceIdeal.lean ====
abbrev S72x1280 : Shape := ⟨2, ![72, 1280]⟩
abbrev S72x2048 : Shape := ⟨2, ![72, 2048]⟩
abbrev S1x72 : Shape := ⟨2, ![1, 72]⟩
abbrev S72 : Shape := ⟨1, ![72]⟩
abbrev S72x1 : Shape := ⟨2, ![72, 1]⟩

abbrev nBuf : Space → Nat
  | .hbm => 6
  | .vmem => 6
  | .smem => 0
  | _ => 0

abbrev bufTy : (tb : Table) → Fin (tcTables nBuf tb) → BufTy
  | .hbm, ⟨0, _⟩ => ⟨S72x1280, .f32⟩
  | .hbm, ⟨1, _⟩ => ⟨S72x2048, .f32⟩
  | .hbm, ⟨2, _⟩ => ⟨S72x1280, .i8⟩
  | .hbm, ⟨3, _⟩ => ⟨S1x72, .f32⟩
  | .hbm, ⟨4, _⟩ => ⟨S72x2048, .i8⟩
  | .hbm, ⟨5, _⟩ => ⟨S1x72, .f32⟩
  | .local _ .vmem, ⟨0, _⟩ => ⟨S72x1280, .f32⟩
  | .local _ .vmem, ⟨1, _⟩ => ⟨S72x2048, .f32⟩
  | .local _ .vmem, ⟨2, _⟩ => ⟨S72x1280, .i8⟩
  | .local _ .vmem, ⟨3, _⟩ => ⟨S1x72, .f32⟩
  | .local _ .vmem, ⟨4, _⟩ => ⟨S72x2048, .i8⟩
  | .local _ .vmem, ⟨5, _⟩ => ⟨S1x72, .f32⟩
  | _, _ => ⟨S72x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRing.lean ====
/-
The weight ring: which elements each copy moves, what a slot holds once its copies have landed, and the rules for
starting one copy of a tile and for waiting for the whole tile.
-/
module

public import proofs.«01_k».proof.Proof.Gen.Kernel.Launch
public import proofs.«01_k».proof.Proof.Gen.Kernel.Loops
public import proofs.«01_k».proof.Proof.Gen.Kernel.Points
public import proofs.«01_k».proof.Proof.Gen.Kernel.Frame
public import Idealize.ShloMosaic.Lib.ValueLayout
public import Idealize.ShloMosaic.Lib.Batch
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The ring, and the two weight matrices in high-bandwidth memory. -/
abbrev ringM : Memref sig .tc .vmem S12x512x5120 .i8 := Memref.whole cc0_scratch0
abbrev guM : Memref sig .tc .hbm S5120x21504 .i8 := Memref.whole main_arg2
abbrev dnM : Memref sig .tc .hbm S10752x5120 .i8 := Memref.whole main_arg4

/-- The twelve cells of the ring. -/
abbrev cellR (t : ℕ) : DmaSem sig := ⟨6 + (9 + t) % 12, by have := Nat.mod_lt (9 + t) (show 12 > 0 by decide); show _ < 34; omega⟩

/-- Elements of the ring written by copy `j` of a gate-up tile in slot `s`, of the gate-up weight that copy `j` of tile `t`
reads, of a whole slot, and of the down weight that tile `t` reads. -/
def gDst (s j : ℕ) : Finset S12x512x5120.Idx := Finset.univ.filter fun i => (i 0).val = s ∧ 256 * j ≤ (i 2).val ∧ (i 2).val < 256 * j + 256
def gSrc (t j : ℕ) : Finset S5120x21504.Idx := Finset.univ.filter fun i =>
  (512 * (j / 2) ≤ (i 0).val ∧ (i 0).val < 512 * (j / 2) + 512) ∧ ((j % 2) * 10752 + 256 * t ≤ (i 1).val ∧ (i 1).val < (j % 2) * 10752 + 256 * t + 256)
def sSet (s : ℕ) : Finset S12x512x5120.Idx := Finset.univ.filter fun i => (i 0).val = s
def dSrc (t : ℕ) : Finset S10752x5120.Idx := Finset.univ.filter fun i => 512 * t ≤ (i 0).val ∧ (i 0).val < 512 * t + 512

/-- What the slot of gate-up tile `t` holds once its twenty copies have landed. -/
def LandG (W : S5120x21504.Idx → Elt F .i8) (t : ℕ) : S12x512x5120.Idx → Elt F .i8 := fun i =>
  W (ix2 (⟨((i 2).val / 512 * 512 + (i 1).val) % 5120, Nat.mod_lt _ (by decide)⟩ : Fin 5120)
    (⟨(t * 256 + ((i 2).val / 256 % 2) * 10752 + (i 2).val % 256) % 21504, Nat.mod_lt _ (by decide)⟩ : Fin 21504))
/-- What the slot of down tile `t` (counted from the first down tile) holds once its copy has landed. -/
def LandD (W : S10752x5120.Idx → Elt F .i8) (t : ℕ) : S12x512x5120.Idx → Elt F .i8 := fun i =>
  W (ix2 (⟨(t * 512 + (i 1).val) % 10752, Nat.mod_lt _ (by decide)⟩ : Fin 10752) (⟨(i 2).val, (i 2).isLt⟩ : Fin 5120))

section Sets

theorem set_gDst {s j : ℕ} {off : Fin 3 → ℕ} {inb} (h : off = ![s, 0, 256 * j]) :
    ((ringM.slice (Rect.unit (s := S12x512x5120) off S1x512x256.size inb) (fun _ => rfl)).squeeze S512x256 squeezes_S1x512x256_S512x256).view.set = gDst s j := by
  subst h
  rw [Memref.set_view_squeeze]
  show ((View.whole cc0_scratch0).slice _).set = _
  rw [View.set_slice_whole]
  ext i
  rw [Rect.mem_set_unit]
  simp only [gDst, Finset.mem_filter, Finset.mem_univ, true_and]
  have h1 : (i 1).val < 512 := (i 1).isLt
  constructor
  · intro h
    have a0 := h 0; have a2 := h 2
    simp at a0 a2
    omega
  · rintro ⟨h0, h2, h3⟩ a
    fin_cases a
    · show s ≤ (i 0).val ∧ (i 0).val < s + 1; omega
    · show 0 ≤ (i 1).val ∧ (i 1).val < 0 + 512; omega
    · show 256 * j ≤ (i 2).val ∧ (i 2).val < 256 * j + 256; omega

theorem set_sSet {s : ℕ} {off : Fin 3 → ℕ} {inb} (h : off = ![s, 0, 0]) :
    ((ringM.slice (Rect.unit (s := S12x512x5120) off S1x512x5120.size inb) (fun _ => rfl)).squeeze S512x5120 squeezes_S1x512x5120_S512x5120).view.set = sSet s := by
  subst h
  rw [Memref.set_view_squeeze]
  show ((View.whole cc0_scratch0).slice _).set = _
  rw [View.set_slice_whole]
  ext i
  rw [Rect.mem_set_unit]
  simp only [sSet, Finset.mem_filter, Finset.mem_univ, true_and]
  have h1 : (i 1).val < 512 := (i 1).isLt
  have h2 : (i 2).val < 5120 := (i 2).isLt
  constructor
  · intro h
    have a0 := h 0
    simp at a0
    omega
  · rintro h0 a
    fin_cases a
    · show s ≤ (i 0).val ∧ (i 0).val < s + 1; omega
    · show 0 ≤ (i 1).val ∧ (i 1).val < 0 + 512; omega
    · show 0 ≤ (i 2).val ∧ (i 2).val < 0 + 5120; omega

theorem set_gSrc {t j : ℕ} {off : Fin 2 → ℕ} {inb} (h : off = ![512 * (j / 2), (j % 2) * 10752 + 256 * t]) :
    (guM.slice (Rect.unit (s := S5120x21504) off S512x256.size inb) (fun _ => rfl)).view.set = gSrc t j := by
  subst h
  show ((View.whole main_arg2).slice _).set = _
  rw [View.set_slice_whole]
  ext i
  rw [Rect.mem_set_unit]
  simp only [gSrc, Finset.mem_filter, Finset.mem_univ, true_and]
  constructor
  · intro h
    have a0 := h 0; have a1 := h 1
    simp at a0 a1
    omega
  · rintro ⟨h0, h2⟩ a
    fin_cases a
    · show 512 * (j / 2) ≤ (i 0).val ∧ (i 0).val < 512 * (j / 2) + 512; omega
    · show (j % 2 * 10752 + 256 * t) ≤ (i 1).val ∧ (i 1).val < (j % 2 * 10752 + 256 * t) + 256; omega

theorem set_dSrc {t : ℕ} {off : Fin 2 → ℕ} {inb} (h : off = ![512 * t, 0]) :
    (dnM.slice (Rect.unit (s := S10752x5120) off S512x5120.size inb) (fun _ => rfl)).view.set = dSrc t := by
  subst h
  show ((View.whole main_arg4).slice _).set = _
  rw [View.set_slice_whole]
  ext i
  rw [Rect.mem_set_unit]
  simp only [dSrc, Finset.mem_filter, Finset.mem_univ, true_and]
  have h1 : (i 1).val < 5120 := (i 1).isLt
  constructor
  · intro h
    have a0 := h 0
    simp at a0
    omega
  · rintro h0 a
    fin_cases a
    · show 512 * t ≤ (i 0).val ∧ (i 0).val < 512 * t + 512; omega
    · show 0 ≤ (i 1).val ∧ (i 1).val < 0 + 5120; omega

end Sets

section Land

theorem write_gDst {s t j : ℕ} (hj : j < 20) (ht : t < 42) {offd : Fin 3 → ℕ} {inbd} {offs : Fin 2 → ℕ} {inbs}
    (hd : offd = ![s, 0, 256 * j]) (hs : offs = ![512 * (j / 2), (j % 2) * 10752 + 256 * t])
    (W : S5120x21504.Idx → Elt F .i8) (fd : S12x512x5120.Idx → Elt F .i8) (i : S12x512x5120.Idx) (hi : i ∈ gDst s j) :
    ((ringM.slice (Rect.unit (s := S12x512x5120) offd S1x512x256.size inbd) (fun _ => rfl)).squeeze S512x256 squeezes_S1x512x256_S512x256).view.write (Elt F) fd
      ((guM.slice (Rect.unit (s := S5120x21504) offs S512x256.size inbs) (fun _ => rfl)).view.read (Elt F) W) Finset.univ i = LandG W t i := by
  have hi' := hi
  rw [← set_gDst (inb := inbd) hd] at hi'
  obtain ⟨x, -, rfl⟩ := Finset.mem_map.mp hi'
  refine (View.write_emb_of_mem _ _ (Finset.mem_univ x)).trans ?_
  subst hd hs
  obtain ⟨a, b, rfl⟩ : ∃ (a : Fin 512) (b : Fin 256), x = ix2 a b := ⟨x 0, x 1, by funext k; fin_cases k <;> rfl⟩
  have hx : ∀ h, Shape.reshapeEquiv (s := S1x512x256) (s' := S512x256) h (ix2 a b) = ix3 (⟨0, Nat.one_pos⟩ : Fin 1) a b := fun h => reshapeEquiv_ix2_1ab h a b
  unfold LandG
  have key : ∀ p q : S5120x21504.Idx, (p 0).val = (q 0).val → (p 1).val = (q 1).val → W p = W q := fun p q h0 h1 =>
    congrArg W (funext fun k => by fin_cases k; exacts [Fin.ext h0, Fin.ext h1])
  have ha := a.isLt
  have hb := b.isLt
  have e1 : ((((ringM.slice (Rect.unit (s := S12x512x5120) ![s, 0, 256 * j] S1x512x256.size inbd) (fun _ => rfl)).squeeze S512x256 squeezes_S1x512x256_S512x256).view.emb (ix2 a b)) 1).val = a.val := by
    show 0 + 1 * ((Shape.reshapeEquiv _ (ix2 a b) : S1x512x256.Idx) 1).val = a.val
    rw [hx]; show 0 + 1 * a.val = a.val; omega
  have e2 : ((((ringM.slice (Rect.unit (s := S12x512x5120) ![s, 0, 256 * j] S1x512x256.size inbd) (fun _ => rfl)).squeeze S512x256 squeezes_S1x512x256_S512x256).view.emb (ix2 a b)) 2).val = 256 * j + b.val := by
    show 256 * j + 1 * ((Shape.reshapeEquiv _ (ix2 a b) : S1x512x256.Idx) 2).val = _
    rw [hx]; show 256 * j + 1 * b.val = _; omega
  refine key _ _ ?_ ?_
  · show 512 * (j / 2) + 1 * a.val = (_ / 512 * 512 + _) % 5120
    rw [e1, e2]; omega
  · show (j % 2) * 10752 + 256 * t + 1 * b.val = (t * 256 + (_ / 256 % 2) * 10752 + _ % 256) % 21504
    rw [e2]; omega

theorem write_dDst {s t : ℕ} (ht : t < 21) {offd : Fin 3 → ℕ} {inbd} {offs : Fin 2 → ℕ} {inbs}
    (hd : offd = ![s, 0, 0]) (hs : offs = ![512 * t, 0])
    (W : S10752x5120.Idx → Elt F .i8) (fd : S12x512x5120.Idx → Elt F .i8) (i : S12x512x5120.Idx) (hi : i ∈ sSet s) :
    ((ringM.slice (Rect.unit (s := S12x512x5120) offd S1x512x5120.size inbd) (fun _ => rfl)).squeeze S512x5120 squeezes_S1x512x5120_S512x5120).view.write (Elt F) fd
      ((dnM.slice (Rect.unit (s := S10752x5120) offs S512x5120.size inbs) (fun _ => rfl)).view.read (Elt F) W) Finset.univ i = LandD W t i := by
  have hi' := hi
  rw [← set_sSet (inb := inbd) hd] at hi'
  obtain ⟨x, -, rfl⟩ := Finset.mem_map.mp hi'
  refine (View.write_emb_of_mem _ _ (Finset.mem_univ x)).trans ?_
  subst hd hs
  obtain ⟨a, b, rfl⟩ : ∃ (a : Fin 512) (b : Fin 5120), x = ix2 a b := ⟨x 0, x 1, by funext k; fin_cases k <;> rfl⟩
  have hx : ∀ h, Shape.reshapeEquiv (s := S1x512x5120) (s' := S512x5120) h (ix2 a b) = ix3 (⟨0, Nat.one_pos⟩ : Fin 1) a b := fun h => reshapeEquiv_ix2_1ab h a b
  unfold LandD
  have key : ∀ p q : S10752x5120.Idx, (p 0).val = (q 0).val → (p 1).val = (q 1).val → W p = W q := fun p q h0 h1 =>
    congrArg W (funext fun k => by fin_cases k; exacts [Fin.ext h0, Fin.ext h1])
  have ha := a.isLt
  have hb := b.isLt
  have e1 : ((((ringM.slice (Rect.unit (s := S12x512x5120) ![s, 0, 0] S1x512x5120.size inbd) (fun _ => rfl)).squeeze S512x5120 squeezes_S1x512x5120_S512x5120).view.emb (ix2 a b)) 1).val = a.val := by
    show 0 + 1 * ((Shape.reshapeEquiv _ (ix2 a b) : S1x512x5120.Idx) 1).val = a.val
    rw [hx]; show 0 + 1 * a.val = a.val; omega
  have e2 : ((((ringM.slice (Rect.unit (s := S12x512x5120) ![s, 0, 0] S1x512x5120.size inbd) (fun _ => rfl)).squeeze S512x5120 squeezes_S1x512x5120_S512x5120).view.emb (ix2 a b)) 2).val = b.val := by
    show 0 + 1 * ((Shape.reshapeEquiv _ (ix2 a b) : S1x512x5120.Idx) 2).val = _
    rw [hx]; show 0 + 1 * b.val = _; omega
  refine key _ _ ?_ ?_
  · show 512 * t + 1 * a.val = (t * 512 + _) % 10752
    rw [e1]; omega
  · show 0 + 1 * b.val = _
    rw [Nat.zero_add, Nat.one_mul]; exact e2.symm

end Land

section Flights

variable (c : Dev nD)

/-- Piece `j` of a gate-up slot at contents `f`; the piece of the weight it is copied from; a whole slot; a down tile's weight. -/
def gDstB (s j : ℕ) (f : S12x512x5120.Idx → Elt F .i8) : sProp 𝕄 := iprop(ringM.view.loc (c : Thread nD τ) ↦[gDst s j]{fullShare} f)
def gSrcB (W : S5120x21504.Idx → Elt F .i8) (t j : ℕ) : sProp 𝕄 := iprop(guM.view.loc (c : Thread nD τ) ↦[gSrc t j]{fullShare} W)
def slotB (s : ℕ) (f : S12x512x5120.Idx → Elt F .i8) : sProp 𝕄 := iprop(ringM.view.loc (c : Thread nD τ) ↦[sSet s]{fullShare} f)
def dSrcB (W : S10752x5120.Idx → Elt F .i8) (t : ℕ) : sProp 𝕄 := iprop(dnM.view.loc (c : Thread nD τ) ↦[dSrc t]{fullShare} W)

/-- What copy `j` of gate-up tile `t` delivers, and what the one copy of down tile `t` does. -/
def delG (W : S5120x21504.Idx → Elt F .i8) (t : ℕ) (j : Fin 20) : sProp 𝕄 := iprop(gDstB c ((9 + t) % 12) j.val (LandG W t) ∗ gSrcB c W t j.val)
def delD (W : S10752x5120.Idx → Elt F .i8) (t : ℕ) (j : Fin 1) : sProp 𝕄 := iprop(slotB c ((9 + t) % 12) (LandD W (t - 42)) ∗ dSrcB c W (t - 42))

instance (W : S5120x21504.Idx → Elt F .i8) (t : ℕ) (j : Fin 20) : Storable (upEmb : UEmb _ 𝕄) (delG c W t j) := by unfold delG gDstB gSrcB; infer_instance
instance (W : S10752x5120.Idx → Elt F .i8) (t : ℕ) (j : Fin 1) : Storable (upEmb : UEmb _ 𝕄) (delD c W t j) := by unfold delD slotB dSrcB; infer_instance

/-- The credit of one gate-up copy, and of one down copy. -/
abbrev NG : ℕ := 4096
abbrev ND : ℕ := 81920

/-- The copies of a tile in flight on the tile's cell: `j` of them issued. -/
abbrev batG (W : S5120x21504.Idx → Elt F .i8) (t j : ℕ) : sProp 𝕄 :=
  Transfers.Batch (countersEmb (U := Pipeline.UD sig nD τ)) (c : Thread nD τ) (.dma (cellR t)) () NG (delG c W t) j 0
abbrev batD (W : S10752x5120.Idx → Elt F .i8) (t j : ℕ) : sProp 𝕄 :=
  Transfers.Batch (countersEmb (U := Pipeline.UD sig nD τ)) (c : Thread nD τ) (.dma (cellR t)) () ND (delD c W t) j 0

theorem cell_eq {t : ℕ} {off : Fin 1 → ℕ} {inb} (h : off = ![(9 + t) % 12]) :
    ((cc0_scratch3.slice (Rect.unit (s := S12) off S1.size inb)).squeeze S_ squeezes_S1_S_).sem = cellR t := by
  subst h
  apply Fin.ext
  have e : ∀ p : S12.Idx, (S12.rowMajor p).val = (p 0).val := fun p => by rw [Shape.rowMajor_val_one]
  show 6 + (S12.rowMajor _).val = 6 + (9 + t) % 12
  rw [e]
  congr 1
  show (9 + t) % 12 + 1 * ((Shape.reshapeEquiv _ _ : S1.Idx) 0).val = _
  have : ∀ p : S1.Idx, (p 0).val = 0 := fun p => by have h : (p 0).val < 1 := (p 0).isLt; omega
  rw [this]; rfl

theorem credG (off inb) : ((ringM.slice (Rect.unit (s := S12x512x5120) off S1x512x256.size inb) (fun _ => rfl)).squeeze S512x256 squeezes_S1x512x256_S512x256).view.dmaCredit = NG := by
  show RefSig.tileCredit S512x256 .i8 = _
  decide +kernel
theorem credD (off inb) : ((ringM.slice (Rect.unit (s := S12x512x5120) off S1x512x5120.size inb) (fun _ => rfl)).squeeze S512x5120 squeezes_S1x512x5120_S512x5120).view.dmaCredit = ND := by
  show RefSig.tileCredit S512x5120 .i8 = _
  decide +kernel

/-- One copy of a batch, source and destination any views of the same shape. -/
theorem issue_core {α : Type} {s : Shape} {n : ℕ} (src : Memref sig .tc .hbm s .i8) (dst : Memref sig .tc .vmem s .i8) (cell : DmaSem sig) (N : ℕ)
    (hN : dst.view.dmaCredit = N) (fs : Buf (Elt F) (src.view.loc (c : Thread nD τ))) (fd : Buf (Elt F) (dst.view.loc (c : Thread nD τ)))
    (D : Fin n → sProp 𝕄) {j : ℕ} (hj : j < n) {h1 h2 h3}
    (hD : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ D ⟨j, hj⟩)
    {k : PUnit → Prog (TpuEff nD τ sig (Elt F) Λ₀ .tc) α} {Q : α → sProp 𝕄} :
    iprop((src.view.loc (c : Thread nD τ) ↦[src.view.set]{fullShare} fs) ∗ (dst.view.loc (c : Thread nD τ) ↦[dst.view.set]{fullShare} fd)
        ∗ Transfers.Batch (countersEmb (U := Pipeline.UD sig nD τ)) (c : Thread nD τ) (.dma cell) () N D j 0)
      ⊢ iprop((Transfers.Batch (countersEmb (U := Pipeline.UD sig nD τ)) (c : Thread nD τ) (.dma cell) () N D (j + 1) 0
            -∗ wp frame (wpE (defs₀ (F := F)) Variants.none (c : Thread nD τ) none) Set.univ (k ⟨⟩) Q) -∗
        wp frame (wpE (defs₀ (F := F)) Variants.none (c : Thread nD τ) none) Set.univ (.op (.enqueueDma src (.here dst) (.dma cell) h1 h2 h3) k) Q) :=
  Transfers.wp_dmaBatch (countersEmb (U := Pipeline.UD sig nD τ)) Variants.none (c : Thread nD τ) none () N hN subset_rfl hj (Nat.zero_le _) hD

theorem issue_gu {α : Type} (W : S5120x21504.Idx → Elt F .i8) (fd : S12x512x5120.Idx → Elt F .i8) {t j : ℕ} (ht : t < 42) (hj : j < 20)
    {semOff : Fin 1 → ℕ} {inbm} {offd : Fin 3 → ℕ} {inbd} {offs : Fin 2 → ℕ} {inbs}
    (hm : semOff = ![(9 + t) % 12]) (hd : offd = ![(9 + t) % 12, 0, 256 * j]) (hs : offs = ![512 * (j / 2), (j % 2) * 10752 + 256 * t])
    {h1 h2 h3} {k : PUnit → Prog (TpuEff nD τ sig (Elt F) Λ₀ .tc) α} {Q : α → sProp 𝕄} :
    iprop(gSrcB c W t j ∗ gDstB c ((9 + t) % 12) j fd ∗ batG c W t j)
      ⊢ iprop((batG c W t (j + 1) -∗ wp frame (wpE (defs₀ (F := F)) Variants.none (c : Thread nD τ) none) Set.univ (k ⟨⟩) Q) -∗
        wp frame (wpE (defs₀ (F := F)) Variants.none (c : Thread nD τ) none) Set.univ (.op (.enqueueDma (guM.slice (Rect.unit (s := S5120x21504) offs S512x256.size inbs) (fun _ => rfl))
          (.here ((ringM.slice (Rect.unit (s := S12x512x5120) offd S1x512x256.size inbd) (fun _ => rfl)).squeeze S512x256 squeezes_S1x512x256_S512x256))
          (.dma ((cc0_scratch3.slice (Rect.unit (s := S12) semOff S1.size inbm)).squeeze S_ squeezes_S1_S_).sem) h1 h2 h3) k) Q) := by
  have hcell := cell_eq (t := t) (inb := inbm) hm
  have hsd := set_gDst (inb := inbd) hd
  have hss := set_gSrc (inb := inbs) hs
  revert h3
  generalize ((cc0_scratch3.slice (Rect.unit (s := S12) semOff S1.size inbm)).squeeze S_ squeezes_S1_S_).sem = cell at hcell ⊢
  intro h3
  subst hcell
  have key := @issue_core F _ c α S512x256 20 (guM.slice (Rect.unit (s := S5120x21504) offs S512x256.size inbs) (fun _ => rfl))
    ((ringM.slice (Rect.unit (s := S12x512x5120) offd S1x512x256.size inbd) (fun _ => rfl)).squeeze S512x256 squeezes_S1x512x256_S512x256)
    (cellR t) NG (credG _ _) W fd (delG c W t) j hj h1 h2 h3 ?_ k Q
  · rw [hsd, hss] at key; exact key
  · rw [hsd, hss]; unfold delG gDstB gSrcB
    refine sep_mono (Entails.of_eq (pointsTo_congr ?_)) .rfl
    intro i hi
    exact write_gDst hj ht hd hs W fd i hi

theorem issue_dn {α : Type} (W : S10752x5120.Idx → Elt F .i8) (fd : S12x512x5120.Idx → Elt F .i8) {t : ℕ} (ht : t - 42 < 21)
    {semOff : Fin 1 → ℕ} {inbm} {offd : Fin 3 → ℕ} {inbd} {offs : Fin 2 → ℕ} {inbs}
    (hm : semOff = ![(9 + t) % 12]) (hd : offd = ![(9 + t) % 12, 0, 0]) (hs : offs = ![512 * (t - 42), 0])
    {h1 h2 h3} {k : PUnit → Prog (TpuEff nD τ sig (Elt F) Λ₀ .tc) α} {Q : α → sProp 𝕄} :
    iprop(dSrcB c W (t - 42) ∗ slotB c ((9 + t) % 12) fd ∗ batD c W t 0)
      ⊢ iprop((batD c W t 1 -∗ wp frame (wpE (defs₀ (F := F)) Variants.none (c : Thread nD τ) none) Set.univ (k ⟨⟩) Q) -∗
        wp frame (wpE (defs₀ (F := F)) Variants.none (c : Thread nD τ) none) Set.univ (.op (.enqueueDma (dnM.slice (Rect.unit (s := S10752x5120) offs S512x5120.size inbs) (fun _ => rfl))
          (.here ((ringM.slice (Rect.unit (s := S12x512x5120) offd S1x512x5120.size inbd) (fun _ => rfl)).squeeze S512x5120 squeezes_S1x512x5120_S512x5120))
          (.dma ((cc0_scratch3.slice (Rect.unit (s := S12) semOff S1.size inbm)).squeeze S_ squeezes_S1_S_).sem) h1 h2 h3) k) Q) := by
  have hcell := cell_eq (t := t) (inb := inbm) hm
  have hsd := set_sSet (inb := inbd) hd
  have hss := set_dSrc (inb := inbs) hs
  revert h3
  generalize ((cc0_scratch3.slice (Rect.unit (s := S12) semOff S1.size inbm)).squeeze S_ squeezes_S1_S_).sem = cell at hcell ⊢
  intro h3
  subst hcell
  have key := @issue_core F _ c α S512x5120 1 (dnM.slice (Rect.unit (s := S10752x5120) offs S512x5120.size inbs) (fun _ => rfl))
    ((ringM.slice (Rect.unit (s := S12x512x5120) offd S1x512x5120.size inbd) (fun _ => rfl)).squeeze S512x5120 squeezes_S1x512x5120_S512x5120)
    (cellR t) ND (credD _ _) W fd (delD c W t) 0 (by decide) h1 h2 h3 ?_ k Q
  · rw [hsd, hss] at key; exact key
  · rw [hsd, hss]; unfold delD slotB dSrcB
    refine sep_mono (Entails.of_eq (pointsTo_congr ?_)) .rfl
    intro i hi
    exact write_dDst ht hd hs W fd i hi

/-- Waiting for a whole gate-up tile: its twenty copies have landed and the cell is at zero. -/
theorem wait_gu {α : Type} (W : S5120x21504.Idx → Elt F .i8) {t : ℕ} {semOff : Fin 1 → ℕ} {inbm} {offd : Fin 3 → ℕ} {inbd} {srcw : Memref sig .tc .hbm S512x5120 .i8}
    (hm : semOff = ![(9 + t) % 12]) {h1 h2} {k : PUnit → Prog (TpuEff nD τ sig (Elt F) Λ₀ .tc) α} {Q : α → sProp 𝕄} {Wt : Waits sig Unit} :
    iprop(batG c W t 20 ∗ owes (c : Thread nD τ) 0 Wt)
      ⊢ iprop((iprop(bigSep Finset.univ (delG c W t) ∗ semVal ((c : Thread nD τ), .dma (cellR t)) 0 ∗ owes (c : Thread nD τ) 0 (insert (SemLoc.dma (cellR t), ()) Wt)) -∗ wp frame (wpE (defs₀ (F := F)) Variants.none (c : Thread nD τ) none) Set.univ (k ⟨⟩) Q) -∗
        wp frame (wpE (defs₀ (F := F)) Variants.none (c : Thread nD τ) none) Set.univ (.op (.waitDma2 ((cc0_scratch3.slice (Rect.unit (s := S12) semOff S1.size inbm)).squeeze S_ squeezes_S1_S_).sem srcw
          ((ringM.slice (Rect.unit (s := S12x512x5120) offd S1x512x5120.size inbd) (fun _ => rfl)).squeeze S512x5120 squeezes_S1x512x5120_S512x5120) h1 h2) k) Q) := by
  have hcell := cell_eq (t := t) (inb := inbm) hm
  rw [hcell]
  exact Transfers.wp_waitBatchAll (countersEmb (U := Pipeline.UD sig nD τ)) Variants.none (c : Thread nD τ) none () (credD _ _) (by decide) (by decide)

theorem wait_dn {α : Type} (W : S10752x5120.Idx → Elt F .i8) {t : ℕ} {semOff : Fin 1 → ℕ} {inbm} {offd : Fin 3 → ℕ} {inbd} {srcw : Memref sig .tc .hbm S512x5120 .i8}
    (hm : semOff = ![(9 + t) % 12]) {h1 h2} {k : PUnit → Prog (TpuEff nD τ sig (Elt F) Λ₀ .tc) α} {Q : α → sProp 𝕄} {Wt : Waits sig Unit} :
    iprop(batD c W t 1 ∗ owes (c : Thread nD τ) 0 Wt)
      ⊢ iprop((iprop(bigSep Finset.univ (delD c W t) ∗ semVal ((c : Thread nD τ), .dma (cellR t)) 0 ∗ owes (c : Thread nD τ) 0 (insert (SemLoc.dma (cellR t), ()) Wt)) -∗ wp frame (wpE (defs₀ (F := F)) Variants.none (c : Thread nD τ) none) Set.univ (k ⟨⟩) Q) -∗
        wp frame (wpE (defs₀ (F := F)) Variants.none (c : Thread nD τ) none) Set.univ (.op (.waitDma2 ((cc0_scratch3.slice (Rect.unit (s := S12) semOff S1.size inbm)).squeeze S_ squeezes_S1_S_).sem srcw
          ((ringM.slice (Rect.unit (s := S12x512x5120) offd S1x512x5120.size inbd) (fun _ => rfl)).squeeze S512x5120 squeezes_S1x512x5120_S512x5120) h1 h2) k) Q) := by
  have hcell := cell_eq (t := t) (inb := inbm) hm
  rw [hcell]
  exact Transfers.wp_waitBatchAll (countersEmb (U := Pipeline.UD sig nD τ)) Variants.none (c : Thread nD τ) none () (credD _ _) (by decide) (by decide)

/-- Gate-up tile `t` with `j` of its twenty copies issued into slot `(9 + t) % 12`: the flight, and the pieces still to go. -/
def progG (W : S5120x21504.Idx → Elt F .i8) (t j : ℕ) (f : S12x512x5120.Idx → Elt F .i8) : sProp 𝕄 :=
  iprop(batG c W t j ∗ bigSep (Ring.rangeSet 20 j 20) fun i : Fin 20 => iprop(gSrcB c W t i.val ∗ gDstB c ((9 + t) % 12) i.val f))

theorem issue_next {α : Type} (W : S5120x21504.Idx → Elt F .i8) (fd : S12x512x5120.Idx → Elt F .i8) {t j : ℕ} (ht : t < 42) (hj : j < 20)
    {semOff : Fin 1 → ℕ} {inbm} {offd : Fin 3 → ℕ} {inbd} {offs : Fin 2 → ℕ} {inbs}
    (hm : semOff = ![(9 + t) % 12]) (hd : offd = ![(9 + t) % 12, 0, 256 * j]) (hs : offs = ![512 * (j / 2), (j % 2) * 10752 + 256 * t])
    {h1 h2 h3} {k : PUnit → Prog (TpuEff nD τ sig (Elt F) Λ₀ .tc) α} {Q : α → sProp 𝕄} :
    progG c W t j fd
      ⊢ iprop((progG c W t (j + 1) fd -∗ wp frame (wpE (defs₀ (F := F)) Variants.none (c : Thread nD τ) none) Set.univ (k ⟨⟩) Q) -∗
        wp frame (wpE (defs₀ (F := F)) Variants.none (c : Thread nD τ) none) Set.univ
          (.op (.enqueueDma (guM.slice (Rect.unit (s := S5120x21504) offs S512x256.size inbs) (fun _ => rfl))
          (.here ((ringM.slice (Rect.unit (s := S12x512x5120) offd S1x512x256.size inbd) (fun _ => rfl)).squeeze S512x256 squeezes_S1x512x256_S512x256))
          (.dma ((cc0_scratch3.slice (Rect.unit (s := S12) semOff S1.size inbm)).squeeze S_ squeezes_S1_S_).sem) h1 h2 h3) k) Q) := by
  unfold progG
  rw [Ring.bigSep_rangeSet_head (lo := j) hj hj]
  iintro ⟨HB, ⟨HS, HD⟩, HR⟩ Hk
  iapply (issue_gu c W fd ht hj hm hd hs) $$ [HB HS HD]
  · isplitl [HS]; · iexact HS
    isplitl [HD]; · iexact HD
    iexact HB
  iintro HB
  iapply Hk
  isplitl [HB]; · iexact HB
  iexact HR

theorem sSet_biUnion (s : ℕ) : (Finset.univ : Finset (Fin 20)).biUnion (fun j => gDst s j.val) = sSet s := by
  ext i
  have h2 : (i 2).val < 5120 := (i 2).isLt
  simp only [Finset.mem_biUnion, Finset.mem_univ, true_and, gDst, sSet, Finset.mem_filter]
  constructor
  · rintro ⟨j, h, -⟩; exact h
  · intro h; exact ⟨⟨(i 2).val / 256, by omega⟩, h, by show 256 * ((i 2).val / 256) ≤ _; omega, by show _ < 256 * ((i 2).val / 256) + 256; omega⟩
theorem gDst_disjoint (s : ℕ) : ∀ j ∈ (Finset.univ : Finset (Fin 20)), ∀ j' ∈ (Finset.univ : Finset (Fin 20)), j ≠ j' → Disjoint (gDst s j.val) (gDst s j'.val) := by
  intro j _ j' _ hne
  rw [Finset.disjoint_left]
  intro i h h'
  simp only [gDst, Finset.mem_filter, Finset.mem_univ, true_and] at h h'
  exact hne (Fin.ext (by omega))

theorem slotB_pieces (s : ℕ) (f : S12x512x5120.Idx → Elt F .i8) :
    slotB c s f = bigSep Finset.univ fun j : Fin 20 => gDstB c s j.val f := by
  unfold slotB gDstB
  rw [← sSet_biUnion s]
  exact pointsTo_biUnion _ _ (gDst_disjoint s)

/-- The weight a tile reads, at rest. -/
def homeG (W : S5120x21504.Idx → Elt F .i8) (t : ℕ) : sProp 𝕄 := bigSep Finset.univ fun j : Fin 20 => gSrcB c W t j.val
/-- A slot with nothing in flight. -/
def freeS (t : ℕ) : sProp 𝕄 := iprop(semVal ((c : Thread nD τ), .dma (cellR t)) 0 ∗ ∃ f, slotB c ((9 + t) % 12) f)

theorem progG_start (W : S5120x21504.Idx → Elt F .i8) (t : ℕ) (f : S12x512x5120.Idx → Elt F .i8) :
    iprop(homeG c W t ∗ slotB c ((9 + t) % 12) f ∗ batG c W t 0) ⊢ progG c W t 0 f := by
  unfold progG homeG
  rw [slotB_pieces, Ring.rangeSet_univ, show (bigSep Finset.univ fun i : Fin 20 => iprop(gSrcB c W t i.val ∗ gDstB c ((9 + t) % 12) i.val f))
    = iprop((bigSep Finset.univ fun i : Fin 20 => gSrcB c W t i.val) ∗ bigSep Finset.univ fun i : Fin 20 => gDstB c ((9 + t) % 12) i.val f) from bigSep_sep _ _ _]
  iintro ⟨HH, HS, HB⟩
  isplitl [HB]; · iexact HB
  isplitl [HH]; · iexact HH
  iexact HS

theorem progG_end (W : S5120x21504.Idx → Elt F .i8) (t : ℕ) (f : S12x512x5120.Idx → Elt F .i8) : progG c W t 20 f ⊢ batG c W t 20 := by
  unfold progG
  iintro ⟨HB, -⟩; iexact HB

/-- What a landed gate-up tile gives back: its slot whole, at the tile's contents, and the weight at rest. -/
theorem delG_join (W : S5120x21504.Idx → Elt F .i8) (t : ℕ) :
    bigSep Finset.univ (delG c W t) ⊢ iprop(slotB c ((9 + t) % 12) (LandG W t) ∗ homeG c W t) := by
  unfold homeG
  rw [slotB_pieces]
  exact Entails.of_eq (show (bigSep Finset.univ fun i : Fin 20 => iprop(gDstB c ((9 + t) % 12) i.val (LandG W t) ∗ gSrcB c W t i.val))
    = iprop((bigSep Finset.univ fun i : Fin 20 => gDstB c ((9 + t) % 12) i.val (LandG W t)) ∗ bigSep Finset.univ fun i : Fin 20 => gSrcB c W t i.val) from bigSep_sep _ _ _)

theorem delD_join (W : S10752x5120.Idx → Elt F .i8) (t : ℕ) :
    bigSep Finset.univ (delD c W t) ⊢ iprop(slotB c ((9 + t) % 12) (LandD W (t - 42)) ∗ dSrcB c W (t - 42)) := by
  rw [show (Finset.univ : Finset (Fin 1)) = {0} from rfl, bigSep_singleton]
  exact .rfl

end Flights

end Cert.Kernel.Hand
-- ==== Proof.KernelOffs.lean ====
/-
Where each copy of the program reads and writes, in closed form over the loop's trip.
-/
module

public import proofs.«01_k».proof.Proof.KernelRing

@[expose] public section

set_option maxRecDepth 16384

namespace Cert.Kernel.Hand

open Cert.Kernel Cert.Kernel.Gen
open Idealize.ShloMosaic

theorem h1_true : ∀ k : Fin k0_t1_loop.trips, k0_cond1 k = 1#1 := by decide +kernel
theorem h2_false : ∀ k : Fin k0_t1_loop.trips, ¬ k0_cond2 k = 1#1 := by decide +kernel
theorem h5_false : ∀ k : Fin k0_t3_loop.trips, ¬ k0_cond5 k = 1#1 := by decide +kernel
theorem h3_iff : ∀ k : Fin k0_t2_loop.trips, k0_cond3 k = 1#1 ↔ k.val < 30 := by decide +kernel
theorem h4_iff : ∀ k : Fin k0_t2_loop.trips, k0_cond4 k = 1#1 ↔ ¬ k.val < 30 := by decide +kernel
theorem h6_iff : ∀ k : Fin k0_t3_loop.trips, k0_cond6 k = 1#1 ↔ k.val < 9 := by decide +kernel
theorem trips1 : k0_t1_loop.trips = 12 := by decide +kernel
theorem trips2 : k0_t2_loop.trips = 42 := by decide +kernel
theorem trips3 : k0_t3_loop.trips = 21 := by decide +kernel
theorem o1_m : ∀ k : Fin k0_t1_loop.trips, k0_off1 k = ![(9 + k.val) % 12] := by decide +kernel
theorem o1_d0 : ∀ k : Fin k0_t1_loop.trips, k0_off2 k = ![(9 + k.val) % 12, 0, 256 * 0] := by decide +kernel
theorem o1_s0 : ∀ k : Fin k0_t1_loop.trips, k0_off3 k 0#32 = ![512 * (0 / 2), (0 % 2) * 10752 + 256 * k.val] := by decide +kernel
theorem o1_d1 : ∀ k : Fin k0_t1_loop.trips, k0_off4 k = ![(9 + k.val) % 12, 0, 256 * 1] := by decide +kernel
theorem o1_s1 : ∀ k : Fin k0_t1_loop.trips, k0_off3 k 10752#32 = ![512 * (1 / 2), (1 % 2) * 10752 + 256 * k.val] := by decide +kernel
theorem o1_d2 : ∀ k : Fin k0_t1_loop.trips, k0_off5 k = ![(9 + k.val) % 12, 0, 256 * 2] := by decide +kernel
theorem o1_s2 : ∀ k : Fin k0_t1_loop.trips, k0_off6 k 0#32 = ![512 * (2 / 2), (2 % 2) * 10752 + 256 * k.val] := by decide +kernel
theorem o1_d3 : ∀ k : Fin k0_t1_loop.trips, k0_off7 k = ![(9 + k.val) % 12, 0, 256 * 3] := by decide +kernel
theorem o1_s3 : ∀ k : Fin k0_t1_loop.trips, k0_off6 k 10752#32 = ![512 * (3 / 2), (3 % 2) * 10752 + 256 * k.val] := by decide +kernel
theorem o1_d4 : ∀ k : Fin k0_t1_loop.trips, k0_off8 k = ![(9 + k.val) % 12, 0, 256 * 4] := by decide +kernel
theorem o1_s4 : ∀ k : Fin k0_t1_loop.trips, k0_off9 k 0#32 = ![512 * (4 / 2), (4 % 2) * 10752 + 256 * k.val] := by decide +kernel
theorem o1_d5 : ∀ k : Fin k0_t1_loop.trips, k0_off10 k = ![(9 + k.val) % 12, 0, 256 * 5] := by decide +kernel
theorem o1_s5 : ∀ k : Fin k0_t1_loop.trips, k0_off9 k 10752#32 = ![512 * (5 / 2), (5 % 2) * 10752 + 256 * k.val] := by decide +kernel
theorem o1_d6 : ∀ k : Fin k0_t1_loop.trips, k0_off11 k = ![(9 + k.val) % 12, 0, 256 * 6] := by decide +kernel
theorem o1_s6 : ∀ k : Fin k0_t1_loop.trips, k0_off12 k 0#32 = ![512 * (6 / 2), (6 % 2) * 10752 + 256 * k.val] := by decide +kernel
theorem o1_d7 : ∀ k : Fin k0_t1_loop.trips, k0_off13 k = ![(9 + k.val) % 12, 0, 256 * 7] := by decide +kernel
theorem o1_s7 : ∀ k : Fin k0_t1_loop.trips, k0_off12 k 10752#32 = ![512 * (7 / 2), (7 % 2) * 10752 + 256 * k.val] := by decide +kernel
theorem o1_d8 : ∀ k : Fin k0_t1_loop.trips, k0_off14 k = ![(9 + k.val) % 12, 0, 256 * 8] := by decide +kernel
theorem o1_s8 : ∀ k : Fin k0_t1_loop.trips, k0_off15 k 0#32 = ![512 * (8 / 2), (8 % 2) * 10752 + 256 * k.val] := by decide +kernel
theorem o1_d9 : ∀ k : Fin k0_t1_loop.trips, k0_off16 k = ![(9 + k.val) % 12, 0, 256 * 9] := by decide +kernel
theorem o1_s9 : ∀ k : Fin k0_t1_loop.trips, k0_off15 k 10752#32 = ![512 * (9 / 2), (9 % 2) * 10752 + 256 * k.val] := by decide +kernel
theorem o1_d10 : ∀ k : Fin k0_t1_loop.trips, k0_off17 k = ![(9 + k.val) % 12, 0, 256 * 10] := by decide +kernel
theorem o1_s10 : ∀ k : Fin k0_t1_loop.trips, k0_off18 k 0#32 = ![512 * (10 / 2), (10 % 2) * 10752 + 256 * k.val] := by decide +kernel
theorem o1_d11 : ∀ k : Fin k0_t1_loop.trips, k0_off19 k = ![(9 + k.val) % 12, 0, 256 * 11] := by decide +kernel
theorem o1_s11 : ∀ k : Fin k0_t1_loop.trips, k0_off18 k 10752#32 = ![512 * (11 / 2), (11 % 2) * 10752 + 256 * k.val] := by decide +kernel
theorem o1_d12 : ∀ k : Fin k0_t1_loop.trips, k0_off20 k = ![(9 + k.val) % 12, 0, 256 * 12] := by decide +kernel
theorem o1_s12 : ∀ k : Fin k0_t1_loop.trips, k0_off21 k 0#32 = ![512 * (12 / 2), (12 % 2) * 10752 + 256 * k.val] := by decide +kernel
theorem o1_d13 : ∀ k : Fin k0_t1_loop.trips, k0_off22 k = ![(9 + k.val) % 12, 0, 256 * 13] := by decide +kernel
theorem o1_s13 : ∀ k : Fin k0_t1_loop.trips, k0_off21 k 10752#32 = ![512 * (13 / 2), (13 % 2) * 10752 + 256 * k.val] := by decide +kernel
theorem o1_d14 : ∀ k : Fin k0_t1_loop.trips, k0_off23 k = ![(9 + k.val) % 12, 0, 256 * 14] := by decide +kernel
theorem o1_s14 : ∀ k : Fin k0_t1_loop.trips, k0_off24 k 0#32 = ![512 * (14 / 2), (14 % 2) * 10752 + 256 * k.val] := by decide +kernel
theorem o1_d15 : ∀ k : Fin k0_t1_loop.trips, k0_off25 k = ![(9 + k.val) % 12, 0, 256 * 15] := by decide +kernel
theorem o1_s15 : ∀ k : Fin k0_t1_loop.trips, k0_off24 k 10752#32 = ![512 * (15 / 2), (15 % 2) * 10752 + 256 * k.val] := by decide +kernel
theorem o1_d16 : ∀ k : Fin k0_t1_loop.trips, k0_off26 k = ![(9 + k.val) % 12, 0, 256 * 16] := by decide +kernel
theorem o1_s16 : ∀ k : Fin k0_t1_loop.trips, k0_off27 k 0#32 = ![512 * (16 / 2), (16 % 2) * 10752 + 256 * k.val] := by decide +kernel
theorem o1_d17 : ∀ k : Fin k0_t1_loop.trips, k0_off28 k = ![(9 + k.val) % 12, 0, 256 * 17] := by decide +kernel
theorem o1_s17 : ∀ k : Fin k0_t1_loop.trips, k0_off27 k 10752#32 = ![512 * (17 / 2), (17 % 2) * 10752 + 256 * k.val] := by decide +kernel
theorem o1_d18 : ∀ k : Fin k0_t1_loop.trips, k0_off29 k = ![(9 + k.val) % 12, 0, 256 * 18] := by decide +kernel
theorem o1_s18 : ∀ k : Fin k0_t1_loop.trips, k0_off30 k 0#32 = ![512 * (18 / 2), (18 % 2) * 10752 + 256 * k.val] := by decide +kernel
theorem o1_d19 : ∀ k : Fin k0_t1_loop.trips, k0_off31 k = ![(9 + k.val) % 12, 0, 256 * 19] := by decide +kernel
theorem o1_s19 : ∀ k : Fin k0_t1_loop.trips, k0_off30 k 10752#32 = ![512 * (19 / 2), (19 % 2) * 10752 + 256 * k.val] := by decide +kernel
theorem o2_m : ∀ k : Fin k0_t2_loop.trips, k0_off50 k = ![(9 + (k.val + 12)) % 12] := by decide +kernel
theorem o2_d0 : ∀ k : Fin k0_t2_loop.trips, k0_off51 k = ![(9 + (k.val + 12)) % 12, 0, 256 * 0] := by decide +kernel
theorem o2_s0 : ∀ k : Fin k0_t2_loop.trips, k0_off52 k 0#32 = ![512 * (0 / 2), (0 % 2) * 10752 + 256 * (k.val + 12)] := by decide +kernel
theorem o2_d1 : ∀ k : Fin k0_t2_loop.trips, k0_off53 k = ![(9 + (k.val + 12)) % 12, 0, 256 * 1] := by decide +kernel
theorem o2_s1 : ∀ k : Fin k0_t2_loop.trips, k0_off52 k 10752#32 = ![512 * (1 / 2), (1 % 2) * 10752 + 256 * (k.val + 12)] := by decide +kernel
theorem o2_d2 : ∀ k : Fin k0_t2_loop.trips, k0_off54 k = ![(9 + (k.val + 12)) % 12, 0, 256 * 2] := by decide +kernel
theorem o2_s2 : ∀ k : Fin k0_t2_loop.trips, k0_off55 k 0#32 = ![512 * (2 / 2), (2 % 2) * 10752 + 256 * (k.val + 12)] := by decide +kernel
theorem o2_d3 : ∀ k : Fin k0_t2_loop.trips, k0_off56 k = ![(9 + (k.val + 12)) % 12, 0, 256 * 3] := by decide +kernel
theorem o2_s3 : ∀ k : Fin k0_t2_loop.trips, k0_off55 k 10752#32 = ![512 * (3 / 2), (3 % 2) * 10752 + 256 * (k.val + 12)] := by decide +kernel
theorem o2_d4 : ∀ k : Fin k0_t2_loop.trips, k0_off57 k = ![(9 + (k.val + 12)) % 12, 0, 256 * 4] := by decide +kernel
theorem o2_s4 : ∀ k : Fin k0_t2_loop.trips, k0_off58 k 0#32 = ![512 * (4 / 2), (4 % 2) * 10752 + 256 * (k.val + 12)] := by decide +kernel
theorem o2_d5 : ∀ k : Fin k0_t2_loop.trips, k0_off59 k = ![(9 + (k.val + 12)) % 12, 0, 256 * 5] := by decide +kernel
theorem o2_s5 : ∀ k : Fin k0_t2_loop.trips, k0_off58 k 10752#32 = ![512 * (5 / 2), (5 % 2) * 10752 + 256 * (k.val + 12)] := by decide +kernel
theorem o2_d6 : ∀ k : Fin k0_t2_loop.trips, k0_off60 k = ![(9 + (k.val + 12)) % 12, 0, 256 * 6] := by decide +kernel
theorem o2_s6 : ∀ k : Fin k0_t2_loop.trips, k0_off61 k 0#32 = ![512 * (6 / 2), (6 % 2) * 10752 + 256 * (k.val + 12)] := by decide +kernel
theorem o2_d7 : ∀ k : Fin k0_t2_loop.trips, k0_off62 k = ![(9 + (k.val + 12)) % 12, 0, 256 * 7] := by decide +kernel
theorem o2_s7 : ∀ k : Fin k0_t2_loop.trips, k0_off61 k 10752#32 = ![512 * (7 / 2), (7 % 2) * 10752 + 256 * (k.val + 12)] := by decide +kernel
theorem o2_d8 : ∀ k : Fin k0_t2_loop.trips, k0_off63 k = ![(9 + (k.val + 12)) % 12, 0, 256 * 8] := by decide +kernel
theorem o2_s8 : ∀ k : Fin k0_t2_loop.trips, k0_off64 k 0#32 = ![512 * (8 / 2), (8 % 2) * 10752 + 256 * (k.val + 12)] := by decide +kernel
theorem o2_d9 : ∀ k : Fin k0_t2_loop.trips, k0_off65 k = ![(9 + (k.val + 12)) % 12, 0, 256 * 9] := by decide +kernel
theorem o2_s9 : ∀ k : Fin k0_t2_loop.trips, k0_off64 k 10752#32 = ![512 * (9 / 2), (9 % 2) * 10752 + 256 * (k.val + 12)] := by decide +kernel
theorem o2_d10 : ∀ k : Fin k0_t2_loop.trips, k0_off66 k = ![(9 + (k.val + 12)) % 12, 0, 256 * 10] := by decide +kernel
theorem o2_s10 : ∀ k : Fin k0_t2_loop.trips, k0_off67 k 0#32 = ![512 * (10 / 2), (10 % 2) * 10752 + 256 * (k.val + 12)] := by decide +kernel
theorem o2_d11 : ∀ k : Fin k0_t2_loop.trips, k0_off68 k = ![(9 + (k.val + 12)) % 12, 0, 256 * 11] := by decide +kernel
theorem o2_s11 : ∀ k : Fin k0_t2_loop.trips, k0_off67 k 10752#32 = ![512 * (11 / 2), (11 % 2) * 10752 + 256 * (k.val + 12)] := by decide +kernel
theorem o2_d12 : ∀ k : Fin k0_t2_loop.trips, k0_off69 k = ![(9 + (k.val + 12)) % 12, 0, 256 * 12] := by decide +kernel
theorem o2_s12 : ∀ k : Fin k0_t2_loop.trips, k0_off70 k 0#32 = ![512 * (12 / 2), (12 % 2) * 10752 + 256 * (k.val + 12)] := by decide +kernel
theorem o2_d13 : ∀ k : Fin k0_t2_loop.trips, k0_off71 k = ![(9 + (k.val + 12)) % 12, 0, 256 * 13] := by decide +kernel
theorem o2_s13 : ∀ k : Fin k0_t2_loop.trips, k0_off70 k 10752#32 = ![512 * (13 / 2), (13 % 2) * 10752 + 256 * (k.val + 12)] := by decide +kernel
theorem o2_d14 : ∀ k : Fin k0_t2_loop.trips, k0_off72 k = ![(9 + (k.val + 12)) % 12, 0, 256 * 14] := by decide +kernel
theorem o2_s14 : ∀ k : Fin k0_t2_loop.trips, k0_off73 k 0#32 = ![512 * (14 / 2), (14 % 2) * 10752 + 256 * (k.val + 12)] := by decide +kernel
theorem o2_d15 : ∀ k : Fin k0_t2_loop.trips, k0_off74 k = ![(9 + (k.val + 12)) % 12, 0, 256 * 15] := by decide +kernel
theorem o2_s15 : ∀ k : Fin k0_t2_loop.trips, k0_off73 k 10752#32 = ![512 * (15 / 2), (15 % 2) * 10752 + 256 * (k.val + 12)] := by decide +kernel
theorem o2_d16 : ∀ k : Fin k0_t2_loop.trips, k0_off75 k = ![(9 + (k.val + 12)) % 12, 0, 256 * 16] := by decide +kernel
theorem o2_s16 : ∀ k : Fin k0_t2_loop.trips, k0_off76 k 0#32 = ![512 * (16 / 2), (16 % 2) * 10752 + 256 * (k.val + 12)] := by decide +kernel
theorem o2_d17 : ∀ k : Fin k0_t2_loop.trips, k0_off77 k = ![(9 + (k.val + 12)) % 12, 0, 256 * 17] := by decide +kernel
theorem o2_s17 : ∀ k : Fin k0_t2_loop.trips, k0_off76 k 10752#32 = ![512 * (17 / 2), (17 % 2) * 10752 + 256 * (k.val + 12)] := by decide +kernel
theorem o2_d18 : ∀ k : Fin k0_t2_loop.trips, k0_off78 k = ![(9 + (k.val + 12)) % 12, 0, 256 * 18] := by decide +kernel
theorem o2_s18 : ∀ k : Fin k0_t2_loop.trips, k0_off79 k 0#32 = ![512 * (18 / 2), (18 % 2) * 10752 + 256 * (k.val + 12)] := by decide +kernel
theorem o2_d19 : ∀ k : Fin k0_t2_loop.trips, k0_off80 k = ![(9 + (k.val + 12)) % 12, 0, 256 * 19] := by decide +kernel
theorem o2_s19 : ∀ k : Fin k0_t2_loop.trips, k0_off79 k 10752#32 = ![512 * (19 / 2), (19 % 2) * 10752 + 256 * (k.val + 12)] := by decide +kernel
theorem o2_wm : ∀ k : Fin k0_t2_loop.trips, k0_off35 k = ![(9 + k.val) % 12] := by decide +kernel
theorem o2_dm : ∀ k : Fin k0_t2_loop.trips, k0_off81 k = ![(9 + (k.val + 12)) % 12] := by decide +kernel
theorem o2_dd : ∀ k : Fin k0_t2_loop.trips, k0_off82 k = ![(9 + (k.val + 12)) % 12, 0, 0] := by decide +kernel
theorem o2_ds : ∀ k : Fin k0_t2_loop.trips, ¬ k.val < 30 → k0_off83 k = ![512 * (k.val + 12 - 42), 0] := by decide +kernel
theorem o3_wm : ∀ k : Fin k0_t3_loop.trips, k0_off84 k = ![(9 + (k.val + 42)) % 12] := by decide +kernel
theorem o3_m : ∀ k : Fin k0_t3_loop.trips, k0_off119 k = ![(9 + (k.val + 42 + 12)) % 12] := by decide +kernel
theorem o3_d : ∀ k : Fin k0_t3_loop.trips, k0_off120 k = ![(9 + (k.val + 42 + 12)) % 12, 0, 0] := by decide +kernel
theorem o3_s : ∀ k : Fin k0_t3_loop.trips, k.val < 9 → k0_off121 k = ![512 * (k.val + 42 + 12 - 42), 0] := by decide +kernel
theorem o3_r : ∀ k : Fin k0_t3_loop.trips, k0_off87 k = ![(9 + (k.val + 42)) % 12, 0, 0] := by decide +kernel

theorem o2_r0 : ∀ k : Fin k0_t2_loop.trips, k0_off37 k = ![(9 + k.val) % 12, 0, 0] := by decide +kernel
theorem o2_r1 : ∀ k : Fin k0_t2_loop.trips, k0_off38 k = ![(9 + k.val) % 12, 0, 512] := by decide +kernel
theorem o2_r2 : ∀ k : Fin k0_t2_loop.trips, k0_off39 k = ![(9 + k.val) % 12, 0, 1024] := by decide +kernel
theorem o2_r3 : ∀ k : Fin k0_t2_loop.trips, k0_off40 k = ![(9 + k.val) % 12, 0, 1536] := by decide +kernel
theorem o2_r4 : ∀ k : Fin k0_t2_loop.trips, k0_off41 k = ![(9 + k.val) % 12, 0, 2048] := by decide +kernel
theorem o2_r5 : ∀ k : Fin k0_t2_loop.trips, k0_off42 k = ![(9 + k.val) % 12, 0, 2560] := by decide +kernel
theorem o2_r6 : ∀ k : Fin k0_t2_loop.trips, k0_off43 k = ![(9 + k.val) % 12, 0, 3072] := by decide +kernel
theorem o2_r7 : ∀ k : Fin k0_t2_loop.trips, k0_off44 k = ![(9 + k.val) % 12, 0, 3584] := by decide +kernel
theorem o2_r8 : ∀ k : Fin k0_t2_loop.trips, k0_off45 k = ![(9 + k.val) % 12, 0, 4096] := by decide +kernel
theorem o2_r9 : ∀ k : Fin k0_t2_loop.trips, k0_off46 k = ![(9 + k.val) % 12, 0, 4608] := by decide +kernel

/-- A box of 512 columns of a slot lies in the slot. -/
theorem box_in {s n : ℕ} {off : Fin 3 → ℕ} {inb} (h : off = ![s, 0, n]) :
    (ringM.access (Rect.unit (s := S12x512x5120) off S1x512x512.size inb)).set ⊆ sSet s := by
  subst h
  show ((View.whole cc0_scratch0).slice _).set ⊆ _
  rw [View.set_slice_whole]
  intro i hi
  rw [Rect.mem_set_unit] at hi
  have a0 := hi 0
  simp at a0
  simp only [sSet, Finset.mem_filter, Finset.mem_univ, true_and]
  omega

end Cert.Kernel.Hand
-- ==== Proof.KernelState.lean ====
/-
The state of the ring between two trips: the weights of the tiles already used and not yet started lie at rest, the
tiles between are in flight, the other slots are free; and the start of a tile and the end of one as moves of this state.
-/
module

public import proofs.«01_k».proof.Proof.KernelOffs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)

/-- A buffer held whole at contents `f`, through the memref the program names it by. -/
abbrev bufPt {sp : Space} {sh : Shape} {e : EltTy} (m : Memref sig .tc sp sh e) (f : Buf (Elt F) (m.view.loc (c : Thread nD τ))) : sProp 𝕄 :=
  m.view.loc (c : Thread nD τ) ↦{fullShare} f
/-- A window's buffer held by its own elements. -/
abbrev winPt {sp : Space} {sh : Shape} {e : EltTy} (m : Memref sig .tc sp sh e) (f : Buf (Elt F) (m.view.loc (c : Thread nD τ))) : sProp 𝕄 :=
  m.view.loc (c : Thread nD τ) ↦[m.view.set]{fullShare} f

/-- One slot of the ring as a view of its own. -/
theorem slot_inb {s : ℕ} (h : s < 12) : ∀ a, ![s, 0, 0] a + S1x512x5120.size a ≤ S12x512x5120.size a := by
  intro a
  match a with
  | 0 => show s + 1 ≤ 12; omega
  | 1 => show 0 + 512 ≤ 512; omega
  | 2 => show 0 + 5120 ≤ 5120; omega

abbrev slotM (s : ℕ) (h : s < 12) : Memref sig .tc .vmem S512x5120 .i8 :=
  (ringM.slice (Rect.unit (s := S12x512x5120) ![s, 0, 0] S1x512x5120.size (slot_inb h)) (fun _ => rfl)).squeeze S512x5120 squeezes_S1x512x5120_S512x5120

theorem slotB_eq {s : ℕ} (h : s < 12) (f : S12x512x5120.Idx → Elt F .i8) :
    (slotB c s f : sProp 𝕄) = iprop((slotM s h).view.loc (c : Thread nD τ) ↦[(slotM s h).view.set]{fullShare} f) := by
  rw [set_sSet rfl]; rfl

theorem slotB_open {s : ℕ} (h : s < 12) (f : S12x512x5120.Idx → Elt F .i8) :
    (slotB c s f : sProp 𝕄) ⊢ iprop((slotM s h).view.loc (c : Thread nD τ) ↦[(slotM s h).view.set]{fullShare} f) := by
  rw [slotB_eq c h]

theorem slotB_close {s : ℕ} (h : s < 12) (f : S12x512x5120.Idx → Elt F .i8) :
    iprop((slotM s h).view.loc (c : Thread nD τ) ↦[(slotM s h).view.set]{fullShare} f) ⊢ (slotB c s f : sProp 𝕄) := by
  rw [slotB_eq c h]

/-- A box of 512 columns of a slot, stated as the elements of the slot's own view. -/
theorem box_le {s n : ℕ} (hs : s < 12) {off : Fin 3 → ℕ} {inb} (h : off = ![s, 0, n]) :
    LE.le (α := Finset (slotM s hs).view.ty.Idx) (ringM.access (Rect.unit (s := S12x512x5120) off S1x512x512.size inb)).set (slotM s hs).view.set := by
  rw [set_sSet rfl]; exact box_in h

/-- The whole slot, read through the ring. -/
theorem slot_le {s : ℕ} (hs : s < 12) {off : Fin 3 → ℕ} {inb} (h : off = ![s, 0, 0]) :
    LE.le (α := Finset (slotM s hs).view.ty.Idx) (ringM.access (Rect.unit (s := S12x512x5120) off S1x512x5120.size inb)).set (slotM s hs).view.set := by
  subst h
  rw [set_sSet rfl]
  show ((View.whole cc0_scratch0).slice _).set ⊆ _
  rw [View.set_slice_whole]
  intro i hi
  rw [Rect.mem_set_unit] at hi
  have a0 := hi 0
  simp at a0
  simp only [sSet, Finset.mem_filter, Finset.mem_univ, true_and]
  omega

/-- Tile `t`'s weight at rest, and tile `t` in flight: the first 42 are gate-up tiles, the others down tiles. -/
def homeT (t : ℕ) : sProp 𝕄 := if t < 42 then homeG c W t else dSrcB c W' (t - 42)
def flightT (t : ℕ) : sProp 𝕄 := if t < 42 then batG c W t 20 else batD c W' t 1

/-- Tiles `[lo, hi)` in flight. -/
def ringSt (lo hi : ℕ) : sProp 𝕄 :=
  iprop((bigSep (Ring.rangeSet 63 0 lo) fun t => homeT c W W' t.val) ∗ (bigSep (Ring.rangeSet 63 lo hi) fun t => flightT c W W' t.val)
    ∗ (bigSep (Ring.rangeSet 63 hi 63) fun t => homeT c W W' t.val) ∗ (bigSep (Ring.rangeSet 75 hi (lo + 12)) fun t => freeS (F := F) c t.val))
/-- The same without tile `lo`. -/
def ringRest (lo hi : ℕ) : sProp 𝕄 :=
  iprop((bigSep (Ring.rangeSet 63 0 lo) fun t => homeT c W W' t.val) ∗ (bigSep (Ring.rangeSet 63 (lo + 1) hi) fun t => flightT c W W' t.val)
    ∗ (bigSep (Ring.rangeSet 63 hi 63) fun t => homeT c W W' t.val) ∗ (bigSep (Ring.rangeSet 75 hi (lo + 12)) fun t => freeS (F := F) c t.val))
/-- The same with tile `hi` taken off the front to be started. -/
def ringStart (lo hi : ℕ) : sProp 𝕄 :=
  iprop((bigSep (Ring.rangeSet 63 0 lo) fun t => homeT c W W' t.val) ∗ (bigSep (Ring.rangeSet 63 lo hi) fun t => flightT c W W' t.val)
    ∗ (bigSep (Ring.rangeSet 63 (hi + 1) 63) fun t => homeT c W W' t.val) ∗ (bigSep (Ring.rangeSet 75 (hi + 1) (lo + 12)) fun t => freeS (F := F) c t.val))

theorem ringSt_take {lo hi : ℕ} (h : lo < hi) (hlo : lo < 63) :
    ringSt c W W' lo hi ⊢ iprop(flightT c W W' lo ∗ ringRest c W W' lo hi) := by
  unfold ringSt ringRest
  rw [Ring.bigSep_rangeSet_head (lo := lo) h hlo]
  iintro ⟨H1, ⟨H2, H3⟩, H4, H5⟩
  isplitl [H2]; · iexact H2
  isplitl [H1]; · iexact H1
  isplitl [H3]; · iexact H3
  isplitl [H4]; · iexact H4
  iexact H5

theorem cellR_add (t : ℕ) : cellR (t + 12) = cellR t := Fin.ext (by show 6 + (9 + (t + 12)) % 12 = 6 + (9 + t) % 12; omega)

theorem freeS_add (t : ℕ) : (freeS c (t + 12) : sProp 𝕄) = freeS c t := by
  unfold freeS
  rw [cellR_add, show (9 + (t + 12)) % 12 = (9 + t) % 12 by omega]

theorem ringSt_put {lo hi : ℕ} (hlo : lo < 63) (h : hi ≤ lo + 12) :
    iprop(homeT c W W' lo ∗ freeS (F := F) c lo ∗ ringRest c W W' lo hi) ⊢ ringSt c W W' (lo + 1) hi := by
  unfold ringSt ringRest
  rw [Ring.bigSep_rangeSet_last (lo := 0) (hi := lo + 1) (by omega) (by omega)]
  rw [Ring.bigSep_rangeSet_last (lo := hi) (hi := lo + 1 + 12) (by omega) (by omega)]
  rw [show (freeS c (⟨lo + 1 + 12 - 1, by omega⟩ : Fin 75).val : sProp 𝕄) = freeS c lo from freeS_add c lo]
  iintro ⟨HH, HF, H1, H2, H3, H4⟩
  isplitl [HH H1]
  · isplitl [HH]; · iexact HH
    iexact H1
  isplitl [H2]; · iexact H2
  isplitl [H3]; · iexact H3
  isplitl [HF]; · iexact HF
  iexact H4

theorem ringSt_pull {lo hi : ℕ} (hhi : hi < 63) (h : hi < lo + 12) :
    ringSt c W W' lo hi ⊢ iprop(homeT c W W' hi ∗ freeS (F := F) c hi ∗ ringStart c W W' lo hi) := by
  unfold ringSt ringStart
  rw [Ring.bigSep_rangeSet_head (lo := hi) (hi := 63) hhi hhi]
  rw [Ring.bigSep_rangeSet_head (lo := hi) (hi := lo + 12) h (by omega)]
  iintro ⟨H1, H2, ⟨H3, H4⟩, ⟨H5, H6⟩⟩
  isplitl [H3]; · iexact H3
  isplitl [H5]; · iexact H5
  isplitl [H1]; · iexact H1
  isplitl [H2]; · iexact H2
  isplitl [H4]; · iexact H4
  iexact H6

theorem ringSt_push {lo hi : ℕ} (hhi : hi < 63) (h : lo ≤ hi) :
    iprop(flightT c W W' hi ∗ ringStart c W W' lo hi) ⊢ ringSt c W W' lo (hi + 1) := by
  unfold ringSt ringStart
  rw [Ring.bigSep_rangeSet_last (lo := lo) (hi := hi + 1) (by omega) (by omega)]
  iintro ⟨HH, H1, H2, H3, H4⟩
  isplitl [H1]; · iexact H1
  isplitl [HH H2]
  · isplitl [HH]; · iexact HH
    iexact H2
  isplitl [H3]; · iexact H3
  iexact H4

/-- A gate-up tile about to be started. -/
theorem start_gu {lo hi : ℕ} (hhi : hi < 42) (h : hi < lo + 12) :
    ringSt c W W' lo hi ⊢ iprop(|={Set.univ}=> ∃ f, progG c W hi 0 f ∗ ringStart c W W' lo hi) := by
  refine (ringSt_pull c W W' (by omega) h).trans ?_
  unfold homeT freeS
  rw [if_pos hhi]
  iintro ⟨HH, ⟨HC, %f, HS⟩, HR⟩
  imod (Transfers.batch_alloc' (Lvl := ℕ) (countersEmb (U := Pipeline.UD sig nD τ)) (c : Thread nD τ) () NG (delG c W hi) (sm := SemLoc.dma (cellR hi)) (E := Set.univ)) $$ HC with HB
  imodintro
  iexists f
  isplitl [HH HS HB]
  · iapply (progG_start c W hi f)
    isplitl [HH]; · iexact HH
    isplitl [HS]; · iexact HS
    iexact HB
  iexact HR

theorem finish_gu {lo hi : ℕ} (hhi : hi < 42) (h : lo ≤ hi) (f : S12x512x5120.Idx → Elt F .i8) :
    iprop(progG c W hi 20 f ∗ ringStart c W W' lo hi) ⊢ ringSt c W W' lo (hi + 1) := by
  refine (sep_mono (progG_end c W hi f) .rfl).trans ?_
  refine BIBase.Entails.trans ?_ (ringSt_push c W W' (by omega) h)
  unfold flightT; rw [if_pos hhi]

theorem start_dn {lo hi : ℕ} (hhi : ¬ hi < 42) (hhi' : hi < 63) (h : hi < lo + 12) :
    ringSt c W W' lo hi ⊢ iprop(|={Set.univ}=> ∃ f, (dSrcB c W' (hi - 42) ∗ slotB c ((9 + hi) % 12) f ∗ batD c W' hi 0) ∗ ringStart c W W' lo hi) := by
  refine (ringSt_pull c W W' hhi' h).trans ?_
  unfold homeT freeS
  rw [if_neg hhi]
  iintro ⟨HH, ⟨HC, %f, HS⟩, HR⟩
  imod (Transfers.batch_alloc' (Lvl := ℕ) (countersEmb (U := Pipeline.UD sig nD τ)) (c : Thread nD τ) () ND (delD c W' hi) (sm := SemLoc.dma (cellR hi)) (E := Set.univ)) $$ HC with HB
  imodintro
  iexists f
  isplitl [HH HS HB]
  · isplitl [HH]; · iexact HH
    isplitl [HS]; · iexact HS
    iexact HB
  iexact HR

theorem finish_dn {lo hi : ℕ} (hhi : ¬ hi < 42) (hhi' : hi < 63) (h : lo ≤ hi) :
    iprop(batD c W' hi 1 ∗ ringStart c W W' lo hi) ⊢ ringSt c W W' lo (hi + 1) := by
  refine BIBase.Entails.trans ?_ (ringSt_push c W W' hhi' h)
  unfold flightT; rw [if_neg hhi]

/-- A tile used up: its slot is free again. -/
theorem used_gu {lo hi : ℕ} (hlo : lo < 42) (h : hi ≤ lo + 12) (f : S12x512x5120.Idx → Elt F .i8) :
    iprop(slotB c ((9 + lo) % 12) f ∗ homeG c W lo ∗ semVal ((c : Thread nD τ), .dma (cellR lo)) 0 ∗ ringRest c W W' lo hi) ⊢ ringSt c W W' (lo + 1) hi := by
  refine BIBase.Entails.trans ?_ (ringSt_put c W W' (by omega) h)
  unfold homeT freeS
  rw [if_pos hlo]
  iintro ⟨HS, HH, HC, HR⟩
  isplitl [HH]; · iexact HH
  isplitl [HC HS]
  · isplitl [HC]; · iexact HC
    iexists f; iexact HS
  iexact HR

theorem used_dn {lo hi : ℕ} (hlo : ¬ lo < 42) (hlo' : lo < 63) (h : hi ≤ lo + 12) (f : S12x512x5120.Idx → Elt F .i8) :
    iprop(slotB c ((9 + lo) % 12) f ∗ dSrcB c W' (lo - 42) ∗ semVal ((c : Thread nD τ), .dma (cellR lo)) 0 ∗ ringRest c W W' lo hi) ⊢ ringSt c W W' (lo + 1) hi := by
  refine BIBase.Entails.trans ?_ (ringSt_put c W W' hlo' h)
  unfold homeT freeS
  rw [if_neg hlo]
  iintro ⟨HS, HH, HC, HR⟩
  isplitl [HH]; · iexact HH
  isplitl [HC HS]
  · isplitl [HC]; · iexact HC
    iexists f; iexact HS
  iexact HR

theorem ret_bind {E : Type → Type} {α β : Type} (a : α) (k : α → Prog E β) : (Prog.ret a).bind k = k a := rfl

end Cert.Kernel.Hand
-- ==== Proof.KernelStep1.lean ====
/-
One trip of the loop that starts the first twelve tiles.
-/
module

public import proofs.«01_k».proof.Proof.KernelState

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

theorem step1 (k : Fin k0_t1_loop.trips) :
    ringSt c W W' 0 k.val ⊢ wp frame (wpE (defs₀ (F := F)) Variants.none (c : Thread nD τ) none) Set.univ
      (k0_t1_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) k ()) (fun _ => ringSt c W W' 0 (k.val + 1)) := by
  have hk : k.val < 12 := trips1 ▸ k.isLt
  unfold k0_t1_body
  dsimp only
  rw [dif_pos (h1_true k), dif_neg (h2_false k)]
  rw [k0_part1_eq_skeleton, k0_part2_eq_skeleton, k0_part3_eq_skeleton]
  unfold k0_part1_skel k0_part2_skel k0_part3_skel
  simp only [bind_assoc, pure_bind]
  iintro HR
  imod (start_gu c W W' (lo := 0) (hi := k.val) (by omega) (by omega)) $$ HR with ⟨%f, HP, HR⟩
  iapply (issue_next c W f (t := k.val) (j := 0) (by omega) (by decide) (o1_m k) (o1_d0 k) (o1_s0 k)) $$ HP
  iintro HP
  iapply (issue_next c W f (t := k.val) (j := 1) (by omega) (by decide) (o1_m k) (o1_d1 k) (o1_s1 k)) $$ HP
  iintro HP
  iapply (issue_next c W f (t := k.val) (j := 2) (by omega) (by decide) (o1_m k) (o1_d2 k) (o1_s2 k)) $$ HP
  iintro HP
  iapply (issue_next c W f (t := k.val) (j := 3) (by omega) (by decide) (o1_m k) (o1_d3 k) (o1_s3 k)) $$ HP
  iintro HP
  iapply (issue_next c W f (t := k.val) (j := 4) (by omega) (by decide) (o1_m k) (o1_d4 k) (o1_s4 k)) $$ HP
  iintro HP
  iapply (issue_next c W f (t := k.val) (j := 5) (by omega) (by decide) (o1_m k) (o1_d5 k) (o1_s5 k)) $$ HP
  iintro HP
  iapply (issue_next c W f (t := k.val) (j := 6) (by omega) (by decide) (o1_m k) (o1_d6 k) (o1_s6 k)) $$ HP
  iintro HP
  iapply (issue_next c W f (t := k.val) (j := 7) (by omega) (by decide) (o1_m k) (o1_d7 k) (o1_s7 k)) $$ HP
  iintro HP
  iapply (issue_next c W f (t := k.val) (j := 8) (by omega) (by decide) (o1_m k) (o1_d8 k) (o1_s8 k)) $$ HP
  iintro HP
  iapply (issue_next c W f (t := k.val) (j := 9) (by omega) (by decide) (o1_m k) (o1_d9 k) (o1_s9 k)) $$ HP
  iintro HP
  iapply (issue_next c W f (t := k.val) (j := 10) (by omega) (by decide) (o1_m k) (o1_d10 k) (o1_s10 k)) $$ HP
  iintro HP
  iapply (issue_next c W f (t := k.val) (j := 11) (by omega) (by decide) (o1_m k) (o1_d11 k) (o1_s11 k)) $$ HP
  iintro HP
  iapply (issue_next c W f (t := k.val) (j := 12) (by omega) (by decide) (o1_m k) (o1_d12 k) (o1_s12 k)) $$ HP
  iintro HP
  iapply (issue_next c W f (t := k.val) (j := 13) (by omega) (by decide) (o1_m k) (o1_d13 k) (o1_s13 k)) $$ HP
  iintro HP
  iapply (issue_next c W f (t := k.val) (j := 14) (by omega) (by decide) (o1_m k) (o1_d14 k) (o1_s14 k)) $$ HP
  iintro HP
  iapply (issue_next c W f (t := k.val) (j := 15) (by omega) (by decide) (o1_m k) (o1_d15 k) (o1_s15 k)) $$ HP
  iintro HP
  iapply (issue_next c W f (t := k.val) (j := 16) (by omega) (by decide) (o1_m k) (o1_d16 k) (o1_s16 k)) $$ HP
  iintro HP
  iapply (issue_next c W f (t := k.val) (j := 17) (by omega) (by decide) (o1_m k) (o1_d17 k) (o1_s17 k)) $$ HP
  iintro HP
  iapply (issue_next c W f (t := k.val) (j := 18) (by omega) (by decide) (o1_m k) (o1_d18 k) (o1_s18 k)) $$ HP
  iintro HP
  iapply (issue_next c W f (t := k.val) (j := 19) (by omega) (by decide) (o1_m k) (o1_d19 k) (o1_s19 k)) $$ HP
  iintro HP
  simp only [ret_bind]
  sl_step
  iapply (finish_gu c W W' (by omega) (by omega) f)
  isplitl [HP]; · iexact HP
  iexact HR

end Cert.Kernel.Hand
-- ==== Proof.KernelStep2.lean ====
/-
One trip of the gate-up loop.
-/
module

public import proofs.«01_k».proof.Proof.KernelState
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- What a load of the quantised rows and one of the ring read. -/
abbrev lhsLd (L : S80x5120.Idx → Elt F .bf16) (r : Rect S80x5120) := View.readAt (Elt F) (Memref.whole cc0_scratch1 : Memref sig .tc .vmem S80x5120 .bf16).view r.toLoadRect L
abbrev ringLd (R : S12x512x5120.Idx → Elt F .i8) (r : Rect S12x512x5120) := View.readAt (Elt F) ringM.view r.toLoadRect R
abbrev gusLd (G : Buf (Elt F) (a2.view.loc (c : Thread nD τ))) (r : Rect S84x1x256) := View.readAt (Elt F) a2.view r.toLoadRect G

/-- The tile of activations that trip `k` computes. -/
def actTile (v337 : FVec F S72x1 .f32) (L : S80x5120.Idx → Elt F .bf16) (G : Buf (Elt F) (a2.view.loc (c : Thread nD τ)))
    (k : Fin k0_t2_loop.trips) : FVec F S1x72x256 .f32 :=
  k0_pay3 v337
      (k0_pay2
        (k0_pay1 (lhsLd L (Rect.unit ![0, 0] ![80, 512] inb_S80x5120_S80x512_0_0)) (ringLd (LandG W k.val) (Rect.unit (k0_off37 k) ![1, 512, 512] (k0_off37_inb k)))
          (lhsLd L (Rect.unit ![0, 512] ![80, 512] inb_S80x5120_S80x512_0_512)) (ringLd (LandG W k.val) (Rect.unit (k0_off38 k) ![1, 512, 512] (k0_off38_inb k)))
          (lhsLd L (Rect.unit ![0, 1024] ![80, 512] inb_S80x5120_S80x512_0_1024)) (ringLd (LandG W k.val) (Rect.unit (k0_off39 k) ![1, 512, 512] (k0_off39_inb k))))
          (lhsLd L (Rect.unit ![0, 1536] ![80, 512] inb_S80x5120_S80x512_0_1536)) (ringLd (LandG W k.val) (Rect.unit (k0_off40 k) ![1, 512, 512] (k0_off40_inb k)))
          (lhsLd L (Rect.unit ![0, 2048] ![80, 512] inb_S80x5120_S80x512_0_2048)) (ringLd (LandG W k.val) (Rect.unit (k0_off41 k) ![1, 512, 512] (k0_off41_inb k)))
          (lhsLd L (Rect.unit ![0, 2560] ![80, 512] inb_S80x5120_S80x512_0_2560)) (ringLd (LandG W k.val) (Rect.unit (k0_off42 k) ![1, 512, 512] (k0_off42_inb k)))
          (lhsLd L (Rect.unit ![0, 3072] ![80, 512] inb_S80x5120_S80x512_0_3072)) (ringLd (LandG W k.val) (Rect.unit (k0_off43 k) ![1, 512, 512] (k0_off43_inb k)))
          (lhsLd L (Rect.unit ![0, 3584] ![80, 512] inb_S80x5120_S80x512_0_3584)) (ringLd (LandG W k.val) (Rect.unit (k0_off44 k) ![1, 512, 512] (k0_off44_inb k))))
      (lhsLd L (Rect.unit ![0, 4096] ![80, 512] inb_S80x5120_S80x512_0_4096)) (ringLd (LandG W k.val) (Rect.unit (k0_off45 k) ![1, 512, 512] (k0_off45_inb k)))
          (lhsLd L (Rect.unit ![0, 4608] ![80, 512] inb_S80x5120_S80x512_0_4608)) (ringLd (LandG W k.val) (Rect.unit (k0_off46 k) ![1, 512, 512] (k0_off46_inb k)))
      (gusLd c a2 G (Rect.unit (k0_off47 k) ![1, 1, 256] (k0_off47_inb k)))
      (gusLd c a2 G (Rect.unit (k0_off48 k) ![1, 1, 256] (k0_off48_inb k)))

/-- The activations once trip `k` has stored its tile. -/
def actStep (v337 : FVec F S72x1 .f32) (L : S80x5120.Idx → Elt F .bf16) (G : Buf (Elt F) (a2.view.loc (c : Thread nD τ)))
    (k : Fin k0_t2_loop.trips) (A : S42x72x256.Idx → Elt F .f32) : S42x72x256.Idx → Elt F .f32 :=
  (Memref.whole cc0_scoped2 : Memref sig .tc .vmem S42x72x256 .f32).view.writes (Elt F) A
    [⟨Rect.unit (k0_off49 k) ![1, 72, 256] (k0_off49_inb k), actTile c W a2 v337 L G k⟩]

theorem step2 (k : Fin k0_t2_loop.trips) (v337 : FVec F S72x1 .f32) (v489 : FVec F S72x512 .f32) (cst : F .f32)
    (L : S80x5120.Idx → Elt F .bf16) (G : Buf (Elt F) (a2.view.loc (c : Thread nD τ))) (A : S42x72x256.Idx → Elt F .f32) (Wt : Waits sig Unit) :
    iprop(ringSt c W W' k.val (k.val + 12) ∗ bufPt c (Memref.whole cc0_scratch1) L ∗ winPt c a2 G ∗ bufPt c (Memref.whole cc0_scoped2) A ∗ owes (c : Thread nD τ) 0 Wt)
    ⊢ wp frame (wpE (defs₀ (F := F)) Variants.none (c : Thread nD τ) none) Set.univ
      (k0_t2_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v337 v489 cst k ()) (fun _ => iprop(ringSt c W W' (k.val + 1) (k.val + 13) ∗ bufPt c (Memref.whole cc0_scratch1) L ∗ winPt c a2 G
        ∗ bufPt c (Memref.whole cc0_scoped2) (actStep c W a2 v337 L G k A) ∗ ∃ Wt', owes (c : Thread nD τ) 0 Wt')) := by
  have hk : k.val < 42 := trips2 ▸ k.isLt
  have hs : (9 + k.val) % 12 < 12 := Nat.mod_lt _ (by decide)
  have hS0 := box_le hs (inb := k0_off37_inb k) (o2_r0 k)
  have hS1 := box_le hs (inb := k0_off38_inb k) (o2_r1 k)
  have hS2 := box_le hs (inb := k0_off39_inb k) (o2_r2 k)
  have hS3 := box_le hs (inb := k0_off40_inb k) (o2_r3 k)
  have hS4 := box_le hs (inb := k0_off41_inb k) (o2_r4 k)
  have hS5 := box_le hs (inb := k0_off42_inb k) (o2_r5 k)
  have hS6 := box_le hs (inb := k0_off43_inb k) (o2_r6 k)
  have hS7 := box_le hs (inb := k0_off44_inb k) (o2_r7 k)
  have hS8 := box_le hs (inb := k0_off45_inb k) (o2_r8 k)
  have hS9 := box_le hs (inb := k0_off46_inb k) (o2_r9 k)
  unfold k0_t2_body
  dsimp only
  rw [k0_part7_eq_skeleton, k0_part8_eq_skeleton, k0_part9_eq_skeleton]
  unfold k0_part7_skel k0_part8_skel k0_part9_skel
  simp only [bind_assoc, pure_bind]
  iintro ⟨HR, HL, HG, HA, HW⟩
  ihave HR' := (ringSt_take c W W' (lo := k.val) (hi := k.val + 12) (by omega) (by omega)) $$ HR
  unfold flightT
  rw [if_pos hk]
  icases HR' with ⟨HB, HR⟩
  iapply (wait_gu c W (o2_wm k)) $$ [HB HW]
  · isplitl [HB]; · iexact HB
    iexact HW
  iintro ⟨HD, HC, HW⟩
  ihave HD' := (delG_join c W k.val) $$ HD
  icases HD' with ⟨HS, HH⟩
  simp only [ret_bind]
  generalize hT : (dite (k0_cond3 k = 1#1) _ _) = T
  ihave HS := (slotB_open c hs (LandG W k.val)) $$ HS
  sl_exec
  ihave HS := (slotB_close c hs (LandG W k.val)) $$ HS
  ihave HR := (used_gu c W W' (lo := k.val) (hi := k.val + 12) hk (by omega) (LandG W k.val)) $$ [HS HH HC HR]
  · isplitl [HS]; · iexact HS
    isplitl [HH]; · iexact HH
    isplitl [HC]; · iexact HC
    iexact HR
  subst hT
  by_cases hk30 : k.val < 30
  · rw [dif_pos ((h3_iff k).2 hk30), dif_neg (fun h => (h4_iff k).1 h hk30)]
    rw [k0_part4_eq_skeleton, k0_part5_eq_skeleton, k0_part6_eq_skeleton]
    unfold k0_part4_skel k0_part5_skel k0_part6_skel
    simp only [bind_assoc, pure_bind]
    imod (start_gu c W W' (lo := k.val + 1) (hi := k.val + 12) (by omega) (by omega)) $$ HR with ⟨%f, HP, HR⟩
    iapply (issue_next c W f (t := k.val + 12) (j := 0) (by omega) (by decide) (o2_m k) (o2_d0 k) (o2_s0 k)) $$ HP
    iintro HP
    iapply (issue_next c W f (t := k.val + 12) (j := 1) (by omega) (by decide) (o2_m k) (o2_d1 k) (o2_s1 k)) $$ HP
    iintro HP
    iapply (issue_next c W f (t := k.val + 12) (j := 2) (by omega) (by decide) (o2_m k) (o2_d2 k) (o2_s2 k)) $$ HP
    iintro HP
    iapply (issue_next c W f (t := k.val + 12) (j := 3) (by omega) (by decide) (o2_m k) (o2_d3 k) (o2_s3 k)) $$ HP
    iintro HP
    iapply (issue_next c W f (t := k.val + 12) (j := 4) (by omega) (by decide) (o2_m k) (o2_d4 k) (o2_s4 k)) $$ HP
    iintro HP
    iapply (issue_next c W f (t := k.val + 12) (j := 5) (by omega) (by decide) (o2_m k) (o2_d5 k) (o2_s5 k)) $$ HP
    iintro HP
    iapply (issue_next c W f (t := k.val + 12) (j := 6) (by omega) (by decide) (o2_m k) (o2_d6 k) (o2_s6 k)) $$ HP
    iintro HP
    iapply (issue_next c W f (t := k.val + 12) (j := 7) (by omega) (by decide) (o2_m k) (o2_d7 k) (o2_s7 k)) $$ HP
    iintro HP
    iapply (issue_next c W f (t := k.val + 12) (j := 8) (by omega) (by decide) (o2_m k) (o2_d8 k) (o2_s8 k)) $$ HP
    iintro HP
    iapply (issue_next c W f (t := k.val + 12) (j := 9) (by omega) (by decide) (o2_m k) (o2_d9 k) (o2_s9 k)) $$ HP
    iintro HP
    iapply (issue_next c W f (t := k.val + 12) (j := 10) (by omega) (by decide) (o2_m k) (o2_d10 k) (o2_s10 k)) $$ HP
    iintro HP
    iapply (issue_next c W f (t := k.val + 12) (j := 11) (by omega) (by decide) (o2_m k) (o2_d11 k) (o2_s11 k)) $$ HP
    iintro HP
    iapply (issue_next c W f (t := k.val + 12) (j := 12) (by omega) (by decide) (o2_m k) (o2_d12 k) (o2_s12 k)) $$ HP
    iintro HP
    iapply (issue_next c W f (t := k.val + 12) (j := 13) (by omega) (by decide) (o2_m k) (o2_d13 k) (o2_s13 k)) $$ HP
    iintro HP
    iapply (issue_next c W f (t := k.val + 12) (j := 14) (by omega) (by decide) (o2_m k) (o2_d14 k) (o2_s14 k)) $$ HP
    iintro HP
    iapply (issue_next c W f (t := k.val + 12) (j := 15) (by omega) (by decide) (o2_m k) (o2_d15 k) (o2_s15 k)) $$ HP
    iintro HP
    iapply (issue_next c W f (t := k.val + 12) (j := 16) (by omega) (by decide) (o2_m k) (o2_d16 k) (o2_s16 k)) $$ HP
    iintro HP
    iapply (issue_next c W f (t := k.val + 12) (j := 17) (by omega) (by decide) (o2_m k) (o2_d17 k) (o2_s17 k)) $$ HP
    iintro HP
    iapply (issue_next c W f (t := k.val + 12) (j := 18) (by omega) (by decide) (o2_m k) (o2_d18 k) (o2_s18 k)) $$ HP
    iintro HP
    iapply (issue_next c W f (t := k.val + 12) (j := 19) (by omega) (by decide) (o2_m k) (o2_d19 k) (o2_s19 k)) $$ HP
    iintro HP
    simp only [ret_bind]
    sl_step
    isplitl [HP HR]
    · iapply (finish_gu c W W' (lo := k.val + 1) (hi := k.val + 12) (by omega) (by omega) f)
      isplitl [HP]; · iexact HP
      iexact HR
    isplitl [HL]; · iexact HL
    isplitl [HG]; · iexact HG
    isplitl [HA]; · iexact HA
    iexists _; iexact HW
  · rw [dif_neg (fun h => hk30 ((h3_iff k).1 h)), dif_pos ((h4_iff k).2 hk30)]
    simp only [bind_assoc, pure_bind]
    imod (start_dn c W W' (lo := k.val + 1) (hi := k.val + 12) (by omega) (by omega) (by omega)) $$ HR with ⟨%f, HP, HR⟩
    iapply (issue_dn c W' f (t := k.val + 12) (by omega) (o2_dm k) (o2_dd k) (o2_ds k hk30)) $$ HP
    iintro HP
    simp only [ret_bind]
    sl_step
    isplitl [HP HR]
    · iapply (finish_dn c W W' (lo := k.val + 1) (hi := k.val + 12) (by omega) (by omega) (by omega))
      isplitl [HP]; · iexact HP
      iexact HR
    isplitl [HL]; · iexact HL
    isplitl [HG]; · iexact HG
    isplitl [HA]; · iexact HA
    iexists _; iexact HW

end Cert.Kernel.Hand
-- ==== Proof.KernelStep3.lean ====
/-
One trip of the loop over the down tiles.
-/
module

public import proofs.«01_k».proof.Proof.KernelStep2
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- What loads of the running sum and of the activations' codes read. -/
abbrev daccLd (D : S80x5120.Idx → Elt F .f32) := View.readAt (Elt F) (Memref.whole cc0_scoped1 : Memref sig .tc .vmem S80x5120 .f32).view (Rect.unit (s := S80x5120) ![0, 0] ![80, 5120] inb_S80x5120_S80x5120_0_0).toLoadRect D
abbrev actlLd (X : S21x80x512.Idx → Elt F .bf16) (r : Rect S21x80x512) := View.readAt (Elt F) (Memref.whole cc0_scoped3 : Memref sig .tc .vmem S21x80x512 .bf16).view r.toLoadRect X

/-- The running sum once trip `k` has added its tile. -/
def dnStep (X : S21x80x512.Idx → Elt F .bf16) (k : Fin k0_t3_loop.trips) (D : S80x5120.Idx → Elt F .f32) : S80x5120.Idx → Elt F .f32 :=
  (Memref.whole cc0_scoped1 : Memref sig .tc .vmem S80x5120 .f32).view.writes (Elt F) D
    [⟨Rect.unit ![0, 0] ![80, 5120] inb_S80x5120_S80x5120_0_0, k0_pay4 (daccLd D) (actlLd X (Rect.unit (k0_off86 k) ![1, 80, 512] (k0_off86_inb k)))
      (ringLd (LandD W' k.val) (Rect.unit (k0_off87 k) ![1, 512, 5120] (k0_off87_inb k)))⟩]

theorem step3 (k : Fin k0_t3_loop.trips) (v808 : FVec F S72x1 .f32) (v1519 : FVec F S72x256 .f32) (v1520 : IVec S72x256 8)
    (X : S21x80x512.Idx → Elt F .bf16) (D : S80x5120.Idx → Elt F .f32) (Wt : Waits sig Unit) :
    iprop(ringSt c W W' (k.val + 42) (min (k.val + 54) 63) ∗ bufPt c (Memref.whole cc0_scoped3) X ∗ bufPt c (Memref.whole cc0_scoped1) D ∗ owes (c : Thread nD τ) 0 Wt)
    ⊢ wp frame (wpE (defs₀ (F := F)) Variants.none (c : Thread nD τ) none) Set.univ
      (k0_t3_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v808 v1519 v1520 k ()) (fun _ => iprop(ringSt c W W' (k.val + 43) (min (k.val + 55) 63) ∗ bufPt c (Memref.whole cc0_scoped3) X
        ∗ bufPt c (Memref.whole cc0_scoped1) (dnStep W' X k D) ∗ ∃ Wt', owes (c : Thread nD τ) 0 Wt')) := by
  have hk : k.val < 21 := trips3 ▸ k.isLt
  have hs : (9 + (k.val + 42)) % 12 < 12 := Nat.mod_lt _ (by decide)
  have hS0 := slot_le hs (inb := k0_off87_inb k) (o3_r k)
  unfold k0_t3_body
  dsimp only
  rw [k0_part13_eq_skeleton]
  unfold k0_part13_skel
  dsimp only
  rw [dif_neg (h5_false k)]
  simp only [bind_assoc, pure_bind]
  generalize hT : (dite (k0_cond6 k = 1#1) _ _) = T
  iintro ⟨HR, HX, HD0, HW⟩
  ihave HR' := (ringSt_take c W W' (lo := k.val + 42) (hi := min (k.val + 54) 63) (by omega) (by omega)) $$ HR
  unfold flightT
  rw [if_neg (by omega)]
  icases HR' with ⟨HB, HR⟩
  iapply (wait_dn c W' (o3_wm k)) $$ [HB HW]
  · isplitl [HB]; · iexact HB
    iexact HW
  iintro ⟨HD, HC, HW⟩
  ihave HD' := (delD_join c W' (k.val + 42)) $$ HD
  icases HD' with ⟨HS, HH⟩
  simp only [ret_bind]
  rw [show k.val + 42 - 42 = k.val by omega]
  ihave HS := (slotB_open c hs (LandD W' k.val)) $$ HS
  sl_exec
  ihave HS := (slotB_close c hs (LandD W' k.val)) $$ HS
  ihave HR := (used_dn c W W' (lo := k.val + 42) (hi := min (k.val + 54) 63) (by omega) (by omega) (by omega) (LandD W' k.val)) $$ [HS HH HC HR]
  · isplitl [HS]; · iexact HS
    isplitl [HH]; · rw [show k.val + 42 - 42 = k.val by omega]; iexact HH
    isplitl [HC]; · iexact HC
    iexact HR
  subst hT
  by_cases hk9 : k.val < 9
  · rw [dif_pos ((h6_iff k).2 hk9)]
    simp only [bind_assoc, pure_bind]
    rw [show min (k.val + 54) 63 = k.val + 42 + 12 by omega, show min (k.val + 55) 63 = k.val + 42 + 12 + 1 by omega]
    imod (start_dn c W W' (lo := k.val + 42 + 1) (hi := k.val + 42 + 12) (by omega) (by omega) (by omega)) $$ HR with ⟨%f, HP, HR⟩
    iapply (issue_dn c W' f (t := k.val + 42 + 12) (by omega) (o3_m k) (o3_d k) (o3_s k hk9)) $$ HP
    iintro HP
    simp only [ret_bind]
    sl_step
    isplitl [HP HR]
    · iapply (finish_dn c W W' (lo := k.val + 42 + 1) (hi := k.val + 42 + 12) (by omega) (by omega) (by omega))
      isplitl [HP]; · iexact HP
      iexact HR
    isplitl [HX]; · iexact HX
    isplitl [HD0]; · iexact HD0
    iexists _; iexact HW
  · rw [dif_neg (fun h => hk9 ((h6_iff k).1 h))]
    simp only [pure_bind]
    rw [show min (k.val + 54) 63 = 63 by omega, show min (k.val + 55) 63 = 63 by omega]
    sl_step
    isplitl [HR]; · iexact HR
    isplitl [HX]; · iexact HX
    isplitl [HD0]; · iexact HD0
    iexists _; iexact HW

end Cert.Kernel.Hand
-- ==== Proof.KernelEnds.lean ====
/-
The ring's state before the first tile is started and after the last one is used: the two weights whole, and every slot
free.
-/
module

public import proofs.«01_k».proof.Proof.KernelState
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
/-- The twelve cells at rest, and the twelve slots. -/
def cellsB : sProp 𝕄 := bigSep Finset.univ fun i : Fin 12 => semVal ((c : Thread nD τ), (SemLoc.dma (⟨6 + i.val, by show _ < 34; omega⟩ : DmaSem sig) : SemLoc sig)) 0
def slotsB : sProp 𝕄 := bigSep Finset.univ fun i : Fin 12 => iprop(∃ f, slotB (F := F) c i.val f)
def guAll : sProp 𝕄 := iprop(guM.view.loc (c : Thread nD τ) ↦{fullShare} W)
def dnAll : sProp 𝕄 := iprop(dnM.view.loc (c : Thread nD τ) ↦{fullShare} W')

theorem sSet_dis : ∀ a ∈ (Finset.univ : Finset (Fin 12)), ∀ b ∈ (Finset.univ : Finset (Fin 12)), a ≠ b → Disjoint (sSet a.val) (sSet b.val) := by
  intro a _ b _ hne
  rw [Finset.disjoint_left]
  intro i h h'
  simp only [sSet, Finset.mem_filter, Finset.mem_univ, true_and] at h h'
  exact hne (Fin.ext (by omega))
theorem sSet_cov : (Finset.univ : Finset (Fin 12)).biUnion (fun s => sSet s.val) = Finset.univ := by
  ext i
  simp only [Finset.mem_biUnion, Finset.mem_univ, true_and, sSet, Finset.mem_filter, iff_true]
  exact ⟨i 0, rfl⟩

theorem slots_of (f : S12x512x5120.Idx → Elt F .i8) : iprop(ringM.view.loc (c : Thread nD τ) ↦{fullShare} f) ⊢ (slotsB c : sProp 𝕄) := by
  have e : (iprop(ringM.view.loc (c : Thread nD τ) ↦{fullShare} f) : sProp 𝕄) = bigSep Finset.univ fun i : Fin 12 => slotB (F := F) c i.val f := by
    unfold slotB
    rw [← sSet_cov]
    exact pointsTo_biUnion _ _ sSet_dis
  rw [e]
  refine bigSep_mono fun i _ => ?_
  show slotB (F := F) c i.val f ⊢ iprop(∃ f, slotB (F := F) c i.val f)
  iintro H; iexists f; iexact H
theorem slots_join (f₀ : S12x512x5120.Idx → Elt F .i8) : (slotsB c : sProp 𝕄) ⊢ iprop(∃ f, ringM.view.loc (c : Thread nD τ) ↦{fullShare} f) := by
  unfold slotsB
  have : Nonempty (S12x512x5120.Idx → Elt F .i8) := ⟨f₀⟩
  have e (fs : Fin 12 → S12x512x5120.Idx → Elt F .i8) : (bigSep Finset.univ fun b : Fin 12 => slotB (F := F) c b.val (fs b))
      ⊢ (iprop(∃ f, ringM.view.loc (c : Thread nD τ) ↦{fullShare} f) : sProp 𝕄) := by
    unfold slotB
    refine BIBase.Entails.trans (Q := iprop(∃ g, ⌜∀ t ∈ (Finset.univ : Finset (Fin 12)), ∀ i ∈ sSet t.val, g i = fs t i⌝
      ∗ ringM.view.loc (c : Thread nD τ) ↦[(Finset.univ : Finset (Fin 12)).biUnion (fun s => sSet s.val)]{fullShare} g)) ?_ ?_
    · exact pointsTo_biUnion_join (ℓ := ringM.view.loc (c : Thread nD τ)) (q := fullShare) Finset.univ (fun s : Fin 12 => sSet s.val) fs f₀ sSet_dis
    rw [sSet_cov]
    iintro ⟨%g, -, H⟩
    iexists g; iexact H
  refine (bigSep_exists_pi Finset.univ (fun (b : Fin 12) (f : S12x512x5120.Idx → Elt F .i8) => slotB (F := F) c b.val f)).trans ?_
  iintro ⟨%fs, H⟩
  iapply (e fs); iexact H

theorem dSrc_dis : ∀ a ∈ (Finset.univ : Finset (Fin 21)), ∀ b ∈ (Finset.univ : Finset (Fin 21)), a ≠ b → Disjoint (dSrc a.val) (dSrc b.val) := by
  intro a _ b _ hne
  rw [Finset.disjoint_left]
  intro i h h'
  simp only [dSrc, Finset.mem_filter, Finset.mem_univ, true_and] at h h'
  exact hne (Fin.ext (by omega))
theorem dSrc_cov : (Finset.univ : Finset (Fin 21)).biUnion (fun t => dSrc t.val) = Finset.univ := by
  ext i
  have h0 : (i 0).val < 10752 := (i 0).isLt
  simp only [Finset.mem_biUnion, Finset.mem_univ, true_and, dSrc, Finset.mem_filter, iff_true]
  exact ⟨⟨(i 0).val / 512, by omega⟩, by show 512 * ((i 0).val / 512) ≤ _; omega, by show _ < 512 * ((i 0).val / 512) + 512; omega⟩
theorem dn_homes : (dnAll c W' : sProp 𝕄) = bigSep Finset.univ fun t : Fin 21 => dSrcB c W' t.val := by
  unfold dnAll dSrcB
  rw [← dSrc_cov]
  exact pointsTo_biUnion _ _ dSrc_dis

/-- The part of the gate-up weight that tile `t` reads. -/
def gTile (t : ℕ) : Finset S5120x21504.Idx := Finset.univ.filter fun i => (i 1).val % 10752 / 256 = t
theorem gSrc_dis (t : Fin 42) : ∀ a ∈ (Finset.univ : Finset (Fin 20)), ∀ b ∈ (Finset.univ : Finset (Fin 20)), a ≠ b → Disjoint (gSrc t.val a.val) (gSrc t.val b.val) := by
  intro a _ b _ hne
  rw [Finset.disjoint_left]
  intro i h h'
  simp only [gSrc, Finset.mem_filter, Finset.mem_univ, true_and] at h h'
  have := t.isLt
  exact hne (Fin.ext (by omega))
theorem gSrc_cov (t : Fin 42) : (Finset.univ : Finset (Fin 20)).biUnion (fun j => gSrc t.val j.val) = gTile t.val := by
  ext i
  have h0 : (i 0).val < 5120 := (i 0).isLt
  have h1 : (i 1).val < 21504 := (i 1).isLt
  have := t.isLt
  simp only [Finset.mem_biUnion, Finset.mem_univ, true_and, gSrc, gTile, Finset.mem_filter]
  constructor
  · rintro ⟨j, -, h⟩; omega
  · intro h
    exact ⟨⟨2 * ((i 0).val / 512) + (i 1).val / 10752, by omega⟩, by dsimp only; omega, by dsimp only; omega⟩
theorem gTile_dis : ∀ a ∈ (Finset.univ : Finset (Fin 42)), ∀ b ∈ (Finset.univ : Finset (Fin 42)), a ≠ b → Disjoint (gTile a.val) (gTile b.val) := by
  intro a _ b _ hne
  rw [Finset.disjoint_left]
  intro i h h'
  simp only [gTile, Finset.mem_filter, Finset.mem_univ, true_and] at h h'
  exact hne (Fin.ext (by omega))
theorem gTile_cov : (Finset.univ : Finset (Fin 42)).biUnion (fun t => gTile t.val) = Finset.univ := by
  ext i
  have h1 : (i 1).val < 21504 := (i 1).isLt
  simp only [Finset.mem_biUnion, Finset.mem_univ, true_and, gTile, Finset.mem_filter, iff_true]
  exact ⟨⟨(i 1).val % 10752 / 256, by omega⟩, rfl⟩
theorem gu_homes : (guAll c W : sProp 𝕄) = bigSep Finset.univ fun t : Fin 42 => homeG c W t.val := by
  unfold guAll
  have e (t : Fin 42) : (homeG c W t.val : sProp 𝕄) = iprop(guM.view.loc (c : Thread nD τ) ↦[gTile t.val]{fullShare} W) := by
    unfold homeG gSrcB
    rw [← gSrc_cov]
    exact (pointsTo_biUnion _ _ (gSrc_dis t)).symm
  rw [bigSep_congr fun t _ => e t]
  rw [← gTile_cov]
  exact pointsTo_biUnion _ _ gTile_dis

theorem homes_eq : (bigSep (Ring.rangeSet 63 0 63) fun t => homeT c W W' t.val) = (iprop(guAll c W ∗ dnAll c W') : sProp 𝕄) := by
  rw [Ring.bigSep_rangeSet_split (a := 0) (b := 42) (d := 63) (by omega) (by omega), gu_homes, dn_homes]
  rw [Ring.bigSep_rangeSet_eq_range (lo := 0) (hi := 42) (by omega) (fun k => homeT c W W' k) (fun k h => by dsimp only; rw [Nat.zero_add]),
    Ring.bigSep_rangeSet_eq_range (lo := 42) (hi := 63) (by omega) (fun k => homeT c W W' (42 + k)) (fun k h => rfl)]
  rw [Ring.bigSep_fin_eq_range 42 (fun t => homeG c W t.val) (fun k => homeT c W W' k) (fun t h => if_pos h),
    Ring.bigSep_fin_eq_range 21 (fun t => dSrcB c W' t.val) (fun k => homeT c W W' (42 + k)) (fun t h => (if_neg (by omega)).trans (by rw [Nat.add_sub_cancel_left]))]

/-- Cell and slot of one place of the ring. -/
def placeB (i : Fin 12) : sProp 𝕄 := iprop(semVal ((c : Thread nD τ), (SemLoc.dma (⟨6 + i.val, by show _ < 34; omega⟩ : DmaSem sig) : SemLoc sig)) 0 ∗ ∃ f, slotB (F := F) c i.val f)
theorem places_eq : (iprop(cellsB c ∗ slotsB c) : sProp 𝕄) = bigSep Finset.univ fun i => placeB (F := F) c i := (bigSep_sep _ _ _).symm

theorem free_place {t : ℕ} {i : Fin 12} (h : (9 + t) % 12 = i.val) : (freeS c t : sProp 𝕄) = placeB (F := F) c i := by
  unfold freeS placeB
  rw [h, show cellR t = (⟨6 + i.val, by show _ < 34; omega⟩ : DmaSem sig) from Fin.ext (by show 6 + (9 + t) % 12 = 6 + i.val; rw [h])]

/-- The place tile `t` takes. -/
def placeE : Fin 12 ≃ Fin 12 := Equiv.ofBijective (fun i => ⟨(9 + i.val) % 12, Nat.mod_lt _ (by decide)⟩) (by decide)

theorem free_first : (bigSep (Ring.rangeSet 75 0 12) fun t => freeS (F := F) c t.val) = (iprop(cellsB c ∗ slotsB c) : sProp 𝕄) := by
  rw [places_eq, Ring.bigSep_rangeSet_eq_range (lo := 0) (hi := 12) (by omega) (fun k => freeS (F := F) c k) (fun k h => by dsimp only; rw [Nat.zero_add])]
  rw [← Ring.bigSep_fin_eq_range 12 (fun t => freeS (F := F) c t.val) (fun k => freeS (F := F) c k) (fun t h => rfl)]
  rw [bigSep_univ_equiv placeE (fun i => placeB (F := F) c i)]
  exact bigSep_congr fun i _ => free_place c rfl
theorem free_last : (bigSep (Ring.rangeSet 75 63 75) fun t => freeS (F := F) c t.val) = (iprop(cellsB c ∗ slotsB c) : sProp 𝕄) := by
  rw [places_eq, Ring.bigSep_rangeSet_eq_range (lo := 63) (hi := 75) (by omega) (fun k => freeS (F := F) c (63 + k)) (fun k h => rfl)]
  rw [← Ring.bigSep_fin_eq_range 12 (fun t => freeS (F := F) c (63 + t.val)) (fun k => freeS (F := F) c (63 + k)) (fun t h => rfl)]
  exact bigSep_congr fun i _ => free_place c (by omega)

theorem ring_init (f : S12x512x5120.Idx → Elt F .i8) :
    iprop((ringM.view.loc (c : Thread nD τ) ↦{fullShare} f) ∗ guAll c W ∗ dnAll c W' ∗ cellsB c) ⊢ ringSt c W W' 0 0 := by
  unfold ringSt
  rw [homes_eq, free_first, Ring.bigSep_rangeSet_empty (by omega), Ring.bigSep_rangeSet_empty (by omega)]
  iintro ⟨HR, HG, HD, HC⟩
  isplitr; · iempintro
  isplitr; · iempintro
  isplitl [HG HD]
  · isplitl [HG]; · iexact HG
    iexact HD
  isplitl [HC]; · iexact HC
  iapply (slots_of c f); iexact HR

theorem ring_final (f₀ : S12x512x5120.Idx → Elt F .i8) :
    ringSt c W W' 63 63 ⊢ iprop((∃ f, ringM.view.loc (c : Thread nD τ) ↦{fullShare} f) ∗ guAll c W ∗ dnAll c W' ∗ cellsB c) := by
  unfold ringSt
  rw [homes_eq, free_last, Ring.bigSep_rangeSet_empty (by omega)]
  iintro ⟨⟨HG, HD⟩, -, -, HC, HS⟩
  isplitl [HS]; · iapply (slots_join c f₀); iexact HS
  isplitl [HG]; · iexact HG
  isplitl [HD]; · iexact HD
  iexact HC

end Cert.Kernel.Hand
-- ==== Proof.KernelBody.lean ====
/-
The kernel's body, run once.
-/
module

public import proofs.«01_k».proof.Proof.KernelStep1
public import proofs.«01_k».proof.Proof.KernelStep3
public import proofs.«01_k».proof.Proof.KernelEnds
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- The cells of the copies out. -/
abbrev cellX (n : ℕ) (h : ∀ a, ![n] a + S1.size a ≤ S16.size a := by decide) : DmaSem sig := ((cc0_scratch4.slice (Rect.unit (s := S16) ![n] S1.size h)).squeeze S_ squeezes_S1_S_).sem

theorem name_buf {sp : Space} {sh : Shape} {e : EltTy} (m : Memref sig .tc sp sh e) (f : Buf (Elt F) (m.view.loc (c : Thread nD τ))) :
    bufPt c m f ⊢ iprop(∃ g, ⌜g = f⌝ ∗ bufPt c m g) := by
  iintro H; iexists f; isplitr; · ipureintro; rfl
  iexact H

/-- The activations before trip `k`. -/
def actN (v337 : FVec F S72x1 .f32) (L : S80x5120.Idx → Elt F .bf16) (G : Buf (Elt F) (a2.view.loc (c : Thread nD τ)))
    (A : S42x72x256.Idx → Elt F .f32) : ℕ → S42x72x256.Idx → Elt F .f32
  | 0 => A
  | k + 1 => if h : k < k0_t2_loop.trips then actStep c W a2 v337 L G ⟨k, h⟩ (actN v337 L G A k) else actN v337 L G A k
/-- The running sum before trip `k`. -/
def dnN (X : S21x80x512.Idx → Elt F .bf16) (D : S80x5120.Idx → Elt F .f32) : ℕ → S80x5120.Idx → Elt F .f32
  | 0 => D
  | k + 1 => if h : k < k0_t3_loop.trips then dnStep W' X ⟨k, h⟩ (dnN X D k) else dnN X D k

def inv2 (v337 : FVec F S72x1 .f32) (L : S80x5120.Idx → Elt F .bf16) (G : Buf (Elt F) (a2.view.loc (c : Thread nD τ)))
    (A : S42x72x256.Idx → Elt F .f32) (k : ℕ) (_ : Unit) : sProp 𝕄 :=
  iprop(ringSt c W W' k (k + 12) ∗ bufPt c (Memref.whole cc0_scratch1) L ∗ winPt c a2 G
    ∗ bufPt c (Memref.whole cc0_scoped2) (actN c W a2 v337 L G A k) ∗ ∃ Wt, owes (c : Thread nD τ) 0 Wt)
def inv3 (X : S21x80x512.Idx → Elt F .bf16) (D : S80x5120.Idx → Elt F .f32) (k : ℕ) (_ : Unit) : sProp 𝕄 :=
  iprop(ringSt c W W' (k + 42) (min (k + 54) 63) ∗ bufPt c (Memref.whole cc0_scoped3) X
    ∗ bufPt c (Memref.whole cc0_scoped1) (dnN W' X D k) ∗ ∃ Wt, owes (c : Thread nD τ) 0 Wt)

theorem inv2_step (k : Fin k0_t2_loop.trips) (v337 : FVec F S72x1 .f32) (v489 : FVec F S72x512 .f32) (cst : F .f32) (L : S80x5120.Idx → Elt F .bf16)
    (G : Buf (Elt F) (a2.view.loc (c : Thread nD τ))) (A : S42x72x256.Idx → Elt F .f32) :
    inv2 c W W' a2 v337 L G A k.val () ⊢ wp frame (wpE (defs₀ (F := F)) Variants.none (c : Thread nD τ) none) Set.univ
      (k0_t2_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v337 v489 cst k ()) (fun r => inv2 c W W' a2 v337 L G A (k.val + 1) r) := by
  have e : actN c W a2 v337 L G A (k.val + 1) = actStep c W a2 v337 L G k (actN c W a2 v337 L G A k.val) := dif_pos k.isLt
  unfold inv2
  rw [e]
  iintro ⟨HR, HL, HX, HA, %Wk, HW⟩
  iapply (step2 c W W' a0 h0 a1 h1 a2 h2 a3 h3 a8 h8 a10 h10 k v337 v489 cst L G (actN c W a2 v337 L G A k.val) Wk)
  isplitl [HR]; · iexact HR
  isplitl [HL]; · iexact HL
  isplitl [HX]; · iexact HX
  isplitl [HA]; · iexact HA
  iexact HW

theorem inv3_step (k : Fin k0_t3_loop.trips) (v808 : FVec F S72x1 .f32) (v1519 : FVec F S72x256 .f32) (v1520 : IVec S72x256 8)
    (X : S21x80x512.Idx → Elt F .bf16) (D : S80x5120.Idx → Elt F .f32) :
    inv3 c W W' X D k.val () ⊢ wp frame (wpE (defs₀ (F := F)) Variants.none (c : Thread nD τ) none) Set.univ
      (k0_t3_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v808 v1519 v1520 k ()) (fun r => inv3 c W W' X D (k.val + 1) r) := by
  have e : dnN W' X D (k.val + 1) = dnStep W' X k (dnN W' X D k.val) := dif_pos k.isLt
  have e1 : k.val + 1 + 42 = k.val + 43 := by omega
  have e2 : k.val + 1 + 54 = k.val + 55 := by omega
  unfold inv3
  rw [e, e1, e2]
  iintro ⟨HR, HX, HD, %Wk, HW⟩
  iapply (step3 c W W' a0 h0 a1 h1 a2 h2 a3 h3 a8 h8 a10 h10 k v808 v1519 v1520 X (dnN W' X D k.val) Wk)
  isplitl [HR]; · iexact HR
  isplitl [HX]; · iexact HX
  isplitl [HD]; · iexact HD
  iexact HW

/-- What the body leaves: its operands and weights as they were, its results and scratch at some contents, every cell at zero. -/
def runPost (X0 : Buf (Elt F) (a0.view.loc (c : Thread nD τ))) (X1 : Buf (Elt F) (a1.view.loc (c : Thread nD τ))) (X2 : Buf (Elt F) (a2.view.loc (c : Thread nD τ)))
    (X3 : Buf (Elt F) (a3.view.loc (c : Thread nD τ))) : sProp 𝕄 :=
  iprop(winPt c a0 X0 ∗ winPt c a1 X1 ∗ winPt c a2 X2 ∗ winPt c a3 X3 ∗ (∃ f, winPt c a8 f) ∗ (∃ f, winPt c a10 f) ∗ guAll c W ∗ dnAll c W' ∗ (∃ f, bufPt c ringM f) ∗ (∃ f, bufPt c (Memref.whole main_v3_0) f) ∗ (∃ f, bufPt c (Memref.whole main_v3_1) f) ∗ (∃ f, bufPt c (Memref.whole main_v3_3) f) ∗ (∃ f, bufPt c (Memref.whole cc0_scratch1) f) ∗ (∃ f, bufPt c (Memref.whole cc0_scratch2) f) ∗ (∃ f, bufPt c (Memref.whole cc0_scoped0) f) ∗ (∃ f, bufPt c (Memref.whole cc0_scoped1) f) ∗ (∃ f, bufPt c (Memref.whole cc0_scoped2) f) ∗ (∃ f, bufPt c (Memref.whole cc0_scoped3) f) ∗ (∃ f, bufPt c (Memref.whole cc0_scoped4) f) ∗ (∃ f, bufPt c (Memref.whole cc0_scoped5) f) ∗ (∃ f, bufPt c (Memref.whole cc0_scoped6) f) ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ ∃ Wt, owes (c : Thread nD τ) 0 Wt)

set_option sl_exec.partsLeafInline true in
theorem body_run (B0 : S72x5120.Idx → Elt F .bf16) (B1 : S72x5120.Idx → Elt F .i8) (B2 : S72x10752.Idx → Elt F .i8) (B3 : S80x5120.Idx → Elt F .bf16) (B4 : S72x5120.Idx → Elt F .f32) (B5 : S80x5120.Idx → Elt F .f32) (B6 : S80x5120.Idx → Elt F .f32) (B7 : S42x72x256.Idx → Elt F .f32) (B8 : S21x80x512.Idx → Elt F .bf16) (B9 : S72x5120.Idx → Elt F .i8) (B10 : S72x10752.Idx → Elt F .i8) (B11 : S72x5120.Idx → Elt F .bf16) (R : S12x512x5120.Idx → Elt F .i8)
    (X0 : Buf (Elt F) (a0.view.loc (c : Thread nD τ))) (X1 : Buf (Elt F) (a1.view.loc (c : Thread nD τ))) (X2 : Buf (Elt F) (a2.view.loc (c : Thread nD τ)))
    (X3 : Buf (Elt F) (a3.view.loc (c : Thread nD τ))) (X4 : Buf (Elt F) (a8.view.loc (c : Thread nD τ))) (X5 : Buf (Elt F) (a10.view.loc (c : Thread nD τ))) (Wt : Waits sig Unit) :
    iprop(winPt c a0 X0 ∗ winPt c a1 X1 ∗ winPt c a2 X2 ∗ winPt c a3 X3 ∗ winPt c a8 X4 ∗ winPt c a10 X5 ∗ guAll c W ∗ dnAll c W' ∗ bufPt c ringM R ∗ bufPt c (Memref.whole main_v3_0) B0 ∗ bufPt c (Memref.whole main_v3_1) B1 ∗ bufPt c (Memref.whole main_v3_3) B2 ∗ bufPt c (Memref.whole cc0_scratch1) B3 ∗ bufPt c (Memref.whole cc0_scratch2) B4 ∗ bufPt c (Memref.whole cc0_scoped0) B5 ∗ bufPt c (Memref.whole cc0_scoped1) B6 ∗ bufPt c (Memref.whole cc0_scoped2) B7 ∗ bufPt c (Memref.whole cc0_scoped3) B8 ∗ bufPt c (Memref.whole cc0_scoped4) B9 ∗ bufPt c (Memref.whole cc0_scoped5) B10 ∗ bufPt c (Memref.whole cc0_scoped6) B11 ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ owes (c : Thread nD τ) 0 Wt)
    ⊢ wp frame (wpE (defs₀ (F := F)) Variants.none (c : Thread nD τ) none) Set.univ
      (cc0_falcon_h1_decode (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _)) (fun _ => runPost c W W' a0 a1 a2 a3 a8 a10 X0 X1 X2 X3) := by
  rw [cc0_falcon_h1_decode_eq_skeleton]
  unfold cc0_falcon_h1_decode_skel
  iintro ⟨HX0, HX1, HX2, HX3, HX4, HX5, HGU, HDN, HR, HB0, HB1, HB2, HB3, HB4, HB5, HB6, HB7, HB8, HB9, HB10, HB11, HC, HS12, HS13, HS14, HW⟩
  ihave HR := (ring_init c W W' R) $$ [HR HGU HDN HC]
  · isplitl [HR]; · iexact HR
    isplitl [HGU]; · iexact HGU
    isplitl [HDN]; · iexact HDN
    iexact HC
  sl_exec
  sl_for (fun (k : ℕ) (_ : Unit) => ringSt c W W' 0 k) $$ [HR]
  case region =>
    intro k _
    exact step1 c W W' a0 h0 a1 h1 a2 h2 a3 h3 a8 h8 a10 h10 k
  · iexact HR
  iintro %_ HR
  sl_exec
  ihave HB3 := (name_buf c (Memref.whole cc0_scratch1) _) $$ HB3
  icases HB3 with ⟨%L, %hL, HB3⟩
  sl_for (inv2 c W W' a2 (body_run.sl.r_18 c a0 a1 X0 X1) L X2 B7) $$ [HR HB3 HX2 HB7 HW]
  case region =>
    intro k _
    exact inv2_step c W W' a0 h0 a1 h1 a2 h2 a3 h3 a8 h8 a10 h10 k _ (body_run.sl.r_23 c a0 a1 X0 X1) (body_run.sl.cst_181_r0 (F := F)) _ _ _
  · unfold inv2
    isplitl [HR]; · iexact HR
    isplitl [HB3]; · iexact HB3
    isplitl [HX2]; · iexact HX2
    isplitl [HB7]; · iexact HB7
    iexists _; iexact HW
  iintro %_ HI
  unfold inv2
  icases HI with ⟨HR, HB3, HX2, HB7, %W2, HW⟩
  ihave HB7 := (name_buf c (Memref.whole cc0_scoped2) _) $$ HB7
  icases HB7 with ⟨%A, %hA, HB7⟩
  sl_exec
  ihave HB8 := (name_buf c (Memref.whole cc0_scoped3) _) $$ HB8
  icases HB8 with ⟨%X, %hX, HB8⟩
  ihave HB6 := (name_buf c (Memref.whole cc0_scoped1) _) $$ HB6
  icases HB6 with ⟨%D, %hD, HB6⟩
  sl_for (inv3 c W W' X D) $$ [HR HB8 HB6 HW]
  case region =>
    intro k _
    exact inv3_step c W W' a0 h0 a1 h1 a2 h2 a3 h3 a8 h8 a10 h10 k _ _ _ _ _
  · unfold inv3
    isplitl [HR]; · iexact HR
    isplitl [HB8]; · iexact HB8
    isplitl [HB6]; · iexact HB6
    iexists _; iexact HW
  iintro %_ HI
  unfold inv3
  icases HI with ⟨HR, HB8, HB6, %W3, HW⟩
  ihave HB6 := (name_buf c (Memref.whole cc0_scoped1) _) $$ HB6
  icases HB6 with ⟨%E, %hE, HB6⟩
  sl_exec
  sl_step
  rw [show Scf.trips k0_t3_loop.lb k0_t3_loop.ub k0_t3_loop.st + 42 = 63 from by rw [show Scf.trips k0_t3_loop.lb k0_t3_loop.ub k0_t3_loop.st = 21 from trips3],
    show min (Scf.trips k0_t3_loop.lb k0_t3_loop.ub k0_t3_loop.st + 54) 63 = 63 from by rw [show Scf.trips k0_t3_loop.lb k0_t3_loop.ub k0_t3_loop.st = 21 from trips3]; rfl]
  ihave HF := (ring_final c W W' R) $$ HR
  icases HF with ⟨HR, HGU, HDN, HC⟩
  unfold runPost
  isplitl [HX0]; · iexact HX0
  isplitl [HX1]; · iexact HX1
  isplitl [HX2]; · iexact HX2
  isplitl [HX3]; · iexact HX3
  isplitl [HX4]; · iexists _; iexact HX4
  isplitl [HX5]; · iexists _; iexact HX5
  isplitl [HGU]; · iexact HGU
  isplitl [HDN]; · iexact HDN
  isplitl [HR]; · iexact HR
  isplitl [HB0]; · iexists _; iexact HB0
  isplitl [HB1]; · iexists _; iexact HB1
  isplitl [HB2]; · iexists _; iexact HB2
  isplitl [HB3]; · iexists _; iexact HB3
  isplitl [HB4]; · iexists _; iexact HB4
  isplitl [HB5]; · iexists _; iexact HB5
  isplitl [HB6]; · iexists _; iexact HB6
  isplitl [HB7]; · iexists _; iexact HB7
  isplitl [HB8]; · iexists _; iexact HB8
  isplitl [HB9]; · iexists _; iexact HB9
  isplitl [HB10]; · iexists _; iexact HB10
  isplitl [HB11]; · iexists _; iexact HB11
  isplitl [HC]; · iexact HC
  isplitl [HS12]; · iexact HS12
  isplitl [HS13]; · iexact HS13
  isplitl [HS14]; · iexact HS14
  iexists _; iexact HW

end Cert.Kernel.Hand
-- ==== Proof.KernelFrame.lean ====
/-
The frame: the program terminates, its arguments end unchanged and every semaphore counter ends at zero.
-/
module

public import proofs.«01_k».proof.Proof.KernelBody
public import proofs.«01_k».proof.Proof.Gen.Kernel.Points
public import proofs.«01_k».proof.Proof.Gen.Kernel.Frame
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The results the body writes by its own copies. -/
def R0 : Finset (Ref sig .tc) := {main_v3_0, main_v3_1, main_v3_3}
/-- The weights the body reads by its own copies. -/
def H0 : Finset (Ref sig .tc) := {main_arg2, main_arg4}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own cells: twelve for the ring, sixteen of the other array. -/
abbrev osem0 : Fin 28 → SemLoc sig := fun j => SemLoc.dma ⟨6 + j.val, by have := j.isLt; show 6 + j.val < 34; omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0) := by
  rw [Pipeline.ownSems0_eq_of_list c osem0 [0, 1, 2, 3, 4, 5, 6, 7, 8, 9, 10, 11, 12, 13, 14, 15, 16, 17, 18, 19, 20, 21, 22, 23, 24, 25, 26, 27] (by decide) (by decide)]; rfl
theorem cellsB_eq (c : Dev nD) : (cellsB c : sProp 𝕄) = iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0) := by
  unfold cellsB
  rw [bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)] (by decide) (by decide)]; rfl

theorem hbmPts0_eq (c : Dev nD) :
    (bigSep H0 (fun b => ((c : Thread nD τ).loc b) ↦{fullShare} V m c b) : sProp 𝕄)
      = iprop(guAll c (V m c main_arg2) ∗ dnAll c (V m c main_arg4)) := by
  rw [BI.bigSep_eq_bigSepL_of_eq [main_arg2, main_arg4] (by decide) (by decide)]; rfl
theorem ownedPts0_eq (c : Dev nD) :
    (Pipeline.owned R0 c : sProp 𝕄)
      = iprop((∃ f, bufPt c (Memref.whole main_v3_0) f) ∗ (∃ f, bufPt c (Memref.whole main_v3_1) f) ∗ (∃ f, bufPt c (Memref.whole main_v3_3) f)) := by
  unfold Pipeline.owned; rw [BI.bigSep_eq_bigSepL_of_eq [main_v3_0, main_v3_1, main_v3_3] (by decide) (by decide)]; rfl

/-- The scratch, each buffer at some contents. -/
abbrev scr (c : Dev nD) : sProp 𝕄 := iprop((∃ f, bufPt c ringM f) ∗ (∃ f, bufPt c (Memref.whole cc0_scratch1) f) ∗ (∃ f, bufPt c (Memref.whole cc0_scratch2) f) ∗ (∃ f, bufPt c (Memref.whole cc0_scoped0) f) ∗ (∃ f, bufPt c (Memref.whole cc0_scoped1) f) ∗ (∃ f, bufPt c (Memref.whole cc0_scoped2) f) ∗ (∃ f, bufPt c (Memref.whole cc0_scoped3) f) ∗ (∃ f, bufPt c (Memref.whole cc0_scoped4) f) ∗ (∃ f, bufPt c (Memref.whole cc0_scoped5) f) ∗ (∃ f, bufPt c (Memref.whole cc0_scoped6) f))

theorem PhiDR0_eq (c : Dev nD) :
    (Pipeline.ΦDR osem0 spec0 H0 R0 (V m) c : sProp 𝕄)
      = iprop(scr c ∗ (∃ r, prngReg c r) ∗ iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0)
          ∗ iprop(guAll c (V m c main_arg2) ∗ dnAll c (V m c main_arg4))
          ∗ iprop((∃ f, bufPt c (Memref.whole main_v3_0) f) ∗ (∃ f, bufPt c (Memref.whole main_v3_1) f) ∗ (∃ f, bufPt c (Memref.whole main_v3_3) f))) := by
  rw [Pipeline.ΦDR_eq, scopedRest0_eq, ownSems00_eq, hbmPts0_eq, ownedPts0_eq]; try rfl

/-- Which windows the frame says nothing of: the two results staged out. -/
abbrev fgt0 : Fin 6 → Bool := fun w => match w with
  | ⟨4, _⟩ => true
  | ⟨5, _⟩ => true
  | _ => false

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

abbrev st (t : Fin cfg0.N) (w : Fin cfg0.W) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  simp only [before0_0, before0_1, before0_2, before0_3]
  rw [show (dats m 0 c).Φ t.castSucc = Pipeline.ΦDR osem0 spec0 H0 R0 (V m) c from rfl, PhiDR0_eq]
  unfold Dat.owesAt Pipeline.owesWithin owns
  rw [show (dats m 0 c).owed t.castSucc = 0 from rfl, show (dats m 0 c).owed t.succ = 0 from rfl]
  iintro ⟨⟨⟨⟨%R, HR⟩, ⟨%B3, HB3⟩, ⟨%B4, HB4⟩, ⟨%B5, HB5⟩, ⟨%B6, HB6⟩, ⟨%B7, HB7⟩, ⟨%B8, HB8⟩, ⟨%B9, HB9⟩, ⟨%B10, HB10⟩, ⟨%B11, HB11⟩⟩, Hg, ⟨Hq6, Hq7, Hq8, Hq9, Hq10, Hq11, Hq12, Hq13, Hq14, Hq15, Hq16, Hq17, Hq18, Hq19, Hq20, Hq21, Hq22, Hq23, Hq24, Hq25, Hq26, Hq27, Hq28, Hq29, HS12, HS13, HS14, Hq33⟩, ⟨HGU, HDN⟩, ⟨⟨%B0, HB0⟩, ⟨%B1, HB1⟩, ⟨%B2, HB2⟩⟩⟩, ⟨%Wt, -, HW⟩, ⟨%d0, %X0, %e0, HX0⟩, ⟨%d1, %X1, %e1, HX1⟩, ⟨%d2, %X2, %e2, HX2⟩, ⟨%d3, %X3, %e3, HX3⟩, ⟨%d4, %X4, -, HX4⟩, ⟨%d5, %X5, -, HX5⟩⟩
  iapply wp_wand_r
  isplitr [Hg Hq18 Hq19 Hq20 Hq21 Hq22 Hq23 Hq24 Hq25 Hq26 Hq27 Hq28 Hq29 Hq33]
  · iapply (body_run c (V m c main_arg2) (V m c main_arg4) (win0_0.stage (cfg0.slots t 0)) (hstage0_0 0) (win0_1.stage (cfg0.slots t 1)) (hstage0_1 0) (win0_2.stage (cfg0.slots t 2)) (hstage0_2 0)
      (win0_3.stage (cfg0.slots t 3)) (hstage0_3 0) (win0_4.stage (cfg0.slots t 4)) (hstage0_4 0) (win0_5.stage (cfg0.slots t 5)) (hstage0_5 0)
      B0 B1 B2 B3 B4 B5 B6 B7 B8 B9 B10 B11 R X0 X1 X2 X3 X4 X5 Wt)
    rw [cellsB_eq]
    isplitl [HX0]; · iexact HX0
    isplitl [HX1]; · iexact HX1
    isplitl [HX2]; · iexact HX2
    isplitl [HX3]; · iexact HX3
    isplitl [HX4]; · iexact HX4
    isplitl [HX5]; · iexact HX5
    isplitl [HGU]; · iexact HGU
    isplitl [HDN]; · iexact HDN
    isplitl [HR]; · iexact HR
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [Hq6 Hq7 Hq8 Hq9 Hq10 Hq11 Hq12 Hq13 Hq14 Hq15 Hq16 Hq17]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [HS12]; · iexact HS12
    isplitl [HS13]; · iexact HS13
    isplitl [HS14]; · iexact HS14
    iexact HW
  iintro %_ HQ
  unfold runPost
  rw [cellsB_eq]
  icases HQ with ⟨HX0, HX1, HX2, HX3, ⟨%Y4, HX4⟩, ⟨%Y5, HX5⟩, HGU, HDN, HR, HB0, HB1, HB2, HB3, HB4, HB5, HB6, HB7, HB8, HB9, HB10, HB11, ⟨Hq6, Hq7, Hq8, Hq9, Hq10, Hq11, Hq12, Hq13, Hq14, Hq15, Hq16, Hq17⟩, HS12, HS13, HS14, ⟨%Wt', HW⟩⟩
  isplitl [HR HB3 HB4 HB5 HB6 HB7 HB8 HB9 HB10 HB11 Hg Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33 HGU HDN HB0 HB1 HB2]
  · isplitl [HR HB3 HB4 HB5 HB6 HB7 HB8 HB9 HB10 HB11]
    · isplitl [HR]; · iexact HR
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      iexact HB11
    isplitl [Hg]; · iexact Hg
    isplitl [Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [HS12]; · iexact HS12
      isplitl [HS13]; · iexact HS13
      isplitl [HS14]; · iexact HS14
      iexact Hq33
    isplitl [HGU HDN]
    · isplitl [HGU]; · iexact HGU
      iexact HDN
    isplitl [HB0]; · iexact HB0
    isplitl [HB1]; · iexact HB1
    iexact HB2
  isplitl [HW]
  · iexists Wt'; isplitr; · ipureintro; exact fun _ _ => Or.inl trivial
    iexact HW
  isplitl [HX0]; · iexists X0; isplitr; · ipureintro; exact e0
                   iexact HX0
  isplitl [HX1]; · iexists X1; isplitr; · ipureintro; exact e1
                   iexact HX1
  isplitl [HX2]; · iexists X2; isplitr; · ipureintro; exact e2
                   iexact HX2
  isplitl [HX3]; · iexists X3; isplitr; · ipureintro; exact e3
                   iexact HX3
  isplitl [HX4]
  · iexists _, Y4; isplitr; · ipureintro; rfl
    iexact HX4
  iexists _, Y5; isplitr; · ipureintro; rfl
  iexact HX5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePostR cfg0 (fun c => (dats m 0 c).toRForget fgt0) R0 (V m) r ∧ r.2.sem = fun _ => 0) :=
  Pipeline.θ_run_frame_dmaR_forget (Q' := _) cfgs (dats m) (0 : Fin 1) launch0 osem0 defs₀ Variants.none fgt0 ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(((dats m 0 c).toRForget_arrAt_iff (w := 0) rfl _ _).mp ((h.1 c).1 0)).trans (((dats m 0 c).arrAt_in 0 rfl _).trans ((A_eq m c 0).trans (V_main_arg0 m c))),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KernelIdealRing.lean ====
/-
The weight ring: which elements each copy moves, what a slot holds once its copies have landed, and the rules for
starting one copy of a tile and for waiting for the whole tile.
-/
module

public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import Idealize.ShloMosaic.Lib.ValueLayout
public import Idealize.ShloMosaic.Lib.Batch
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The ring, and the two weight matrices in high-bandwidth memory. -/
abbrev ringM : Memref sig .tc .vmem S12x512x5120 .i8 := Memref.whole cc0_scratch0
abbrev guM : Memref sig .tc .hbm S5120x21504 .i8 := Memref.whole main_arg2
abbrev dnM : Memref sig .tc .hbm S10752x5120 .i8 := Memref.whole main_arg4

/-- The twelve cells of the ring. -/
abbrev cellR (t : ℕ) : DmaSem sig := ⟨6 + (9 + t) % 12, by have := Nat.mod_lt (9 + t) (show 12 > 0 by decide); show _ < 34; omega⟩

/-- Elements of the ring written by copy `j` of a gate-up tile in slot `s`, of the gate-up weight that copy `j` of tile `t`
reads, of a whole slot, and of the down weight that tile `t` reads. -/
def gDst (s j : ℕ) : Finset S12x512x5120.Idx := Finset.univ.filter fun i => (i 0).val = s ∧ 256 * j ≤ (i 2).val ∧ (i 2).val < 256 * j + 256
def gSrc (t j : ℕ) : Finset S5120x21504.Idx := Finset.univ.filter fun i =>
  (512 * (j / 2) ≤ (i 0).val ∧ (i 0).val < 512 * (j / 2) + 512) ∧ ((j % 2) * 10752 + 256 * t ≤ (i 1).val ∧ (i 1).val < (j % 2) * 10752 + 256 * t + 256)
def sSet (s : ℕ) : Finset S12x512x5120.Idx := Finset.univ.filter fun i => (i 0).val = s
def dSrc (t : ℕ) : Finset S10752x5120.Idx := Finset.univ.filter fun i => 512 * t ≤ (i 0).val ∧ (i 0).val < 512 * t + 512

/-- What the slot of gate-up tile `t` holds once its twenty copies have landed. -/
def LandG (W : S5120x21504.Idx → Elt F .i8) (t : ℕ) : S12x512x5120.Idx → Elt F .i8 := fun i =>
  W (ix2 (⟨((i 2).val / 512 * 512 + (i 1).val) % 5120, Nat.mod_lt _ (by decide)⟩ : Fin 5120)
    (⟨(t * 256 + ((i 2).val / 256 % 2) * 10752 + (i 2).val % 256) % 21504, Nat.mod_lt _ (by decide)⟩ : Fin 21504))
/-- What the slot of down tile `t` (counted from the first down tile) holds once its copy has landed. -/
def LandD (W : S10752x5120.Idx → Elt F .i8) (t : ℕ) : S12x512x5120.Idx → Elt F .i8 := fun i =>
  W (ix2 (⟨(t * 512 + (i 1).val) % 10752, Nat.mod_lt _ (by decide)⟩ : Fin 10752) (⟨(i 2).val, (i 2).isLt⟩ : Fin 5120))

section Sets

theorem set_gDst {s j : ℕ} {off : Fin 3 → ℕ} {inb} (h : off = ![s, 0, 256 * j]) :
    ((ringM.slice (Rect.unit (s := S12x512x5120) off S1x512x256.size inb) (fun _ => rfl)).squeeze S512x256 squeezes_S1x512x256_S512x256).view.set = gDst s j := by
  subst h
  rw [Memref.set_view_squeeze]
  show ((View.whole cc0_scratch0).slice _).set = _
  rw [View.set_slice_whole]
  ext i
  rw [Rect.mem_set_unit]
  simp only [gDst, Finset.mem_filter, Finset.mem_univ, true_and]
  have h1 : (i 1).val < 512 := (i 1).isLt
  constructor
  · intro h
    have a0 := h 0; have a2 := h 2
    simp at a0 a2
    omega
  · rintro ⟨h0, h2, h3⟩ a
    fin_cases a
    · show s ≤ (i 0).val ∧ (i 0).val < s + 1; omega
    · show 0 ≤ (i 1).val ∧ (i 1).val < 0 + 512; omega
    · show 256 * j ≤ (i 2).val ∧ (i 2).val < 256 * j + 256; omega

theorem set_sSet {s : ℕ} {off : Fin 3 → ℕ} {inb} (h : off = ![s, 0, 0]) :
    ((ringM.slice (Rect.unit (s := S12x512x5120) off S1x512x5120.size inb) (fun _ => rfl)).squeeze S512x5120 squeezes_S1x512x5120_S512x5120).view.set = sSet s := by
  subst h
  rw [Memref.set_view_squeeze]
  show ((View.whole cc0_scratch0).slice _).set = _
  rw [View.set_slice_whole]
  ext i
  rw [Rect.mem_set_unit]
  simp only [sSet, Finset.mem_filter, Finset.mem_univ, true_and]
  have h1 : (i 1).val < 512 := (i 1).isLt
  have h2 : (i 2).val < 5120 := (i 2).isLt
  constructor
  · intro h
    have a0 := h 0
    simp at a0
    omega
  · rintro h0 a
    fin_cases a
    · show s ≤ (i 0).val ∧ (i 0).val < s + 1; omega
    · show 0 ≤ (i 1).val ∧ (i 1).val < 0 + 512; omega
    · show 0 ≤ (i 2).val ∧ (i 2).val < 0 + 5120; omega

theorem set_gSrc {t j : ℕ} {off : Fin 2 → ℕ} {inb} (h : off = ![512 * (j / 2), (j % 2) * 10752 + 256 * t]) :
    (guM.slice (Rect.unit (s := S5120x21504) off S512x256.size inb) (fun _ => rfl)).view.set = gSrc t j := by
  subst h
  show ((View.whole main_arg2).slice _).set = _
  rw [View.set_slice_whole]
  ext i
  rw [Rect.mem_set_unit]
  simp only [gSrc, Finset.mem_filter, Finset.mem_univ, true_and]
  constructor
  · intro h
    have a0 := h 0; have a1 := h 1
    simp at a0 a1
    omega
  · rintro ⟨h0, h2⟩ a
    fin_cases a
    · show 512 * (j / 2) ≤ (i 0).val ∧ (i 0).val < 512 * (j / 2) + 512; omega
    · show (j % 2 * 10752 + 256 * t) ≤ (i 1).val ∧ (i 1).val < (j % 2 * 10752 + 256 * t) + 256; omega

theorem set_dSrc {t : ℕ} {off : Fin 2 → ℕ} {inb} (h : off = ![512 * t, 0]) :
    (dnM.slice (Rect.unit (s := S10752x5120) off S512x5120.size inb) (fun _ => rfl)).view.set = dSrc t := by
  subst h
  show ((View.whole main_arg4).slice _).set = _
  rw [View.set_slice_whole]
  ext i
  rw [Rect.mem_set_unit]
  simp only [dSrc, Finset.mem_filter, Finset.mem_univ, true_and]
  have h1 : (i 1).val < 5120 := (i 1).isLt
  constructor
  · intro h
    have a0 := h 0
    simp at a0
    omega
  · rintro h0 a
    fin_cases a
    · show 512 * t ≤ (i 0).val ∧ (i 0).val < 512 * t + 512; omega
    · show 0 ≤ (i 1).val ∧ (i 1).val < 0 + 5120; omega

end Sets

section Land

theorem write_gDst {s t j : ℕ} (hj : j < 20) (ht : t < 42) {offd : Fin 3 → ℕ} {inbd} {offs : Fin 2 → ℕ} {inbs}
    (hd : offd = ![s, 0, 256 * j]) (hs : offs = ![512 * (j / 2), (j % 2) * 10752 + 256 * t])
    (W : S5120x21504.Idx → Elt F .i8) (fd : S12x512x5120.Idx → Elt F .i8) (i : S12x512x5120.Idx) (hi : i ∈ gDst s j) :
    ((ringM.slice (Rect.unit (s := S12x512x5120) offd S1x512x256.size inbd) (fun _ => rfl)).squeeze S512x256 squeezes_S1x512x256_S512x256).view.write (Elt F) fd
      ((guM.slice (Rect.unit (s := S5120x21504) offs S512x256.size inbs) (fun _ => rfl)).view.read (Elt F) W) Finset.univ i = LandG W t i := by
  have hi' := hi
  rw [← set_gDst (inb := inbd) hd] at hi'
  obtain ⟨x, -, rfl⟩ := Finset.mem_map.mp hi'
  refine (View.write_emb_of_mem _ _ (Finset.mem_univ x)).trans ?_
  subst hd hs
  obtain ⟨a, b, rfl⟩ : ∃ (a : Fin 512) (b : Fin 256), x = ix2 a b := ⟨x 0, x 1, by funext k; fin_cases k <;> rfl⟩
  have hx : ∀ h, Shape.reshapeEquiv (s := S1x512x256) (s' := S512x256) h (ix2 a b) = ix3 (⟨0, Nat.one_pos⟩ : Fin 1) a b := fun h => reshapeEquiv_ix2_1ab h a b
  unfold LandG
  have key : ∀ p q : S5120x21504.Idx, (p 0).val = (q 0).val → (p 1).val = (q 1).val → W p = W q := fun p q h0 h1 =>
    congrArg W (funext fun k => by fin_cases k; exacts [Fin.ext h0, Fin.ext h1])
  have ha := a.isLt
  have hb := b.isLt
  have e1 : ((((ringM.slice (Rect.unit (s := S12x512x5120) ![s, 0, 256 * j] S1x512x256.size inbd) (fun _ => rfl)).squeeze S512x256 squeezes_S1x512x256_S512x256).view.emb (ix2 a b)) 1).val = a.val := by
    show 0 + 1 * ((Shape.reshapeEquiv _ (ix2 a b) : S1x512x256.Idx) 1).val = a.val
    rw [hx]; show 0 + 1 * a.val = a.val; omega
  have e2 : ((((ringM.slice (Rect.unit (s := S12x512x5120) ![s, 0, 256 * j] S1x512x256.size inbd) (fun _ => rfl)).squeeze S512x256 squeezes_S1x512x256_S512x256).view.emb (ix2 a b)) 2).val = 256 * j + b.val := by
    show 256 * j + 1 * ((Shape.reshapeEquiv _ (ix2 a b) : S1x512x256.Idx) 2).val = _
    rw [hx]; show 256 * j + 1 * b.val = _; omega
  refine key _ _ ?_ ?_
  · show 512 * (j / 2) + 1 * a.val = (_ / 512 * 512 + _) % 5120
    rw [e1, e2]; omega
  · show (j % 2) * 10752 + 256 * t + 1 * b.val = (t * 256 + (_ / 256 % 2) * 10752 + _ % 256) % 21504
    rw [e2]; omega

theorem write_dDst {s t : ℕ} (ht : t < 21) {offd : Fin 3 → ℕ} {inbd} {offs : Fin 2 → ℕ} {inbs}
    (hd : offd = ![s, 0, 0]) (hs : offs = ![512 * t, 0])
    (W : S10752x5120.Idx → Elt F .i8) (fd : S12x512x5120.Idx → Elt F .i8) (i : S12x512x5120.Idx) (hi : i ∈ sSet s) :
    ((ringM.slice (Rect.unit (s := S12x512x5120) offd S1x512x5120.size inbd) (fun _ => rfl)).squeeze S512x5120 squeezes_S1x512x5120_S512x5120).view.write (Elt F) fd
      ((dnM.slice (Rect.unit (s := S10752x5120) offs S512x5120.size inbs) (fun _ => rfl)).view.read (Elt F) W) Finset.univ i = LandD W t i := by
  have hi' := hi
  rw [← set_sSet (inb := inbd) hd] at hi'
  obtain ⟨x, -, rfl⟩ := Finset.mem_map.mp hi'
  refine (View.write_emb_of_mem _ _ (Finset.mem_univ x)).trans ?_
  subst hd hs
  obtain ⟨a, b, rfl⟩ : ∃ (a : Fin 512) (b : Fin 5120), x = ix2 a b := ⟨x 0, x 1, by funext k; fin_cases k <;> rfl⟩
  have hx : ∀ h, Shape.reshapeEquiv (s := S1x512x5120) (s' := S512x5120) h (ix2 a b) = ix3 (⟨0, Nat.one_pos⟩ : Fin 1) a b := fun h => reshapeEquiv_ix2_1ab h a b
  unfold LandD
  have key : ∀ p q : S10752x5120.Idx, (p 0).val = (q 0).val → (p 1).val = (q 1).val → W p = W q := fun p q h0 h1 =>
    congrArg W (funext fun k => by fin_cases k; exacts [Fin.ext h0, Fin.ext h1])
  have ha := a.isLt
  have hb := b.isLt
  have e1 : ((((ringM.slice (Rect.unit (s := S12x512x5120) ![s, 0, 0] S1x512x5120.size inbd) (fun _ => rfl)).squeeze S512x5120 squeezes_S1x512x5120_S512x5120).view.emb (ix2 a b)) 1).val = a.val := by
    show 0 + 1 * ((Shape.reshapeEquiv _ (ix2 a b) : S1x512x5120.Idx) 1).val = a.val
    rw [hx]; show 0 + 1 * a.val = a.val; omega
  have e2 : ((((ringM.slice (Rect.unit (s := S12x512x5120) ![s, 0, 0] S1x512x5120.size inbd) (fun _ => rfl)).squeeze S512x5120 squeezes_S1x512x5120_S512x5120).view.emb (ix2 a b)) 2).val = b.val := by
    show 0 + 1 * ((Shape.reshapeEquiv _ (ix2 a b) : S1x512x5120.Idx) 2).val = _
    rw [hx]; show 0 + 1 * b.val = _; omega
  refine key _ _ ?_ ?_
  · show 512 * t + 1 * a.val = (t * 512 + _) % 10752
    rw [e1]; omega
  · show 0 + 1 * b.val = _
    rw [Nat.zero_add, Nat.one_mul]; exact e2.symm

end Land

section Flights

variable (c : Dev nD)

/-- Piece `j` of a gate-up slot at contents `f`; the piece of the weight it is copied from; a whole slot; a down tile's weight. -/
def gDstB (s j : ℕ) (f : S12x512x5120.Idx → Elt F .i8) : sProp 𝕄 := iprop(ringM.view.loc (c : Thread nD τ) ↦[gDst s j]{fullShare} f)
def gSrcB (W : S5120x21504.Idx → Elt F .i8) (t j : ℕ) : sProp 𝕄 := iprop(guM.view.loc (c : Thread nD τ) ↦[gSrc t j]{fullShare} W)
def slotB (s : ℕ) (f : S12x512x5120.Idx → Elt F .i8) : sProp 𝕄 := iprop(ringM.view.loc (c : Thread nD τ) ↦[sSet s]{fullShare} f)
def dSrcB (W : S10752x5120.Idx → Elt F .i8) (t : ℕ) : sProp 𝕄 := iprop(dnM.view.loc (c : Thread nD τ) ↦[dSrc t]{fullShare} W)

/-- What copy `j` of gate-up tile `t` delivers, and what the one copy of down tile `t` does. -/
def delG (W : S5120x21504.Idx → Elt F .i8) (t : ℕ) (j : Fin 20) : sProp 𝕄 := iprop(gDstB c ((9 + t) % 12) j.val (LandG W t) ∗ gSrcB c W t j.val)
def delD (W : S10752x5120.Idx → Elt F .i8) (t : ℕ) (j : Fin 1) : sProp 𝕄 := iprop(slotB c ((9 + t) % 12) (LandD W (t - 42)) ∗ dSrcB c W (t - 42))

instance (W : S5120x21504.Idx → Elt F .i8) (t : ℕ) (j : Fin 20) : Storable (upEmb : UEmb _ 𝕄) (delG c W t j) := by unfold delG gDstB gSrcB; infer_instance
instance (W : S10752x5120.Idx → Elt F .i8) (t : ℕ) (j : Fin 1) : Storable (upEmb : UEmb _ 𝕄) (delD c W t j) := by unfold delD slotB dSrcB; infer_instance

/-- The credit of one gate-up copy, and of one down copy. -/
abbrev NG : ℕ := 4096
abbrev ND : ℕ := 81920

/-- The copies of a tile in flight on the tile's cell: `j` of them issued. -/
abbrev batG (W : S5120x21504.Idx → Elt F .i8) (t j : ℕ) : sProp 𝕄 :=
  Transfers.Batch (countersEmb (U := Pipeline.UD sig nD τ)) (c : Thread nD τ) (.dma (cellR t)) () NG (delG c W t) j 0
abbrev batD (W : S10752x5120.Idx → Elt F .i8) (t j : ℕ) : sProp 𝕄 :=
  Transfers.Batch (countersEmb (U := Pipeline.UD sig nD τ)) (c : Thread nD τ) (.dma (cellR t)) () ND (delD c W t) j 0

theorem cell_eq {t : ℕ} {off : Fin 1 → ℕ} {inb} (h : off = ![(9 + t) % 12]) :
    ((cc0_scratch3.slice (Rect.unit (s := S12) off S1.size inb)).squeeze S_ squeezes_S1_S_).sem = cellR t := by
  subst h
  apply Fin.ext
  have e : ∀ p : S12.Idx, (S12.rowMajor p).val = (p 0).val := fun p => by rw [Shape.rowMajor_val_one]
  show 6 + (S12.rowMajor _).val = 6 + (9 + t) % 12
  rw [e]
  congr 1
  show (9 + t) % 12 + 1 * ((Shape.reshapeEquiv _ _ : S1.Idx) 0).val = _
  have : ∀ p : S1.Idx, (p 0).val = 0 := fun p => by have h : (p 0).val < 1 := (p 0).isLt; omega
  rw [this]; rfl

theorem credG (off inb) : ((ringM.slice (Rect.unit (s := S12x512x5120) off S1x512x256.size inb) (fun _ => rfl)).squeeze S512x256 squeezes_S1x512x256_S512x256).view.dmaCredit = NG := by
  show RefSig.tileCredit S512x256 .i8 = _
  decide +kernel
theorem credD (off inb) : ((ringM.slice (Rect.unit (s := S12x512x5120) off S1x512x5120.size inb) (fun _ => rfl)).squeeze S512x5120 squeezes_S1x512x5120_S512x5120).view.dmaCredit = ND := by
  show RefSig.tileCredit S512x5120 .i8 = _
  decide +kernel

/-- One copy of a batch, source and destination any views of the same shape. -/
theorem issue_core {α : Type} {s : Shape} {n : ℕ} (src : Memref sig .tc .hbm s .i8) (dst : Memref sig .tc .vmem s .i8) (cell : DmaSem sig) (N : ℕ)
    (hN : dst.view.dmaCredit = N) (fs : Buf (Elt F) (src.view.loc (c : Thread nD τ))) (fd : Buf (Elt F) (dst.view.loc (c : Thread nD τ)))
    (D : Fin n → sProp 𝕄) {j : ℕ} (hj : j < n) {h1 h2 h3}
    (hD : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ D ⟨j, hj⟩)
    {k : PUnit → Prog (TpuEff nD τ sig (Elt F) Λ₀ .tc) α} {Q : α → sProp 𝕄} :
    iprop((src.view.loc (c : Thread nD τ) ↦[src.view.set]{fullShare} fs) ∗ (dst.view.loc (c : Thread nD τ) ↦[dst.view.set]{fullShare} fd)
        ∗ Transfers.Batch (countersEmb (U := Pipeline.UD sig nD τ)) (c : Thread nD τ) (.dma cell) () N D j 0)
      ⊢ iprop((Transfers.Batch (countersEmb (U := Pipeline.UD sig nD τ)) (c : Thread nD τ) (.dma cell) () N D (j + 1) 0
            -∗ wp frame (wpE (defs₀ (F := F)) Variants.none (c : Thread nD τ) none) Set.univ (k ⟨⟩) Q) -∗
        wp frame (wpE (defs₀ (F := F)) Variants.none (c : Thread nD τ) none) Set.univ (.op (.enqueueDma src (.here dst) (.dma cell) h1 h2 h3) k) Q) :=
  Transfers.wp_dmaBatch (countersEmb (U := Pipeline.UD sig nD τ)) Variants.none (c : Thread nD τ) none () N hN subset_rfl hj (Nat.zero_le _) hD

theorem issue_gu {α : Type} (W : S5120x21504.Idx → Elt F .i8) (fd : S12x512x5120.Idx → Elt F .i8) {t j : ℕ} (ht : t < 42) (hj : j < 20)
    {semOff : Fin 1 → ℕ} {inbm} {offd : Fin 3 → ℕ} {inbd} {offs : Fin 2 → ℕ} {inbs}
    (hm : semOff = ![(9 + t) % 12]) (hd : offd = ![(9 + t) % 12, 0, 256 * j]) (hs : offs = ![512 * (j / 2), (j % 2) * 10752 + 256 * t])
    {h1 h2 h3} {k : PUnit → Prog (TpuEff nD τ sig (Elt F) Λ₀ .tc) α} {Q : α → sProp 𝕄} :
    iprop(gSrcB c W t j ∗ gDstB c ((9 + t) % 12) j fd ∗ batG c W t j)
      ⊢ iprop((batG c W t (j + 1) -∗ wp frame (wpE (defs₀ (F := F)) Variants.none (c : Thread nD τ) none) Set.univ (k ⟨⟩) Q) -∗
        wp frame (wpE (defs₀ (F := F)) Variants.none (c : Thread nD τ) none) Set.univ (.op (.enqueueDma (guM.slice (Rect.unit (s := S5120x21504) offs S512x256.size inbs) (fun _ => rfl))
          (.here ((ringM.slice (Rect.unit (s := S12x512x5120) offd S1x512x256.size inbd) (fun _ => rfl)).squeeze S512x256 squeezes_S1x512x256_S512x256))
          (.dma ((cc0_scratch3.slice (Rect.unit (s := S12) semOff S1.size inbm)).squeeze S_ squeezes_S1_S_).sem) h1 h2 h3) k) Q) := by
  have hcell := cell_eq (t := t) (inb := inbm) hm
  have hsd := set_gDst (inb := inbd) hd
  have hss := set_gSrc (inb := inbs) hs
  revert h3
  generalize ((cc0_scratch3.slice (Rect.unit (s := S12) semOff S1.size inbm)).squeeze S_ squeezes_S1_S_).sem = cell at hcell ⊢
  intro h3
  subst hcell
  have key := @issue_core F _ c α S512x256 20 (guM.slice (Rect.unit (s := S5120x21504) offs S512x256.size inbs) (fun _ => rfl))
    ((ringM.slice (Rect.unit (s := S12x512x5120) offd S1x512x256.size inbd) (fun _ => rfl)).squeeze S512x256 squeezes_S1x512x256_S512x256)
    (cellR t) NG (credG _ _) W fd (delG c W t) j hj h1 h2 h3 ?_ k Q
  · rw [hsd, hss] at key; exact key
  · rw [hsd, hss]; unfold delG gDstB gSrcB
    refine sep_mono (Entails.of_eq (pointsTo_congr ?_)) .rfl
    intro i hi
    exact write_gDst hj ht hd hs W fd i hi

theorem issue_dn {α : Type} (W : S10752x5120.Idx → Elt F .i8) (fd : S12x512x5120.Idx → Elt F .i8) {t : ℕ} (ht : t - 42 < 21)
    {semOff : Fin 1 → ℕ} {inbm} {offd : Fin 3 → ℕ} {inbd} {offs : Fin 2 → ℕ} {inbs}
    (hm : semOff = ![(9 + t) % 12]) (hd : offd = ![(9 + t) % 12, 0, 0]) (hs : offs = ![512 * (t - 42), 0])
    {h1 h2 h3} {k : PUnit → Prog (TpuEff nD τ sig (Elt F) Λ₀ .tc) α} {Q : α → sProp 𝕄} :
    iprop(dSrcB c W (t - 42) ∗ slotB c ((9 + t) % 12) fd ∗ batD c W t 0)
      ⊢ iprop((batD c W t 1 -∗ wp frame (wpE (defs₀ (F := F)) Variants.none (c : Thread nD τ) none) Set.univ (k ⟨⟩) Q) -∗
        wp frame (wpE (defs₀ (F := F)) Variants.none (c : Thread nD τ) none) Set.univ (.op (.enqueueDma (dnM.slice (Rect.unit (s := S10752x5120) offs S512x5120.size inbs) (fun _ => rfl))
          (.here ((ringM.slice (Rect.unit (s := S12x512x5120) offd S1x512x5120.size inbd) (fun _ => rfl)).squeeze S512x5120 squeezes_S1x512x5120_S512x5120))
          (.dma ((cc0_scratch3.slice (Rect.unit (s := S12) semOff S1.size inbm)).squeeze S_ squeezes_S1_S_).sem) h1 h2 h3) k) Q) := by
  have hcell := cell_eq (t := t) (inb := inbm) hm
  have hsd := set_sSet (inb := inbd) hd
  have hss := set_dSrc (inb := inbs) hs
  revert h3
  generalize ((cc0_scratch3.slice (Rect.unit (s := S12) semOff S1.size inbm)).squeeze S_ squeezes_S1_S_).sem = cell at hcell ⊢
  intro h3
  subst hcell
  have key := @issue_core F _ c α S512x5120 1 (dnM.slice (Rect.unit (s := S10752x5120) offs S512x5120.size inbs) (fun _ => rfl))
    ((ringM.slice (Rect.unit (s := S12x512x5120) offd S1x512x5120.size inbd) (fun _ => rfl)).squeeze S512x5120 squeezes_S1x512x5120_S512x5120)
    (cellR t) ND (credD _ _) W fd (delD c W t) 0 (by decide) h1 h2 h3 ?_ k Q
  · rw [hsd, hss] at key; exact key
  · rw [hsd, hss]; unfold delD slotB dSrcB
    refine sep_mono (Entails.of_eq (pointsTo_congr ?_)) .rfl
    intro i hi
    exact write_dDst ht hd hs W fd i hi

/-- Waiting for a whole gate-up tile: its twenty copies have landed and the cell is at zero. -/
theorem wait_gu {α : Type} (W : S5120x21504.Idx → Elt F .i8) {t : ℕ} {semOff : Fin 1 → ℕ} {inbm} {offd : Fin 3 → ℕ} {inbd} {srcw : Memref sig .tc .hbm S512x5120 .i8}
    (hm : semOff = ![(9 + t) % 12]) {h1 h2} {k : PUnit → Prog (TpuEff nD τ sig (Elt F) Λ₀ .tc) α} {Q : α → sProp 𝕄} {Wt : Waits sig Unit} :
    iprop(batG c W t 20 ∗ owes (c : Thread nD τ) 0 Wt)
      ⊢ iprop((iprop(bigSep Finset.univ (delG c W t) ∗ semVal ((c : Thread nD τ), .dma (cellR t)) 0 ∗ owes (c : Thread nD τ) 0 (insert (SemLoc.dma (cellR t), ()) Wt)) -∗ wp frame (wpE (defs₀ (F := F)) Variants.none (c : Thread nD τ) none) Set.univ (k ⟨⟩) Q) -∗
        wp frame (wpE (defs₀ (F := F)) Variants.none (c : Thread nD τ) none) Set.univ (.op (.waitDma2 ((cc0_scratch3.slice (Rect.unit (s := S12) semOff S1.size inbm)).squeeze S_ squeezes_S1_S_).sem srcw
          ((ringM.slice (Rect.unit (s := S12x512x5120) offd S1x512x5120.size inbd) (fun _ => rfl)).squeeze S512x5120 squeezes_S1x512x5120_S512x5120) h1 h2) k) Q) := by
  have hcell := cell_eq (t := t) (inb := inbm) hm
  rw [hcell]
  exact Transfers.wp_waitBatchAll (countersEmb (U := Pipeline.UD sig nD τ)) Variants.none (c : Thread nD τ) none () (credD _ _) (by decide) (by decide)

theorem wait_dn {α : Type} (W : S10752x5120.Idx → Elt F .i8) {t : ℕ} {semOff : Fin 1 → ℕ} {inbm} {offd : Fin 3 → ℕ} {inbd} {srcw : Memref sig .tc .hbm S512x5120 .i8}
    (hm : semOff = ![(9 + t) % 12]) {h1 h2} {k : PUnit → Prog (TpuEff nD τ sig (Elt F) Λ₀ .tc) α} {Q : α → sProp 𝕄} {Wt : Waits sig Unit} :
    iprop(batD c W t 1 ∗ owes (c : Thread nD τ) 0 Wt)
      ⊢ iprop((iprop(bigSep Finset.univ (delD c W t) ∗ semVal ((c : Thread nD τ), .dma (cellR t)) 0 ∗ owes (c : Thread nD τ) 0 (insert (SemLoc.dma (cellR t), ()) Wt)) -∗ wp frame (wpE (defs₀ (F := F)) Variants.none (c : Thread nD τ) none) Set.univ (k ⟨⟩) Q) -∗
        wp frame (wpE (defs₀ (F := F)) Variants.none (c : Thread nD τ) none) Set.univ (.op (.waitDma2 ((cc0_scratch3.slice (Rect.unit (s := S12) semOff S1.size inbm)).squeeze S_ squeezes_S1_S_).sem srcw
          ((ringM.slice (Rect.unit (s := S12x512x5120) offd S1x512x5120.size inbd) (fun _ => rfl)).squeeze S512x5120 squeezes_S1x512x5120_S512x5120) h1 h2) k) Q) := by
  have hcell := cell_eq (t := t) (inb := inbm) hm
  rw [hcell]
  exact Transfers.wp_waitBatchAll (countersEmb (U := Pipeline.UD sig nD τ)) Variants.none (c : Thread nD τ) none () (credD _ _) (by decide) (by decide)

/-- Gate-up tile `t` with `j` of its twenty copies issued into slot `(9 + t) % 12`: the flight, and the pieces still to go. -/
def progG (W : S5120x21504.Idx → Elt F .i8) (t j : ℕ) (f : S12x512x5120.Idx → Elt F .i8) : sProp 𝕄 :=
  iprop(batG c W t j ∗ bigSep (Ring.rangeSet 20 j 20) fun i : Fin 20 => iprop(gSrcB c W t i.val ∗ gDstB c ((9 + t) % 12) i.val f))

theorem issue_next {α : Type} (W : S5120x21504.Idx → Elt F .i8) (fd : S12x512x5120.Idx → Elt F .i8) {t j : ℕ} (ht : t < 42) (hj : j < 20)
    {semOff : Fin 1 → ℕ} {inbm} {offd : Fin 3 → ℕ} {inbd} {offs : Fin 2 → ℕ} {inbs}
    (hm : semOff = ![(9 + t) % 12]) (hd : offd = ![(9 + t) % 12, 0, 256 * j]) (hs : offs = ![512 * (j / 2), (j % 2) * 10752 + 256 * t])
    {h1 h2 h3} {k : PUnit → Prog (TpuEff nD τ sig (Elt F) Λ₀ .tc) α} {Q : α → sProp 𝕄} :
    progG c W t j fd
      ⊢ iprop((progG c W t (j + 1) fd -∗ wp frame (wpE (defs₀ (F := F)) Variants.none (c : Thread nD τ) none) Set.univ (k ⟨⟩) Q) -∗
        wp frame (wpE (defs₀ (F := F)) Variants.none (c : Thread nD τ) none) Set.univ
          (.op (.enqueueDma (guM.slice (Rect.unit (s := S5120x21504) offs S512x256.size inbs) (fun _ => rfl))
          (.here ((ringM.slice (Rect.unit (s := S12x512x5120) offd S1x512x256.size inbd) (fun _ => rfl)).squeeze S512x256 squeezes_S1x512x256_S512x256))
          (.dma ((cc0_scratch3.slice (Rect.unit (s := S12) semOff S1.size inbm)).squeeze S_ squeezes_S1_S_).sem) h1 h2 h3) k) Q) := by
  unfold progG
  rw [Ring.bigSep_rangeSet_head (lo := j) hj hj]
  iintro ⟨HB, ⟨HS, HD⟩, HR⟩ Hk
  iapply (issue_gu c W fd ht hj hm hd hs) $$ [HB HS HD]
  · isplitl [HS]; · iexact HS
    isplitl [HD]; · iexact HD
    iexact HB
  iintro HB
  iapply Hk
  isplitl [HB]; · iexact HB
  iexact HR

theorem sSet_biUnion (s : ℕ) : (Finset.univ : Finset (Fin 20)).biUnion (fun j => gDst s j.val) = sSet s := by
  ext i
  have h2 : (i 2).val < 5120 := (i 2).isLt
  simp only [Finset.mem_biUnion, Finset.mem_univ, true_and, gDst, sSet, Finset.mem_filter]
  constructor
  · rintro ⟨j, h, -⟩; exact h
  · intro h; exact ⟨⟨(i 2).val / 256, by omega⟩, h, by show 256 * ((i 2).val / 256) ≤ _; omega, by show _ < 256 * ((i 2).val / 256) + 256; omega⟩
theorem gDst_disjoint (s : ℕ) : ∀ j ∈ (Finset.univ : Finset (Fin 20)), ∀ j' ∈ (Finset.univ : Finset (Fin 20)), j ≠ j' → Disjoint (gDst s j.val) (gDst s j'.val) := by
  intro j _ j' _ hne
  rw [Finset.disjoint_left]
  intro i h h'
  simp only [gDst, Finset.mem_filter, Finset.mem_univ, true_and] at h h'
  exact hne (Fin.ext (by omega))

theorem slotB_pieces (s : ℕ) (f : S12x512x5120.Idx → Elt F .i8) :
    slotB c s f = bigSep Finset.univ fun j : Fin 20 => gDstB c s j.val f := by
  unfold slotB gDstB
  rw [← sSet_biUnion s]
  exact pointsTo_biUnion _ _ (gDst_disjoint s)

/-- The weight a tile reads, at rest. -/
def homeG (W : S5120x21504.Idx → Elt F .i8) (t : ℕ) : sProp 𝕄 := bigSep Finset.univ fun j : Fin 20 => gSrcB c W t j.val
/-- A slot with nothing in flight. -/
def freeS (t : ℕ) : sProp 𝕄 := iprop(semVal ((c : Thread nD τ), .dma (cellR t)) 0 ∗ ∃ f, slotB c ((9 + t) % 12) f)

theorem progG_start (W : S5120x21504.Idx → Elt F .i8) (t : ℕ) (f : S12x512x5120.Idx → Elt F .i8) :
    iprop(homeG c W t ∗ slotB c ((9 + t) % 12) f ∗ batG c W t 0) ⊢ progG c W t 0 f := by
  unfold progG homeG
  rw [slotB_pieces, Ring.rangeSet_univ, show (bigSep Finset.univ fun i : Fin 20 => iprop(gSrcB c W t i.val ∗ gDstB c ((9 + t) % 12) i.val f))
    = iprop((bigSep Finset.univ fun i : Fin 20 => gSrcB c W t i.val) ∗ bigSep Finset.univ fun i : Fin 20 => gDstB c ((9 + t) % 12) i.val f) from bigSep_sep _ _ _]
  iintro ⟨HH, HS, HB⟩
  isplitl [HB]; · iexact HB
  isplitl [HH]; · iexact HH
  iexact HS

theorem progG_end (W : S5120x21504.Idx → Elt F .i8) (t : ℕ) (f : S12x512x5120.Idx → Elt F .i8) : progG c W t 20 f ⊢ batG c W t 20 := by
  unfold progG
  iintro ⟨HB, -⟩; iexact HB

/-- What a landed gate-up tile gives back: its slot whole, at the tile's contents, and the weight at rest. -/
theorem delG_join (W : S5120x21504.Idx → Elt F .i8) (t : ℕ) :
    bigSep Finset.univ (delG c W t) ⊢ iprop(slotB c ((9 + t) % 12) (LandG W t) ∗ homeG c W t) := by
  unfold homeG
  rw [slotB_pieces]
  exact Entails.of_eq (show (bigSep Finset.univ fun i : Fin 20 => iprop(gDstB c ((9 + t) % 12) i.val (LandG W t) ∗ gSrcB c W t i.val))
    = iprop((bigSep Finset.univ fun i : Fin 20 => gDstB c ((9 + t) % 12) i.val (LandG W t)) ∗ bigSep Finset.univ fun i : Fin 20 => gSrcB c W t i.val) from bigSep_sep _ _ _)

theorem delD_join (W : S10752x5120.Idx → Elt F .i8) (t : ℕ) :
    bigSep Finset.univ (delD c W t) ⊢ iprop(slotB c ((9 + t) % 12) (LandD W (t - 42)) ∗ dSrcB c W (t - 42)) := by
  rw [show (Finset.univ : Finset (Fin 1)) = {0} from rfl, bigSep_singleton]
  exact .rfl

end Flights

end Cert.KernelIdeal.Hand
-- ==== Proof.KernelIdealOffs.lean ====
/-
Where each copy of the program reads and writes, in closed form over the loop's trip.
-/
module

public import proofs.«01_k».proof.Proof.KernelIdealRing

@[expose] public section

set_option maxRecDepth 16384

namespace Cert.KernelIdeal.Hand

open Cert.KernelIdeal Cert.KernelIdeal.Gen
open Idealize.ShloMosaic

theorem h1_true : ∀ k : Fin k0_t1_loop.trips, k0_cond1 k = 1#1 := by decide +kernel
theorem h2_false : ∀ k : Fin k0_t1_loop.trips, ¬ k0_cond2 k = 1#1 := by decide +kernel
theorem h5_false : ∀ k : Fin k0_t3_loop.trips, ¬ k0_cond5 k = 1#1 := by decide +kernel
theorem h3_iff : ∀ k : Fin k0_t2_loop.trips, k0_cond3 k = 1#1 ↔ k.val < 30 := by decide +kernel
theorem h4_iff : ∀ k : Fin k0_t2_loop.trips, k0_cond4 k = 1#1 ↔ ¬ k.val < 30 := by decide +kernel
theorem h6_iff : ∀ k : Fin k0_t3_loop.trips, k0_cond6 k = 1#1 ↔ k.val < 9 := by decide +kernel
theorem trips1 : k0_t1_loop.trips = 12 := by decide +kernel
theorem trips2 : k0_t2_loop.trips = 42 := by decide +kernel
theorem trips3 : k0_t3_loop.trips = 21 := by decide +kernel
theorem o1_m : ∀ k : Fin k0_t1_loop.trips, k0_off1 k = ![(9 + k.val) % 12] := by decide +kernel
theorem o1_d0 : ∀ k : Fin k0_t1_loop.trips, k0_off2 k = ![(9 + k.val) % 12, 0, 256 * 0] := by decide +kernel
theorem o1_s0 : ∀ k : Fin k0_t1_loop.trips, k0_off3 k 0#32 = ![512 * (0 / 2), (0 % 2) * 10752 + 256 * k.val] := by decide +kernel
theorem o1_d1 : ∀ k : Fin k0_t1_loop.trips, k0_off4 k = ![(9 + k.val) % 12, 0, 256 * 1] := by decide +kernel
theorem o1_s1 : ∀ k : Fin k0_t1_loop.trips, k0_off3 k 10752#32 = ![512 * (1 / 2), (1 % 2) * 10752 + 256 * k.val] := by decide +kernel
theorem o1_d2 : ∀ k : Fin k0_t1_loop.trips, k0_off5 k = ![(9 + k.val) % 12, 0, 256 * 2] := by decide +kernel
theorem o1_s2 : ∀ k : Fin k0_t1_loop.trips, k0_off6 k 0#32 = ![512 * (2 / 2), (2 % 2) * 10752 + 256 * k.val] := by decide +kernel
theorem o1_d3 : ∀ k : Fin k0_t1_loop.trips, k0_off7 k = ![(9 + k.val) % 12, 0, 256 * 3] := by decide +kernel
theorem o1_s3 : ∀ k : Fin k0_t1_loop.trips, k0_off6 k 10752#32 = ![512 * (3 / 2), (3 % 2) * 10752 + 256 * k.val] := by decide +kernel
theorem o1_d4 : ∀ k : Fin k0_t1_loop.trips, k0_off8 k = ![(9 + k.val) % 12, 0, 256 * 4] := by decide +kernel
theorem o1_s4 : ∀ k : Fin k0_t1_loop.trips, k0_off9 k 0#32 = ![512 * (4 / 2), (4 % 2) * 10752 + 256 * k.val] := by decide +kernel
theorem o1_d5 : ∀ k : Fin k0_t1_loop.trips, k0_off10 k = ![(9 + k.val) % 12, 0, 256 * 5] := by decide +kernel
theorem o1_s5 : ∀ k : Fin k0_t1_loop.trips, k0_off9 k 10752#32 = ![512 * (5 / 2), (5 % 2) * 10752 + 256 * k.val] := by decide +kernel
theorem o1_d6 : ∀ k : Fin k0_t1_loop.trips, k0_off11 k = ![(9 + k.val) % 12, 0, 256 * 6] := by decide +kernel
theorem o1_s6 : ∀ k : Fin k0_t1_loop.trips, k0_off12 k 0#32 = ![512 * (6 / 2), (6 % 2) * 10752 + 256 * k.val] := by decide +kernel
theorem o1_d7 : ∀ k : Fin k0_t1_loop.trips, k0_off13 k = ![(9 + k.val) % 12, 0, 256 * 7] := by decide +kernel
theorem o1_s7 : ∀ k : Fin k0_t1_loop.trips, k0_off12 k 10752#32 = ![512 * (7 / 2), (7 % 2) * 10752 + 256 * k.val] := by decide +kernel
theorem o1_d8 : ∀ k : Fin k0_t1_loop.trips, k0_off14 k = ![(9 + k.val) % 12, 0, 256 * 8] := by decide +kernel
theorem o1_s8 : ∀ k : Fin k0_t1_loop.trips, k0_off15 k 0#32 = ![512 * (8 / 2), (8 % 2) * 10752 + 256 * k.val] := by decide +kernel
theorem o1_d9 : ∀ k : Fin k0_t1_loop.trips, k0_off16 k = ![(9 + k.val) % 12, 0, 256 * 9] := by decide +kernel
theorem o1_s9 : ∀ k : Fin k0_t1_loop.trips, k0_off15 k 10752#32 = ![512 * (9 / 2), (9 % 2) * 10752 + 256 * k.val] := by decide +kernel
theorem o1_d10 : ∀ k : Fin k0_t1_loop.trips, k0_off17 k = ![(9 + k.val) % 12, 0, 256 * 10] := by decide +kernel
theorem o1_s10 : ∀ k : Fin k0_t1_loop.trips, k0_off18 k 0#32 = ![512 * (10 / 2), (10 % 2) * 10752 + 256 * k.val] := by decide +kernel
theorem o1_d11 : ∀ k : Fin k0_t1_loop.trips, k0_off19 k = ![(9 + k.val) % 12, 0, 256 * 11] := by decide +kernel
theorem o1_s11 : ∀ k : Fin k0_t1_loop.trips, k0_off18 k 10752#32 = ![512 * (11 / 2), (11 % 2) * 10752 + 256 * k.val] := by decide +kernel
theorem o1_d12 : ∀ k : Fin k0_t1_loop.trips, k0_off20 k = ![(9 + k.val) % 12, 0, 256 * 12] := by decide +kernel
theorem o1_s12 : ∀ k : Fin k0_t1_loop.trips, k0_off21 k 0#32 = ![512 * (12 / 2), (12 % 2) * 10752 + 256 * k.val] := by decide +kernel
theorem o1_d13 : ∀ k : Fin k0_t1_loop.trips, k0_off22 k = ![(9 + k.val) % 12, 0, 256 * 13] := by decide +kernel
theorem o1_s13 : ∀ k : Fin k0_t1_loop.trips, k0_off21 k 10752#32 = ![512 * (13 / 2), (13 % 2) * 10752 + 256 * k.val] := by decide +kernel
theorem o1_d14 : ∀ k : Fin k0_t1_loop.trips, k0_off23 k = ![(9 + k.val) % 12, 0, 256 * 14] := by decide +kernel
theorem o1_s14 : ∀ k : Fin k0_t1_loop.trips, k0_off24 k 0#32 = ![512 * (14 / 2), (14 % 2) * 10752 + 256 * k.val] := by decide +kernel
theorem o1_d15 : ∀ k : Fin k0_t1_loop.trips, k0_off25 k = ![(9 + k.val) % 12, 0, 256 * 15] := by decide +kernel
theorem o1_s15 : ∀ k : Fin k0_t1_loop.trips, k0_off24 k 10752#32 = ![512 * (15 / 2), (15 % 2) * 10752 + 256 * k.val] := by decide +kernel
theorem o1_d16 : ∀ k : Fin k0_t1_loop.trips, k0_off26 k = ![(9 + k.val) % 12, 0, 256 * 16] := by decide +kernel
theorem o1_s16 : ∀ k : Fin k0_t1_loop.trips, k0_off27 k 0#32 = ![512 * (16 / 2), (16 % 2) * 10752 + 256 * k.val] := by decide +kernel
theorem o1_d17 : ∀ k : Fin k0_t1_loop.trips, k0_off28 k = ![(9 + k.val) % 12, 0, 256 * 17] := by decide +kernel
theorem o1_s17 : ∀ k : Fin k0_t1_loop.trips, k0_off27 k 10752#32 = ![512 * (17 / 2), (17 % 2) * 10752 + 256 * k.val] := by decide +kernel
theorem o1_d18 : ∀ k : Fin k0_t1_loop.trips, k0_off29 k = ![(9 + k.val) % 12, 0, 256 * 18] := by decide +kernel
theorem o1_s18 : ∀ k : Fin k0_t1_loop.trips, k0_off30 k 0#32 = ![512 * (18 / 2), (18 % 2) * 10752 + 256 * k.val] := by decide +kernel
theorem o1_d19 : ∀ k : Fin k0_t1_loop.trips, k0_off31 k = ![(9 + k.val) % 12, 0, 256 * 19] := by decide +kernel
theorem o1_s19 : ∀ k : Fin k0_t1_loop.trips, k0_off30 k 10752#32 = ![512 * (19 / 2), (19 % 2) * 10752 + 256 * k.val] := by decide +kernel
theorem o2_m : ∀ k : Fin k0_t2_loop.trips, k0_off50 k = ![(9 + (k.val + 12)) % 12] := by decide +kernel
theorem o2_d0 : ∀ k : Fin k0_t2_loop.trips, k0_off51 k = ![(9 + (k.val + 12)) % 12, 0, 256 * 0] := by decide +kernel
theorem o2_s0 : ∀ k : Fin k0_t2_loop.trips, k0_off52 k 0#32 = ![512 * (0 / 2), (0 % 2) * 10752 + 256 * (k.val + 12)] := by decide +kernel
theorem o2_d1 : ∀ k : Fin k0_t2_loop.trips, k0_off53 k = ![(9 + (k.val + 12)) % 12, 0, 256 * 1] := by decide +kernel
theorem o2_s1 : ∀ k : Fin k0_t2_loop.trips, k0_off52 k 10752#32 = ![512 * (1 / 2), (1 % 2) * 10752 + 256 * (k.val + 12)] := by decide +kernel
theorem o2_d2 : ∀ k : Fin k0_t2_loop.trips, k0_off54 k = ![(9 + (k.val + 12)) % 12, 0, 256 * 2] := by decide +kernel
theorem o2_s2 : ∀ k : Fin k0_t2_loop.trips, k0_off55 k 0#32 = ![512 * (2 / 2), (2 % 2) * 10752 + 256 * (k.val + 12)] := by decide +kernel
theorem o2_d3 : ∀ k : Fin k0_t2_loop.trips, k0_off56 k = ![(9 + (k.val + 12)) % 12, 0, 256 * 3] := by decide +kernel
theorem o2_s3 : ∀ k : Fin k0_t2_loop.trips, k0_off55 k 10752#32 = ![512 * (3 / 2), (3 % 2) * 10752 + 256 * (k.val + 12)] := by decide +kernel
theorem o2_d4 : ∀ k : Fin k0_t2_loop.trips, k0_off57 k = ![(9 + (k.val + 12)) % 12, 0, 256 * 4] := by decide +kernel
theorem o2_s4 : ∀ k : Fin k0_t2_loop.trips, k0_off58 k 0#32 = ![512 * (4 / 2), (4 % 2) * 10752 + 256 * (k.val + 12)] := by decide +kernel
theorem o2_d5 : ∀ k : Fin k0_t2_loop.trips, k0_off59 k = ![(9 + (k.val + 12)) % 12, 0, 256 * 5] := by decide +kernel
theorem o2_s5 : ∀ k : Fin k0_t2_loop.trips, k0_off58 k 10752#32 = ![512 * (5 / 2), (5 % 2) * 10752 + 256 * (k.val + 12)] := by decide +kernel
theorem o2_d6 : ∀ k : Fin k0_t2_loop.trips, k0_off60 k = ![(9 + (k.val + 12)) % 12, 0, 256 * 6] := by decide +kernel
theorem o2_s6 : ∀ k : Fin k0_t2_loop.trips, k0_off61 k 0#32 = ![512 * (6 / 2), (6 % 2) * 10752 + 256 * (k.val + 12)] := by decide +kernel
theorem o2_d7 : ∀ k : Fin k0_t2_loop.trips, k0_off62 k = ![(9 + (k.val + 12)) % 12, 0, 256 * 7] := by decide +kernel
theorem o2_s7 : ∀ k : Fin k0_t2_loop.trips, k0_off61 k 10752#32 = ![512 * (7 / 2), (7 % 2) * 10752 + 256 * (k.val + 12)] := by decide +kernel
theorem o2_d8 : ∀ k : Fin k0_t2_loop.trips, k0_off63 k = ![(9 + (k.val + 12)) % 12, 0, 256 * 8] := by decide +kernel
theorem o2_s8 : ∀ k : Fin k0_t2_loop.trips, k0_off64 k 0#32 = ![512 * (8 / 2), (8 % 2) * 10752 + 256 * (k.val + 12)] := by decide +kernel
theorem o2_d9 : ∀ k : Fin k0_t2_loop.trips, k0_off65 k = ![(9 + (k.val + 12)) % 12, 0, 256 * 9] := by decide +kernel
theorem o2_s9 : ∀ k : Fin k0_t2_loop.trips, k0_off64 k 10752#32 = ![512 * (9 / 2), (9 % 2) * 10752 + 256 * (k.val + 12)] := by decide +kernel
theorem o2_d10 : ∀ k : Fin k0_t2_loop.trips, k0_off66 k = ![(9 + (k.val + 12)) % 12, 0, 256 * 10] := by decide +kernel
theorem o2_s10 : ∀ k : Fin k0_t2_loop.trips, k0_off67 k 0#32 = ![512 * (10 / 2), (10 % 2) * 10752 + 256 * (k.val + 12)] := by decide +kernel
theorem o2_d11 : ∀ k : Fin k0_t2_loop.trips, k0_off68 k = ![(9 + (k.val + 12)) % 12, 0, 256 * 11] := by decide +kernel
theorem o2_s11 : ∀ k : Fin k0_t2_loop.trips, k0_off67 k 10752#32 = ![512 * (11 / 2), (11 % 2) * 10752 + 256 * (k.val + 12)] := by decide +kernel
theorem o2_d12 : ∀ k : Fin k0_t2_loop.trips, k0_off69 k = ![(9 + (k.val + 12)) % 12, 0, 256 * 12] := by decide +kernel
theorem o2_s12 : ∀ k : Fin k0_t2_loop.trips, k0_off70 k 0#32 = ![512 * (12 / 2), (12 % 2) * 10752 + 256 * (k.val + 12)] := by decide +kernel
theorem o2_d13 : ∀ k : Fin k0_t2_loop.trips, k0_off71 k = ![(9 + (k.val + 12)) % 12, 0, 256 * 13] := by decide +kernel
theorem o2_s13 : ∀ k : Fin k0_t2_loop.trips, k0_off70 k 10752#32 = ![512 * (13 / 2), (13 % 2) * 10752 + 256 * (k.val + 12)] := by decide +kernel
theorem o2_d14 : ∀ k : Fin k0_t2_loop.trips, k0_off72 k = ![(9 + (k.val + 12)) % 12, 0, 256 * 14] := by decide +kernel
theorem o2_s14 : ∀ k : Fin k0_t2_loop.trips, k0_off73 k 0#32 = ![512 * (14 / 2), (14 % 2) * 10752 + 256 * (k.val + 12)] := by decide +kernel
theorem o2_d15 : ∀ k : Fin k0_t2_loop.trips, k0_off74 k = ![(9 + (k.val + 12)) % 12, 0, 256 * 15] := by decide +kernel
theorem o2_s15 : ∀ k : Fin k0_t2_loop.trips, k0_off73 k 10752#32 = ![512 * (15 / 2), (15 % 2) * 10752 + 256 * (k.val + 12)] := by decide +kernel
theorem o2_d16 : ∀ k : Fin k0_t2_loop.trips, k0_off75 k = ![(9 + (k.val + 12)) % 12, 0, 256 * 16] := by decide +kernel
theorem o2_s16 : ∀ k : Fin k0_t2_loop.trips, k0_off76 k 0#32 = ![512 * (16 / 2), (16 % 2) * 10752 + 256 * (k.val + 12)] := by decide +kernel
theorem o2_d17 : ∀ k : Fin k0_t2_loop.trips, k0_off77 k = ![(9 + (k.val + 12)) % 12, 0, 256 * 17] := by decide +kernel
theorem o2_s17 : ∀ k : Fin k0_t2_loop.trips, k0_off76 k 10752#32 = ![512 * (17 / 2), (17 % 2) * 10752 + 256 * (k.val + 12)] := by decide +kernel
theorem o2_d18 : ∀ k : Fin k0_t2_loop.trips, k0_off78 k = ![(9 + (k.val + 12)) % 12, 0, 256 * 18] := by decide +kernel
theorem o2_s18 : ∀ k : Fin k0_t2_loop.trips, k0_off79 k 0#32 = ![512 * (18 / 2), (18 % 2) * 10752 + 256 * (k.val + 12)] := by decide +kernel
theorem o2_d19 : ∀ k : Fin k0_t2_loop.trips, k0_off80 k = ![(9 + (k.val + 12)) % 12, 0, 256 * 19] := by decide +kernel
theorem o2_s19 : ∀ k : Fin k0_t2_loop.trips, k0_off79 k 10752#32 = ![512 * (19 / 2), (19 % 2) * 10752 + 256 * (k.val + 12)] := by decide +kernel
theorem o2_wm : ∀ k : Fin k0_t2_loop.trips, k0_off35 k = ![(9 + k.val) % 12] := by decide +kernel
theorem o2_dm : ∀ k : Fin k0_t2_loop.trips, k0_off81 k = ![(9 + (k.val + 12)) % 12] := by decide +kernel
theorem o2_dd : ∀ k : Fin k0_t2_loop.trips, k0_off82 k = ![(9 + (k.val + 12)) % 12, 0, 0] := by decide +kernel
theorem o2_ds : ∀ k : Fin k0_t2_loop.trips, ¬ k.val < 30 → k0_off83 k = ![512 * (k.val + 12 - 42), 0] := by decide +kernel
theorem o3_wm : ∀ k : Fin k0_t3_loop.trips, k0_off84 k = ![(9 + (k.val + 42)) % 12] := by decide +kernel
theorem o3_m : ∀ k : Fin k0_t3_loop.trips, k0_off119 k = ![(9 + (k.val + 42 + 12)) % 12] := by decide +kernel
theorem o3_d : ∀ k : Fin k0_t3_loop.trips, k0_off120 k = ![(9 + (k.val + 42 + 12)) % 12, 0, 0] := by decide +kernel
theorem o3_s : ∀ k : Fin k0_t3_loop.trips, k.val < 9 → k0_off121 k = ![512 * (k.val + 42 + 12 - 42), 0] := by decide +kernel
theorem o3_r : ∀ k : Fin k0_t3_loop.trips, k0_off87 k = ![(9 + (k.val + 42)) % 12, 0, 0] := by decide +kernel

theorem o2_r0 : ∀ k : Fin k0_t2_loop.trips, k0_off37 k = ![(9 + k.val) % 12, 0, 0] := by decide +kernel
theorem o2_r1 : ∀ k : Fin k0_t2_loop.trips, k0_off38 k = ![(9 + k.val) % 12, 0, 512] := by decide +kernel
theorem o2_r2 : ∀ k : Fin k0_t2_loop.trips, k0_off39 k = ![(9 + k.val) % 12, 0, 1024] := by decide +kernel
theorem o2_r3 : ∀ k : Fin k0_t2_loop.trips, k0_off40 k = ![(9 + k.val) % 12, 0, 1536] := by decide +kernel
theorem o2_r4 : ∀ k : Fin k0_t2_loop.trips, k0_off41 k = ![(9 + k.val) % 12, 0, 2048] := by decide +kernel
theorem o2_r5 : ∀ k : Fin k0_t2_loop.trips, k0_off42 k = ![(9 + k.val) % 12, 0, 2560] := by decide +kernel
theorem o2_r6 : ∀ k : Fin k0_t2_loop.trips, k0_off43 k = ![(9 + k.val) % 12, 0, 3072] := by decide +kernel
theorem o2_r7 : ∀ k : Fin k0_t2_loop.trips, k0_off44 k = ![(9 + k.val) % 12, 0, 3584] := by decide +kernel
theorem o2_r8 : ∀ k : Fin k0_t2_loop.trips, k0_off45 k = ![(9 + k.val) % 12, 0, 4096] := by decide +kernel
theorem o2_r9 : ∀ k : Fin k0_t2_loop.trips, k0_off46 k = ![(9 + k.val) % 12, 0, 4608] := by decide +kernel

/-- A box of 512 columns of a slot lies in the slot. -/
theorem box_in {s n : ℕ} {off : Fin 3 → ℕ} {inb} (h : off = ![s, 0, n]) :
    (ringM.access (Rect.unit (s := S12x512x5120) off S1x512x512.size inb)).set ⊆ sSet s := by
  subst h
  show ((View.whole cc0_scratch0).slice _).set ⊆ _
  rw [View.set_slice_whole]
  intro i hi
  rw [Rect.mem_set_unit] at hi
  have a0 := hi 0
  simp at a0
  simp only [sSet, Finset.mem_filter, Finset.mem_univ, true_and]
  omega

end Cert.KernelIdeal.Hand
-- ==== Proof.KernelIdealState.lean ====
/-
The state of the ring between two trips: the weights of the tiles already used and not yet started lie at rest, the
tiles between are in flight, the other slots are free; and the start of a tile and the end of one as moves of this state.
-/
module

public import proofs.«01_k».proof.Proof.KernelIdealOffs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)

/-- A buffer held whole at contents `f`, through the memref the program names it by. -/
abbrev bufPt {sp : Space} {sh : Shape} {e : EltTy} (m : Memref sig .tc sp sh e) (f : Buf (Elt F) (m.view.loc (c : Thread nD τ))) : sProp 𝕄 :=
  m.view.loc (c : Thread nD τ) ↦{fullShare} f
/-- A window's buffer held by its own elements. -/
abbrev winPt {sp : Space} {sh : Shape} {e : EltTy} (m : Memref sig .tc sp sh e) (f : Buf (Elt F) (m.view.loc (c : Thread nD τ))) : sProp 𝕄 :=
  m.view.loc (c : Thread nD τ) ↦[m.view.set]{fullShare} f

/-- One slot of the ring as a view of its own. -/
theorem slot_inb {s : ℕ} (h : s < 12) : ∀ a, ![s, 0, 0] a + S1x512x5120.size a ≤ S12x512x5120.size a := by
  intro a
  match a with
  | 0 => show s + 1 ≤ 12; omega
  | 1 => show 0 + 512 ≤ 512; omega
  | 2 => show 0 + 5120 ≤ 5120; omega

abbrev slotM (s : ℕ) (h : s < 12) : Memref sig .tc .vmem S512x5120 .i8 :=
  (ringM.slice (Rect.unit (s := S12x512x5120) ![s, 0, 0] S1x512x5120.size (slot_inb h)) (fun _ => rfl)).squeeze S512x5120 squeezes_S1x512x5120_S512x5120

theorem slotB_eq {s : ℕ} (h : s < 12) (f : S12x512x5120.Idx → Elt F .i8) :
    (slotB c s f : sProp 𝕄) = iprop((slotM s h).view.loc (c : Thread nD τ) ↦[(slotM s h).view.set]{fullShare} f) := by
  rw [set_sSet rfl]; rfl

theorem slotB_open {s : ℕ} (h : s < 12) (f : S12x512x5120.Idx → Elt F .i8) :
    (slotB c s f : sProp 𝕄) ⊢ iprop((slotM s h).view.loc (c : Thread nD τ) ↦[(slotM s h).view.set]{fullShare} f) := by
  rw [slotB_eq c h]

theorem slotB_close {s : ℕ} (h : s < 12) (f : S12x512x5120.Idx → Elt F .i8) :
    iprop((slotM s h).view.loc (c : Thread nD τ) ↦[(slotM s h).view.set]{fullShare} f) ⊢ (slotB c s f : sProp 𝕄) := by
  rw [slotB_eq c h]

/-- A box of 512 columns of a slot, stated as the elements of the slot's own view. -/
theorem box_le {s n : ℕ} (hs : s < 12) {off : Fin 3 → ℕ} {inb} (h : off = ![s, 0, n]) :
    LE.le (α := Finset (slotM s hs).view.ty.Idx) (ringM.access (Rect.unit (s := S12x512x5120) off S1x512x512.size inb)).set (slotM s hs).view.set := by
  rw [set_sSet rfl]; exact box_in h

/-- The whole slot, read through the ring. -/
theorem slot_le {s : ℕ} (hs : s < 12) {off : Fin 3 → ℕ} {inb} (h : off = ![s, 0, 0]) :
    LE.le (α := Finset (slotM s hs).view.ty.Idx) (ringM.access (Rect.unit (s := S12x512x5120) off S1x512x5120.size inb)).set (slotM s hs).view.set := by
  subst h
  rw [set_sSet rfl]
  show ((View.whole cc0_scratch0).slice _).set ⊆ _
  rw [View.set_slice_whole]
  intro i hi
  rw [Rect.mem_set_unit] at hi
  have a0 := hi 0
  simp at a0
  simp only [sSet, Finset.mem_filter, Finset.mem_univ, true_and]
  omega

/-- Tile `t`'s weight at rest, and tile `t` in flight: the first 42 are gate-up tiles, the others down tiles. -/
def homeT (t : ℕ) : sProp 𝕄 := if t < 42 then homeG c W t else dSrcB c W' (t - 42)
def flightT (t : ℕ) : sProp 𝕄 := if t < 42 then batG c W t 20 else batD c W' t 1

/-- Tiles `[lo, hi)` in flight. -/
def ringSt (lo hi : ℕ) : sProp 𝕄 :=
  iprop((bigSep (Ring.rangeSet 63 0 lo) fun t => homeT c W W' t.val) ∗ (bigSep (Ring.rangeSet 63 lo hi) fun t => flightT c W W' t.val)
    ∗ (bigSep (Ring.rangeSet 63 hi 63) fun t => homeT c W W' t.val) ∗ (bigSep (Ring.rangeSet 75 hi (lo + 12)) fun t => freeS (F := F) c t.val))
/-- The same without tile `lo`. -/
def ringRest (lo hi : ℕ) : sProp 𝕄 :=
  iprop((bigSep (Ring.rangeSet 63 0 lo) fun t => homeT c W W' t.val) ∗ (bigSep (Ring.rangeSet 63 (lo + 1) hi) fun t => flightT c W W' t.val)
    ∗ (bigSep (Ring.rangeSet 63 hi 63) fun t => homeT c W W' t.val) ∗ (bigSep (Ring.rangeSet 75 hi (lo + 12)) fun t => freeS (F := F) c t.val))
/-- The same with tile `hi` taken off the front to be started. -/
def ringStart (lo hi : ℕ) : sProp 𝕄 :=
  iprop((bigSep (Ring.rangeSet 63 0 lo) fun t => homeT c W W' t.val) ∗ (bigSep (Ring.rangeSet 63 lo hi) fun t => flightT c W W' t.val)
    ∗ (bigSep (Ring.rangeSet 63 (hi + 1) 63) fun t => homeT c W W' t.val) ∗ (bigSep (Ring.rangeSet 75 (hi + 1) (lo + 12)) fun t => freeS (F := F) c t.val))

theorem ringSt_take {lo hi : ℕ} (h : lo < hi) (hlo : lo < 63) :
    ringSt c W W' lo hi ⊢ iprop(flightT c W W' lo ∗ ringRest c W W' lo hi) := by
  unfold ringSt ringRest
  rw [Ring.bigSep_rangeSet_head (lo := lo) h hlo]
  iintro ⟨H1, ⟨H2, H3⟩, H4, H5⟩
  isplitl [H2]; · iexact H2
  isplitl [H1]; · iexact H1
  isplitl [H3]; · iexact H3
  isplitl [H4]; · iexact H4
  iexact H5

theorem cellR_add (t : ℕ) : cellR (t + 12) = cellR t := Fin.ext (by show 6 + (9 + (t + 12)) % 12 = 6 + (9 + t) % 12; omega)

theorem freeS_add (t : ℕ) : (freeS c (t + 12) : sProp 𝕄) = freeS c t := by
  unfold freeS
  rw [cellR_add, show (9 + (t + 12)) % 12 = (9 + t) % 12 by omega]

theorem ringSt_put {lo hi : ℕ} (hlo : lo < 63) (h : hi ≤ lo + 12) :
    iprop(homeT c W W' lo ∗ freeS (F := F) c lo ∗ ringRest c W W' lo hi) ⊢ ringSt c W W' (lo + 1) hi := by
  unfold ringSt ringRest
  rw [Ring.bigSep_rangeSet_last (lo := 0) (hi := lo + 1) (by omega) (by omega)]
  rw [Ring.bigSep_rangeSet_last (lo := hi) (hi := lo + 1 + 12) (by omega) (by omega)]
  rw [show (freeS c (⟨lo + 1 + 12 - 1, by omega⟩ : Fin 75).val : sProp 𝕄) = freeS c lo from freeS_add c lo]
  iintro ⟨HH, HF, H1, H2, H3, H4⟩
  isplitl [HH H1]
  · isplitl [HH]; · iexact HH
    iexact H1
  isplitl [H2]; · iexact H2
  isplitl [H3]; · iexact H3
  isplitl [HF]; · iexact HF
  iexact H4

theorem ringSt_pull {lo hi : ℕ} (hhi : hi < 63) (h : hi < lo + 12) :
    ringSt c W W' lo hi ⊢ iprop(homeT c W W' hi ∗ freeS (F := F) c hi ∗ ringStart c W W' lo hi) := by
  unfold ringSt ringStart
  rw [Ring.bigSep_rangeSet_head (lo := hi) (hi := 63) hhi hhi]
  rw [Ring.bigSep_rangeSet_head (lo := hi) (hi := lo + 12) h (by omega)]
  iintro ⟨H1, H2, ⟨H3, H4⟩, ⟨H5, H6⟩⟩
  isplitl [H3]; · iexact H3
  isplitl [H5]; · iexact H5
  isplitl [H1]; · iexact H1
  isplitl [H2]; · iexact H2
  isplitl [H4]; · iexact H4
  iexact H6

theorem ringSt_push {lo hi : ℕ} (hhi : hi < 63) (h : lo ≤ hi) :
    iprop(flightT c W W' hi ∗ ringStart c W W' lo hi) ⊢ ringSt c W W' lo (hi + 1) := by
  unfold ringSt ringStart
  rw [Ring.bigSep_rangeSet_last (lo := lo) (hi := hi + 1) (by omega) (by omega)]
  iintro ⟨HH, H1, H2, H3, H4⟩
  isplitl [H1]; · iexact H1
  isplitl [HH H2]
  · isplitl [HH]; · iexact HH
    iexact H2
  isplitl [H3]; · iexact H3
  iexact H4

/-- A gate-up tile about to be started. -/
theorem start_gu {lo hi : ℕ} (hhi : hi < 42) (h : hi < lo + 12) :
    ringSt c W W' lo hi ⊢ iprop(|={Set.univ}=> ∃ f, progG c W hi 0 f ∗ ringStart c W W' lo hi) := by
  refine (ringSt_pull c W W' (by omega) h).trans ?_
  unfold homeT freeS
  rw [if_pos hhi]
  iintro ⟨HH, ⟨HC, %f, HS⟩, HR⟩
  imod (Transfers.batch_alloc' (Lvl := ℕ) (countersEmb (U := Pipeline.UD sig nD τ)) (c : Thread nD τ) () NG (delG c W hi) (sm := SemLoc.dma (cellR hi)) (E := Set.univ)) $$ HC with HB
  imodintro
  iexists f
  isplitl [HH HS HB]
  · iapply (progG_start c W hi f)
    isplitl [HH]; · iexact HH
    isplitl [HS]; · iexact HS
    iexact HB
  iexact HR

theorem finish_gu {lo hi : ℕ} (hhi : hi < 42) (h : lo ≤ hi) (f : S12x512x5120.Idx → Elt F .i8) :
    iprop(progG c W hi 20 f ∗ ringStart c W W' lo hi) ⊢ ringSt c W W' lo (hi + 1) := by
  refine (sep_mono (progG_end c W hi f) .rfl).trans ?_
  refine BIBase.Entails.trans ?_ (ringSt_push c W W' (by omega) h)
  unfold flightT; rw [if_pos hhi]

theorem start_dn {lo hi : ℕ} (hhi : ¬ hi < 42) (hhi' : hi < 63) (h : hi < lo + 12) :
    ringSt c W W' lo hi ⊢ iprop(|={Set.univ}=> ∃ f, (dSrcB c W' (hi - 42) ∗ slotB c ((9 + hi) % 12) f ∗ batD c W' hi 0) ∗ ringStart c W W' lo hi) := by
  refine (ringSt_pull c W W' hhi' h).trans ?_
  unfold homeT freeS
  rw [if_neg hhi]
  iintro ⟨HH, ⟨HC, %f, HS⟩, HR⟩
  imod (Transfers.batch_alloc' (Lvl := ℕ) (countersEmb (U := Pipeline.UD sig nD τ)) (c : Thread nD τ) () ND (delD c W' hi) (sm := SemLoc.dma (cellR hi)) (E := Set.univ)) $$ HC with HB
  imodintro
  iexists f
  isplitl [HH HS HB]
  · isplitl [HH]; · iexact HH
    isplitl [HS]; · iexact HS
    iexact HB
  iexact HR

theorem finish_dn {lo hi : ℕ} (hhi : ¬ hi < 42) (hhi' : hi < 63) (h : lo ≤ hi) :
    iprop(batD c W' hi 1 ∗ ringStart c W W' lo hi) ⊢ ringSt c W W' lo (hi + 1) := by
  refine BIBase.Entails.trans ?_ (ringSt_push c W W' hhi' h)
  unfold flightT; rw [if_neg hhi]

/-- A tile used up: its slot is free again. -/
theorem used_gu {lo hi : ℕ} (hlo : lo < 42) (h : hi ≤ lo + 12) (f : S12x512x5120.Idx → Elt F .i8) :
    iprop(slotB c ((9 + lo) % 12) f ∗ homeG c W lo ∗ semVal ((c : Thread nD τ), .dma (cellR lo)) 0 ∗ ringRest c W W' lo hi) ⊢ ringSt c W W' (lo + 1) hi := by
  refine BIBase.Entails.trans ?_ (ringSt_put c W W' (by omega) h)
  unfold homeT freeS
  rw [if_pos hlo]
  iintro ⟨HS, HH, HC, HR⟩
  isplitl [HH]; · iexact HH
  isplitl [HC HS]
  · isplitl [HC]; · iexact HC
    iexists f; iexact HS
  iexact HR

theorem used_dn {lo hi : ℕ} (hlo : ¬ lo < 42) (hlo' : lo < 63) (h : hi ≤ lo + 12) (f : S12x512x5120.Idx → Elt F .i8) :
    iprop(slotB c ((9 + lo) % 12) f ∗ dSrcB c W' (lo - 42) ∗ semVal ((c : Thread nD τ), .dma (cellR lo)) 0 ∗ ringRest c W W' lo hi) ⊢ ringSt c W W' (lo + 1) hi := by
  refine BIBase.Entails.trans ?_ (ringSt_put c W W' hlo' h)
  unfold homeT freeS
  rw [if_neg hlo]
  iintro ⟨HS, HH, HC, HR⟩
  isplitl [HH]; · iexact HH
  isplitl [HC HS]
  · isplitl [HC]; · iexact HC
    iexists f; iexact HS
  iexact HR

theorem ret_bind {E : Type → Type} {α β : Type} (a : α) (k : α → Prog E β) : (Prog.ret a).bind k = k a := rfl

end Cert.KernelIdeal.Hand
-- ==== Proof.KernelIdealStep1.lean ====
/-
One trip of the loop that starts the first twelve tiles.
-/
module

public import proofs.«01_k».proof.Proof.KernelIdealState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

theorem step1 (k : Fin k0_t1_loop.trips) :
    ringSt c W W' 0 k.val ⊢ wp frame (wpE (defs₀ (F := F)) Variants.none (c : Thread nD τ) none) Set.univ
      (k0_t1_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) k ()) (fun _ => ringSt c W W' 0 (k.val + 1)) := by
  have hk : k.val < 12 := trips1 ▸ k.isLt
  unfold k0_t1_body
  dsimp only
  rw [dif_pos (h1_true k), dif_neg (h2_false k)]
  rw [k0_part1_eq_skeleton, k0_part2_eq_skeleton, k0_part3_eq_skeleton]
  unfold k0_part1_skel k0_part2_skel k0_part3_skel
  simp only [bind_assoc, pure_bind]
  iintro HR
  imod (start_gu c W W' (lo := 0) (hi := k.val) (by omega) (by omega)) $$ HR with ⟨%f, HP, HR⟩
  iapply (issue_next c W f (t := k.val) (j := 0) (by omega) (by decide) (o1_m k) (o1_d0 k) (o1_s0 k)) $$ HP
  iintro HP
  iapply (issue_next c W f (t := k.val) (j := 1) (by omega) (by decide) (o1_m k) (o1_d1 k) (o1_s1 k)) $$ HP
  iintro HP
  iapply (issue_next c W f (t := k.val) (j := 2) (by omega) (by decide) (o1_m k) (o1_d2 k) (o1_s2 k)) $$ HP
  iintro HP
  iapply (issue_next c W f (t := k.val) (j := 3) (by omega) (by decide) (o1_m k) (o1_d3 k) (o1_s3 k)) $$ HP
  iintro HP
  iapply (issue_next c W f (t := k.val) (j := 4) (by omega) (by decide) (o1_m k) (o1_d4 k) (o1_s4 k)) $$ HP
  iintro HP
  iapply (issue_next c W f (t := k.val) (j := 5) (by omega) (by decide) (o1_m k) (o1_d5 k) (o1_s5 k)) $$ HP
  iintro HP
  iapply (issue_next c W f (t := k.val) (j := 6) (by omega) (by decide) (o1_m k) (o1_d6 k) (o1_s6 k)) $$ HP
  iintro HP
  iapply (issue_next c W f (t := k.val) (j := 7) (by omega) (by decide) (o1_m k) (o1_d7 k) (o1_s7 k)) $$ HP
  iintro HP
  iapply (issue_next c W f (t := k.val) (j := 8) (by omega) (by decide) (o1_m k) (o1_d8 k) (o1_s8 k)) $$ HP
  iintro HP
  iapply (issue_next c W f (t := k.val) (j := 9) (by omega) (by decide) (o1_m k) (o1_d9 k) (o1_s9 k)) $$ HP
  iintro HP
  iapply (issue_next c W f (t := k.val) (j := 10) (by omega) (by decide) (o1_m k) (o1_d10 k) (o1_s10 k)) $$ HP
  iintro HP
  iapply (issue_next c W f (t := k.val) (j := 11) (by omega) (by decide) (o1_m k) (o1_d11 k) (o1_s11 k)) $$ HP
  iintro HP
  iapply (issue_next c W f (t := k.val) (j := 12) (by omega) (by decide) (o1_m k) (o1_d12 k) (o1_s12 k)) $$ HP
  iintro HP
  iapply (issue_next c W f (t := k.val) (j := 13) (by omega) (by decide) (o1_m k) (o1_d13 k) (o1_s13 k)) $$ HP
  iintro HP
  iapply (issue_next c W f (t := k.val) (j := 14) (by omega) (by decide) (o1_m k) (o1_d14 k) (o1_s14 k)) $$ HP
  iintro HP
  iapply (issue_next c W f (t := k.val) (j := 15) (by omega) (by decide) (o1_m k) (o1_d15 k) (o1_s15 k)) $$ HP
  iintro HP
  iapply (issue_next c W f (t := k.val) (j := 16) (by omega) (by decide) (o1_m k) (o1_d16 k) (o1_s16 k)) $$ HP
  iintro HP
  iapply (issue_next c W f (t := k.val) (j := 17) (by omega) (by decide) (o1_m k) (o1_d17 k) (o1_s17 k)) $$ HP
  iintro HP
  iapply (issue_next c W f (t := k.val) (j := 18) (by omega) (by decide) (o1_m k) (o1_d18 k) (o1_s18 k)) $$ HP
  iintro HP
  iapply (issue_next c W f (t := k.val) (j := 19) (by omega) (by decide) (o1_m k) (o1_d19 k) (o1_s19 k)) $$ HP
  iintro HP
  simp only [ret_bind]
  sl_step
  iapply (finish_gu c W W' (by omega) (by omega) f)
  isplitl [HP]; · iexact HP
  iexact HR

end Cert.KernelIdeal.Hand
-- ==== Proof.KernelIdealStep2.lean ====
/-
One trip of the gate-up loop.
-/
module

public import proofs.«01_k».proof.Proof.KernelIdealState
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- What a load of the quantised rows and one of the ring read. -/
abbrev lhsLd (L : S80x5120.Idx → Elt F .bf16) (r : Rect S80x5120) := View.readAt (Elt F) (Memref.whole cc0_scratch1 : Memref sig .tc .vmem S80x5120 .bf16).view r.toLoadRect L
abbrev ringLd (R : S12x512x5120.Idx → Elt F .i8) (r : Rect S12x512x5120) := View.readAt (Elt F) ringM.view r.toLoadRect R
abbrev gusLd (G : Buf (Elt F) (a2.view.loc (c : Thread nD τ))) (r : Rect S84x1x256) := View.readAt (Elt F) a2.view r.toLoadRect G

/-- The tile of activations that trip `k` computes. -/
def actTile (v337 : FVec F S72x1 .f32) (L : S80x5120.Idx → Elt F .bf16) (G : Buf (Elt F) (a2.view.loc (c : Thread nD τ)))
    (k : Fin k0_t2_loop.trips) : FVec F S1x72x256 .f32 :=
  k0_pay3 v337
      (k0_pay2
        (k0_pay1 (lhsLd L (Rect.unit ![0, 0] ![80, 512] inb_S80x5120_S80x512_0_0)) (ringLd (LandG W k.val) (Rect.unit (k0_off37 k) ![1, 512, 512] (k0_off37_inb k)))
          (lhsLd L (Rect.unit ![0, 512] ![80, 512] inb_S80x5120_S80x512_0_512)) (ringLd (LandG W k.val) (Rect.unit (k0_off38 k) ![1, 512, 512] (k0_off38_inb k)))
          (lhsLd L (Rect.unit ![0, 1024] ![80, 512] inb_S80x5120_S80x512_0_1024)) (ringLd (LandG W k.val) (Rect.unit (k0_off39 k) ![1, 512, 512] (k0_off39_inb k))))
          (lhsLd L (Rect.unit ![0, 1536] ![80, 512] inb_S80x5120_S80x512_0_1536)) (ringLd (LandG W k.val) (Rect.unit (k0_off40 k) ![1, 512, 512] (k0_off40_inb k)))
          (lhsLd L (Rect.unit ![0, 2048] ![80, 512] inb_S80x5120_S80x512_0_2048)) (ringLd (LandG W k.val) (Rect.unit (k0_off41 k) ![1, 512, 512] (k0_off41_inb k)))
          (lhsLd L (Rect.unit ![0, 2560] ![80, 512] inb_S80x5120_S80x512_0_2560)) (ringLd (LandG W k.val) (Rect.unit (k0_off42 k) ![1, 512, 512] (k0_off42_inb k)))
          (lhsLd L (Rect.unit ![0, 3072] ![80, 512] inb_S80x5120_S80x512_0_3072)) (ringLd (LandG W k.val) (Rect.unit (k0_off43 k) ![1, 512, 512] (k0_off43_inb k)))
          (lhsLd L (Rect.unit ![0, 3584] ![80, 512] inb_S80x5120_S80x512_0_3584)) (ringLd (LandG W k.val) (Rect.unit (k0_off44 k) ![1, 512, 512] (k0_off44_inb k))))
      (lhsLd L (Rect.unit ![0, 4096] ![80, 512] inb_S80x5120_S80x512_0_4096)) (ringLd (LandG W k.val) (Rect.unit (k0_off45 k) ![1, 512, 512] (k0_off45_inb k)))
          (lhsLd L (Rect.unit ![0, 4608] ![80, 512] inb_S80x5120_S80x512_0_4608)) (ringLd (LandG W k.val) (Rect.unit (k0_off46 k) ![1, 512, 512] (k0_off46_inb k)))
      (gusLd c a2 G (Rect.unit (k0_off47 k) ![1, 1, 256] (k0_off47_inb k)))
      (gusLd c a2 G (Rect.unit (k0_off48 k) ![1, 1, 256] (k0_off48_inb k)))

/-- The activations once trip `k` has stored its tile. -/
def actStep (v337 : FVec F S72x1 .f32) (L : S80x5120.Idx → Elt F .bf16) (G : Buf (Elt F) (a2.view.loc (c : Thread nD τ)))
    (k : Fin k0_t2_loop.trips) (A : S42x72x256.Idx → Elt F .f32) : S42x72x256.Idx → Elt F .f32 :=
  (Memref.whole cc0_scoped2 : Memref sig .tc .vmem S42x72x256 .f32).view.writes (Elt F) A
    [⟨Rect.unit (k0_off49 k) ![1, 72, 256] (k0_off49_inb k), actTile c W a2 v337 L G k⟩]

theorem step2 (k : Fin k0_t2_loop.trips) (v337 : FVec F S72x1 .f32) (v489 : FVec F S72x512 .f32) (cst : F .f32)
    (L : S80x5120.Idx → Elt F .bf16) (G : Buf (Elt F) (a2.view.loc (c : Thread nD τ))) (A : S42x72x256.Idx → Elt F .f32) (Wt : Waits sig Unit) :
    iprop(ringSt c W W' k.val (k.val + 12) ∗ bufPt c (Memref.whole cc0_scratch1) L ∗ winPt c a2 G ∗ bufPt c (Memref.whole cc0_scoped2) A ∗ owes (c : Thread nD τ) 0 Wt)
    ⊢ wp frame (wpE (defs₀ (F := F)) Variants.none (c : Thread nD τ) none) Set.univ
      (k0_t2_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v337 v489 cst k ()) (fun _ => iprop(ringSt c W W' (k.val + 1) (k.val + 13) ∗ bufPt c (Memref.whole cc0_scratch1) L ∗ winPt c a2 G
        ∗ bufPt c (Memref.whole cc0_scoped2) (actStep c W a2 v337 L G k A) ∗ ∃ Wt', owes (c : Thread nD τ) 0 Wt')) := by
  have hk : k.val < 42 := trips2 ▸ k.isLt
  have hs : (9 + k.val) % 12 < 12 := Nat.mod_lt _ (by decide)
  have hS0 := box_le hs (inb := k0_off37_inb k) (o2_r0 k)
  have hS1 := box_le hs (inb := k0_off38_inb k) (o2_r1 k)
  have hS2 := box_le hs (inb := k0_off39_inb k) (o2_r2 k)
  have hS3 := box_le hs (inb := k0_off40_inb k) (o2_r3 k)
  have hS4 := box_le hs (inb := k0_off41_inb k) (o2_r4 k)
  have hS5 := box_le hs (inb := k0_off42_inb k) (o2_r5 k)
  have hS6 := box_le hs (inb := k0_off43_inb k) (o2_r6 k)
  have hS7 := box_le hs (inb := k0_off44_inb k) (o2_r7 k)
  have hS8 := box_le hs (inb := k0_off45_inb k) (o2_r8 k)
  have hS9 := box_le hs (inb := k0_off46_inb k) (o2_r9 k)
  unfold k0_t2_body
  dsimp only
  rw [k0_part7_eq_skeleton, k0_part8_eq_skeleton, k0_part9_eq_skeleton]
  unfold k0_part7_skel k0_part8_skel k0_part9_skel
  simp only [bind_assoc, pure_bind]
  iintro ⟨HR, HL, HG, HA, HW⟩
  ihave HR' := (ringSt_take c W W' (lo := k.val) (hi := k.val + 12) (by omega) (by omega)) $$ HR
  unfold flightT
  rw [if_pos hk]
  icases HR' with ⟨HB, HR⟩
  iapply (wait_gu c W (o2_wm k)) $$ [HB HW]
  · isplitl [HB]; · iexact HB
    iexact HW
  iintro ⟨HD, HC, HW⟩
  ihave HD' := (delG_join c W k.val) $$ HD
  icases HD' with ⟨HS, HH⟩
  simp only [ret_bind]
  generalize hT : (dite (k0_cond3 k = 1#1) _ _) = T
  ihave HS := (slotB_open c hs (LandG W k.val)) $$ HS
  sl_exec
  ihave HS := (slotB_close c hs (LandG W k.val)) $$ HS
  ihave HR := (used_gu c W W' (lo := k.val) (hi := k.val + 12) hk (by omega) (LandG W k.val)) $$ [HS HH HC HR]
  · isplitl [HS]; · iexact HS
    isplitl [HH]; · iexact HH
    isplitl [HC]; · iexact HC
    iexact HR
  subst hT
  by_cases hk30 : k.val < 30
  · rw [dif_pos ((h3_iff k).2 hk30), dif_neg (fun h => (h4_iff k).1 h hk30)]
    rw [k0_part4_eq_skeleton, k0_part5_eq_skeleton, k0_part6_eq_skeleton]
    unfold k0_part4_skel k0_part5_skel k0_part6_skel
    simp only [bind_assoc, pure_bind]
    imod (start_gu c W W' (lo := k.val + 1) (hi := k.val + 12) (by omega) (by omega)) $$ HR with ⟨%f, HP, HR⟩
    iapply (issue_next c W f (t := k.val + 12) (j := 0) (by omega) (by decide) (o2_m k) (o2_d0 k) (o2_s0 k)) $$ HP
    iintro HP
    iapply (issue_next c W f (t := k.val + 12) (j := 1) (by omega) (by decide) (o2_m k) (o2_d1 k) (o2_s1 k)) $$ HP
    iintro HP
    iapply (issue_next c W f (t := k.val + 12) (j := 2) (by omega) (by decide) (o2_m k) (o2_d2 k) (o2_s2 k)) $$ HP
    iintro HP
    iapply (issue_next c W f (t := k.val + 12) (j := 3) (by omega) (by decide) (o2_m k) (o2_d3 k) (o2_s3 k)) $$ HP
    iintro HP
    iapply (issue_next c W f (t := k.val + 12) (j := 4) (by omega) (by decide) (o2_m k) (o2_d4 k) (o2_s4 k)) $$ HP
    iintro HP
    iapply (issue_next c W f (t := k.val + 12) (j := 5) (by omega) (by decide) (o2_m k) (o2_d5 k) (o2_s5 k)) $$ HP
    iintro HP
    iapply (issue_next c W f (t := k.val + 12) (j := 6) (by omega) (by decide) (o2_m k) (o2_d6 k) (o2_s6 k)) $$ HP
    iintro HP
    iapply (issue_next c W f (t := k.val + 12) (j := 7) (by omega) (by decide) (o2_m k) (o2_d7 k) (o2_s7 k)) $$ HP
    iintro HP
    iapply (issue_next c W f (t := k.val + 12) (j := 8) (by omega) (by decide) (o2_m k) (o2_d8 k) (o2_s8 k)) $$ HP
    iintro HP
    iapply (issue_next c W f (t := k.val + 12) (j := 9) (by omega) (by decide) (o2_m k) (o2_d9 k) (o2_s9 k)) $$ HP
    iintro HP
    iapply (issue_next c W f (t := k.val + 12) (j := 10) (by omega) (by decide) (o2_m k) (o2_d10 k) (o2_s10 k)) $$ HP
    iintro HP
    iapply (issue_next c W f (t := k.val + 12) (j := 11) (by omega) (by decide) (o2_m k) (o2_d11 k) (o2_s11 k)) $$ HP
    iintro HP
    iapply (issue_next c W f (t := k.val + 12) (j := 12) (by omega) (by decide) (o2_m k) (o2_d12 k) (o2_s12 k)) $$ HP
    iintro HP
    iapply (issue_next c W f (t := k.val + 12) (j := 13) (by omega) (by decide) (o2_m k) (o2_d13 k) (o2_s13 k)) $$ HP
    iintro HP
    iapply (issue_next c W f (t := k.val + 12) (j := 14) (by omega) (by decide) (o2_m k) (o2_d14 k) (o2_s14 k)) $$ HP
    iintro HP
    iapply (issue_next c W f (t := k.val + 12) (j := 15) (by omega) (by decide) (o2_m k) (o2_d15 k) (o2_s15 k)) $$ HP
    iintro HP
    iapply (issue_next c W f (t := k.val + 12) (j := 16) (by omega) (by decide) (o2_m k) (o2_d16 k) (o2_s16 k)) $$ HP
    iintro HP
    iapply (issue_next c W f (t := k.val + 12) (j := 17) (by omega) (by decide) (o2_m k) (o2_d17 k) (o2_s17 k)) $$ HP
    iintro HP
    iapply (issue_next c W f (t := k.val + 12) (j := 18) (by omega) (by decide) (o2_m k) (o2_d18 k) (o2_s18 k)) $$ HP
    iintro HP
    iapply (issue_next c W f (t := k.val + 12) (j := 19) (by omega) (by decide) (o2_m k) (o2_d19 k) (o2_s19 k)) $$ HP
    iintro HP
    simp only [ret_bind]
    sl_step
    isplitl [HP HR]
    · iapply (finish_gu c W W' (lo := k.val + 1) (hi := k.val + 12) (by omega) (by omega) f)
      isplitl [HP]; · iexact HP
      iexact HR
    isplitl [HL]; · iexact HL
    isplitl [HG]; · iexact HG
    isplitl [HA]; · iexact HA
    iexists _; iexact HW
  · rw [dif_neg (fun h => hk30 ((h3_iff k).1 h)), dif_pos ((h4_iff k).2 hk30)]
    simp only [bind_assoc, pure_bind]
    imod (start_dn c W W' (lo := k.val + 1) (hi := k.val + 12) (by omega) (by omega) (by omega)) $$ HR with ⟨%f, HP, HR⟩
    iapply (issue_dn c W' f (t := k.val + 12) (by omega) (o2_dm k) (o2_dd k) (o2_ds k hk30)) $$ HP
    iintro HP
    simp only [ret_bind]
    sl_step
    isplitl [HP HR]
    · iapply (finish_dn c W W' (lo := k.val + 1) (hi := k.val + 12) (by omega) (by omega) (by omega))
      isplitl [HP]; · iexact HP
      iexact HR
    isplitl [HL]; · iexact HL
    isplitl [HG]; · iexact HG
    isplitl [HA]; · iexact HA
    iexists _; iexact HW

end Cert.KernelIdeal.Hand
-- ==== Proof.KernelIdealStep3.lean ====
/-
One trip of the loop over the down tiles.
-/
module

public import proofs.«01_k».proof.Proof.KernelIdealStep2
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- What loads of the running sum and of the activations' codes read. -/
abbrev daccLd (D : S80x5120.Idx → Elt F .f32) := View.readAt (Elt F) (Memref.whole cc0_scoped1 : Memref sig .tc .vmem S80x5120 .f32).view (Rect.unit (s := S80x5120) ![0, 0] ![80, 5120] inb_S80x5120_S80x5120_0_0).toLoadRect D
abbrev actlLd (X : S21x80x512.Idx → Elt F .bf16) (r : Rect S21x80x512) := View.readAt (Elt F) (Memref.whole cc0_scoped3 : Memref sig .tc .vmem S21x80x512 .bf16).view r.toLoadRect X

/-- The running sum once trip `k` has added its tile. -/
def dnStep (X : S21x80x512.Idx → Elt F .bf16) (k : Fin k0_t3_loop.trips) (D : S80x5120.Idx → Elt F .f32) : S80x5120.Idx → Elt F .f32 :=
  (Memref.whole cc0_scoped1 : Memref sig .tc .vmem S80x5120 .f32).view.writes (Elt F) D
    [⟨Rect.unit ![0, 0] ![80, 5120] inb_S80x5120_S80x5120_0_0, k0_pay4 (daccLd D) (actlLd X (Rect.unit (k0_off86 k) ![1, 80, 512] (k0_off86_inb k)))
      (ringLd (LandD W' k.val) (Rect.unit (k0_off87 k) ![1, 512, 5120] (k0_off87_inb k)))⟩]

theorem step3 (k : Fin k0_t3_loop.trips) (v808 : FVec F S72x1 .f32) (v1519 : FVec F S72x256 .f32) (v1520 : IVec S72x256 8)
    (X : S21x80x512.Idx → Elt F .bf16) (D : S80x5120.Idx → Elt F .f32) (Wt : Waits sig Unit) :
    iprop(ringSt c W W' (k.val + 42) (min (k.val + 54) 63) ∗ bufPt c (Memref.whole cc0_scoped3) X ∗ bufPt c (Memref.whole cc0_scoped1) D ∗ owes (c : Thread nD τ) 0 Wt)
    ⊢ wp frame (wpE (defs₀ (F := F)) Variants.none (c : Thread nD τ) none) Set.univ
      (k0_t3_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v808 v1519 v1520 k ()) (fun _ => iprop(ringSt c W W' (k.val + 43) (min (k.val + 55) 63) ∗ bufPt c (Memref.whole cc0_scoped3) X
        ∗ bufPt c (Memref.whole cc0_scoped1) (dnStep W' X k D) ∗ ∃ Wt', owes (c : Thread nD τ) 0 Wt')) := by
  have hk : k.val < 21 := trips3 ▸ k.isLt
  have hs : (9 + (k.val + 42)) % 12 < 12 := Nat.mod_lt _ (by decide)
  have hS0 := slot_le hs (inb := k0_off87_inb k) (o3_r k)
  unfold k0_t3_body
  dsimp only
  rw [k0_part13_eq_skeleton]
  unfold k0_part13_skel
  dsimp only
  rw [dif_neg (h5_false k)]
  simp only [bind_assoc, pure_bind]
  generalize hT : (dite (k0_cond6 k = 1#1) _ _) = T
  iintro ⟨HR, HX, HD0, HW⟩
  ihave HR' := (ringSt_take c W W' (lo := k.val + 42) (hi := min (k.val + 54) 63) (by omega) (by omega)) $$ HR
  unfold flightT
  rw [if_neg (by omega)]
  icases HR' with ⟨HB, HR⟩
  iapply (wait_dn c W' (o3_wm k)) $$ [HB HW]
  · isplitl [HB]; · iexact HB
    iexact HW
  iintro ⟨HD, HC, HW⟩
  ihave HD' := (delD_join c W' (k.val + 42)) $$ HD
  icases HD' with ⟨HS, HH⟩
  simp only [ret_bind]
  rw [show k.val + 42 - 42 = k.val by omega]
  ihave HS := (slotB_open c hs (LandD W' k.val)) $$ HS
  sl_exec
  ihave HS := (slotB_close c hs (LandD W' k.val)) $$ HS
  ihave HR := (used_dn c W W' (lo := k.val + 42) (hi := min (k.val + 54) 63) (by omega) (by omega) (by omega) (LandD W' k.val)) $$ [HS HH HC HR]
  · isplitl [HS]; · iexact HS
    isplitl [HH]; · rw [show k.val + 42 - 42 = k.val by omega]; iexact HH
    isplitl [HC]; · iexact HC
    iexact HR
  subst hT
  by_cases hk9 : k.val < 9
  · rw [dif_pos ((h6_iff k).2 hk9)]
    simp only [bind_assoc, pure_bind]
    rw [show min (k.val + 54) 63 = k.val + 42 + 12 by omega, show min (k.val + 55) 63 = k.val + 42 + 12 + 1 by omega]
    imod (start_dn c W W' (lo := k.val + 42 + 1) (hi := k.val + 42 + 12) (by omega) (by omega) (by omega)) $$ HR with ⟨%f, HP, HR⟩
    iapply (issue_dn c W' f (t := k.val + 42 + 12) (by omega) (o3_m k) (o3_d k) (o3_s k hk9)) $$ HP
    iintro HP
    simp only [ret_bind]
    sl_step
    isplitl [HP HR]
    · iapply (finish_dn c W W' (lo := k.val + 42 + 1) (hi := k.val + 42 + 12) (by omega) (by omega) (by omega))
      isplitl [HP]; · iexact HP
      iexact HR
    isplitl [HX]; · iexact HX
    isplitl [HD0]; · iexact HD0
    iexists _; iexact HW
  · rw [dif_neg (fun h => hk9 ((h6_iff k).1 h))]
    simp only [pure_bind]
    rw [show min (k.val + 54) 63 = 63 by omega, show min (k.val + 55) 63 = 63 by omega]
    sl_step
    isplitl [HR]; · iexact HR
    isplitl [HX]; · iexact HX
    isplitl [HD0]; · iexact HD0
    iexists _; iexact HW

end Cert.KernelIdeal.Hand
-- ==== Proof.KernelIdealEnds.lean ====
/-
The ring's state before the first tile is started and after the last one is used: the two weights whole, and every slot
free.
-/
module

public import proofs.«01_k».proof.Proof.KernelIdealState
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
/-- The twelve cells at rest, and the twelve slots. -/
def cellsB : sProp 𝕄 := bigSep Finset.univ fun i : Fin 12 => semVal ((c : Thread nD τ), (SemLoc.dma (⟨6 + i.val, by show _ < 34; omega⟩ : DmaSem sig) : SemLoc sig)) 0
def slotsB : sProp 𝕄 := bigSep Finset.univ fun i : Fin 12 => iprop(∃ f, slotB (F := F) c i.val f)
def guAll : sProp 𝕄 := iprop(guM.view.loc (c : Thread nD τ) ↦{fullShare} W)
def dnAll : sProp 𝕄 := iprop(dnM.view.loc (c : Thread nD τ) ↦{fullShare} W')

theorem sSet_dis : ∀ a ∈ (Finset.univ : Finset (Fin 12)), ∀ b ∈ (Finset.univ : Finset (Fin 12)), a ≠ b → Disjoint (sSet a.val) (sSet b.val) := by
  intro a _ b _ hne
  rw [Finset.disjoint_left]
  intro i h h'
  simp only [sSet, Finset.mem_filter, Finset.mem_univ, true_and] at h h'
  exact hne (Fin.ext (by omega))
theorem sSet_cov : (Finset.univ : Finset (Fin 12)).biUnion (fun s => sSet s.val) = Finset.univ := by
  ext i
  simp only [Finset.mem_biUnion, Finset.mem_univ, true_and, sSet, Finset.mem_filter, iff_true]
  exact ⟨i 0, rfl⟩

theorem slots_of (f : S12x512x5120.Idx → Elt F .i8) : iprop(ringM.view.loc (c : Thread nD τ) ↦{fullShare} f) ⊢ (slotsB c : sProp 𝕄) := by
  have e : (iprop(ringM.view.loc (c : Thread nD τ) ↦{fullShare} f) : sProp 𝕄) = bigSep Finset.univ fun i : Fin 12 => slotB (F := F) c i.val f := by
    unfold slotB
    rw [← sSet_cov]
    exact pointsTo_biUnion _ _ sSet_dis
  rw [e]
  refine bigSep_mono fun i _ => ?_
  show slotB (F := F) c i.val f ⊢ iprop(∃ f, slotB (F := F) c i.val f)
  iintro H; iexists f; iexact H
theorem slots_join (f₀ : S12x512x5120.Idx → Elt F .i8) : (slotsB c : sProp 𝕄) ⊢ iprop(∃ f, ringM.view.loc (c : Thread nD τ) ↦{fullShare} f) := by
  unfold slotsB
  have : Nonempty (S12x512x5120.Idx → Elt F .i8) := ⟨f₀⟩
  have e (fs : Fin 12 → S12x512x5120.Idx → Elt F .i8) : (bigSep Finset.univ fun b : Fin 12 => slotB (F := F) c b.val (fs b))
      ⊢ (iprop(∃ f, ringM.view.loc (c : Thread nD τ) ↦{fullShare} f) : sProp 𝕄) := by
    unfold slotB
    refine BIBase.Entails.trans (Q := iprop(∃ g, ⌜∀ t ∈ (Finset.univ : Finset (Fin 12)), ∀ i ∈ sSet t.val, g i = fs t i⌝
      ∗ ringM.view.loc (c : Thread nD τ) ↦[(Finset.univ : Finset (Fin 12)).biUnion (fun s => sSet s.val)]{fullShare} g)) ?_ ?_
    · exact pointsTo_biUnion_join (ℓ := ringM.view.loc (c : Thread nD τ)) (q := fullShare) Finset.univ (fun s : Fin 12 => sSet s.val) fs f₀ sSet_dis
    rw [sSet_cov]
    iintro ⟨%g, -, H⟩
    iexists g; iexact H
  refine (bigSep_exists_pi Finset.univ (fun (b : Fin 12) (f : S12x512x5120.Idx → Elt F .i8) => slotB (F := F) c b.val f)).trans ?_
  iintro ⟨%fs, H⟩
  iapply (e fs); iexact H

theorem dSrc_dis : ∀ a ∈ (Finset.univ : Finset (Fin 21)), ∀ b ∈ (Finset.univ : Finset (Fin 21)), a ≠ b → Disjoint (dSrc a.val) (dSrc b.val) := by
  intro a _ b _ hne
  rw [Finset.disjoint_left]
  intro i h h'
  simp only [dSrc, Finset.mem_filter, Finset.mem_univ, true_and] at h h'
  exact hne (Fin.ext (by omega))
theorem dSrc_cov : (Finset.univ : Finset (Fin 21)).biUnion (fun t => dSrc t.val) = Finset.univ := by
  ext i
  have h0 : (i 0).val < 10752 := (i 0).isLt
  simp only [Finset.mem_biUnion, Finset.mem_univ, true_and, dSrc, Finset.mem_filter, iff_true]
  exact ⟨⟨(i 0).val / 512, by omega⟩, by show 512 * ((i 0).val / 512) ≤ _; omega, by show _ < 512 * ((i 0).val / 512) + 512; omega⟩
theorem dn_homes : (dnAll c W' : sProp 𝕄) = bigSep Finset.univ fun t : Fin 21 => dSrcB c W' t.val := by
  unfold dnAll dSrcB
  rw [← dSrc_cov]
  exact pointsTo_biUnion _ _ dSrc_dis

/-- The part of the gate-up weight that tile `t` reads. -/
def gTile (t : ℕ) : Finset S5120x21504.Idx := Finset.univ.filter fun i => (i 1).val % 10752 / 256 = t
theorem gSrc_dis (t : Fin 42) : ∀ a ∈ (Finset.univ : Finset (Fin 20)), ∀ b ∈ (Finset.univ : Finset (Fin 20)), a ≠ b → Disjoint (gSrc t.val a.val) (gSrc t.val b.val) := by
  intro a _ b _ hne
  rw [Finset.disjoint_left]
  intro i h h'
  simp only [gSrc, Finset.mem_filter, Finset.mem_univ, true_and] at h h'
  have := t.isLt
  exact hne (Fin.ext (by omega))
theorem gSrc_cov (t : Fin 42) : (Finset.univ : Finset (Fin 20)).biUnion (fun j => gSrc t.val j.val) = gTile t.val := by
  ext i
  have h0 : (i 0).val < 5120 := (i 0).isLt
  have h1 : (i 1).val < 21504 := (i 1).isLt
  have := t.isLt
  simp only [Finset.mem_biUnion, Finset.mem_univ, true_and, gSrc, gTile, Finset.mem_filter]
  constructor
  · rintro ⟨j, -, h⟩; omega
  · intro h
    exact ⟨⟨2 * ((i 0).val / 512) + (i 1).val / 10752, by omega⟩, by dsimp only; omega, by dsimp only; omega⟩
theorem gTile_dis : ∀ a ∈ (Finset.univ : Finset (Fin 42)), ∀ b ∈ (Finset.univ : Finset (Fin 42)), a ≠ b → Disjoint (gTile a.val) (gTile b.val) := by
  intro a _ b _ hne
  rw [Finset.disjoint_left]
  intro i h h'
  simp only [gTile, Finset.mem_filter, Finset.mem_univ, true_and] at h h'
  exact hne (Fin.ext (by omega))
theorem gTile_cov : (Finset.univ : Finset (Fin 42)).biUnion (fun t => gTile t.val) = Finset.univ := by
  ext i
  have h1 : (i 1).val < 21504 := (i 1).isLt
  simp only [Finset.mem_biUnion, Finset.mem_univ, true_and, gTile, Finset.mem_filter, iff_true]
  exact ⟨⟨(i 1).val % 10752 / 256, by omega⟩, rfl⟩
theorem gu_homes : (guAll c W : sProp 𝕄) = bigSep Finset.univ fun t : Fin 42 => homeG c W t.val := by
  unfold guAll
  have e (t : Fin 42) : (homeG c W t.val : sProp 𝕄) = iprop(guM.view.loc (c : Thread nD τ) ↦[gTile t.val]{fullShare} W) := by
    unfold homeG gSrcB
    rw [← gSrc_cov]
    exact (pointsTo_biUnion _ _ (gSrc_dis t)).symm
  rw [bigSep_congr fun t _ => e t]
  rw [← gTile_cov]
  exact pointsTo_biUnion _ _ gTile_dis

theorem homes_eq : (bigSep (Ring.rangeSet 63 0 63) fun t => homeT c W W' t.val) = (iprop(guAll c W ∗ dnAll c W') : sProp 𝕄) := by
  rw [Ring.bigSep_rangeSet_split (a := 0) (b := 42) (d := 63) (by omega) (by omega), gu_homes, dn_homes]
  rw [Ring.bigSep_rangeSet_eq_range (lo := 0) (hi := 42) (by omega) (fun k => homeT c W W' k) (fun k h => by dsimp only; rw [Nat.zero_add]),
    Ring.bigSep_rangeSet_eq_range (lo := 42) (hi := 63) (by omega) (fun k => homeT c W W' (42 + k)) (fun k h => rfl)]
  rw [Ring.bigSep_fin_eq_range 42 (fun t => homeG c W t.val) (fun k => homeT c W W' k) (fun t h => if_pos h),
    Ring.bigSep_fin_eq_range 21 (fun t => dSrcB c W' t.val) (fun k => homeT c W W' (42 + k)) (fun t h => (if_neg (by omega)).trans (by rw [Nat.add_sub_cancel_left]))]

/-- Cell and slot of one place of the ring. -/
def placeB (i : Fin 12) : sProp 𝕄 := iprop(semVal ((c : Thread nD τ), (SemLoc.dma (⟨6 + i.val, by show _ < 34; omega⟩ : DmaSem sig) : SemLoc sig)) 0 ∗ ∃ f, slotB (F := F) c i.val f)
theorem places_eq : (iprop(cellsB c ∗ slotsB c) : sProp 𝕄) = bigSep Finset.univ fun i => placeB (F := F) c i := (bigSep_sep _ _ _).symm

theorem free_place {t : ℕ} {i : Fin 12} (h : (9 + t) % 12 = i.val) : (freeS c t : sProp 𝕄) = placeB (F := F) c i := by
  unfold freeS placeB
  rw [h, show cellR t = (⟨6 + i.val, by show _ < 34; omega⟩ : DmaSem sig) from Fin.ext (by show 6 + (9 + t) % 12 = 6 + i.val; rw [h])]

/-- The place tile `t` takes. -/
def placeE : Fin 12 ≃ Fin 12 := Equiv.ofBijective (fun i => ⟨(9 + i.val) % 12, Nat.mod_lt _ (by decide)⟩) (by decide)

theorem free_first : (bigSep (Ring.rangeSet 75 0 12) fun t => freeS (F := F) c t.val) = (iprop(cellsB c ∗ slotsB c) : sProp 𝕄) := by
  rw [places_eq, Ring.bigSep_rangeSet_eq_range (lo := 0) (hi := 12) (by omega) (fun k => freeS (F := F) c k) (fun k h => by dsimp only; rw [Nat.zero_add])]
  rw [← Ring.bigSep_fin_eq_range 12 (fun t => freeS (F := F) c t.val) (fun k => freeS (F := F) c k) (fun t h => rfl)]
  rw [bigSep_univ_equiv placeE (fun i => placeB (F := F) c i)]
  exact bigSep_congr fun i _ => free_place c rfl
theorem free_last : (bigSep (Ring.rangeSet 75 63 75) fun t => freeS (F := F) c t.val) = (iprop(cellsB c ∗ slotsB c) : sProp 𝕄) := by
  rw [places_eq, Ring.bigSep_rangeSet_eq_range (lo := 63) (hi := 75) (by omega) (fun k => freeS (F := F) c (63 + k)) (fun k h => rfl)]
  rw [← Ring.bigSep_fin_eq_range 12 (fun t => freeS (F := F) c (63 + t.val)) (fun k => freeS (F := F) c (63 + k)) (fun t h => rfl)]
  exact bigSep_congr fun i _ => free_place c (by omega)

theorem ring_init (f : S12x512x5120.Idx → Elt F .i8) :
    iprop((ringM.view.loc (c : Thread nD τ) ↦{fullShare} f) ∗ guAll c W ∗ dnAll c W' ∗ cellsB c) ⊢ ringSt c W W' 0 0 := by
  unfold ringSt
  rw [homes_eq, free_first, Ring.bigSep_rangeSet_empty (by omega), Ring.bigSep_rangeSet_empty (by omega)]
  iintro ⟨HR, HG, HD, HC⟩
  isplitr; · iempintro
  isplitr; · iempintro
  isplitl [HG HD]
  · isplitl [HG]; · iexact HG
    iexact HD
  isplitl [HC]; · iexact HC
  iapply (slots_of c f); iexact HR

theorem ring_final (f₀ : S12x512x5120.Idx → Elt F .i8) :
    ringSt c W W' 63 63 ⊢ iprop((∃ f, ringM.view.loc (c : Thread nD τ) ↦{fullShare} f) ∗ guAll c W ∗ dnAll c W' ∗ cellsB c) := by
  unfold ringSt
  rw [homes_eq, free_last, Ring.bigSep_rangeSet_empty (by omega)]
  iintro ⟨⟨HG, HD⟩, -, -, HC, HS⟩
  isplitl [HS]; · iapply (slots_join c f₀); iexact HS
  isplitl [HG]; · iexact HG
  isplitl [HD]; · iexact HD
  iexact HC

end Cert.KernelIdeal.Hand
-- ==== Proof.KernelIdealBody.lean ====
/-
The kernel's body, run once.
-/
module

public import proofs.«01_k».proof.Proof.KernelIdealStep1
public import proofs.«01_k».proof.Proof.KernelIdealStep3
public import proofs.«01_k».proof.Proof.KernelIdealEnds
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- The cells of the copies out. -/
abbrev cellX (n : ℕ) (h : ∀ a, ![n] a + S1.size a ≤ S16.size a := by decide) : DmaSem sig := ((cc0_scratch4.slice (Rect.unit (s := S16) ![n] S1.size h)).squeeze S_ squeezes_S1_S_).sem

theorem name_buf {sp : Space} {sh : Shape} {e : EltTy} (m : Memref sig .tc sp sh e) (f : Buf (Elt F) (m.view.loc (c : Thread nD τ))) :
    bufPt c m f ⊢ iprop(∃ g, ⌜g = f⌝ ∗ bufPt c m g) := by
  iintro H; iexists f; isplitr; · ipureintro; rfl
  iexact H

/-- The activations before trip `k`. -/
def actN (v337 : FVec F S72x1 .f32) (L : S80x5120.Idx → Elt F .bf16) (G : Buf (Elt F) (a2.view.loc (c : Thread nD τ)))
    (A : S42x72x256.Idx → Elt F .f32) : ℕ → S42x72x256.Idx → Elt F .f32
  | 0 => A
  | k + 1 => if h : k < k0_t2_loop.trips then actStep c W a2 v337 L G ⟨k, h⟩ (actN v337 L G A k) else actN v337 L G A k
/-- The running sum before trip `k`. -/
def dnN (X : S21x80x512.Idx → Elt F .bf16) (D : S80x5120.Idx → Elt F .f32) : ℕ → S80x5120.Idx → Elt F .f32
  | 0 => D
  | k + 1 => if h : k < k0_t3_loop.trips then dnStep W' X ⟨k, h⟩ (dnN X D k) else dnN X D k

def inv2 (v337 : FVec F S72x1 .f32) (L : S80x5120.Idx → Elt F .bf16) (G : Buf (Elt F) (a2.view.loc (c : Thread nD τ)))
    (A : S42x72x256.Idx → Elt F .f32) (k : ℕ) (_ : Unit) : sProp 𝕄 :=
  iprop(ringSt c W W' k (k + 12) ∗ bufPt c (Memref.whole cc0_scratch1) L ∗ winPt c a2 G
    ∗ bufPt c (Memref.whole cc0_scoped2) (actN c W a2 v337 L G A k) ∗ ∃ Wt, owes (c : Thread nD τ) 0 Wt)
def inv3 (X : S21x80x512.Idx → Elt F .bf16) (D : S80x5120.Idx → Elt F .f32) (k : ℕ) (_ : Unit) : sProp 𝕄 :=
  iprop(ringSt c W W' (k + 42) (min (k + 54) 63) ∗ bufPt c (Memref.whole cc0_scoped3) X
    ∗ bufPt c (Memref.whole cc0_scoped1) (dnN W' X D k) ∗ ∃ Wt, owes (c : Thread nD τ) 0 Wt)

theorem inv2_step (k : Fin k0_t2_loop.trips) (v337 : FVec F S72x1 .f32) (v489 : FVec F S72x512 .f32) (cst : F .f32) (L : S80x5120.Idx → Elt F .bf16)
    (G : Buf (Elt F) (a2.view.loc (c : Thread nD τ))) (A : S42x72x256.Idx → Elt F .f32) :
    inv2 c W W' a2 v337 L G A k.val () ⊢ wp frame (wpE (defs₀ (F := F)) Variants.none (c : Thread nD τ) none) Set.univ
      (k0_t2_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v337 v489 cst k ()) (fun r => inv2 c W W' a2 v337 L G A (k.val + 1) r) := by
  have e : actN c W a2 v337 L G A (k.val + 1) = actStep c W a2 v337 L G k (actN c W a2 v337 L G A k.val) := dif_pos k.isLt
  unfold inv2
  rw [e]
  iintro ⟨HR, HL, HX, HA, %Wk, HW⟩
  iapply (step2 c W W' a0 h0 a1 h1 a2 h2 a3 h3 a8 h8 a10 h10 k v337 v489 cst L G (actN c W a2 v337 L G A k.val) Wk)
  isplitl [HR]; · iexact HR
  isplitl [HL]; · iexact HL
  isplitl [HX]; · iexact HX
  isplitl [HA]; · iexact HA
  iexact HW

theorem inv3_step (k : Fin k0_t3_loop.trips) (v808 : FVec F S72x1 .f32) (v1519 : FVec F S72x256 .f32) (v1520 : IVec S72x256 8)
    (X : S21x80x512.Idx → Elt F .bf16) (D : S80x5120.Idx → Elt F .f32) :
    inv3 c W W' X D k.val () ⊢ wp frame (wpE (defs₀ (F := F)) Variants.none (c : Thread nD τ) none) Set.univ
      (k0_t3_body (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) v808 v1519 v1520 k ()) (fun r => inv3 c W W' X D (k.val + 1) r) := by
  have e : dnN W' X D (k.val + 1) = dnStep W' X k (dnN W' X D k.val) := dif_pos k.isLt
  have e1 : k.val + 1 + 42 = k.val + 43 := by omega
  have e2 : k.val + 1 + 54 = k.val + 55 := by omega
  unfold inv3
  rw [e, e1, e2]
  iintro ⟨HR, HX, HD, %Wk, HW⟩
  iapply (step3 c W W' a0 h0 a1 h1 a2 h2 a3 h3 a8 h8 a10 h10 k v808 v1519 v1520 X (dnN W' X D k.val) Wk)
  isplitl [HR]; · iexact HR
  isplitl [HX]; · iexact HX
  isplitl [HD]; · iexact HD
  iexact HW

/-- What the body leaves: its operands and weights as they were, its results and scratch at some contents, every cell at zero. -/
def runPost (X0 : Buf (Elt F) (a0.view.loc (c : Thread nD τ))) (X1 : Buf (Elt F) (a1.view.loc (c : Thread nD τ))) (X2 : Buf (Elt F) (a2.view.loc (c : Thread nD τ)))
    (X3 : Buf (Elt F) (a3.view.loc (c : Thread nD τ))) : sProp 𝕄 :=
  iprop(winPt c a0 X0 ∗ winPt c a1 X1 ∗ winPt c a2 X2 ∗ winPt c a3 X3 ∗ (∃ f, winPt c a8 f) ∗ (∃ f, winPt c a10 f) ∗ guAll c W ∗ dnAll c W' ∗ (∃ f, bufPt c ringM f) ∗ (∃ f, bufPt c (Memref.whole main_v3_0) f) ∗ (∃ f, bufPt c (Memref.whole main_v3_1) f) ∗ (∃ f, bufPt c (Memref.whole main_v3_3) f) ∗ (∃ f, bufPt c (Memref.whole cc0_scratch1) f) ∗ (∃ f, bufPt c (Memref.whole cc0_scratch2) f) ∗ (∃ f, bufPt c (Memref.whole cc0_scoped0) f) ∗ (∃ f, bufPt c (Memref.whole cc0_scoped1) f) ∗ (∃ f, bufPt c (Memref.whole cc0_scoped2) f) ∗ (∃ f, bufPt c (Memref.whole cc0_scoped3) f) ∗ (∃ f, bufPt c (Memref.whole cc0_scoped4) f) ∗ (∃ f, bufPt c (Memref.whole cc0_scoped5) f) ∗ (∃ f, bufPt c (Memref.whole cc0_scoped6) f) ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ ∃ Wt, owes (c : Thread nD τ) 0 Wt)

set_option sl_exec.partsLeafInline true in
theorem body_run (B0 : S72x5120.Idx → Elt F .bf16) (B1 : S72x5120.Idx → Elt F .i8) (B2 : S72x10752.Idx → Elt F .i8) (B3 : S80x5120.Idx → Elt F .bf16) (B4 : S72x5120.Idx → Elt F .f32) (B5 : S80x5120.Idx → Elt F .f32) (B6 : S80x5120.Idx → Elt F .f32) (B7 : S42x72x256.Idx → Elt F .f32) (B8 : S21x80x512.Idx → Elt F .bf16) (B9 : S72x5120.Idx → Elt F .i8) (B10 : S72x10752.Idx → Elt F .i8) (B11 : S72x5120.Idx → Elt F .bf16) (R : S12x512x5120.Idx → Elt F .i8)
    (X0 : Buf (Elt F) (a0.view.loc (c : Thread nD τ))) (X1 : Buf (Elt F) (a1.view.loc (c : Thread nD τ))) (X2 : Buf (Elt F) (a2.view.loc (c : Thread nD τ)))
    (X3 : Buf (Elt F) (a3.view.loc (c : Thread nD τ))) (X4 : Buf (Elt F) (a8.view.loc (c : Thread nD τ))) (X5 : Buf (Elt F) (a10.view.loc (c : Thread nD τ))) (Wt : Waits sig Unit) :
    iprop(winPt c a0 X0 ∗ winPt c a1 X1 ∗ winPt c a2 X2 ∗ winPt c a3 X3 ∗ winPt c a8 X4 ∗ winPt c a10 X5 ∗ guAll c W ∗ dnAll c W' ∗ bufPt c ringM R ∗ bufPt c (Memref.whole main_v3_0) B0 ∗ bufPt c (Memref.whole main_v3_1) B1 ∗ bufPt c (Memref.whole main_v3_3) B2 ∗ bufPt c (Memref.whole cc0_scratch1) B3 ∗ bufPt c (Memref.whole cc0_scratch2) B4 ∗ bufPt c (Memref.whole cc0_scoped0) B5 ∗ bufPt c (Memref.whole cc0_scoped1) B6 ∗ bufPt c (Memref.whole cc0_scoped2) B7 ∗ bufPt c (Memref.whole cc0_scoped3) B8 ∗ bufPt c (Memref.whole cc0_scoped4) B9 ∗ bufPt c (Memref.whole cc0_scoped5) B10 ∗ bufPt c (Memref.whole cc0_scoped6) B11 ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ owes (c : Thread nD τ) 0 Wt)
    ⊢ wp frame (wpE (defs₀ (F := F)) Variants.none (c : Thread nD τ) none) Set.univ
      (cc0_falcon_h1_decode (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _)) (fun _ => runPost c W W' a0 a1 a2 a3 a8 a10 X0 X1 X2 X3) := by
  rw [cc0_falcon_h1_decode_eq_skeleton]
  unfold cc0_falcon_h1_decode_skel
  iintro ⟨HX0, HX1, HX2, HX3, HX4, HX5, HGU, HDN, HR, HB0, HB1, HB2, HB3, HB4, HB5, HB6, HB7, HB8, HB9, HB10, HB11, HC, HS12, HS13, HS14, HW⟩
  ihave HR := (ring_init c W W' R) $$ [HR HGU HDN HC]
  · isplitl [HR]; · iexact HR
    isplitl [HGU]; · iexact HGU
    isplitl [HDN]; · iexact HDN
    iexact HC
  sl_exec
  sl_for (fun (k : ℕ) (_ : Unit) => ringSt c W W' 0 k) $$ [HR]
  case region =>
    intro k _
    exact step1 c W W' a0 h0 a1 h1 a2 h2 a3 h3 a8 h8 a10 h10 k
  · iexact HR
  iintro %_ HR
  sl_exec
  ihave HB3 := (name_buf c (Memref.whole cc0_scratch1) _) $$ HB3
  icases HB3 with ⟨%L, %hL, HB3⟩
  sl_for (inv2 c W W' a2 (body_run.sl.r_18 c a0 a1 X0 X1) L X2 B7) $$ [HR HB3 HX2 HB7 HW]
  case region =>
    intro k _
    exact inv2_step c W W' a0 h0 a1 h1 a2 h2 a3 h3 a8 h8 a10 h10 k _ (body_run.sl.r_23 c a0 a1 X0 X1) (body_run.sl.cst_181_r0 (F := F)) _ _ _
  · unfold inv2
    isplitl [HR]; · iexact HR
    isplitl [HB3]; · iexact HB3
    isplitl [HX2]; · iexact HX2
    isplitl [HB7]; · iexact HB7
    iexists _; iexact HW
  iintro %_ HI
  unfold inv2
  icases HI with ⟨HR, HB3, HX2, HB7, %W2, HW⟩
  ihave HB7 := (name_buf c (Memref.whole cc0_scoped2) _) $$ HB7
  icases HB7 with ⟨%A, %hA, HB7⟩
  sl_exec
  ihave HB8 := (name_buf c (Memref.whole cc0_scoped3) _) $$ HB8
  icases HB8 with ⟨%X, %hX, HB8⟩
  ihave HB6 := (name_buf c (Memref.whole cc0_scoped1) _) $$ HB6
  icases HB6 with ⟨%D, %hD, HB6⟩
  sl_for (inv3 c W W' X D) $$ [HR HB8 HB6 HW]
  case region =>
    intro k _
    exact inv3_step c W W' a0 h0 a1 h1 a2 h2 a3 h3 a8 h8 a10 h10 k _ _ _ _ _
  · unfold inv3
    isplitl [HR]; · iexact HR
    isplitl [HB8]; · iexact HB8
    isplitl [HB6]; · iexact HB6
    iexists _; iexact HW
  iintro %_ HI
  unfold inv3
  icases HI with ⟨HR, HB8, HB6, %W3, HW⟩
  ihave HB6 := (name_buf c (Memref.whole cc0_scoped1) _) $$ HB6
  icases HB6 with ⟨%E, %hE, HB6⟩
  sl_exec
  sl_step
  rw [show Scf.trips k0_t3_loop.lb k0_t3_loop.ub k0_t3_loop.st + 42 = 63 from by rw [show Scf.trips k0_t3_loop.lb k0_t3_loop.ub k0_t3_loop.st = 21 from trips3],
    show min (Scf.trips k0_t3_loop.lb k0_t3_loop.ub k0_t3_loop.st + 54) 63 = 63 from by rw [show Scf.trips k0_t3_loop.lb k0_t3_loop.ub k0_t3_loop.st = 21 from trips3]; rfl]
  ihave HF := (ring_final c W W' R) $$ HR
  icases HF with ⟨HR, HGU, HDN, HC⟩
  unfold runPost
  isplitl [HX0]; · iexact HX0
  isplitl [HX1]; · iexact HX1
  isplitl [HX2]; · iexact HX2
  isplitl [HX3]; · iexact HX3
  isplitl [HX4]; · iexists _; iexact HX4
  isplitl [HX5]; · iexists _; iexact HX5
  isplitl [HGU]; · iexact HGU
  isplitl [HDN]; · iexact HDN
  isplitl [HR]; · iexact HR
  isplitl [HB0]; · iexists _; iexact HB0
  isplitl [HB1]; · iexists _; iexact HB1
  isplitl [HB2]; · iexists _; iexact HB2
  isplitl [HB3]; · iexists _; iexact HB3
  isplitl [HB4]; · iexists _; iexact HB4
  isplitl [HB5]; · iexists _; iexact HB5
  isplitl [HB6]; · iexists _; iexact HB6
  isplitl [HB7]; · iexists _; iexact HB7
  isplitl [HB8]; · iexists _; iexact HB8
  isplitl [HB9]; · iexists _; iexact HB9
  isplitl [HB10]; · iexists _; iexact HB10
  isplitl [HB11]; · iexists _; iexact HB11
  isplitl [HC]; · iexact HC
  isplitl [HS12]; · iexact HS12
  isplitl [HS13]; · iexact HS13
  isplitl [HS14]; · iexact HS14
  iexists _; iexact HW

end Cert.KernelIdeal.Hand
-- ==== Proof.KernelIdealFrame.lean ====
/-
The frame: the program terminates, its arguments end unchanged and every semaphore counter ends at zero.
-/
module

public import proofs.«01_k».proof.Proof.KernelIdealBody
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The results the body writes by its own copies. -/
def R0 : Finset (Ref sig .tc) := {main_v3_0, main_v3_1, main_v3_3}
/-- The weights the body reads by its own copies. -/
def H0 : Finset (Ref sig .tc) := {main_arg2, main_arg4}
theorem H0_sub : H0 ⊆ Pipeline.restRefs sig spec0 := by decide
theorem R0_sub : R0 ⊆ Pipeline.restRefs sig spec0 \ H0 := by decide

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own cells: twelve for the ring, sixteen of the other array. -/
abbrev osem0 : Fin 28 → SemLoc sig := fun j => SemLoc.dma ⟨6 + j.val, by have := j.isLt; show 6 + j.val < 34; omega⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0) := by
  rw [Pipeline.ownSems0_eq_of_list c osem0 [0, 1, 2, 3, 4, 5, 6, 7, 8, 9, 10, 11, 12, 13, 14, 15, 16, 17, 18, 19, 20, 21, 22, 23, 24, 25, 26, 27] (by decide) (by decide)]; rfl
theorem cellsB_eq (c : Dev nD) : (cellsB c : sProp 𝕄) = iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0) := by
  unfold cellsB
  rw [bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)] (by decide) (by decide)]; rfl

theorem hbmPts0_eq (c : Dev nD) :
    (bigSep H0 (fun b => ((c : Thread nD τ).loc b) ↦{fullShare} V m c b) : sProp 𝕄)
      = iprop(guAll c (V m c main_arg2) ∗ dnAll c (V m c main_arg4)) := by
  rw [BI.bigSep_eq_bigSepL_of_eq [main_arg2, main_arg4] (by decide) (by decide)]; rfl
theorem ownedPts0_eq (c : Dev nD) :
    (Pipeline.owned R0 c : sProp 𝕄)
      = iprop((∃ f, bufPt c (Memref.whole main_v3_0) f) ∗ (∃ f, bufPt c (Memref.whole main_v3_1) f) ∗ (∃ f, bufPt c (Memref.whole main_v3_3) f)) := by
  unfold Pipeline.owned; rw [BI.bigSep_eq_bigSepL_of_eq [main_v3_0, main_v3_1, main_v3_3] (by decide) (by decide)]; rfl

/-- The scratch, each buffer at some contents. -/
abbrev scr (c : Dev nD) : sProp 𝕄 := iprop((∃ f, bufPt c ringM f) ∗ (∃ f, bufPt c (Memref.whole cc0_scratch1) f) ∗ (∃ f, bufPt c (Memref.whole cc0_scratch2) f) ∗ (∃ f, bufPt c (Memref.whole cc0_scoped0) f) ∗ (∃ f, bufPt c (Memref.whole cc0_scoped1) f) ∗ (∃ f, bufPt c (Memref.whole cc0_scoped2) f) ∗ (∃ f, bufPt c (Memref.whole cc0_scoped3) f) ∗ (∃ f, bufPt c (Memref.whole cc0_scoped4) f) ∗ (∃ f, bufPt c (Memref.whole cc0_scoped5) f) ∗ (∃ f, bufPt c (Memref.whole cc0_scoped6) f))

theorem PhiDR0_eq (c : Dev nD) :
    (Pipeline.ΦDR osem0 spec0 H0 R0 (V m) c : sProp 𝕄)
      = iprop(scr c ∗ (∃ r, prngReg c r) ∗ iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0)
          ∗ iprop(guAll c (V m c main_arg2) ∗ dnAll c (V m c main_arg4))
          ∗ iprop((∃ f, bufPt c (Memref.whole main_v3_0) f) ∗ (∃ f, bufPt c (Memref.whole main_v3_1) f) ∗ (∃ f, bufPt c (Memref.whole main_v3_3) f))) := by
  rw [Pipeline.ΦDR_eq, scopedRest0_eq, ownSems00_eq, hbmPts0_eq, ownedPts0_eq]; try rfl

/-- Which windows the frame says nothing of: the two results staged out. -/
abbrev fgt0 : Fin 6 → Bool := fun w => match w with
  | ⟨4, _⟩ => true
  | ⟨5, _⟩ => true
  | _ => false

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

abbrev st (t : Fin cfg0.N) (w : Fin cfg0.W) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3]
  simp only [before0_0, before0_1, before0_2, before0_3]
  rw [show (dats m 0 c).Φ t.castSucc = Pipeline.ΦDR osem0 spec0 H0 R0 (V m) c from rfl, PhiDR0_eq]
  unfold Dat.owesAt Pipeline.owesWithin owns
  rw [show (dats m 0 c).owed t.castSucc = 0 from rfl, show (dats m 0 c).owed t.succ = 0 from rfl]
  iintro ⟨⟨⟨⟨%R, HR⟩, ⟨%B3, HB3⟩, ⟨%B4, HB4⟩, ⟨%B5, HB5⟩, ⟨%B6, HB6⟩, ⟨%B7, HB7⟩, ⟨%B8, HB8⟩, ⟨%B9, HB9⟩, ⟨%B10, HB10⟩, ⟨%B11, HB11⟩⟩, Hg, ⟨Hq6, Hq7, Hq8, Hq9, Hq10, Hq11, Hq12, Hq13, Hq14, Hq15, Hq16, Hq17, Hq18, Hq19, Hq20, Hq21, Hq22, Hq23, Hq24, Hq25, Hq26, Hq27, Hq28, Hq29, HS12, HS13, HS14, Hq33⟩, ⟨HGU, HDN⟩, ⟨⟨%B0, HB0⟩, ⟨%B1, HB1⟩, ⟨%B2, HB2⟩⟩⟩, ⟨%Wt, -, HW⟩, ⟨%d0, %X0, %e0, HX0⟩, ⟨%d1, %X1, %e1, HX1⟩, ⟨%d2, %X2, %e2, HX2⟩, ⟨%d3, %X3, %e3, HX3⟩, ⟨%d4, %X4, -, HX4⟩, ⟨%d5, %X5, -, HX5⟩⟩
  iapply wp_wand_r
  isplitr [Hg Hq18 Hq19 Hq20 Hq21 Hq22 Hq23 Hq24 Hq25 Hq26 Hq27 Hq28 Hq29 Hq33]
  · iapply (body_run c (V m c main_arg2) (V m c main_arg4) (win0_0.stage (cfg0.slots t 0)) (hstage0_0 0) (win0_1.stage (cfg0.slots t 1)) (hstage0_1 0) (win0_2.stage (cfg0.slots t 2)) (hstage0_2 0)
      (win0_3.stage (cfg0.slots t 3)) (hstage0_3 0) (win0_4.stage (cfg0.slots t 4)) (hstage0_4 0) (win0_5.stage (cfg0.slots t 5)) (hstage0_5 0)
      B0 B1 B2 B3 B4 B5 B6 B7 B8 B9 B10 B11 R X0 X1 X2 X3 X4 X5 Wt)
    rw [cellsB_eq]
    isplitl [HX0]; · iexact HX0
    isplitl [HX1]; · iexact HX1
    isplitl [HX2]; · iexact HX2
    isplitl [HX3]; · iexact HX3
    isplitl [HX4]; · iexact HX4
    isplitl [HX5]; · iexact HX5
    isplitl [HGU]; · iexact HGU
    isplitl [HDN]; · iexact HDN
    isplitl [HR]; · iexact HR
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [Hq6 Hq7 Hq8 Hq9 Hq10 Hq11 Hq12 Hq13 Hq14 Hq15 Hq16 Hq17]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [HS12]; · iexact HS12
    isplitl [HS13]; · iexact HS13
    isplitl [HS14]; · iexact HS14
    iexact HW
  iintro %_ HQ
  unfold runPost
  rw [cellsB_eq]
  icases HQ with ⟨HX0, HX1, HX2, HX3, ⟨%Y4, HX4⟩, ⟨%Y5, HX5⟩, HGU, HDN, HR, HB0, HB1, HB2, HB3, HB4, HB5, HB6, HB7, HB8, HB9, HB10, HB11, ⟨Hq6, Hq7, Hq8, Hq9, Hq10, Hq11, Hq12, Hq13, Hq14, Hq15, Hq16, Hq17⟩, HS12, HS13, HS14, ⟨%Wt', HW⟩⟩
  isplitl [HR HB3 HB4 HB5 HB6 HB7 HB8 HB9 HB10 HB11 Hg Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33 HGU HDN HB0 HB1 HB2]
  · isplitl [HR HB3 HB4 HB5 HB6 HB7 HB8 HB9 HB10 HB11]
    · isplitl [HR]; · iexact HR
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      iexact HB11
    isplitl [Hg]; · iexact Hg
    isplitl [Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [HS12]; · iexact HS12
      isplitl [HS13]; · iexact HS13
      isplitl [HS14]; · iexact HS14
      iexact Hq33
    isplitl [HGU HDN]
    · isplitl [HGU]; · iexact HGU
      iexact HDN
    isplitl [HB0]; · iexact HB0
    isplitl [HB1]; · iexact HB1
    iexact HB2
  isplitl [HW]
  · iexists Wt'; isplitr; · ipureintro; exact fun _ _ => Or.inl trivial
    iexact HW
  isplitl [HX0]; · iexists X0; isplitr; · ipureintro; exact e0
                   iexact HX0
  isplitl [HX1]; · iexists X1; isplitr; · ipureintro; exact e1
                   iexact HX1
  isplitl [HX2]; · iexists X2; isplitr; · ipureintro; exact e2
                   iexact HX2
  isplitl [HX3]; · iexists X3; isplitr; · ipureintro; exact e3
                   iexact HX3
  isplitl [HX4]
  · iexists _, Y4; isplitr; · ipureintro; rfl
    iexact HX4
  iexists _, Y5; isplitr; · ipureintro; rfl
  iexact HX5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePostR cfg0 (fun c => (dats m 0 c).toRForget fgt0) R0 (V m) r ∧ r.2.sem = fun _ => 0) :=
  Pipeline.θ_run_frame_dmaR_forget (Q' := _) cfgs (dats m) (0 : Fin 1) launch0 osem0 defs₀ Variants.none fgt0 ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(((dats m 0 c).toRForget_arrAt_iff (w := 0) rfl _ _).mp ((h.1 c).1 0)).trans (((dats m 0 c).arrAt_in 0 rfl _).trans ((A_eq m c 0).trans (V_main_arg0 m c))),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.KernelIdealRun.lean ====
/-
The kernel's body, run once with the values it leaves.
-/
module

public import proofs.«01_k».proof.Proof.KernelIdealBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : S5120x21504.Idx → Elt F .i8) (W' : S10752x5120.Idx → Elt F .i8)
variable (a0 : Memref sig .tc .vmem S72x5120 .f32) (h0 : a0.IsWhole) (a1 : Memref sig .tc .vmem S1x5120 .f32) (h1 : a1.IsWhole)
  (a2 : Memref sig .tc .vmem S84x1x256 .f32) (h2 : a2.IsWhole) (a3 : Memref sig .tc .vmem S1x5120 .f32) (h3 : a3.IsWhole)
  (a8 : Memref sig .tc .vmem S1x72 .f32) (h8 : a8.IsWhole) (a10 : Memref sig .tc .vmem S1x72 .f32) (h10 : a10.IsWhole)

/-- The quantised rows, in the order the kernel stores them. -/
def lhsF (X0 : Buf (Elt F) (a0.view.loc (c : Thread nD τ))) (X1 : Buf (Elt F) (a1.view.loc (c : Thread nD τ))) (B3 : S80x5120.Idx → Elt F .bf16) : S80x5120.Idx → Elt F .bf16 :=
  (Memref.whole cc0_scratch1).view.writes (Elt F) B3
      [⟨Rect.unit ![0, 4608] S72x512.size inb_S80x5120_S72x512_0_4608,
          k0_pay87 (body_run.sl.r_23 c a0 a1 X0 X1) (body_run.sl.cst_181_r0 (F := F))⟩,
        ⟨Rect.unit ![0, 4096] S72x512.size inb_S80x5120_S72x512_0_4096,
          k0_pay83 (body_run.sl.r_18 c a0 a1 X0 X1) (body_run.sl.v471_r0 c a0 a1 X0 X1)⟩,
        ⟨Rect.unit ![0, 3584] S72x512.size inb_S80x5120_S72x512_0_3584,
          k0_pay80 (body_run.sl.r_18 c a0 a1 X0 X1) (body_run.sl.v455_r0 c a0 a1 X0 X1)⟩,
        ⟨Rect.unit ![0, 3072] S72x512.size inb_S80x5120_S72x512_0_3072, k0_pay77 (body_run.sl.r_22 c a0 a1 X0 X1)⟩,
        ⟨Rect.unit ![0, 2560] S72x512.size inb_S80x5120_S72x512_0_2560,
          k0_pay73 (body_run.sl.r_18 c a0 a1 X0 X1) (body_run.sl.v423_r0 c a0 a1 X0 X1)⟩,
        ⟨Rect.unit ![0, 2048] S72x512.size inb_S80x5120_S72x512_0_2048, k0_pay70 (body_run.sl.r_20 c a0 a1 X0 X1)⟩,
        ⟨Rect.unit ![0, 1536] S72x512.size inb_S80x5120_S72x512_0_1536,
          k0_pay66 (body_run.sl.r_18 c a0 a1 X0 X1) (body_run.sl.v391_r0 c a0 a1 X0 X1)⟩,
        ⟨Rect.unit ![0, 1024] S72x512.size inb_S80x5120_S72x512_0_1024,
          k0_pay63 (body_run.sl.r_19 c a0 a1 X0 X1) (body_run.sl.cst_126_r0 (F := F)) k0_pay60⟩,
        ⟨Rect.unit ![0, 512] S72x512.size inb_S80x5120_S72x512_0_512,
          k0_pay58 (body_run.sl.r_18 c a0 a1 X0 X1) (body_run.sl.v359_r0 c a0 a1 X0 X1)⟩,
        ⟨Rect.unit ![0, 0] S72x512.size inb_S80x5120_S72x512_0_0,
          k0_pay55 (body_run.sl.r_18 c a0 a1 X0 X1) (body_run.sl.v343_r0 c a0 a1 X0 X1)⟩]
/-- The activations after the first product. -/
def actF (X0 : Buf (Elt F) (a0.view.loc (c : Thread nD τ))) (X1 : Buf (Elt F) (a1.view.loc (c : Thread nD τ))) (X2 : Buf (Elt F) (a2.view.loc (c : Thread nD τ))) (B3 : S80x5120.Idx → Elt F .bf16) (B7 : S42x72x256.Idx → Elt F .f32) : S42x72x256.Idx → Elt F .f32 :=
  actN c W a2 (body_run.sl.r_18 c a0 a1 X0 X1) (lhsF c a0 a1 X0 X1 B3) X2 B7 k0_t2_loop.trips
/-- The quantised activations, padded to eighty rows. -/
def actlF (A : S42x72x256.Idx → Elt F .f32) : S21x80x512.Idx → Elt F .bf16 :=
  (Memref.whole cc0_scoped3).view.writes (Elt F) (Memref.whole cc0_scoped3).view.junk (body_run.sl.HB8_43 c A)
/-- The running sum after the second product. -/
def outF (A : S42x72x256.Idx → Elt F .f32) : S80x5120.Idx → Elt F .f32 :=
  dnN W' (actlF c A) ((Memref.whole cc0_scoped1).view.writes (Elt F) (Memref.whole cc0_scoped1).view.junk body_run.sl.HB6_1) k0_t3_loop.trips

/-- What the body leaves, the results at their values. -/
def valPost (B0 : S72x5120.Idx → Elt F .bf16) (B1 : S72x5120.Idx → Elt F .i8) (B2 : S72x10752.Idx → Elt F .i8) (B3 : S80x5120.Idx → Elt F .bf16) (B7 : S42x72x256.Idx → Elt F .f32) (B9 : S72x5120.Idx → Elt F .i8) (B10 : S72x10752.Idx → Elt F .i8) (B11 : S72x5120.Idx → Elt F .bf16)
    (X0 : Buf (Elt F) (a0.view.loc (c : Thread nD τ))) (X1 : Buf (Elt F) (a1.view.loc (c : Thread nD τ))) (X2 : Buf (Elt F) (a2.view.loc (c : Thread nD τ))) (X3 : Buf (Elt F) (a3.view.loc (c : Thread nD τ))) : sProp 𝕄 :=
  iprop(winPt c a0 X0 ∗ winPt c a1 X1 ∗ winPt c a2 X2 ∗ winPt c a3 X3 ∗ winPt c a8 (a8.view.writes (Elt F) a8.view.junk (body_run.sl.HX4_1 c a0 a1 X0 X1)) ∗ winPt c a10 (a10.view.writes (Elt F) a10.view.junk (body_run.sl.HX5_1 c (actF c W a0 a1 a2 X0 X1 X2 B3 B7))) ∗ guAll c W ∗ dnAll c W' ∗ (∃ f, bufPt c ringM f) ∗ bufPt c (Memref.whole main_v3_0) (View.write (Elt F) (Memref.whole main_v3_0).view B0 (body_run.sl.dma50 c a0 a3 B11 X0 X3 (actF c W a0 a1 a2 X0 X1 X2 B3 B7) (outF c W' (actF c W a0 a1 a2 X0 X1 X2 B3 B7))) Finset.univ) ∗ bufPt c (Memref.whole main_v3_1) (View.write (Elt F) (Memref.whole main_v3_1).view B1 (body_run.sl.dma122 c a0 a1 B9 X0 X1) Finset.univ) ∗ bufPt c (Memref.whole main_v3_3) (View.write (Elt F) (Memref.whole main_v3_3).view B2 (body_run.sl.dma256 c B10 (actF c W a0 a1 a2 X0 X1 X2 B3 B7)) Finset.univ) ∗ (∃ f, bufPt c (Memref.whole cc0_scratch1) f) ∗ (∃ f, bufPt c (Memref.whole cc0_scratch2) f) ∗ (∃ f, bufPt c (Memref.whole cc0_scoped0) f) ∗ (∃ f, bufPt c (Memref.whole cc0_scoped1) f) ∗ (∃ f, bufPt c (Memref.whole cc0_scoped2) f) ∗ (∃ f, bufPt c (Memref.whole cc0_scoped3) f) ∗ (∃ f, bufPt c (Memref.whole cc0_scoped4) f) ∗ (∃ f, bufPt c (Memref.whole cc0_scoped5) f) ∗ (∃ f, bufPt c (Memref.whole cc0_scoped6) f) ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ ∃ Wt, owes (c : Thread nD τ) 0 Wt)

set_option sl_exec.partsLeafInline true in
theorem value_run (B0 : S72x5120.Idx → Elt F .bf16) (B1 : S72x5120.Idx → Elt F .i8) (B2 : S72x10752.Idx → Elt F .i8) (B3 : S80x5120.Idx → Elt F .bf16) (B4 : S72x5120.Idx → Elt F .f32) (B5 : S80x5120.Idx → Elt F .f32) (B6 : S80x5120.Idx → Elt F .f32) (B7 : S42x72x256.Idx → Elt F .f32) (B8 : S21x80x512.Idx → Elt F .bf16) (B9 : S72x5120.Idx → Elt F .i8) (B10 : S72x10752.Idx → Elt F .i8) (B11 : S72x5120.Idx → Elt F .bf16) (R : S12x512x5120.Idx → Elt F .i8)
    (X0 : Buf (Elt F) (a0.view.loc (c : Thread nD τ))) (X1 : Buf (Elt F) (a1.view.loc (c : Thread nD τ))) (X2 : Buf (Elt F) (a2.view.loc (c : Thread nD τ)))
    (X3 : Buf (Elt F) (a3.view.loc (c : Thread nD τ))) (X4 : Buf (Elt F) (a8.view.loc (c : Thread nD τ))) (X5 : Buf (Elt F) (a10.view.loc (c : Thread nD τ))) (Wt : Waits sig Unit) :
    iprop(winPt c a0 X0 ∗ winPt c a1 X1 ∗ winPt c a2 X2 ∗ winPt c a3 X3 ∗ winPt c a8 X4 ∗ winPt c a10 X5 ∗ guAll c W ∗ dnAll c W' ∗ bufPt c ringM R ∗ bufPt c (Memref.whole main_v3_0) B0 ∗ bufPt c (Memref.whole main_v3_1) B1 ∗ bufPt c (Memref.whole main_v3_3) B2 ∗ bufPt c (Memref.whole cc0_scratch1) B3 ∗ bufPt c (Memref.whole cc0_scratch2) B4 ∗ bufPt c (Memref.whole cc0_scoped0) B5 ∗ bufPt c (Memref.whole cc0_scoped1) B6 ∗ bufPt c (Memref.whole cc0_scoped2) B7 ∗ bufPt c (Memref.whole cc0_scoped3) B8 ∗ bufPt c (Memref.whole cc0_scoped4) B9 ∗ bufPt c (Memref.whole cc0_scoped5) B10 ∗ bufPt c (Memref.whole cc0_scoped6) B11 ∗ cellsB c ∗ semVal ((c : Thread nD τ), (SemLoc.dma (cellX 12) : SemLoc sig)) 0 ∗ semVal ((c : Thread nD τ), (SemLoc.dma (cellX 13) : SemLoc sig)) 0 ∗ semVal ((c : Thread nD τ), (SemLoc.dma (cellX 14) : SemLoc sig)) 0 ∗ owes (c : Thread nD τ) 0 Wt)
    ⊢ wp frame (wpE (defs₀ (F := F)) Variants.none (c : Thread nD τ) none) Set.univ
      (cc0_falcon_h1_decode (F := F) a0 h0 a1 h1 a2 h2 a3 h3 (Memref.whole main_arg2) (Memref.isWhole_whole _) (Memref.whole main_arg4) (Memref.isWhole_whole _) (Memref.whole main_v3_0) (Memref.isWhole_whole _) (Memref.whole main_v3_1) (Memref.isWhole_whole _) a8 h8 (Memref.whole main_v3_3) (Memref.isWhole_whole _) a10 h10 (Memref.whole cc0_scratch0) (Memref.isWhole_whole _) (Memref.whole cc0_scratch1) (Memref.isWhole_whole _) (Memref.whole cc0_scratch2) (Memref.isWhole_whole _) cc0_scratch3 cc0_scratch4 (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _)) (fun _ => valPost c W W' a0 a1 a2 a3 a8 a10 B0 B1 B2 B3 B7 B9 B10 B11 X0 X1 X2 X3) := by
  rw [cc0_falcon_h1_decode_eq_skeleton]
  unfold cc0_falcon_h1_decode_skel
  iintro ⟨HX0, HX1, HX2, HX3, HX4, HX5, HGU, HDN, HR, HB0, HB1, HB2, HB3, HB4, HB5, HB6, HB7, HB8, HB9, HB10, HB11, HC, HS12, HS13, HS14, HW⟩
  ihave HR := (ring_init c W W' R) $$ [HR HGU HDN HC]
  · isplitl [HR]; · iexact HR
    isplitl [HGU]; · iexact HGU
    isplitl [HDN]; · iexact HDN
    iexact HC
  sl_exec
  sl_for (fun (k : ℕ) (_ : Unit) => ringSt c W W' 0 k) $$ [HR]
  case region =>
    intro k _
    exact step1 c W W' a0 h0 a1 h1 a2 h2 a3 h3 a8 h8 a10 h10 k
  · iexact HR
  iintro %_ HR
  sl_exec
  ihave HB3 := (name_buf c (Memref.whole cc0_scratch1) _) $$ HB3
  icases HB3 with ⟨%L, %hL, HB3⟩
  sl_for (inv2 c W W' a2 (value_run.sl.r_18 c a0 a1 X0 X1) L X2 B7) $$ [HR HB3 HX2 HB7 HW]
  case region =>
    intro k _
    exact inv2_step c W W' a0 h0 a1 h1 a2 h2 a3 h3 a8 h8 a10 h10 k _ (value_run.sl.r_23 c a0 a1 X0 X1) (value_run.sl.cst_181_r0 (F := F)) _ _ _
  · unfold inv2
    isplitl [HR]; · iexact HR
    isplitl [HB3]; · iexact HB3
    isplitl [HX2]; · iexact HX2
    isplitl [HB7]; · iexact HB7
    iexists _; iexact HW
  iintro %_ HI
  unfold inv2
  icases HI with ⟨HR, HB3, HX2, HB7, %W2, HW⟩
  ihave HB7 := (name_buf c (Memref.whole cc0_scoped2) _) $$ HB7
  icases HB7 with ⟨%A, %hA, HB7⟩
  sl_exec
  ihave HB8 := (name_buf c (Memref.whole cc0_scoped3) _) $$ HB8
  icases HB8 with ⟨%X, %hX, HB8⟩
  ihave HB6 := (name_buf c (Memref.whole cc0_scoped1) _) $$ HB6
  icases HB6 with ⟨%D, %hD, HB6⟩
  sl_for (inv3 c W W' X D) $$ [HR HB8 HB6 HW]
  case region =>
    intro k _
    exact inv3_step c W W' a0 h0 a1 h1 a2 h2 a3 h3 a8 h8 a10 h10 k _ _ _ _ _
  · unfold inv3
    isplitl [HR]; · iexact HR
    isplitl [HB8]; · iexact HB8
    isplitl [HB6]; · iexact HB6
    iexists _; iexact HW
  iintro %_ HI
  unfold inv3
  icases HI with ⟨HR, HB8, HB6, %W3, HW⟩
  ihave HB6 := (name_buf c (Memref.whole cc0_scoped1) _) $$ HB6
  icases HB6 with ⟨%E, %hE, HB6⟩
  sl_exec
  sl_step
  rw [show Scf.trips k0_t3_loop.lb k0_t3_loop.ub k0_t3_loop.st + 42 = 63 from by rw [show Scf.trips k0_t3_loop.lb k0_t3_loop.ub k0_t3_loop.st = 21 from trips3],
    show min (Scf.trips k0_t3_loop.lb k0_t3_loop.ub k0_t3_loop.st + 54) 63 = 63 from by rw [show Scf.trips k0_t3_loop.lb k0_t3_loop.ub k0_t3_loop.st = 21 from trips3]; rfl]
  ihave HF := (ring_final c W W' R) $$ HR
  icases HF with ⟨HR, HGU, HDN, HC⟩
  have hL' : L = lhsF c a0 a1 X0 X1 B3 := hL
  subst hL'
  have hA' : A = actF c W a0 a1 a2 X0 X1 X2 B3 B7 := hA
  have hE' : E = outF c W' A := by rw [hE, hX, hD]; rfl
  clear hL hX hD hE hA
  unfold valPost
  rw [← hA', ← hE']
  isplitl [HX0]; · iexact HX0
  isplitl [HX1]; · iexact HX1
  isplitl [HX2]; · iexact HX2
  isplitl [HX3]; · iexact HX3
  isplitl [HX4]; · iexact HX4
  isplitl [HX5]; · iexact HX5
  isplitl [HGU]; · iexact HGU
  isplitl [HDN]; · iexact HDN
  isplitl [HR]; · iexact HR
  isplitl [HB0]; · iexact HB0
  isplitl [HB1]; · iexact HB1
  isplitl [HB2]; · iexact HB2
  isplitl [HB3]; · iexists _; iexact HB3
  isplitl [HB4]; · iexists _; iexact HB4
  isplitl [HB5]; · iexists _; iexact HB5
  isplitl [HB6]; · iexists _; iexact HB6
  isplitl [HB7]; · iexists _; iexact HB7
  isplitl [HB8]; · iexists _; iexact HB8
  isplitl [HB9]; · iexists _; iexact HB9
  isplitl [HB10]; · iexists _; iexact HB10
  isplitl [HB11]; · iexists _; iexact HB11
  isplitl [HC]; · iexact HC
  isplitl [HS12]; · iexact HS12
  isplitl [HS13]; · iexact HS13
  isplitl [HS14]; · iexact HS14
  iexists _; iexact HW

end Cert.KernelIdeal.Hand
-- ==== Proof.Spec.lean ====
/-
The mathematics both programs compute, on the extended reals, row by row: the norm, the scale and
codes of a row, and the two ways of summing and maximising a row.
-/
module

public import Idealize.ShloMosaic.Lib.Pointwise
public import Idealize.ShloMosaic.Lib.ValueIdx

@[expose] public section

noncomputable section

namespace Cert.Spec

open Idealize.ShloMosaic

/-- The greatest magnitude of a row. -/
def amax {n : ℕ} (v : Fin n → EReal) : EReal := Finset.fold max (Ideal.ofBits FTy.f32 0xFF800000#32) (fun k => FloatOps.absf (F := Ideal) (φ := .f32) (v k)) Finset.univ
/-- The scale of a row from its greatest magnitude. -/
def qscale (a : EReal) : EReal := if a = 0 then 1 else Ideal.div a (Ideal.ofBits FTy.f32 0x42FE0000#32)
/-- Rounded to nearest even, then clipped to the codes' range. -/
def code (z : EReal) : EReal := min (((127#32).toInt : ℝ) : EReal) (max (((4294967169#32).toInt : ℝ) : EReal) (Ideal.liftRound Ideal.roundHalfEven z))
/-- A row's normalised entry. -/
def nrm (x : Fin 5120 → EReal) (n : Fin 5120 → EReal) (j : Fin 5120) : EReal :=
  Ideal.div (x j) (Ideal.sqrt (Ideal.div (∑ k, x k * x k) (Ideal.ofBits FTy.f32 0x45A00000#32) + Ideal.ofBits FTy.f32 0x3727C5AC#32)) * n j
/-- A code as a number. -/
def num (b : BitVec 8) : EReal := FloatOps.sitofp (F := Ideal) FTy.bf16 b

section Row
variable (x : Fin 5120 → EReal) (n : Fin 5120 → EReal) (w : Fin 5120 → Fin 21504 → BitVec 8) (g : Fin 21504 → EReal)
  (w' : Fin 10752 → Fin 5120 → BitVec 8) (d : Fin 5120 → EReal)
/-- The first scale of a row. -/
def sc1 : EReal := qscale (amax (nrm x n))
/-- The first codes of a row. -/
def cd1 (k : Fin 5120) : EReal := code (Ideal.div (nrm x n k) (sc1 x n))
/-- Gate and up projections, scaled. -/
def pre (u : Fin 21504) : EReal := (∑ k, cd1 x n k * num (w k u)) * sc1 x n * g u
/-- The activation. -/
def act (u : Fin 10752) : EReal :=
  pre x n w g ⟨u.val, by omega⟩ * Ideal.logistic (pre x n w g ⟨u.val, by omega⟩) * pre x n w g ⟨10752 + u.val, by omega⟩
/-- The second scale of a row. -/
def sc2 : EReal := qscale (amax (act x n w g))
/-- The second codes of a row. -/
def cd2 (u : Fin 10752) : EReal := code (Ideal.div (act x n w g u) (sc2 x n w g))
/-- The row of the result. -/
def hid (j : Fin 5120) : EReal := x j + (∑ k, cd2 x n w g k * num (w' k j)) * sc2 x n w g * d j
end Row

theorem rhe_le {r : ℝ} {n : ℤ} (h : r ≤ n) : Ideal.roundHalfEven r ≤ n := by
  have h2 : ⌊r⌋ ≤ n := Int.floor_le_iff.mpr (lt_of_le_of_lt h (by linarith))
  unfold Ideal.roundHalfEven
  rcases eq_or_lt_of_le h2 with e | e
  · have : r = n := le_antisymm h (by rw [← e]; exact Int.floor_le r)
    simp only [e, this, sub_self]
    norm_num
  · dsimp only
    split_ifs <;> omega

theorem le_rhe {r : ℝ} {n : ℤ} (h : (n : ℝ) ≤ r) : n ≤ Ideal.roundHalfEven r := by
  have h2 : n ≤ ⌊r⌋ := Int.le_floor.mpr h
  unfold Ideal.roundHalfEven
  dsimp only
  split_ifs <;> omega

theorem rhe_int (n : ℤ) : Ideal.roundHalfEven (n : ℝ) = n := le_antisymm (rhe_le le_rfl) (le_rhe le_rfl)

theorem lo_eq : (((4294967169#32).toInt : ℝ) : EReal) = (((-127 : ℤ) : ℝ) : EReal) := by
  rw [show (4294967169#32).toInt = -127 from by decide]
theorem hi_eq : (((127#32).toInt : ℝ) : EReal) = (((127 : ℤ) : ℝ) : EReal) := by
  rw [show (127#32).toInt = 127 from by decide]

theorem code_int (z : EReal) : ∃ k : ℤ, -127 ≤ k ∧ k ≤ 127 ∧ code z = ((k : ℝ) : EReal) := by
  unfold code
  rw [lo_eq, hi_eq]
  induction z with
  | bot => exact ⟨-127, by omega, by omega, by rw [Ideal.liftRound_bot, max_eq_left bot_le, min_eq_right]; exact_mod_cast (by omega : (-127 : ℤ) ≤ 127)⟩
  | top => exact ⟨127, by omega, by omega, by rw [Ideal.liftRound_top, max_eq_right le_top, min_eq_left le_top]⟩
  | coe r =>
    refine ⟨min 127 (max (-127) (Ideal.roundHalfEven r)), by omega, by omega, ?_⟩
    rw [Ideal.liftRound_coe]
    push_cast
    rfl

/-- Clipping before rounding gives the same code. -/
theorem round_clip (z : EReal) : Ideal.liftRound Ideal.roundHalfEven (min (((127 : ℤ) : ℝ) : EReal) (max (((-127 : ℤ) : ℝ) : EReal) z)) = code z := by
  unfold code
  rw [lo_eq, hi_eq]
  induction z with
  | bot =>
    rw [Ideal.liftRound_bot, max_eq_left bot_le, min_eq_right (by exact_mod_cast (by omega : (-127 : ℤ) ≤ 127)), Ideal.liftRound_coe, rhe_int]
  | top => rw [Ideal.liftRound_top, max_eq_right le_top, min_eq_left le_top, Ideal.liftRound_coe, rhe_int]
  | coe r =>
    rw [Ideal.liftRound_coe]
    rcases le_total r ((-127 : ℤ) : ℝ) with h | h
    · have h3 := rhe_le h
      rw [max_eq_left (by exact_mod_cast h), max_eq_left (by exact_mod_cast h3), min_eq_right (by exact_mod_cast (by omega : (-127 : ℤ) ≤ 127)), Ideal.liftRound_coe, rhe_int]
    · have h3 := le_rhe h
      rw [max_eq_right (by exact_mod_cast h), max_eq_right (by exact_mod_cast h3)]
      rcases le_total r ((127 : ℤ) : ℝ) with h' | h'
      · have h4 := rhe_le h'
        rw [min_eq_right (by exact_mod_cast h'), min_eq_right (by exact_mod_cast h4), Ideal.liftRound_coe]
      · have h4 := le_rhe h'
        rw [min_eq_left (by exact_mod_cast h'), min_eq_left (by exact_mod_cast h4), Ideal.liftRound_coe, rhe_int]

theorem ofBits_hi : Ideal.ofBits FTy.f32 0x42FE0000#32 = (((127 : ℤ) : ℝ) : EReal) := by
  simp [Ideal.ofBits, Ideal.ieee]
  rw [← EReal.coe_mul]
  norm_num
theorem ofBits_lo : Ideal.ofBits FTy.f32 0xC2FE0000#32 = (((-127 : ℤ) : ℝ) : EReal) := by
  simp [Ideal.ofBits, Ideal.ieee]
  rw [← EReal.coe_mul]
  norm_num

/-- Storing a code as an integer loses nothing. -/
theorem num_code (z : EReal) : num (FloatOps.fptosi (F := Ideal) (φ := .f32) 8 (code z)) = code z := by
  obtain ⟨k, h1, h2, e⟩ := code_int z
  rw [e]
  have hc : Ideal.toIntClamped (-(2 ^ (8 - 1) : Nat)) ((2 ^ (8 - 1) : Nat) - 1) ((k : ℝ) : EReal) = k := by
    rw [Ideal.toIntClamped_coe, Int.floor_intCast, Int.ceil_intCast, ite_self]
    norm_num
    omega
  show (((BitVec.ofInt 8 (Ideal.toIntClamped (-(2 ^ (8 - 1) : Nat)) ((2 ^ (8 - 1) : Nat) - 1) ((k : ℝ) : EReal))).toInt : ℝ) : EReal) = _
  rw [hc, BitVec.toInt_ofInt_eq_self (by decide) (by norm_num; omega) (by norm_num; omega)]

/-- A sum over a range, by blocks. -/
theorem sum_mul {M : Type} [AddCommMonoid M] (a b : ℕ) (f : ℕ → M) : ∑ j : Fin (a * b), f j.val = ∑ m : Fin a, ∑ l : Fin b, f (l.val + b * m.val) := by
  rw [← finProdFinEquiv.sum_comp, Fintype.sum_prod_type]
  rfl

/-- The lane sums of `n` blocks of 512 columns. -/
def lsum (f : ℕ → EReal) (l : ℕ) : ℕ → EReal
  | 0 => 0
  | n + 1 => lsum f l n + (f (512 * n + l) + f (512 * n + (128 + l)) + f (512 * n + (256 + l)) + f (512 * n + (384 + l)))

theorem lsum_eq (f : ℕ → EReal) (l n : ℕ) : lsum f l n = ∑ m ∈ Finset.range (4 * n), f (l + 128 * m) := by
  induction n with
  | zero => rfl
  | succ n ih =>
    rw [lsum, ih, show 4 * (n + 1) = 4 * n + 1 + 1 + 1 + 1 from by ring, Finset.sum_range_succ, Finset.sum_range_succ, Finset.sum_range_succ, Finset.sum_range_succ]
    rw [show 512 * n + l = l + 128 * (4 * n) from by ring, show 512 * n + (128 + l) = l + 128 * (4 * n + 1) from by ring,
      show 512 * n + (256 + l) = l + 128 * (4 * n + 1 + 1) from by ring, show 512 * n + (384 + l) = l + 128 * (4 * n + 1 + 1 + 1) from by ring]
    abel

theorem sum_lsum (f : ℕ → EReal) : ∑ l : Fin 128, lsum f l.val 10 = ∑ j : Fin 5120, f j.val := by
  rw [show ∑ j : Fin 5120, f j.val = ∑ m : Fin 40, ∑ l : Fin 128, f (l.val + 128 * m.val) from sum_mul 40 128 f, Finset.sum_comm]
  refine Finset.sum_congr rfl fun l _ => ?_
  rw [lsum_eq, Finset.sum_range]

/-- The lane maxima of the magnitudes of `n` blocks of 512 columns. -/
def lmax (f : ℕ → EReal) (l : ℕ) : ℕ → EReal
  | 0 => 0
  | n + 1 => max (lmax f l n) (max (max (max (f (512 * n + l)) (f (512 * n + (128 + l)))) (f (512 * n + (256 + l)))) (f (512 * n + (384 + l))))
/-- The same with blocks of 256 columns. -/
def lmax2 (f : ℕ → EReal) (l : ℕ) : ℕ → EReal
  | 0 => 0
  | n + 1 => max (lmax2 f l n) (max (f (256 * n + l)) (f (256 * n + (128 + l))))

theorem lmax_le (f : ℕ → EReal) (l n : ℕ) (c : EReal) : lmax f l n ≤ c ↔ 0 ≤ c ∧ ∀ m < 4 * n, f (l + 128 * m) ≤ c := by
  induction n with
  | zero => simp [lmax]
  | succ n ih =>
    rw [lmax, max_le_iff, ih, show 4 * (n + 1) = 4 * n + 1 + 1 + 1 + 1 from by ring]
    rw [show 512 * n + l = l + 128 * (4 * n) from by ring, show 512 * n + (128 + l) = l + 128 * (4 * n + 1) from by ring,
      show 512 * n + (256 + l) = l + 128 * (4 * n + 1 + 1) from by ring, show 512 * n + (384 + l) = l + 128 * (4 * n + 1 + 1 + 1) from by ring]
    simp only [Nat.forall_lt_succ_right, max_le_iff]
    tauto

theorem lmax2_le (f : ℕ → EReal) (l n : ℕ) (c : EReal) : lmax2 f l n ≤ c ↔ 0 ≤ c ∧ ∀ m < 2 * n, f (l + 128 * m) ≤ c := by
  induction n with
  | zero => simp [lmax2]
  | succ n ih =>
    rw [lmax2, max_le_iff, ih, show 2 * (n + 1) = 2 * n + 1 + 1 from by ring]
    rw [show 256 * n + l = l + 128 * (2 * n) from by ring, show 256 * n + (128 + l) = l + 128 * (2 * n + 1) from by ring]
    simp only [Nat.forall_lt_succ_right, max_le_iff]
    tauto

theorem bot_bits : Ideal.ofBits FTy.f32 0xFF800000#32 = ⊥ := by simp [Ideal.ofBits, Ideal.ieee]

/-- A maximum over the lanes of lane maxima is the maximum over the row. -/
theorem fold_lanes (K N : ℕ) (hN : N = K * 128) (hK : 0 < K) (f : ℕ → EReal) (h0 : ∀ k, 0 ≤ f k) (g : ℕ → EReal)
    (hg : ∀ l c, g l ≤ c ↔ 0 ≤ c ∧ ∀ m < K, f (l + 128 * m) ≤ c) :
    Finset.fold max (Ideal.ofBits FTy.f32 0xFF800000#32) (fun l : Fin 128 => g l.val) Finset.univ
      = Finset.fold max (Ideal.ofBits FTy.f32 0xFF800000#32) (fun k : Fin N => f k.val) Finset.univ := by
  subst hN
  refine eq_of_forall_ge_iff fun c => ?_
  rw [Finset.fold_max_le, Finset.fold_max_le]
  simp only [bot_bits, bot_le, true_and, Finset.mem_univ, forall_const, hg]
  constructor
  · intro h j
    have := (h ⟨j.val % 128, Nat.mod_lt _ (by decide)⟩).2 (j.val / 128) (by have := j.isLt; omega)
    rwa [Nat.mod_add_div] at this
  · intro h l
    have hl := l.isLt
    exact ⟨(h0 _).trans (h ⟨0, by omega⟩), fun m hm => h ⟨l.val + 128 * m, by omega⟩⟩

theorem absf_nonneg (a : EReal) : 0 ≤ FloatOps.absf (F := Ideal) (φ := .f32) a := by
  rw [Ideal.absf_def]
  rcases le_total 0 a with h | h
  · exact h.trans (le_max_left _ _)
  · exact (EReal.neg_nonneg.mpr h).trans (le_max_right _ _)

end Cert.Spec
-- ==== Proof.KernelIdealBlk.lean ====
/-
The operations the kernel repeats on its blocks of columns, named once, and what each computes on
the extended reals.
-/
module

public import proofs.«01_k».proof.Proof.KernelIdealRun
public import proofs.«01_k».proof.Proof.Spec
public import Idealize.ShloMosaic.Lib.Pointwise

@[expose] public section

noncomputable section

namespace Cert.KernelIdeal.Hand

open Cert.KernelIdeal Cert.KernelIdeal.Gen
open Idealize.ShloMosaic

section Ops
variable {F : FTy → Type} [FloatOps F]

/-- Adds the squares of a block of 512 columns to the 128 running sums. -/
def sq4 (a : FVec F S72x128 .f32) (v : Vec F S72x512 .f32) : FVec F S72x128 .f32 :=
  addf a (addf (addf (addf (extractStridedSlice S72x128 ![0, 0] (mulf v v) slices_S72x512_o0_0_S72x128)
    (extractStridedSlice S72x128 ![0, 128] (mulf v v) slices_S72x512_o0_128_S72x128))
    (extractStridedSlice S72x128 ![0, 256] (mulf v v) slices_S72x512_o0_256_S72x128))
    (extractStridedSlice S72x128 ![0, 384] (mulf v v) slices_S72x512_o0_384_S72x128))
/-- The root of the mean square. -/
def colDen (t : FVec F S72x128 .f32) : FVec F S72x1 .f32 :=
  sqrt (addf (divf (shapeCast S72x1 (multiReduction .add [1] S72 t 0x00000000#32 reduces_S72x128_S72 (.inl rfl) rfl) shapeCasts_S72_S72x1)
    (broadcast S72x1 (Scalar.ofBits .f32 0x45A00000#32))) (broadcast S72x1 (Scalar.ofBits .f32 0x3727C5AC#32)))
/-- A block divided by the root and multiplied by the weights. -/
def nrmB (d : FVec F S72x1 .f32) (v : Vec F S72x512 .f32) (n : Vec F S1x512 .f32) : FVec F S72x512 .f32 :=
  mulf (divf v (broadcastTo S72x512 d broadcasts_S72x1_S72x512)) (broadcastTo S72x512 (shapeCast S1x512 n shapeCasts_S1x512_S1x512) broadcasts_S1x512_S72x512)
/-- Takes the magnitudes of a block of 512 columns into the 128 running maxima. -/
def mx4 (a : FVec F S72x128 .f32) (v : Vec F S72x512 .f32) : FVec F S72x128 .f32 :=
  maximumf a (maximumf (maximumf (maximumf (extractStridedSlice S72x128 ![0, 0] (absf v) slices_S72x512_o0_0_S72x128)
    (extractStridedSlice S72x128 ![0, 128] (absf v) slices_S72x512_o0_128_S72x128))
    (extractStridedSlice S72x128 ![0, 256] (absf v) slices_S72x512_o0_256_S72x128))
    (extractStridedSlice S72x128 ![0, 384] (absf v) slices_S72x512_o0_384_S72x128))
/-- The scale from the 128 running maxima. -/
def colScale (t : FVec F S72x128 .f32) : FVec F S72x1 .f32 :=
  let m := shapeCast S72x1 (multiReduction .maximumf [1] S72 t 0xFF800000#32 reduces_S72x128_S72 (.inl rfl) rfl) shapeCasts_S72_S72x1
  select (cmpf .oeq m (broadcast S72x1 (Scalar.ofBits .f32 0x00000000#32))) (broadcast S72x1 (Scalar.ofBits .f32 0x3F800000#32))
    (divf m (broadcast S72x1 (Scalar.ofBits .f32 0x42FE0000#32)))
/-- The scale as a row. -/
def rowOf (s : FVec F S72x1 .f32) : FVec F S1x72 .f32 :=
  extractStridedSlice S1x72 ![0, 0] (transpose S128x72 [1, 0] (broadcastTo S72x128 (shapeCast S72x1 s shapeCasts_S72x1_S72x1) broadcasts_S72x1_S72x128) transposes_S72x128_p1_0_S128x72) slices_S128x72_o0_0_S1x72
/-- A block quantised, still in floats. -/
def qB (s : FVec F S72x1 .f32) (v : Vec F S72x512 .f32) : FVec F S72x512 .f32 :=
  roundeven (minimumf (broadcast S72x512 (Scalar.ofBits .f32 0x42FE0000#32)) (maximumf (broadcast S72x512 (Scalar.ofBits .f32 0xC2FE0000#32))
    (divf v (broadcastTo S72x512 s broadcasts_S72x1_S72x512))))
/-- Its codes. -/
def qI (s : FVec F S72x1 .f32) (v : Vec F S72x512 .f32) : IVec S72x512 8 :=
  shapeCast S72x512 (fptosi 8 (qB s v)) shapeCasts_S72x512_S72x512
/-- Its codes as floats. -/
def qF (s : FVec F S72x1 .f32) (v : Vec F S72x512 .f32) : FVec F S72x512 .bf16 :=
  shapeCast S72x512 (truncf .bf16 (qB s v) bitsLt_bf16_f32) shapeCasts_S72x512_S72x512
end Ops

/-- Entry `k` of row `r`, for `k` any number. -/
def at2 {R C : ℕ} (x : (⟨2, ![R, C]⟩ : Shape).Idx → EReal) (r : Fin R) (k : ℕ) : EReal := if h : k < C then x (ix2 r ⟨k, h⟩) else 0

theorem at2_lt {R C : ℕ} (x : (⟨2, ![R, C]⟩ : Shape).Idx → EReal) (r : Fin R) (k : Fin C) : at2 x r k.val = x (ix2 r k) := dif_pos k.isLt

theorem sq4_apply (a : FVec Ideal S72x128 .f32) (v : Vec Ideal S72x512 .f32) (f : Fin 72 → ℕ → EReal) (n : ℕ)
    (ha : ∀ i : S72x128.Idx, a i = Spec.lsum (fun k => f (i 0) k * f (i 0) k) (i 1).val n)
    (hv : ∀ i : S72x512.Idx, v i = f (i 0) (512 * n + (i 1).val)) (i : S72x128.Idx) :
    sq4 a v i = Spec.lsum (fun k => f (i 0) k * f (i 0) k) (i 1).val (n + 1) := by
  unfold sq4
  pointwise
  simp only [ha, hv]
  rfl

theorem mx4_apply (a : FVec Ideal S72x128 .f32) (v : Vec Ideal S72x512 .f32) (f : Fin 72 → ℕ → EReal) (n : ℕ)
    (ha : ∀ i : S72x128.Idx, a i = Spec.lmax (fun k => FloatOps.absf (F := Ideal) (φ := .f32) (f (i 0) k)) (i 1).val n)
    (hv : ∀ i : S72x512.Idx, v i = f (i 0) (512 * n + (i 1).val)) (i : S72x128.Idx) :
    mx4 a v i = Spec.lmax (fun k => FloatOps.absf (F := Ideal) (φ := .f32) (f (i 0) k)) (i 1).val (n + 1) := by
  unfold mx4
  pointwise
  simp only [ha, hv]
  rfl

theorem colDen_apply (t : FVec Ideal S72x128 .f32) (f : Fin 72 → ℕ → EReal)
    (ht : ∀ i : S72x128.Idx, t i = Spec.lsum (f (i 0)) (i 1).val 10) (i : S72x1.Idx) :
    colDen t i = Ideal.sqrt (Ideal.div (∑ k : Fin 5120, f (i 0) k.val) (Ideal.ofBits FTy.f32 0x45A00000#32) + Ideal.ofBits FTy.f32 0x3727C5AC#32) := by
  unfold colDen
  pointwise
  simp only [ht]
  rw [← Spec.sum_lsum]
  rfl

theorem nrmB_apply (d : FVec Ideal S72x1 .f32) (v : Vec Ideal S72x512 .f32) (n : Vec Ideal S1x512 .f32) (i : S72x512.Idx) :
    nrmB d v n i = Ideal.div (v i) (d (ix2 (i 0) 0)) * n (ix2 0 (i 1)) := by
  unfold nrmB
  pointwise

theorem colScale_apply (t : FVec Ideal S72x128 .f32) (i : S72x1.Idx) :
    colScale t i = Spec.qscale (Finset.fold max (Ideal.ofBits FTy.f32 0xFF800000#32) (fun l : Fin 128 => t (ix2 (i 0) l)) Finset.univ) := by
  unfold colScale Spec.qscale
  pointwise

theorem rowOf_apply (s : FVec Ideal S72x1 .f32) (i : S1x72.Idx) : rowOf s i = s (ix2 (i 1) 0) := by
  unfold rowOf
  pointwise

theorem qB_apply (s : FVec Ideal S72x1 .f32) (v : Vec Ideal S72x512 .f32) (i : S72x512.Idx) :
    qB s v i = Spec.code (Ideal.div (v i) (s (ix2 (i 0) 0))) := by
  rw [← Spec.round_clip, ← Spec.ofBits_hi, ← Spec.ofBits_lo]
  unfold qB
  pointwise

theorem qI_apply (s : FVec Ideal S72x1 .f32) (v : Vec Ideal S72x512 .f32) (i : S72x512.Idx) :
    qI s v i = FloatOps.fptosi (F := Ideal) (φ := .f32) 8 (Spec.code (Ideal.div (v i) (s (ix2 (i 0) 0)))) := by
  rw [← qB_apply]
  unfold qI
  pointwise

theorem qF_apply (s : FVec Ideal S72x1 .f32) (v : Vec Ideal S72x512 .f32) (i : S72x512.Idx) :
    qF s v i = Spec.code (Ideal.div (v i) (s (ix2 (i 0) 0))) := by
  rw [← qB_apply]
  unfold qF
  pointwise

end Cert.KernelIdeal.Hand
-- ==== Proof.KernelIdealNorm.lean ====
/-
The first half of the kernel's arithmetic: the root mean square, the normalised rows, their scale
and their codes, read off the body's run.
-/
module

public import proofs.«01_k».proof.Proof.KernelIdealBlk
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-- A load of 512 columns from an array of rows. -/
theorem ld_apply {κ : Kind} {sp : Space} (v : View sig κ sp S72x5120 .f32) (X : v.ty.Contents (Elt Ideal)) (o : ℕ)
    (inb : ∀ d, ![0, o] d + S72x512.size d ≤ S72x5120.size d) (i : S72x512.Idx) :
    v.readAt (Elt Ideal) (Rect.unit (s := S72x5120) ![0, o] S72x512.size inb).toLoadRect X i = at2 (v.read (Elt Ideal) X) (i 0) (o + (i 1).val) := by
  have h1 : (i 1).val < 512 := (i 1).isLt
  have h2 : o + 512 ≤ 5120 := inb 1
  rw [View.readAt_apply]
  unfold at2
  rw [dif_pos (show o + (i 1).val < 5120 by omega)]
  refine congrArg (v.read (Elt Ideal) X) (funext fun a => Fin.ext ?_)
  match a with
  | ⟨0, _⟩ => simp [LoadRect.idx, Rect.unit, ix2]
  | ⟨1, _⟩ => simp [LoadRect.idx, Rect.unit, ix2]

theorem ldw_apply {κ : Kind} {sp : Space} (v : View sig κ sp S1x5120 .f32) (X : v.ty.Contents (Elt Ideal)) (o : ℕ)
    (inb : ∀ d, ![0, o] d + S1x512.size d ≤ S1x5120.size d) (i : S1x512.Idx) :
    v.readAt (Elt Ideal) (Rect.unit (s := S1x5120) ![0, o] S1x512.size inb).toLoadRect X i = at2 (v.read (Elt Ideal) X) (i 0) (o + (i 1).val) := by
  have h1 : (i 1).val < 512 := (i 1).isLt
  have h2 : o + 512 ≤ 5120 := inb 1
  rw [View.readAt_apply]
  unfold at2
  rw [dif_pos (show o + (i 1).val < 5120 by omega)]
  refine congrArg (v.read (Elt Ideal) X) (funext fun a => Fin.ext ?_)
  match a with
  | ⟨0, _⟩ => simp [LoadRect.idx, Rect.unit, ix2]
  | ⟨1, _⟩ => simp [LoadRect.idx, Rect.unit, ix2]

/-- A load of a stored buffer, each of whose pieces agrees with one function. -/
theorem readCov_apply {κ : Kind} {sp : Space} {s : Shape} {e : EltTy} (v : View sig κ sp s e) (L : List (View.Piece (Elt Ideal) s e)) (B : LoadRect s)
    (G : s.Idx → Elt Ideal e) (hL : ∀ p ∈ L, ∀ x, p.2 x = G (p.1.emb x)) (j : B.shape.Idx) (h : ∃ p ∈ L, B.idx j ∈ p.1.set) :
    v.readCov L B j = G (B.idx j) :=
  View.read_writes_apply_of_pieces v _ G L hL _ h

variable (c : Dev nD)
variable (a0 : Memref sig .tc .vmem S72x5120 .f32) (a1 : Memref sig .tc .vmem S1x5120 .f32)
variable (X0 : Buf (Elt Ideal) (a0.view.loc (c : Thread nD τ))) (X1 : Buf (Elt Ideal) (a1.view.loc (c : Thread nD τ)))

/-- The rows as the body reads them. -/
abbrev xr (r : Fin 72) (k : ℕ) : EReal := at2 (a0.view.read (Elt Ideal) X0) r k
/-- The norm weights as the body reads them. -/
abbrev nr (k : ℕ) : EReal := at2 (a1.view.read (Elt Ideal) X1) (0 : Fin 1) k

theorem r5_eq : body_run.sl.r_5 (F := Ideal) c a0 X0 =
    sq4 (sq4 (sq4 (sq4 (sq4 (sq4 (sq4 (sq4 (sq4 (broadcast S72x128 (Scalar.ofBits .f32 0x00000000#32))
      (a0.view.readAt (Elt Ideal) (Rect.unit (s := S72x5120) ![0, 0] S72x512.size inb_S72x5120_S72x512_0_0).toLoadRect X0))
      (a0.view.readAt (Elt Ideal) (Rect.unit (s := S72x5120) ![0, 512] S72x512.size inb_S72x5120_S72x512_0_512).toLoadRect X0))
      (a0.view.readAt (Elt Ideal) (Rect.unit (s := S72x5120) ![0, 1024] S72x512.size inb_S72x5120_S72x512_0_1024).toLoadRect X0))
      (a0.view.readAt (Elt Ideal) (Rect.unit (s := S72x5120) ![0, 1536] S72x512.size inb_S72x5120_S72x512_0_1536).toLoadRect X0))
      (a0.view.readAt (Elt Ideal) (Rect.unit (s := S72x5120) ![0, 2048] S72x512.size inb_S72x5120_S72x512_0_2048).toLoadRect X0))
      (a0.view.readAt (Elt Ideal) (Rect.unit (s := S72x5120) ![0, 2560] S72x512.size inb_S72x5120_S72x512_0_2560).toLoadRect X0))
      (a0.view.readAt (Elt Ideal) (Rect.unit (s := S72x5120) ![0, 3072] S72x512.size inb_S72x5120_S72x512_0_3072).toLoadRect X0))
      (a0.view.readAt (Elt Ideal) (Rect.unit (s := S72x5120) ![0, 3584] S72x512.size inb_S72x5120_S72x512_0_3584).toLoadRect X0))
      (a0.view.readAt (Elt Ideal) (Rect.unit (s := S72x5120) ![0, 4096] S72x512.size inb_S72x5120_S72x512_0_4096).toLoadRect X0) := rfl

theorem r7_eq : body_run.sl.r_7 (F := Ideal) c a0 X0 = colDen (sq4 (body_run.sl.r_5 (F := Ideal) c a0 X0)
      (a0.view.readAt (Elt Ideal) (Rect.unit (s := S72x5120) ![0, 4608] S72x512.size inb_S72x5120_S72x512_0_4608).toLoadRect X0)) := rfl

theorem r7_apply (i : S72x1.Idx) : body_run.sl.r_7 (F := Ideal) c a0 X0 i
    = Ideal.sqrt (Ideal.div (∑ k : Fin 5120, xr c a0 X0 (i 0) k.val * xr c a0 X0 (i 0) k.val) (Ideal.ofBits FTy.f32 0x45A00000#32) + Ideal.ofBits FTy.f32 0x3727C5AC#32) := by
  rw [r7_eq, r5_eq]
  refine colDen_apply _ (fun r k => xr c a0 X0 r k * xr c a0 X0 r k) ?_ i
  have h0 : ∀ i : S72x128.Idx, broadcast (α := Ideal .f32) S72x128 (Scalar.ofBits .f32 0x00000000#32) i = Spec.lsum (fun k => xr c a0 X0 (i 0) k * xr c a0 X0 (i 0) k) (i 1).val 0 := fun i => by
    unfold Spec.lsum
    pointwise
  have h1 := sq4_apply _ _ (xr c a0 X0) 0 h0 (ld_apply a0.view X0 0 inb_S72x5120_S72x512_0_0)
  have h2 := sq4_apply _ _ (xr c a0 X0) 1 h1 (ld_apply a0.view X0 512 inb_S72x5120_S72x512_0_512)
  have h3 := sq4_apply _ _ (xr c a0 X0) 2 h2 (ld_apply a0.view X0 1024 inb_S72x5120_S72x512_0_1024)
  have h4 := sq4_apply _ _ (xr c a0 X0) 3 h3 (ld_apply a0.view X0 1536 inb_S72x5120_S72x512_0_1536)
  have h5 := sq4_apply _ _ (xr c a0 X0) 4 h4 (ld_apply a0.view X0 2048 inb_S72x5120_S72x512_0_2048)
  have h6 := sq4_apply _ _ (xr c a0 X0) 5 h5 (ld_apply a0.view X0 2560 inb_S72x5120_S72x512_0_2560)
  have h7 := sq4_apply _ _ (xr c a0 X0) 6 h6 (ld_apply a0.view X0 3072 inb_S72x5120_S72x512_0_3072)
  have h8 := sq4_apply _ _ (xr c a0 X0) 7 h7 (ld_apply a0.view X0 3584 inb_S72x5120_S72x512_0_3584)
  have h9 := sq4_apply _ _ (xr c a0 X0) 8 h8 (ld_apply a0.view X0 4096 inb_S72x5120_S72x512_0_4096)
  exact sq4_apply _ _ (xr c a0 X0) 9 h9 (ld_apply a0.view X0 4608 inb_S72x5120_S72x512_0_4608)

theorem fb_pieces : ∀ p ∈ body_run.sl.HB4_10 (F := Ideal) c a0 X0, ∀ x, p.2 x = a0.view.read (Elt Ideal) X0 (p.1.emb x) := by
  unfold body_run.sl.HB4_10
  simp only [List.forall_mem_cons, List.not_mem_nil, false_imp_iff, implies_true, and_true]
  refine ⟨?_, ?_, ?_, ?_, ?_, ?_, ?_, ?_, ?_, ?_⟩ <;> intro x <;> unfold_payloads <;> pointwise <;> rfl

theorem fb_cover (y : S72x5120.Idx) : ∃ p ∈ body_run.sl.HB4_10 (F := Ideal) c a0 X0, y ∈ p.1.set :=
  View.cover_of_tiledL (body_run.sl.HB4_10 (F := Ideal) c a0 X0) S72x512.size (by sl_kernel_rfl) y

/-- The rows stored for the second reading hold the rows. -/
theorem fb_apply (o : ℕ) (inb : ∀ d, ![0, o] d + S72x512.size d ≤ S72x5120.size d) (i : S72x512.Idx) :
    (Memref.whole (κ := .tc) cc0_scratch2).view.readCov (body_run.sl.HB4_10 (F := Ideal) c a0 X0) (Rect.unit (s := S72x5120) ![0, o] S72x512.size inb).toLoadRect i = xr c a0 X0 (i 0) (o + (i 1).val) := by
  refine (readCov_apply (Memref.whole (κ := .tc) cc0_scratch2).view (body_run.sl.HB4_10 (F := Ideal) c a0 X0) (Rect.unit (s := S72x5120) ![0, o] S72x512.size inb).toLoadRect
    (a0.view.read (Elt Ideal) X0) (fb_pieces c a0 X0) i (fb_cover c a0 X0 _)).trans (ld_apply a0.view X0 o inb i)

/-- The normalised rows of the specification, as the body reads its operands. -/
def nv (r : Fin 72) (k : ℕ) : EReal := Ideal.div (xr c a0 X0 r k)
  (Ideal.sqrt (Ideal.div (∑ k : Fin 5120, xr c a0 X0 r k.val * xr c a0 X0 r k.val) (Ideal.ofBits FTy.f32 0x45A00000#32) + Ideal.ofBits FTy.f32 0x3727C5AC#32)) * nr c a1 X1 k

theorem nrmB_ld (o : ℕ) (inb : ∀ d, ![0, o] d + S72x512.size d ≤ S72x5120.size d) (inb' : ∀ d, ![0, o] d + S1x512.size d ≤ S1x5120.size d) (i : S72x512.Idx) :
    nrmB (body_run.sl.r_7 (F := Ideal) c a0 X0)
      ((Memref.whole (κ := .tc) cc0_scratch2).view.readCov (body_run.sl.HB4_10 (F := Ideal) c a0 X0) (Rect.unit (s := S72x5120) ![0, o] S72x512.size inb).toLoadRect)
      (a1.view.readAt (Elt Ideal) (Rect.unit (s := S1x5120) ![0, o] S1x512.size inb').toLoadRect X1) i = nv c a0 a1 X0 X1 (i 0) (o + (i 1).val) := by
  refine (nrmB_apply _ _ _ i).trans ?_
  unfold nv
  refine congrArg₂ (· * ·) (congrArg₂ Ideal.div (fb_apply c a0 X0 o inb i) (r7_apply c a0 X0 _)) (ldw_apply a1.view X1 o inb' _)

/-- The normalised block at column `o`. -/
abbrev nB (o : ℕ) (inb : ∀ d, ![0, o] d + S72x512.size d ≤ S72x5120.size d) (inb' : ∀ d, ![0, o] d + S1x512.size d ≤ S1x5120.size d) : FVec Ideal S72x512 .f32 :=
  nrmB (body_run.sl.r_7 (F := Ideal) c a0 X0)
      ((Memref.whole (κ := .tc) cc0_scratch2).view.readCov (body_run.sl.HB4_10 (F := Ideal) c a0 X0) (Rect.unit (s := S72x5120) ![0, o] S72x512.size inb).toLoadRect)
      (a1.view.readAt (Elt Ideal) (Rect.unit (s := S1x5120) ![0, o] S1x512.size inb').toLoadRect X1)

theorem r16_eq : body_run.sl.r_16 (F := Ideal) c a0 a1 X0 X1 =
    mx4 (mx4 (mx4 (mx4 (mx4 (mx4 (mx4 (mx4 (broadcast S72x128 (Scalar.ofBits .f32 0x00000000#32))
      (nB c a0 a1 X0 X1 0 inb_S72x5120_S72x512_0_0 inb_S1x5120_S1x512_0_0))
      (nB c a0 a1 X0 X1 512 inb_S72x5120_S72x512_0_512 inb_S1x5120_S1x512_0_512))
      (nB c a0 a1 X0 X1 1024 inb_S72x5120_S72x512_0_1024 inb_S1x5120_S1x512_0_1024))
      (nB c a0 a1 X0 X1 1536 inb_S72x5120_S72x512_0_1536 inb_S1x5120_S1x512_0_1536))
      (nB c a0 a1 X0 X1 2048 inb_S72x5120_S72x512_0_2048 inb_S1x5120_S1x512_0_2048))
      (nB c a0 a1 X0 X1 2560 inb_S72x5120_S72x512_0_2560 inb_S1x5120_S1x512_0_2560))
      (nB c a0 a1 X0 X1 3072 inb_S72x5120_S72x512_0_3072 inb_S1x5120_S1x512_0_3072))
      (nB c a0 a1 X0 X1 3584 inb_S72x5120_S72x512_0_3584 inb_S1x5120_S1x512_0_3584) := rfl

theorem r18_eq : body_run.sl.r_18 (F := Ideal) c a0 a1 X0 X1 = colScale (mx4 (mx4 (body_run.sl.r_16 (F := Ideal) c a0 a1 X0 X1)
      (nB c a0 a1 X0 X1 4096 inb_S72x5120_S72x512_0_4096 inb_S1x5120_S1x512_0_4096))
      (nB c a0 a1 X0 X1 4608 inb_S72x5120_S72x512_0_4608 inb_S1x5120_S1x512_0_4608)) := rfl

/-- The scale as the specification states it. -/
def sv (r : Fin 72) : EReal := Spec.qscale (Spec.amax fun k : Fin 5120 => nv c a0 a1 X0 X1 r k.val)

theorem r18_apply (i : S72x1.Idx) : body_run.sl.r_18 (F := Ideal) c a0 a1 X0 X1 i = sv c a0 a1 X0 X1 (i 0) := by
  rw [r18_eq, r16_eq]
  refine (colScale_apply _ i).trans ?_
  unfold sv Spec.amax
  refine congrArg Spec.qscale ?_
  have h0 : ∀ i : S72x128.Idx, broadcast (α := Ideal .f32) S72x128 (Scalar.ofBits .f32 0x00000000#32) i
      = Spec.lmax (fun k => FloatOps.absf (F := Ideal) (φ := .f32) (nv c a0 a1 X0 X1 (i 0) k)) (i 1).val 0 := fun i => by
    unfold Spec.lmax
    pointwise
  have h1 := mx4_apply _ _ (nv c a0 a1 X0 X1) 0 h0 (nrmB_ld c a0 a1 X0 X1 0 inb_S72x5120_S72x512_0_0 inb_S1x5120_S1x512_0_0)
  have h2 := mx4_apply _ _ (nv c a0 a1 X0 X1) 1 h1 (nrmB_ld c a0 a1 X0 X1 512 inb_S72x5120_S72x512_0_512 inb_S1x5120_S1x512_0_512)
  have h3 := mx4_apply _ _ (nv c a0 a1 X0 X1) 2 h2 (nrmB_ld c a0 a1 X0 X1 1024 inb_S72x5120_S72x512_0_1024 inb_S1x5120_S1x512_0_1024)
  have h4 := mx4_apply _ _ (nv c a0 a1 X0 X1) 3 h3 (nrmB_ld c a0 a1 X0 X1 1536 inb_S72x5120_S72x512_0_1536 inb_S1x5120_S1x512_0_1536)
  have h5 := mx4_apply _ _ (nv c a0 a1 X0 X1) 4 h4 (nrmB_ld c a0 a1 X0 X1 2048 inb_S72x5120_S72x512_0_2048 inb_S1x5120_S1x512_0_2048)
  have h6 := mx4_apply _ _ (nv c a0 a1 X0 X1) 5 h5 (nrmB_ld c a0 a1 X0 X1 2560 inb_S72x5120_S72x512_0_2560 inb_S1x5120_S1x512_0_2560)
  have h7 := mx4_apply _ _ (nv c a0 a1 X0 X1) 6 h6 (nrmB_ld c a0 a1 X0 X1 3072 inb_S72x5120_S72x512_0_3072 inb_S1x5120_S1x512_0_3072)
  have h8 := mx4_apply _ _ (nv c a0 a1 X0 X1) 7 h7 (nrmB_ld c a0 a1 X0 X1 3584 inb_S72x5120_S72x512_0_3584 inb_S1x5120_S1x512_0_3584)
  have h9 := mx4_apply _ _ (nv c a0 a1 X0 X1) 8 h8 (nrmB_ld c a0 a1 X0 X1 4096 inb_S72x5120_S72x512_0_4096 inb_S1x5120_S1x512_0_4096)
  have h10 := mx4_apply _ _ (nv c a0 a1 X0 X1) 9 h9 (nrmB_ld c a0 a1 X0 X1 4608 inb_S72x5120_S72x512_0_4608 inb_S1x5120_S1x512_0_4608)
  refine Eq.trans (congrArg (fun g => Finset.fold max _ g Finset.univ) (funext fun l => h10 (ix2 (i 0) l))) ?_
  exact Spec.fold_lanes 40 5120 rfl (by decide) (fun k => FloatOps.absf (F := Ideal) (φ := .f32) (nv c a0 a1 X0 X1 (i 0) k)) (fun k => Spec.absf_nonneg _)
    (fun l => Spec.lmax (fun k => FloatOps.absf (F := Ideal) (φ := .f32) (nv c a0 a1 X0 X1 (i 0) k)) l 10) (fun l c => Spec.lmax_le _ l 10 c)

end Cert.KernelIdeal.Hand
-- ==== Proof.KernelIdealQuant.lean ====
/-
The codes of the normalised rows, as the body's run stores them: in eight bits for the result and as
floats for the first product.
-/
module

public import proofs.«01_k».proof.Proof.KernelIdealNorm

@[expose] public section

set_option maxRecDepth 16384

noncomputable section

namespace Cert.KernelIdeal.Hand

open Cert.KernelIdeal Cert.KernelIdeal.Gen
open Idealize.ShloMosaic Idealize.ShloMosaic.TcCoe

variable (c : Dev nD)
variable (a0 : Memref sig .tc .vmem S72x5120 .f32) (a1 : Memref sig .tc .vmem S1x5120 .f32)
variable (X0 : Buf (Elt Ideal) (a0.view.loc (c : Thread nD τ))) (X1 : Buf (Elt Ideal) (a1.view.loc (c : Thread nD τ)))

/-- An array of eighty rows from one of seventy-two. -/
def pad80 {α : Type} (z : α) {C : ℕ} (f : Fin 72 → ℕ → α) : (⟨2, ![80, C]⟩ : Shape).Idx → α := fun y => if h : (y 0).val < 72 then f ⟨(y 0).val, h⟩ (y 1).val else z

theorem unit_emb {s : Shape} (off size : Fin s.rank → ℕ) (inb : ∀ d, off d + size d ≤ s.size d) (x : (Rect.unit off size inb).shape.Idx) (d : Fin s.rank) :
    ((Rect.unit off size inb).emb x d).val = off d + (x d).val := by
  show off d + 1 * (x d).val = _
  rw [Nat.one_mul]

theorem pad80_emb {α : Type} (z : α) (f : Fin 72 → ℕ → α) (o : ℕ) (inb : ∀ d, ![0, o] d + S72x512.size d ≤ S80x5120.size d) (x : S72x512.Idx) :
    pad80 (C := 5120) z f ((Rect.unit (s := S80x5120) ![0, o] S72x512.size inb).emb x) = f (x 0) (o + (x 1).val) := by
  have h0 : (x 0).val < 72 := (x 0).isLt
  unfold pad80
  have e0 := (unit_emb (s := S80x5120) ![0, o] S72x512.size inb x 0).trans (Nat.zero_add _)
  rw [dif_pos (e0.trans_lt h0)]
  exact congrArg₂ f (Fin.ext e0) (unit_emb (s := S80x5120) ![0, o] S72x512.size inb x 1)

/-- Ten blocks of 512 columns cover the rows. -/
theorem cover10 {Val : EltTy → Type} {R : ℕ} {e : EltTy} (p0 p1 p2 p3 p4 p5 p6 p7 p8 p9 : S72x512.Idx → Val e)
    (i0 : ∀ d, ![0, 4608] d + S72x512.size d ≤ (⟨2, ![R, 5120]⟩ : Shape).size d)
    (i1 : ∀ d, ![0, 4096] d + S72x512.size d ≤ (⟨2, ![R, 5120]⟩ : Shape).size d)
    (i2 : ∀ d, ![0, 3584] d + S72x512.size d ≤ (⟨2, ![R, 5120]⟩ : Shape).size d)
    (i3 : ∀ d, ![0, 3072] d + S72x512.size d ≤ (⟨2, ![R, 5120]⟩ : Shape).size d)
    (i4 : ∀ d, ![0, 2560] d + S72x512.size d ≤ (⟨2, ![R, 5120]⟩ : Shape).size d)
    (i5 : ∀ d, ![0, 2048] d + S72x512.size d ≤ (⟨2, ![R, 5120]⟩ : Shape).size d)
    (i6 : ∀ d, ![0, 1536] d + S72x512.size d ≤ (⟨2, ![R, 5120]⟩ : Shape).size d)
    (i7 : ∀ d, ![0, 1024] d + S72x512.size d ≤ (⟨2, ![R, 5120]⟩ : Shape).size d)
    (i8 : ∀ d, ![0, 512] d + S72x512.size d ≤ (⟨2, ![R, 5120]⟩ : Shape).size d)
    (i9 : ∀ d, ![0, 0] d + S72x512.size d ≤ (⟨2, ![R, 5120]⟩ : Shape).size d)
    (y : (⟨2, ![R, 5120]⟩ : Shape).Idx) (hy : (y 0).val < 72) :
    ∃ p ∈ ([
      ⟨Rect.unit ![0, 4608] S72x512.size i0, p0⟩,
      ⟨Rect.unit ![0, 4096] S72x512.size i1, p1⟩,
      ⟨Rect.unit ![0, 3584] S72x512.size i2, p2⟩,
      ⟨Rect.unit ![0, 3072] S72x512.size i3, p3⟩,
      ⟨Rect.unit ![0, 2560] S72x512.size i4, p4⟩,
      ⟨Rect.unit ![0, 2048] S72x512.size i5, p5⟩,
      ⟨Rect.unit ![0, 1536] S72x512.size i6, p6⟩,
      ⟨Rect.unit ![0, 1024] S72x512.size i7, p7⟩,
      ⟨Rect.unit ![0, 512] S72x512.size i8, p8⟩,
      ⟨Rect.unit ![0, 0] S72x512.size i9, p9⟩] : List (View.Piece Val ⟨2, ![R, 5120]⟩ e)), y ∈ p.1.set := by
  have h1 : (y 1).val < 5120 := (y 1).isLt
  simp only [List.exists_mem_cons_iff, List.not_mem_nil, false_and, exists_false, or_false, Rect.mem_set_unit]
  have key : ∀ o, (∀ a : Fin 2, ![0, o] a ≤ (y a).val ∧ (y a).val < ![0, o] a + ![72, 512] a) ↔ o ≤ (y 1).val ∧ (y 1).val < o + 512 := fun o => by
    rw [Fin.forall_fin_two]
    simp [hy]
  refine (Iff.rfl.or (Iff.rfl.or (Iff.rfl.or (Iff.rfl.or (Iff.rfl.or (Iff.rfl.or (Iff.rfl.or (Iff.rfl.or (Iff.rfl.or Iff.rfl))))))))).mp
    (((key 4608).or ((key 4096).or ((key 3584).or ((key 3072).or ((key 2560).or ((key 2048).or ((key 1536).or ((key 1024).or ((key 512).or (key 0)))))))))).mpr ?_)
  omega

/-- A whole buffer written in pieces that agree with one function. -/
theorem writes_whole_apply (b : Ref sig .tc) (f : b.ty.Contents (Elt Ideal)) (G : b.ty.shape.Idx → Elt Ideal b.ty.elt) (L : List (View.Piece (Elt Ideal) b.ty.shape b.ty.elt))
    (hL : ∀ p ∈ L, ∀ x, p.2 x = G (p.1.emb x)) (y : b.ty.shape.Idx) (h : ∃ p ∈ L, y ∈ p.1.set) : (View.whole b).writes (Elt Ideal) f L y = G y :=
  (congrFun (View.read_whole (Val := Elt Ideal) b _).symm y).trans (View.read_writes_apply_of_pieces (View.whole b) f G L hL y h)

theorem nb_piece (o : ℕ) (inb8 : ∀ d, ![0, o] d + S72x512.size d ≤ S80x5120.size d) (inb : ∀ d, ![0, o] d + S72x512.size d ≤ S72x5120.size d)
    (inb' : ∀ d, ![0, o] d + S1x512.size d ≤ S1x5120.size d) (x : S72x512.Idx) :
    shapeCast S72x512 (nB c a0 a1 X0 X1 o inb inb') shapeCasts_S72x512_S72x512 x = pad80 (C := 5120) (0 : EReal) (nv c a0 a1 X0 X1) ((Rect.unit (s := S80x5120) ![0, o] S72x512.size inb8).emb x) := by
  rw [shapeCast_self, pad80_emb]
  exact nrmB_ld c a0 a1 X0 X1 o inb inb' x

theorem nb_pieces : ∀ p ∈ body_run.sl.HB5_10 (F := Ideal) c a0 a1 X0 X1, ∀ x, p.2 x = pad80 (C := 5120) (0 : EReal) (nv c a0 a1 X0 X1) (p.1.emb x) := by
  unfold body_run.sl.HB5_10
  simp only [List.forall_mem_cons, List.not_mem_nil, false_imp_iff, implies_true, and_true]
  exact ⟨nb_piece c a0 a1 X0 X1 4608 _ inb_S72x5120_S72x512_0_4608 inb_S1x5120_S1x512_0_4608, nb_piece c a0 a1 X0 X1 4096 _ inb_S72x5120_S72x512_0_4096 inb_S1x5120_S1x512_0_4096,
    nb_piece c a0 a1 X0 X1 3584 _ inb_S72x5120_S72x512_0_3584 inb_S1x5120_S1x512_0_3584, nb_piece c a0 a1 X0 X1 3072 _ inb_S72x5120_S72x512_0_3072 inb_S1x5120_S1x512_0_3072,
    nb_piece c a0 a1 X0 X1 2560 _ inb_S72x5120_S72x512_0_2560 inb_S1x5120_S1x512_0_2560, nb_piece c a0 a1 X0 X1 2048 _ inb_S72x5120_S72x512_0_2048 inb_S1x5120_S1x512_0_2048,
    nb_piece c a0 a1 X0 X1 1536 _ inb_S72x5120_S72x512_0_1536 inb_S1x5120_S1x512_0_1536, nb_piece c a0 a1 X0 X1 1024 _ inb_S72x5120_S72x512_0_1024 inb_S1x5120_S1x512_0_1024,
    nb_piece c a0 a1 X0 X1 512 _ inb_S72x5120_S72x512_0_512 inb_S1x5120_S1x512_0_512, nb_piece c a0 a1 X0 X1 0 _ inb_S72x5120_S72x512_0_0 inb_S1x5120_S1x512_0_0⟩

theorem nb_cover (y : S80x5120.Idx) (hy : (y 0).val < 72) : ∃ p ∈ body_run.sl.HB5_10 (F := Ideal) c a0 a1 X0 X1, y ∈ p.1.set := by
  unfold body_run.sl.HB5_10
  exact cover10 _ _ _ _ _ _ _ _ _ _ _ _ _ _ _ _ _ _ _ _ y hy

/-- The normalised rows as read back. -/
theorem nb_apply (o : ℕ) (inb : ∀ d, ![0, o] d + S72x512.size d ≤ S80x5120.size d) (i : S72x512.Idx) :
    (Memref.whole (κ := .tc) cc0_scoped0).view.readCov (body_run.sl.HB5_10 (F := Ideal) c a0 a1 X0 X1) (Rect.unit (s := S80x5120) ![0, o] S72x512.size inb).toLoadRect i
      = nv c a0 a1 X0 X1 (i 0) (o + (i 1).val) := by
  have h0 : (i 0).val < 72 := (i 0).isLt
  exact (readCov_apply (Memref.whole (κ := .tc) cc0_scoped0).view (body_run.sl.HB5_10 (F := Ideal) c a0 a1 X0 X1) (Rect.unit (s := S80x5120) ![0, o] S72x512.size inb).toLoadRect
    (pad80 (C := 5120) (0 : EReal) (nv c a0 a1 X0 X1)) (nb_pieces c a0 a1 X0 X1) i (nb_cover c a0 a1 X0 X1 _ (by simpa [Rect.unit, LoadRect.idx] using h0))).trans (pad80_emb (0 : EReal) _ o inb i)

/-- The quantised rows of the specification, as the body reads its operands. -/
def qv (r : Fin 72) (k : ℕ) : EReal := Spec.code (Ideal.div (nv c a0 a1 X0 X1 r k) (sv c a0 a1 X0 X1 r))

/-- The block the codes at column `o` are made of. -/
abbrev rB (o : ℕ) (inb : ∀ d, ![0, o] d + S72x512.size d ≤ S80x5120.size d) : Vec Ideal S72x512 .f32 :=
  (Memref.whole (κ := .tc) cc0_scoped0).view.readCov (body_run.sl.HB5_10 (F := Ideal) c a0 a1 X0 X1) (Rect.unit (s := S80x5120) ![0, o] S72x512.size inb).toLoadRect

theorem qF_piece (o : ℕ) (inb : ∀ d, ![0, o] d + S72x512.size d ≤ S80x5120.size d) (x : S72x512.Idx) :
    qF (body_run.sl.r_18 (F := Ideal) c a0 a1 X0 X1) (rB c a0 a1 X0 X1 o inb) x
      = pad80 (C := 5120) (0 : EReal) (qv c a0 a1 X0 X1) ((Rect.unit (s := S80x5120) ![0, o] S72x512.size inb).emb x) := by
  rw [pad80_emb]
  exact (qF_apply _ _ x).trans (congrArg Spec.code (congrArg₂ Ideal.div (nb_apply c a0 a1 X0 X1 o inb x) (r18_apply c a0 a1 X0 X1 _)))

theorem qI_piece (o : ℕ) (inb : ∀ d, ![0, o] d + S72x512.size d ≤ S80x5120.size d) (inb' : ∀ d, ![0, o] d + S72x512.size d ≤ S72x5120.size d) (x : S72x512.Idx) :
    qI (body_run.sl.r_18 (F := Ideal) c a0 a1 X0 X1) (rB c a0 a1 X0 X1 o inb) x
      = (fun y : S72x5120.Idx => FloatOps.fptosi (F := Ideal) (φ := .f32) 8 (qv c a0 a1 X0 X1 (y 0) (y 1).val)) ((Rect.unit (s := S72x5120) ![0, o] S72x512.size inb').emb x) := by
  refine (qI_apply _ _ x).trans (congrArg (fun z => FloatOps.fptosi (F := Ideal) (φ := .f32) 8 z) ?_)
  refine Eq.trans (b := qv c a0 a1 X0 X1 (x 0) (o + (x 1).val)) ?_ ?_
  · exact congrArg Spec.code (congrArg₂ Ideal.div (nb_apply c a0 a1 X0 X1 o inb x) (r18_apply c a0 a1 X0 X1 _))
  · refine congrArg₂ (qv c a0 a1 X0 X1) (Fin.ext ?_) ?_
    · exact ((unit_emb (s := S72x5120) ![0, o] S72x512.size inb' x 0).trans (Nat.zero_add _)).symm
    · exact (unit_emb (s := S72x5120) ![0, o] S72x512.size inb' x 1).symm

/-- What the first product multiplies, on the rows there are. -/
theorem lhsF_apply (B3 : S80x5120.Idx → Elt Ideal .bf16) (y : S80x5120.Idx) (hy : (y 0).val < 72) :
    lhsF c a0 a1 X0 X1 B3 y = qv c a0 a1 X0 X1 ⟨(y 0).val, hy⟩ (y 1).val := by
  have h1 : (y 1).val < 5120 := (y 1).isLt
  refine Eq.trans (b := pad80 (C := 5120) (0 : EReal) (qv c a0 a1 X0 X1) y) ?_ (dif_pos hy)
  unfold lhsF
  refine writes_whole_apply cc0_scratch1 B3 (pad80 (C := 5120) (0 : EReal) (qv c a0 a1 X0 X1)) _ ?_ y ?_
  · simp only [List.forall_mem_cons, List.not_mem_nil, false_imp_iff, implies_true, and_true]
    exact ⟨qF_piece c a0 a1 X0 X1 4608 _, qF_piece c a0 a1 X0 X1 4096 _, qF_piece c a0 a1 X0 X1 3584 _, qF_piece c a0 a1 X0 X1 3072 _, qF_piece c a0 a1 X0 X1 2560 _,
      qF_piece c a0 a1 X0 X1 2048 _, qF_piece c a0 a1 X0 X1 1536 _, qF_piece c a0 a1 X0 X1 1024 _, qF_piece c a0 a1 X0 X1 512 _, qF_piece c a0 a1 X0 X1 0 _⟩
  · exact cover10 _ _ _ _ _ _ _ _ _ _ _ _ _ _ _ _ _ _ _ _ y hy

/-- The codes the body copies out. -/
theorem dma122_apply (B9 : S72x5120.Idx → Elt Ideal .i8) (y : S72x5120.Idx) :
    body_run.sl.dma122 (F := Ideal) c a0 a1 B9 X0 X1 y = FloatOps.fptosi (F := Ideal) (φ := .f32) 8 (qv c a0 a1 X0 X1 (y 0) (y 1).val) := by
  have h0 : (y 0).val < 72 := (y 0).isLt
  have h1 : (y 1).val < 5120 := (y 1).isLt
  refine View.read_writes_apply_of_pieces (Memref.whole (κ := .tc) cc0_scoped4).view B9 (fun y : S72x5120.Idx => FloatOps.fptosi (F := Ideal) (φ := .f32) 8 (qv c a0 a1 X0 X1 (y 0) (y 1).val))
    (body_run.sl.HB9_10 (F := Ideal) c a0 a1 X0 X1) ?_ y ?_
  · unfold body_run.sl.HB9_10
    simp only [List.forall_mem_cons, List.not_mem_nil, false_imp_iff, implies_true, and_true]
    exact ⟨qI_piece c a0 a1 X0 X1 4608 inb_S80x5120_S72x512_0_4608 _, qI_piece c a0 a1 X0 X1 4096 inb_S80x5120_S72x512_0_4096 _, qI_piece c a0 a1 X0 X1 3584 inb_S80x5120_S72x512_0_3584 _,
      qI_piece c a0 a1 X0 X1 3072 inb_S80x5120_S72x512_0_3072 _, qI_piece c a0 a1 X0 X1 2560 inb_S80x5120_S72x512_0_2560 _,
      qI_piece c a0 a1 X0 X1 2048 inb_S80x5120_S72x512_0_2048 _, qI_piece c a0 a1 X0 X1 1536 inb_S80x5120_S72x512_0_1536 _, qI_piece c a0 a1 X0 X1 1024 inb_S80x5120_S72x512_0_1024 _,
      qI_piece c a0 a1 X0 X1 512 inb_S80x5120_S72x512_0_512 _, qI_piece c a0 a1 X0 X1 0 inb_S80x5120_S72x512_0_0 _⟩
  · unfold body_run.sl.HB9_10
    exact cover10 _ _ _ _ _ _ _ _ _ _ _ _ _ _ _ _ _ _ _ _ y h0

/-- The scales as the row the body stores. -/
theorem HX4_apply (v : View sig .tc .vmem S1x72 .f32) (f : v.ty.Contents (Elt Ideal)) (y : S1x72.Idx) :
    v.read (Elt Ideal) (v.writes (Elt Ideal) f (body_run.sl.HX4_1 (F := Ideal) c a0 a1 X0 X1)) y = sv c a0 a1 X0 X1 (y 1) := by
  have h0 : (y 0).val < 1 := (y 0).isLt
  have h1 : (y 1).val < 72 := (y 1).isLt
  refine View.read_writes_apply_of_pieces v f (fun y : S1x72.Idx => sv c a0 a1 X0 X1 (y 1)) (body_run.sl.HX4_1 (F := Ideal) c a0 a1 X0 X1) ?_ y ?_
  · unfold body_run.sl.HX4_1
    simp only [List.forall_mem_cons, List.not_mem_nil, false_imp_iff, implies_true, and_true]
    intro x
    refine Eq.trans (b := rowOf (body_run.sl.r_18 (F := Ideal) c a0 a1 X0 X1) x) rfl ((rowOf_apply _ x).trans ((r18_apply c a0 a1 X0 X1 _).trans (congrArg (sv c a0 a1 X0 X1) (Fin.ext ?_))))
    exact ((unit_emb (s := S1x72) ![0, 0] S1x72.size inb_S1x72_S1x72_0_0 x 1).trans (Nat.zero_add _)).symm
  · unfold body_run.sl.HX4_1
    simp only [List.exists_mem_cons_iff, List.not_mem_nil, false_and, exists_false, or_false, Rect.mem_set_unit, Fin.forall_fin_two]
    simp
    omega

end Cert.KernelIdeal.Hand
-- ==== Proof.KernelIdealAct.lean ====
/-
The activations the first loop leaves: each tile is the gate's product through the logistic times the
up product, with the products summed over ten blocks of 512 rows.
-/
module

public import proofs.«01_k».proof.Proof.KernelIdealQuant

@[expose] public section

set_option maxRecDepth 16384

noncomputable section

namespace Cert.KernelIdeal.Hand

open Cert.KernelIdeal Cert.KernelIdeal.Gen
open Idealize.ShloMosaic Idealize.ShloMosaic.TcCoe

section Ops
variable {F : FTy → Type} [FloatOps F]

/-- A block of codes times a block of weights. -/
def mmB (l : Vec F S80x512 .bf16) (w : Vec F S1x512x512 .i8) : FVec F S80x512 .f32 :=
  matmul dot_S80x512_S512x512_S80x512_1_0_0_1_n_n none l (sitofp .bf16 (shapeCast S512x512 w shapeCasts_S1x512x512_S512x512)) (constant S80x512 .f32 0x00000000#32)
/-- A product rescaled: the gate's half. -/
def gateB (p : FVec F S80x512 .f32) (s : FVec F S72x1 .f32) (g : Vec F S1x1x256 .f32) : FVec F S72x256 .f32 :=
  mulf (mulf (extractStridedSlice S72x256 ![0, 0] p slices_S80x512_o0_0_S72x256) (broadcastTo S72x256 s broadcasts_S72x1_S72x256))
    (broadcastTo S72x256 (shapeCast S1x256 g shapeCasts_S1x1x256_S1x256) broadcasts_S1x256_S72x256)
/-- A product rescaled: the up half. -/
def upB (p : FVec F S80x512 .f32) (s : FVec F S72x1 .f32) (g : Vec F S1x1x256 .f32) : FVec F S72x256 .f32 :=
  mulf (mulf (extractStridedSlice S72x256 ![0, 256] p slices_S80x512_o0_256_S72x256) (broadcastTo S72x256 s broadcasts_S72x1_S72x256))
    (broadcastTo S72x256 (shapeCast S1x256 g shapeCasts_S1x1x256_S1x256) broadcasts_S1x256_S72x256)
/-- The activation of the two. -/
def actB (a b : FVec F S72x256 .f32) : FVec F S1x72x256 .f32 :=
  shapeCast S1x72x256 (mulf (mulf a (logistic a)) b) shapeCasts_S72x256_S1x72x256
end Ops

theorem mmB_apply (l : Vec Ideal S80x512 .bf16) (w : Vec Ideal S1x512x512 .i8) (i : S80x512.Idx) :
    mmB l w i = ∑ k, l (ix2 (i 0) k) * Spec.num (w (ix3 0 k (i 1))) := by
  unfold mmB Spec.num
  pointwise

theorem gateB_apply (p : FVec Ideal S80x512 .f32) (s : FVec Ideal S72x1 .f32) (g : Vec Ideal S1x1x256 .f32) (i : S72x256.Idx) :
    gateB p s g i = p (ix2 ⟨(i 0).val, (i 0).isLt.trans (by decide)⟩ ⟨(i 1).val, (i 1).isLt.trans (by decide)⟩) * s (ix2 (i 0) 0) * g (ix3 0 0 (i 1)) := by
  unfold gateB
  pointwise

theorem upB_apply (p : FVec Ideal S80x512 .f32) (s : FVec Ideal S72x1 .f32) (g : Vec Ideal S1x1x256 .f32) (i : S72x256.Idx) :
    upB p s g i = p (ix2 ⟨(i 0).val, (i 0).isLt.trans (by decide)⟩ ⟨256 + (i 1).val, Nat.add_lt_add_left (i 1).isLt _⟩) * s (ix2 (i 0) 0) * g (ix3 0 0 (i 1)) := by
  unfold upB
  pointwise

theorem actB_apply (a b : FVec Ideal S72x256 .f32) (i : S1x72x256.Idx) :
    actB a b i = a (ix2 (i 1) (i 2)) * Ideal.logistic (a (ix2 (i 1) (i 2))) * b (ix2 (i 1) (i 2)) := by
  unfold actB
  pointwise

/-- Ten and more blocks of 512 summed one after another. -/
def bsum (f : ℕ → EReal) : ℕ → EReal
  | 0 => ∑ k : Fin 512, f k.val
  | n + 1 => bsum f n + ∑ k : Fin 512, f (512 * (n + 1) + k.val)

theorem bsum_eq (f : ℕ → EReal) (n : ℕ) : bsum f n = ∑ m : Fin (n + 1), ∑ k : Fin 512, f (k.val + 512 * m.val) := by
  induction n with
  | zero => simp [bsum]
  | succ n ih =>
    rw [Fin.sum_univ_castSucc]
    unfold bsum
    rw [ih]
    exact congrArg₂ (· + ·) rfl (Finset.sum_congr rfl fun k _ => congrArg f (Nat.add_comm _ _))

theorem bsum_ten (f : ℕ → EReal) : bsum f 9 = ∑ k : Fin 5120, f k.val :=
  (bsum_eq f 9).trans (Spec.sum_mul 10 512 f).symm

/-- A gate or up weight as a number, by row and column. -/
def wgt (W : S5120x21504.Idx → BitVec 8) (k u : ℕ) : EReal :=
  Spec.num (W (ix2 (⟨k % 5120, Nat.mod_lt _ (by decide)⟩ : Fin 5120) (⟨u % 21504, Nat.mod_lt _ (by decide)⟩ : Fin 21504)))

theorem landG_row (a b m k j : ℕ) (h1 : b = k) (h2 : a = 512 * m + j) (hj : j < 512) : (a / 512 * 512 + b) % 5120 = (512 * m + k) % 5120 := by
  subst h1 h2
  have e : (512 * m + j) / 512 = m := by omega
  rw [e, Nat.mul_comm m]
theorem landG_col (a t m j : ℕ) (h2 : a = 512 * m + j) (hj : j < 512) :
    (t * 256 + (a / 256 % 2) * 10752 + a % 256) % 21504 = (t * 256 + j / 256 * 10752 + j % 256) % 21504 := by
  subst h2
  have e : (512 * m + j) / 256 % 2 = j / 256 := by omega
  have e' : (512 * m + j) % 256 = j % 256 := by omega
  rw [e, e']
theorem landG_apply (W : S5120x21504.Idx → Elt Ideal .i8) (t m k j : ℕ) (y : S12x512x5120.Idx) (h1 : (y 1).val = k) (h2 : (y 2).val = 512 * m + j) (hj : j < 512) :
    Spec.num (LandG (F := Ideal) W t y) = wgt W (512 * m + k) (t * 256 + j / 256 * 10752 + j % 256) := by
  unfold LandG wgt
  exact congrArg (fun z => Spec.num (W z)) (congrArg₂ (fun a b => ix2 a b) (Fin.ext (landG_row _ _ m k j h1 h2 hj)) (Fin.ext (landG_col _ t m j h2 hj)))

theorem ringG_apply (W : S5120x21504.Idx → Elt Ideal .i8) (t s m : ℕ) (off : Fin 3 → ℕ) (inb : ∀ d, off d + ![1, 512, 512] d ≤ S12x512x5120.size d)
    (h : off = ![s, 0, 512 * m]) (k j : Fin 512) :
    Spec.num (ringLd (F := Ideal) (LandG (F := Ideal) W t) (Rect.unit (s := S12x512x5120) off ![1, 512, 512] inb) (ix3 (0 : Fin 1) k j))
      = wgt W (512 * m + k.val) (t * 256 + j.val / 256 * 10752 + j.val % 256) := by
  subst h
  refine landG_apply W t m k.val j.val ((Rect.unit (s := S12x512x5120) ![s, 0, 512 * m] ![1, 512, 512] inb).toLoadRect.idx (ix3 (0 : Fin 1) k j)) ?_ ?_ j.isLt
  · simp [LoadRect.idx, Rect.unit, ix3]
  · simp [LoadRect.idx, Rect.unit, ix3]

variable (c : Dev nD)
variable (a0 : Memref sig .tc .vmem S72x5120 .f32) (a1 : Memref sig .tc .vmem S1x5120 .f32) (a2 : Memref sig .tc .vmem S84x1x256 .f32)
variable (X0 : Buf (Elt Ideal) (a0.view.loc (c : Thread nD τ))) (X1 : Buf (Elt Ideal) (a1.view.loc (c : Thread nD τ)))
  (X2 : Buf (Elt Ideal) (a2.view.loc (c : Thread nD τ))) (W : S5120x21504.Idx → Elt Ideal .i8) (B3 : S80x5120.Idx → Elt Ideal .bf16)

theorem o2_g0 : ∀ k : Fin k0_t2_loop.trips, k0_off47 k = ![k.val, 0, 0] := by decide +kernel
theorem o2_g1 : ∀ k : Fin k0_t2_loop.trips, k0_off48 k = ![42 + k.val, 0, 0] := by decide +kernel

/-- A product of the quantised rows with a column of weights. -/
def dv (r : Fin 72) (u : ℕ) : EReal := ∑ k : Fin 5120, qv c a0 a1 X0 X1 r k.val * wgt W k.val u
/-- The weight scale of column `256 * b + l`. -/
def gv (b l : ℕ) : EReal := a2.view.read (Elt Ideal) X2 (ix3 (⟨b % 84, Nat.mod_lt _ (by decide)⟩ : Fin 84) (0 : Fin 1) (⟨l % 256, Nat.mod_lt _ (by decide)⟩ : Fin 256))
/-- The gate or up value of row `r` at column `l` of block `b`. -/
def pv (r : Fin 72) (b l : ℕ) : EReal := dv c a0 a1 X0 X1 W r (256 * b + l) * sv c a0 a1 X0 X1 r * gv c a2 X2 b l
/-- The activation of row `r` at column `l` of tile `t`. -/
def av (r : Fin 72) (t l : ℕ) : EReal :=
  pv c a0 a1 a2 X0 X1 X2 W r t l * Ideal.logistic (pv c a0 a1 a2 X0 X1 X2 W r t l) * pv c a0 a1 a2 X0 X1 X2 W r (42 + t) l

theorem gus_apply (b : ℕ) (off : Fin 3 → ℕ) (inb : ∀ d, off d + ![1, 1, 256] d ≤ S84x1x256.size d) (h : off = ![b, 0, 0]) (hb : b < 84) (l : Fin 256) :
    gusLd (F := Ideal) c a2 X2 (Rect.unit (s := S84x1x256) off ![1, 1, 256] inb) (ix3 (0 : Fin 1) (0 : Fin 1) l) = gv c a2 X2 b l.val := by
  subst h
  have hl := l.isLt
  unfold gv
  refine congrArg (a2.view.read (Elt Ideal) X2) (funext fun a => Fin.ext ?_)
  match a with
  | ⟨0, _⟩ => simp [LoadRect.idx, Rect.unit, ix3, Nat.mod_eq_of_lt hb]
  | ⟨1, _⟩ => simp [LoadRect.idx, Rect.unit, ix3]
  | ⟨2, _⟩ => simp [LoadRect.idx, Rect.unit, ix3, Nat.mod_eq_of_lt hl]

theorem lhsLd_apply (L : S80x5120.Idx → Elt Ideal .bf16) (r : Rect S80x5120) (i : r.shape.Idx) : lhsLd (F := Ideal) L r i = L (r.toLoadRect.idx i) := rfl

theorem lhs_apply (m : ℕ) (inb : ∀ d, ![0, 512 * m] d + ![80, 512] d ≤ S80x5120.size d) (r : Fin 80) (hr : r.val < 72) (k : Fin 512) :
    lhsLd (F := Ideal) (lhsF c a0 a1 X0 X1 B3) (Rect.unit (s := S80x5120) ![0, 512 * m] ![80, 512] inb) (ix2 r k) = qv c a0 a1 X0 X1 ⟨r.val, hr⟩ (512 * m + k.val) := by
  have e0 : ((Rect.unit (s := S80x5120) ![0, 512 * m] ![80, 512] inb).toLoadRect.idx (ix2 r k) 0).val = r.val := by simp [LoadRect.idx, Rect.unit, ix2]
  have e1 : ((Rect.unit (s := S80x5120) ![0, 512 * m] ![80, 512] inb).toLoadRect.idx (ix2 r k) 1).val = 512 * m + k.val := by simp [LoadRect.idx, Rect.unit, ix2]
  refine (lhsLd_apply _ _ _).trans ?_
  refine (lhsF_apply c a0 a1 X0 X1 B3 ((Rect.unit (s := S80x5120) ![0, 512 * m] ![80, 512] inb).toLoadRect.idx (ix2 r k)) (e0.trans_lt hr)).trans ?_
  exact congrArg₂ (qv c a0 a1 X0 X1) (Fin.ext e0) e1

/-- One block's product within a trip. -/
theorem blk_apply (t s m : ℕ) (inb' : ∀ d, ![0, 512 * m] d + ![80, 512] d ≤ S80x5120.size d) (off : Fin 3 → ℕ) (inb : ∀ d, off d + ![1, 512, 512] d ≤ S12x512x5120.size d)
    (h : off = ![s, 0, 512 * m]) (i : S80x512.Idx) (hi : (i 0).val < 72) :
    mmB (lhsLd (F := Ideal) (lhsF c a0 a1 X0 X1 B3) (Rect.unit (s := S80x5120) ![0, 512 * m] ![80, 512] inb')) (ringLd (F := Ideal) (LandG (F := Ideal) W t) (Rect.unit (s := S12x512x5120) off ![1, 512, 512] inb)) i
      = ∑ k : Fin 512, (fun j => qv c a0 a1 X0 X1 ⟨(i 0).val, hi⟩ j * wgt W j (t * 256 + (i 1).val / 256 * 10752 + (i 1).val % 256)) (512 * m + k.val) := by
  refine (mmB_apply _ _ i).trans (Finset.sum_congr rfl fun k _ => congrArg₂ (· * ·) ?_ ?_)
  · exact lhs_apply c a0 a1 X0 X1 B3 m inb' (i 0) hi k
  · exact ringG_apply W t s m off inb h k (i 1)

/-- The ten products of a trip. -/
def prodT (k : Fin k0_t2_loop.trips) : FVec Ideal S80x512 .f32 :=
  let l := fun (r : Rect S80x5120) => lhsLd (F := Ideal) (lhsF c a0 a1 X0 X1 B3) r
  let w := fun (r : Rect S12x512x5120) => ringLd (F := Ideal) (LandG (F := Ideal) W k.val) r
  addf (addf (addf (addf (addf (addf (addf (addf (addf
    (mmB (l (Rect.unit ![0, 0] ![80, 512] inb_S80x5120_S80x512_0_0)) (w (Rect.unit (k0_off37 k) ![1, 512, 512] (k0_off37_inb k))))
    (mmB (l (Rect.unit ![0, 512] ![80, 512] inb_S80x5120_S80x512_0_512)) (w (Rect.unit (k0_off38 k) ![1, 512, 512] (k0_off38_inb k)))))
    (mmB (l (Rect.unit ![0, 1024] ![80, 512] inb_S80x5120_S80x512_0_1024)) (w (Rect.unit (k0_off39 k) ![1, 512, 512] (k0_off39_inb k)))))
    (mmB (l (Rect.unit ![0, 1536] ![80, 512] inb_S80x5120_S80x512_0_1536)) (w (Rect.unit (k0_off40 k) ![1, 512, 512] (k0_off40_inb k)))))
    (mmB (l (Rect.unit ![0, 2048] ![80, 512] inb_S80x5120_S80x512_0_2048)) (w (Rect.unit (k0_off41 k) ![1, 512, 512] (k0_off41_inb k)))))
    (mmB (l (Rect.unit ![0, 2560] ![80, 512] inb_S80x5120_S80x512_0_2560)) (w (Rect.unit (k0_off42 k) ![1, 512, 512] (k0_off42_inb k)))))
    (mmB (l (Rect.unit ![0, 3072] ![80, 512] inb_S80x5120_S80x512_0_3072)) (w (Rect.unit (k0_off43 k) ![1, 512, 512] (k0_off43_inb k)))))
    (mmB (l (Rect.unit ![0, 3584] ![80, 512] inb_S80x5120_S80x512_0_3584)) (w (Rect.unit (k0_off44 k) ![1, 512, 512] (k0_off44_inb k)))))
    (mmB (l (Rect.unit ![0, 4096] ![80, 512] inb_S80x5120_S80x512_0_4096)) (w (Rect.unit (k0_off45 k) ![1, 512, 512] (k0_off45_inb k)))))
    (mmB (l (Rect.unit ![0, 4608] ![80, 512] inb_S80x5120_S80x512_0_4608)) (w (Rect.unit (k0_off46 k) ![1, 512, 512] (k0_off46_inb k))))

theorem prodT_apply (k : Fin k0_t2_loop.trips) (i : S80x512.Idx) (hi : (i 0).val < 72) :
    prodT c a0 a1 X0 X1 W B3 k i = dv c a0 a1 X0 X1 W ⟨(i 0).val, hi⟩ (k.val * 256 + (i 1).val / 256 * 10752 + (i 1).val % 256) := by
  refine Eq.trans ?_ (bsum_ten (fun j => qv c a0 a1 X0 X1 ⟨(i 0).val, hi⟩ j * wgt W j (k.val * 256 + (i 1).val / 256 * 10752 + (i 1).val % 256)))
  unfold prodT
  have e := fun m inb' off inb h => blk_apply c a0 a1 X0 X1 W B3 k.val ((9 + k.val) % 12) m inb' off inb h i hi
  have z := e 0 inb_S80x5120_S80x512_0_0 _ (k0_off37_inb k) (o2_r0 k)
  simp only [Nat.mul_zero, Nat.zero_add] at z
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·)
    z (e 1 inb_S80x5120_S80x512_0_512 _ (k0_off38_inb k) (o2_r1 k)))
    (e 2 inb_S80x5120_S80x512_0_1024 _ (k0_off39_inb k) (o2_r2 k))) (e 3 inb_S80x5120_S80x512_0_1536 _ (k0_off40_inb k) (o2_r3 k)))
    (e 4 inb_S80x5120_S80x512_0_2048 _ (k0_off41_inb k) (o2_r4 k))) (e 5 inb_S80x5120_S80x512_0_2560 _ (k0_off42_inb k) (o2_r5 k)))
    (e 6 inb_S80x5120_S80x512_0_3072 _ (k0_off43_inb k) (o2_r6 k))) (e 7 inb_S80x5120_S80x512_0_3584 _ (k0_off44_inb k) (o2_r7 k)))
    (e 8 inb_S80x5120_S80x512_0_4096 _ (k0_off45_inb k) (o2_r8 k))) (e 9 inb_S80x5120_S80x512_0_4608 _ (k0_off46_inb k) (o2_r9 k))

theorem actTile_eq (k : Fin k0_t2_loop.trips) : actTile (F := Ideal) c W a2 (body_run.sl.r_18 (F := Ideal) c a0 a1 X0 X1) (lhsF c a0 a1 X0 X1 B3) X2 k
    = actB (gateB (prodT c a0 a1 X0 X1 W B3 k) (body_run.sl.r_18 (F := Ideal) c a0 a1 X0 X1) (gusLd (F := Ideal) c a2 X2 (Rect.unit (k0_off47 k) ![1, 1, 256] (k0_off47_inb k))))
      (upB (prodT c a0 a1 X0 X1 W B3 k) (body_run.sl.r_18 (F := Ideal) c a0 a1 X0 X1) (gusLd (F := Ideal) c a2 X2 (Rect.unit (k0_off48 k) ![1, 1, 256] (k0_off48_inb k)))) := rfl

theorem actTile_apply (k : Fin k0_t2_loop.trips) (i : S1x72x256.Idx) : actTile (F := Ideal) c W a2 (body_run.sl.r_18 (F := Ideal) c a0 a1 X0 X1) (lhsF c a0 a1 X0 X1 B3) X2 k i
    = av c a0 a1 a2 X0 X1 X2 W (i 1) k.val (i 2).val := by
  have hk : k.val < 42 := trips2 ▸ k.isLt
  have h2 : (i 2).val < 256 := (i 2).isLt
  have hg : gateB (prodT c a0 a1 X0 X1 W B3 k) (body_run.sl.r_18 (F := Ideal) c a0 a1 X0 X1) (gusLd (F := Ideal) c a2 X2 (Rect.unit (k0_off47 k) ![1, 1, 256] (k0_off47_inb k))) (ix2 (i 1) (i 2))
      = pv c a0 a1 a2 X0 X1 X2 W (i 1) k.val (i 2).val := by
    refine (gateB_apply _ _ _ _).trans (congrArg₂ (· * ·) (congrArg₂ (· * ·) ((prodT_apply c a0 a1 X0 X1 W B3 k _ (i 1).isLt).trans ?_) (r18_apply c a0 a1 X0 X1 _))
      (gus_apply c a2 X2 k.val _ (k0_off47_inb k) (o2_g0 k) (by omega) (i 2)))
    refine congrArg (dv c a0 a1 X0 X1 W (i 1)) ?_
    show k.val * 256 + (i 2).val / 256 * 10752 + (i 2).val % 256 = _
    omega
  have hu : upB (prodT c a0 a1 X0 X1 W B3 k) (body_run.sl.r_18 (F := Ideal) c a0 a1 X0 X1) (gusLd (F := Ideal) c a2 X2 (Rect.unit (k0_off48 k) ![1, 1, 256] (k0_off48_inb k))) (ix2 (i 1) (i 2))
      = pv c a0 a1 a2 X0 X1 X2 W (i 1) (42 + k.val) (i 2).val := by
    refine (upB_apply _ _ _ _).trans (congrArg₂ (· * ·) (congrArg₂ (· * ·) ((prodT_apply c a0 a1 X0 X1 W B3 k _ (i 1).isLt).trans ?_) (r18_apply c a0 a1 X0 X1 _))
      (gus_apply c a2 X2 (42 + k.val) _ (k0_off48_inb k) (o2_g1 k) (by omega) (i 2)))
    refine congrArg (dv c a0 a1 X0 X1 W (i 1)) ?_
    show k.val * 256 + (256 + (i 2).val) / 256 * 10752 + (256 + (i 2).val) % 256 = _
    omega
  rw [actTile_eq]
  refine (actB_apply _ _ i).trans ?_
  exact congrArg₂ (· * ·) (congrArg₂ (· * ·) hg (congrArg Ideal.logistic hg)) hu

theorem writes_whole_miss (b : Ref sig .tc) (f : b.ty.Contents (Elt Ideal)) (L : List (View.Piece (Elt Ideal) b.ty.shape b.ty.elt)) (y : b.ty.shape.Idx)
    (h : ∀ p ∈ L, y ∉ p.1.set) : (View.whole b).writes (Elt Ideal) f L y = f y :=
  (congrFun (View.read_whole (Val := Elt Ideal) b _).symm y).trans
    ((View.read_writes_apply_of_forall_not_mem (View.whole b) f y L h).trans (congrFun (View.read_whole (Val := Elt Ideal) b _) y))

theorem o2_st : ∀ k : Fin k0_t2_loop.trips, k0_off49 k = ![k.val, 0, 0] := by decide +kernel

theorem actN_apply (B7 : S42x72x256.Idx → Elt Ideal .f32) (n : ℕ) (hn : n ≤ 42) (y : S42x72x256.Idx) (hy : (y 0).val < n) :
    actN (F := Ideal) c W a2 (body_run.sl.r_18 (F := Ideal) c a0 a1 X0 X1) (lhsF c a0 a1 X0 X1 B3) X2 B7 n y = av c a0 a1 a2 X0 X1 X2 W (y 1) (y 0).val (y 2).val := by
  induction n with
  | zero => omega
  | succ n ih =>
    have hk : n < k0_t2_loop.trips := by rw [trips2]; omega
    have h1 : (y 1).val < 72 := (y 1).isLt
    have h2 : (y 2).val < 256 := (y 2).isLt
    unfold actN
    rw [dif_pos hk]
    unfold actStep
    have hmem : y ∈ (Rect.unit (s := S42x72x256) (k0_off49 ⟨n, hk⟩) ![1, 72, 256] (k0_off49_inb ⟨n, hk⟩)).set ↔ (y 0).val = n := by
      rw [Rect.mem_set_unit, o2_st]
      show (∀ a : Fin 3, _) ↔ _
      rw [Fin.forall_fin_succ, Fin.forall_fin_two]
      show (n ≤ (y 0).val ∧ (y 0).val < n + 1) ∧ (0 ≤ (y 1).val ∧ (y 1).val < 0 + 72) ∧ (0 ≤ (y 2).val ∧ (y 2).val < 0 + 256) ↔ _
      omega
    by_cases h : (y 0).val = n
    · refine writes_whole_apply cc0_scoped2 _ (fun y : S42x72x256.Idx => av c a0 a1 a2 X0 X1 X2 W (y 1) (y 0).val (y 2).val) _ ?_ y ⟨_, List.mem_cons_self, hmem.mpr h⟩
      simp only [List.forall_mem_cons, List.not_mem_nil, false_imp_iff, implies_true, and_true]
      intro x
      refine (actTile_apply c a0 a1 a2 X0 X1 X2 W B3 ⟨n, hk⟩ x).trans ?_
      have e := fun d => unit_emb (s := S42x72x256) (k0_off49 ⟨n, hk⟩) ![1, 72, 256] (k0_off49_inb ⟨n, hk⟩) x d
      have hx : (x 0).val < 1 := (x 0).isLt
      have e0' : ((Rect.unit (s := S42x72x256) (k0_off49 ⟨n, hk⟩) ![1, 72, 256] (k0_off49_inb ⟨n, hk⟩)).emb x 0).val = n :=
        (e 0).trans ((congrArg (· + (x 0).val) (congrFun (o2_st ⟨n, hk⟩) 0)).trans (by show n + (x 0).val = n; omega))
      have e1' : ((Rect.unit (s := S42x72x256) (k0_off49 ⟨n, hk⟩) ![1, 72, 256] (k0_off49_inb ⟨n, hk⟩)).emb x 1).val = (x 1).val :=
        (e 1).trans ((congrArg (· + (x 1).val) (congrFun (o2_st ⟨n, hk⟩) 1)).trans (Nat.zero_add _))
      have e2' : ((Rect.unit (s := S42x72x256) (k0_off49 ⟨n, hk⟩) ![1, 72, 256] (k0_off49_inb ⟨n, hk⟩)).emb x 2).val = (x 2).val :=
        (e 2).trans ((congrArg (· + (x 2).val) (congrFun (o2_st ⟨n, hk⟩) 2)).trans (Nat.zero_add _))
      show av c a0 a1 a2 X0 X1 X2 W (x 1) n (x 2).val = av c a0 a1 a2 X0 X1 X2 W _ _ _
      exact congr (congrArg₂ (av c a0 a1 a2 X0 X1 X2 W) (Fin.ext e1'.symm) e0'.symm) e2'.symm
    · refine Eq.trans ?_ (ih (by omega) (by omega))
      refine writes_whole_miss cc0_scoped2 _ _ y ?_
      simp only [List.forall_mem_cons, List.not_mem_nil, false_imp_iff, implies_true, and_true]
      exact fun hh => h (hmem.mp hh)

/-- The activations after the first product, at an index. -/
theorem actF_apply (B7 : S42x72x256.Idx → Elt Ideal .f32) (y : S42x72x256.Idx) :
    actF (F := Ideal) c W a0 a1 a2 X0 X1 X2 B3 B7 y = av c a0 a1 a2 X0 X1 X2 W (y 1) (y 0).val (y 2).val :=
  actN_apply c a0 a1 a2 X0 X1 X2 W B3 B7 _ (le_of_eq trips2) y (by rw [trips2]; exact (y 0).isLt)

end Cert.KernelIdeal.Hand
-- ==== Proof.KernelIdealMax.lean ====
/-
The scale of the activations, read off the body's run: the magnitudes' maximum over forty-two tiles.
-/
module

public import proofs.«01_k».proof.Proof.KernelIdealAct

@[expose] public section

set_option maxRecDepth 16384

noncomputable section

namespace Cert.KernelIdeal.Hand

open Cert.KernelIdeal Cert.KernelIdeal.Gen
open Idealize.ShloMosaic Idealize.ShloMosaic.TcCoe

section Ops
variable {F : FTy → Type} [FloatOps F]

/-- Takes the magnitudes of a tile of 256 columns into the 128 running maxima. -/
def mx2 (a : FVec F S72x128 .f32) (v : Vec F S1x72x256 .f32) : FVec F S72x128 .f32 :=
  maximumf a (maximumf (extractStridedSlice S72x128 ![0, 0] (absf (shapeCast S72x256 v shapeCasts_S1x72x256_S72x256)) slices_S72x256_o0_0_S72x128)
    (extractStridedSlice S72x128 ![0, 128] (absf (shapeCast S72x256 v shapeCasts_S1x72x256_S72x256)) slices_S72x256_o0_128_S72x128))
/-- A tile quantised, still in floats. -/
def q2B (s : FVec F S72x1 .f32) (v : Vec F S1x72x256 .f32) : FVec F S72x256 .f32 :=
  roundeven (minimumf (broadcast S72x256 (Scalar.ofBits .f32 0x42FE0000#32)) (maximumf (broadcast S72x256 (Scalar.ofBits .f32 0xC2FE0000#32))
    (divf (shapeCast S72x256 v shapeCasts_S1x72x256_S72x256) (broadcastTo S72x256 s broadcasts_S72x1_S72x256))))
/-- Its codes. -/
def q2I (s : FVec F S72x1 .f32) (v : Vec F S1x72x256 .f32) : IVec S72x256 8 :=
  shapeCast S72x256 (fptosi 8 (q2B s v)) shapeCasts_S72x256_S72x256
/-- Its codes as floats. -/
def q2F (s : FVec F S72x1 .f32) (v : Vec F S1x72x256 .f32) : FVec F S1x72x256 .bf16 :=
  shapeCast S1x72x256 (truncf .bf16 (q2B s v) bitsLt_bf16_f32) shapeCasts_S72x256_S1x72x256
theorem aB_inb (n : ℕ) (h : n < 42) : ∀ d, ![n, 0, 0] d + S1x72x256.size d ≤ S42x72x256.size d := by
  show ∀ d : Fin 3, _
  rw [Fin.forall_fin_succ, Fin.forall_fin_two]
  exact ⟨h, le_rfl, le_rfl⟩
/-- Tile `n` of the activations. -/
def aB (A : S42x72x256.Idx → Elt F .f32) (n : ℕ) (h : n < 42) : Vec F S1x72x256 .f32 :=
  View.readAt (Elt F) (Memref.whole (κ := .tc) cc0_scoped2).view (Rect.unit (s := S42x72x256) ![n, 0, 0] S1x72x256.size (aB_inb n h)).toLoadRect A
/-- The running maxima after `n` tiles. -/
def mxN (A : S42x72x256.Idx → Elt F .f32) : (n : ℕ) → n ≤ 42 → FVec F S72x128 .f32
  | 0, _ => broadcast S72x128 (Scalar.ofBits .f32 0x00000000#32)
  | n + 1, h => mx2 (mxN A n (Nat.le_of_succ_le h)) (aB A n h)
end Ops

theorem mx2_apply (a : FVec Ideal S72x128 .f32) (v : Vec Ideal S1x72x256 .f32) (f : Fin 72 → ℕ → EReal) (n : ℕ)
    (ha : ∀ i : S72x128.Idx, a i = Spec.lmax2 (fun k => FloatOps.absf (F := Ideal) (φ := .f32) (f (i 0) k)) (i 1).val n)
    (hv : ∀ i : S1x72x256.Idx, v i = f (i 1) (256 * n + (i 2).val)) (i : S72x128.Idx) :
    mx2 a v i = Spec.lmax2 (fun k => FloatOps.absf (F := Ideal) (φ := .f32) (f (i 0) k)) (i 1).val (n + 1) := by
  unfold mx2
  pointwise
  simp only [ha, hv]
  rfl

theorem q2B_apply (s : FVec Ideal S72x1 .f32) (v : Vec Ideal S1x72x256 .f32) (i : S72x256.Idx) :
    q2B s v i = Spec.code (Ideal.div (v (ix3 0 (i 0) (i 1))) (s (ix2 (i 0) 0))) := by
  rw [← Spec.round_clip, ← Spec.ofBits_hi, ← Spec.ofBits_lo]
  unfold q2B
  pointwise

theorem q2I_apply (s : FVec Ideal S72x1 .f32) (v : Vec Ideal S1x72x256 .f32) (i : S72x256.Idx) :
    q2I s v i = FloatOps.fptosi (F := Ideal) (φ := .f32) 8 (Spec.code (Ideal.div (v (ix3 0 (i 0) (i 1))) (s (ix2 (i 0) 0)))) := by
  rw [← q2B_apply]
  unfold q2I
  pointwise

theorem q2F_apply (s : FVec Ideal S72x1 .f32) (v : Vec Ideal S1x72x256 .f32) (i : S1x72x256.Idx) :
    q2F s v i = Spec.code (Ideal.div (v (ix3 0 (i 1) (i 2))) (s (ix2 (i 1) 0))) := by
  refine Eq.trans (b := q2B s v (ix2 (i 1) (i 2))) ?_ (q2B_apply s v (ix2 (i 1) (i 2)))
  unfold q2F
  pointwise

variable (c : Dev nD) (A : S42x72x256.Idx → Elt Ideal .f32) (f : Fin 72 → ℕ → EReal)

theorem r45_eq : body_run.sl.r_45 (F := Ideal) c A = colScale (mxN A 42 le_rfl) := rfl

theorem aB_apply (hA : ∀ y : S42x72x256.Idx, A y = f (y 1) (256 * (y 0).val + (y 2).val)) (n : ℕ) (h : n < 42) (i : S1x72x256.Idx) :
    aB A n h i = f (i 1) (256 * n + (i 2).val) := by
  have h0 : (i 0).val < 1 := (i 0).isLt
  have e0 : ((Rect.unit (s := S42x72x256) ![n, 0, 0] S1x72x256.size (aB_inb n h)).toLoadRect.idx i 0).val = n + (i 0).val := by simp [LoadRect.idx, Rect.unit]
  have e1 : ((Rect.unit (s := S42x72x256) ![n, 0, 0] S1x72x256.size (aB_inb n h)).toLoadRect.idx i 1).val = (i 1).val := by simp [LoadRect.idx, Rect.unit]
  have e2 : ((Rect.unit (s := S42x72x256) ![n, 0, 0] S1x72x256.size (aB_inb n h)).toLoadRect.idx i 2).val = (i 2).val := by simp [LoadRect.idx, Rect.unit]
  refine Eq.trans (b := A ((Rect.unit (s := S42x72x256) ![n, 0, 0] S1x72x256.size (aB_inb n h)).toLoadRect.idx i)) rfl ((hA _).trans ?_)
  refine congrArg₂ f (Fin.ext e1) ?_
  rw [show _ = _ from e0, show _ = _ from e2]
  omega

theorem mxN_apply (hA : ∀ y : S42x72x256.Idx, A y = f (y 1) (256 * (y 0).val + (y 2).val)) (n : ℕ) (h : n ≤ 42) (i : S72x128.Idx) :
    mxN A n h i = Spec.lmax2 (fun k => FloatOps.absf (F := Ideal) (φ := .f32) (f (i 0) k)) (i 1).val n := by
  induction n generalizing i with
  | zero =>
    unfold mxN Spec.lmax2
    pointwise
  | succ n ih => exact mx2_apply _ _ f n (ih (Nat.le_of_succ_le h)) (aB_apply A f hA n h) i

/-- The scale of the activations as the specification states it. -/
def s2v (r : Fin 72) : EReal := Spec.qscale (Spec.amax fun k : Fin 10752 => f r k.val)

theorem r45_apply (hA : ∀ y : S42x72x256.Idx, A y = f (y 1) (256 * (y 0).val + (y 2).val)) (i : S72x1.Idx) :
    body_run.sl.r_45 (F := Ideal) c A i = s2v f (i 0) := by
  rw [r45_eq]
  refine (colScale_apply _ i).trans ?_
  unfold s2v Spec.amax
  refine congrArg Spec.qscale (Eq.trans (Finset.fold_congr fun l _ => mxN_apply A f hA 42 le_rfl (ix2 (i 0) l)) ?_)
  exact Spec.fold_lanes 84 10752 rfl (by decide) (fun k => FloatOps.absf (F := Ideal) (φ := .f32) (f (i 0) k)) (fun k => Spec.absf_nonneg _)
    (fun l => Spec.lmax2 (fun k => FloatOps.absf (F := Ideal) (φ := .f32) (f (i 0) k)) l 42) (fun l c => Spec.lmax2_le _ l 42 c)

/-- The scales of the activations as the row the body stores. -/
theorem HX5_apply (hA : ∀ y : S42x72x256.Idx, A y = f (y 1) (256 * (y 0).val + (y 2).val)) (v : View sig .tc .vmem S1x72 .f32) (g : v.ty.Contents (Elt Ideal)) (y : S1x72.Idx) :
    v.read (Elt Ideal) (v.writes (Elt Ideal) g (body_run.sl.HX5_1 (F := Ideal) c A)) y = s2v f (y 1) := by
  have h0 : (y 0).val < 1 := (y 0).isLt
  have h1 : (y 1).val < 72 := (y 1).isLt
  refine View.read_writes_apply_of_pieces v g (fun y : S1x72.Idx => s2v f (y 1)) (body_run.sl.HX5_1 (F := Ideal) c A) ?_ y ?_
  · unfold body_run.sl.HX5_1
    simp only [List.forall_mem_cons, List.not_mem_nil, false_imp_iff, implies_true, and_true]
    intro x
    refine Eq.trans (b := rowOf (body_run.sl.r_45 (F := Ideal) c A) x) rfl ((rowOf_apply _ x).trans ((r45_apply c A f hA _).trans (congrArg (s2v f) (Fin.ext ?_))))
    exact ((unit_emb (s := S1x72) ![0, 0] S1x72.size inb_S1x72_S1x72_0_0 x 1).trans (Nat.zero_add _)).symm
  · unfold body_run.sl.HX5_1
    simp only [List.exists_mem_cons_iff, List.not_mem_nil, false_and, exists_false, or_false, Rect.mem_set_unit, Fin.forall_fin_two]
    simp
    omega

end Cert.KernelIdeal.Hand
-- ==== Proof.KernelIdealAq.lean ====
/-
The codes of the activations, as the body's run stores them: in eight bits for the result and as
floats for the second product.
-/
module

public import proofs.«01_k».proof.Proof.KernelIdealMax

@[expose] public section

set_option maxRecDepth 16384

noncomputable section

namespace Cert.KernelIdeal.Hand

open Cert.KernelIdeal Cert.KernelIdeal.Gen
open Idealize.ShloMosaic Idealize.ShloMosaic.TcCoe

variable (c : Dev nD) (A : S42x72x256.Idx → Elt Ideal .f32) (f : Fin 72 → ℕ → EReal)

/-- The quantised activations of the specification. -/
def q2v (r : Fin 72) (k : ℕ) : EReal := Spec.code (Ideal.div (f r k) (s2v f r))

/-- The stack of tiles the second product multiplies, zero where there is no row. -/
def stk (y : S21x80x512.Idx) : EReal := if h : (y 1).val < 72 then q2v f ⟨(y 1).val, h⟩ (512 * (y 0).val + (y 2).val) else 0

variable (hA : ∀ y : S42x72x256.Idx, A y = f (y 1) (256 * (y 0).val + (y 2).val))
include hA

theorem q2F_piece (a o i : ℕ) (inb : ∀ d, ![a, 0, o] d + S1x72x256.size d ≤ S21x80x512.size d) (h : i < 42) (hi : 512 * a + o = 256 * i) (x : S1x72x256.Idx) :
    q2F (body_run.sl.r_45 (F := Ideal) c A) (aB A i h) x = stk f ((Rect.unit (s := S21x80x512) ![a, 0, o] S1x72x256.size inb).emb x) := by
  have h0 : (x 0).val < 1 := (x 0).isLt
  have h1 : (x 1).val < 72 := (x 1).isLt
  have e0 := unit_emb (s := S21x80x512) ![a, 0, o] S1x72x256.size inb x 0
  have e1 := (unit_emb (s := S21x80x512) ![a, 0, o] S1x72x256.size inb x 1).trans (Nat.zero_add _)
  have e2 := unit_emb (s := S21x80x512) ![a, 0, o] S1x72x256.size inb x 2
  unfold stk
  rw [dif_pos (e1.trans_lt h1)]
  refine (q2F_apply _ _ x).trans ?_
  refine Eq.trans (b := q2v f (x 1) (256 * i + (x 2).val)) ?_ (congrArg₂ (q2v f) (Fin.ext e1.symm) ?_)
  · exact congrArg Spec.code (congrArg₂ Ideal.div (aB_apply A f hA i h _) (r45_apply c A f hA _))
  · rw [show _ = _ from e0, show _ = _ from e2]
    show 256 * i + (x 2).val = 512 * (a + (x 0).val) + (o + (x 2).val)
    omega

theorem q2I_piece (o i : ℕ) (inb : ∀ d, ![0, o] d + S72x256.size d ≤ S72x10752.size d) (h : i < 42) (hi : o = 256 * i) (x : S72x256.Idx) :
    q2I (body_run.sl.r_45 (F := Ideal) c A) (aB A i h) x
      = (fun y : S72x10752.Idx => FloatOps.fptosi (F := Ideal) (φ := .f32) 8 (q2v f (y 0) (y 1).val)) ((Rect.unit (s := S72x10752) ![0, o] S72x256.size inb).emb x) := by
  have e0 := (unit_emb (s := S72x10752) ![0, o] S72x256.size inb x 0).trans (Nat.zero_add _)
  have e1 := unit_emb (s := S72x10752) ![0, o] S72x256.size inb x 1
  refine (q2I_apply _ _ x).trans (congrArg (fun z => FloatOps.fptosi (F := Ideal) (φ := .f32) 8 z) ?_)
  refine Eq.trans (b := q2v f (x 0) (256 * i + (x 1).val)) ?_ (congrArg₂ (q2v f) (Fin.ext e0.symm) ?_)
  · exact congrArg Spec.code (congrArg₂ Ideal.div (aB_apply A f hA i h _) (r45_apply c A f hA _))
  · rw [show _ = _ from e1]
    show 256 * i + (x 1).val = o + (x 1).val
    omega

omit hA in
/-- The rows there are not hold zero. -/
theorem pad_piece (x : S21x8x512.Idx) : k0_pay262 (F := Ideal) x = stk f ((Rect.unit (s := S21x80x512) ![0, 72, 0] S21x8x512.size inb_S21x80x512_S21x8x512_0_72_0).emb x) := by
  have e1 := unit_emb (s := S21x80x512) ![0, 72, 0] S21x8x512.size inb_S21x80x512_S21x8x512_0_72_0 x 1
  unfold stk
  rw [dif_neg (fun h => absurd (e1.symm.trans_lt h) (by show ¬ (72 + (x 1).val < 72); omega))]
  unfold k0_pay262
  pointwise

theorem stk_pieces : ∀ p ∈ body_run.sl.HB8_43 (F := Ideal) c A, ∀ x, p.2 x = stk f (p.1.emb x) := by
  unfold body_run.sl.HB8_43
  simp only [List.forall_mem_cons, List.not_mem_nil, false_imp_iff, implies_true, and_true]
  refine ⟨fun x => pad_piece f x, ?_⟩
  iterate 41 refine ⟨fun x => q2F_piece c A f hA _ _ _ _ (by decide) (by decide) x, ?_⟩
  exact fun x => q2F_piece c A f hA _ _ _ _ (by decide) (by decide) x

theorem cod_pieces : ∀ p ∈ body_run.sl.HB10_42 (F := Ideal) c A, ∀ x, p.2 x
    = (fun y : S72x10752.Idx => FloatOps.fptosi (F := Ideal) (φ := .f32) 8 (q2v f (y 0) (y 1).val)) (p.1.emb x) := by
  unfold body_run.sl.HB10_42
  simp only [List.forall_mem_cons, List.not_mem_nil, false_imp_iff, implies_true, and_true]
  iterate 41 refine ⟨fun x => q2I_piece c A f hA _ _ _ (by decide) (by decide) x, ?_⟩
  exact fun x => q2I_piece c A f hA _ _ _ (by decide) (by decide) x

/-- The stack as the second product reads it. -/
theorem actlF_apply (y : S21x80x512.Idx) : actlF (F := Ideal) c A y = stk f y := by
  unfold actlF
  exact writes_whole_apply cc0_scoped3 _ (stk f) _ (stk_pieces c A f hA) y
    (View.cover_of_tiledBy (body_run.sl.HB8_43 (F := Ideal) c A) ![1, 8, 256] (by sl_kernel_rfl) y)

/-- The codes the body copies out. -/
theorem dma256_apply (B10 : S72x10752.Idx → Elt Ideal .i8) (y : S72x10752.Idx) :
    body_run.sl.dma256 (F := Ideal) c B10 A y = FloatOps.fptosi (F := Ideal) (φ := .f32) 8 (q2v f (y 0) (y 1).val) :=
  View.read_writes_apply_of_pieces (Memref.whole (κ := .tc) cc0_scoped5).view B10 (fun y : S72x10752.Idx => FloatOps.fptosi (F := Ideal) (φ := .f32) 8 (q2v f (y 0) (y 1).val))
    (body_run.sl.HB10_42 (F := Ideal) c A) (cod_pieces c A f hA) y
    (View.cover_of_tiledL (body_run.sl.HB10_42 (F := Ideal) c A) S72x256.size (by sl_kernel_rfl) y)

end Cert.KernelIdeal.Hand
-- ==== Proof.KernelIdealDown.lean ====
/-
The second product, summed over twenty-one tiles of 512 rows, and the residual's update.
-/
module

public import proofs.«01_k».proof.Proof.KernelIdealAq

@[expose] public section

set_option maxRecDepth 16384

noncomputable section

namespace Cert.KernelIdeal.Hand

open Cert.KernelIdeal Cert.KernelIdeal.Gen
open Idealize.ShloMosaic Idealize.ShloMosaic.TcCoe

section Ops
variable {F : FTy → Type} [FloatOps F]

/-- The residual plus the rescaled product. -/
def outB (s : FVec F S72x1 .f32) (x e : Vec F S72x512 .f32) (d : Vec F S1x512 .f32) : FVec F S72x512 .bf16 :=
  shapeCast S72x512 (truncf .bf16 (addf x (mulf (mulf e (broadcastTo S72x512 s broadcasts_S72x1_S72x512))
    (broadcastTo S72x512 (shapeCast S1x512 d shapeCasts_S1x512_S1x512) broadcasts_S1x512_S72x512))) bitsLt_bf16_f32) shapeCasts_S72x512_S72x512
end Ops

theorem outB_apply (s : FVec Ideal S72x1 .f32) (x e : Vec Ideal S72x512 .f32) (d : Vec Ideal S1x512 .f32) (i : S72x512.Idx) :
    outB s x e d i = x i + e i * s (ix2 (i 0) 0) * d (ix2 0 (i 1)) := by
  unfold outB
  pointwise

theorem pay4_apply (d : Vec Ideal S80x5120 .f32) (a : Vec Ideal S1x80x512 .bf16) (w : Vec Ideal S1x512x5120 .i8) (i : S80x5120.Idx) :
    k0_pay4 d a w i = d i + ∑ k, a (ix3 0 (i 0) k) * Spec.num (w (ix3 0 k (i 1))) := by
  unfold k0_pay4 Spec.num
  pointwise

theorem pay263_apply (i : S80x5120.Idx) : k0_pay263 (F := Ideal) i = 0 := by
  unfold k0_pay263
  pointwise

/-- Blocks of 512 added one after another to nothing. -/
def dsum (f : ℕ → EReal) : ℕ → EReal
  | 0 => 0
  | n + 1 => dsum f n + ∑ k : Fin 512, f (512 * n + k.val)

theorem dsum_eq (f : ℕ → EReal) (n : ℕ) : dsum f n = ∑ m : Fin n, ∑ k : Fin 512, f (k.val + 512 * m.val) := by
  induction n with
  | zero => simp [dsum]
  | succ n ih =>
    rw [Fin.sum_univ_castSucc]
    unfold dsum
    rw [ih]
    exact congrArg₂ (· + ·) rfl (Finset.sum_congr rfl fun k _ => congrArg f (Nat.add_comm _ _))

theorem dsum_all (f : ℕ → EReal) : dsum f 21 = ∑ k : Fin 10752, f k.val :=
  (dsum_eq f 21).trans (Spec.sum_mul 21 512 f).symm

/-- A down weight as a number, by row and column. -/
def dwgt (W' : S10752x5120.Idx → BitVec 8) (k u : ℕ) : EReal :=
  Spec.num (W' (ix2 (⟨k % 10752, Nat.mod_lt _ (by decide)⟩ : Fin 10752) (⟨u % 5120, Nat.mod_lt _ (by decide)⟩ : Fin 5120)))

theorem landD_row (t b k : ℕ) (h1 : b = k) : (t * 512 + b) % 10752 = (512 * t + k) % 10752 := by
  subst h1
  rw [Nat.mul_comm t]
theorem landD_apply (W' : S10752x5120.Idx → Elt Ideal .i8) (t k j : ℕ) (y : S12x512x5120.Idx) (h1 : (y 1).val = k) (h2 : (y 2).val = j) (hj : j < 5120) :
    Spec.num (LandD (F := Ideal) W' t y) = dwgt W' (512 * t + k) j := by
  unfold LandD dwgt
  exact congrArg (fun z => Spec.num (W' z)) (congrArg₂ (fun a b => ix2 a b) (Fin.ext (landD_row t _ k h1)) (Fin.ext (h2.trans (Nat.mod_eq_of_lt hj).symm)))

theorem ringD_apply (W' : S10752x5120.Idx → Elt Ideal .i8) (t s : ℕ) (off : Fin 3 → ℕ) (inb : ∀ d, off d + ![1, 512, 5120] d ≤ S12x512x5120.size d)
    (h : off = ![s, 0, 0]) (k : Fin 512) (j : Fin 5120) :
    Spec.num (ringLd (F := Ideal) (LandD (F := Ideal) W' t) (Rect.unit (s := S12x512x5120) off ![1, 512, 5120] inb) (ix3 (0 : Fin 1) k j)) = dwgt W' (512 * t + k.val) j.val := by
  subst h
  refine landD_apply W' t k.val j.val ((Rect.unit (s := S12x512x5120) ![s, 0, 0] ![1, 512, 5120] inb).toLoadRect.idx (ix3 (0 : Fin 1) k j)) ?_ ?_ j.isLt
  · simp [LoadRect.idx, Rect.unit, ix3]
  · simp [LoadRect.idx, Rect.unit, ix3]

theorem o3_a : ∀ k : Fin k0_t3_loop.trips, k0_off86 k = ![k.val, 0, 0] := by decide +kernel

theorem actlLd_apply (X : S21x80x512.Idx → Elt Ideal .bf16) (r : Rect S21x80x512) (i : r.shape.Idx) : actlLd (F := Ideal) X r i = X (r.toLoadRect.idx i) := rfl

theorem daccLd_apply (D : S80x5120.Idx → Elt Ideal .f32) (i : S80x5120.Idx) : daccLd (F := Ideal) D i = D i := by
  refine congrArg D (funext fun a => Fin.ext ?_)
  match a with
  | ⟨0, _⟩ => simp [LoadRect.idx, Rect.unit]
  | ⟨1, _⟩ => simp [LoadRect.idx, Rect.unit]

variable (c : Dev nD) (A : S42x72x256.Idx → Elt Ideal .f32) (f : Fin 72 → ℕ → EReal) (W' : S10752x5120.Idx → Elt Ideal .i8)
variable (hA : ∀ y : S42x72x256.Idx, A y = f (y 1) (256 * (y 0).val + (y 2).val))

include hA in
theorem act_apply (t : ℕ) (off : Fin 3 → ℕ) (inb : ∀ d, off d + ![1, 80, 512] d ≤ S21x80x512.size d) (h : off = ![t, 0, 0]) (r : Fin 80) (hr : r.val < 72) (k : Fin 512) :
    actlLd (F := Ideal) (actlF (F := Ideal) c A) (Rect.unit (s := S21x80x512) off ![1, 80, 512] inb) (ix3 (0 : Fin 1) r k) = q2v f ⟨r.val, hr⟩ (512 * t + k.val) := by
  subst h
  have e0 : ((Rect.unit (s := S21x80x512) ![t, 0, 0] ![1, 80, 512] inb).toLoadRect.idx (ix3 (0 : Fin 1) r k) 0).val = t := by simp [LoadRect.idx, Rect.unit, ix3]
  have e1 : ((Rect.unit (s := S21x80x512) ![t, 0, 0] ![1, 80, 512] inb).toLoadRect.idx (ix3 (0 : Fin 1) r k) 1).val = r.val := by simp [LoadRect.idx, Rect.unit, ix3]
  have e2 : ((Rect.unit (s := S21x80x512) ![t, 0, 0] ![1, 80, 512] inb).toLoadRect.idx (ix3 (0 : Fin 1) r k) 2).val = k.val := by simp [LoadRect.idx, Rect.unit, ix3]
  refine (actlLd_apply _ _ _).trans ?_
  refine (actlF_apply c A f hA ((Rect.unit (s := S21x80x512) ![t, 0, 0] ![1, 80, 512] inb).toLoadRect.idx (ix3 (0 : Fin 1) r k))).trans ?_
  unfold stk
  rw [dif_pos (e1.trans_lt hr)]
  exact congrArg₂ (q2v f) (Fin.ext e1) (congrArg₂ (fun a b => 512 * a + b) e0 e2)

/-- The second product of row `r` and column `u`. -/
def ev (r : Fin 72) (u : ℕ) : EReal := ∑ k : Fin 10752, q2v f r k.val * dwgt W' k.val u

include hA in
theorem dnN_apply (D : S80x5120.Idx → Elt Ideal .f32) (hD : ∀ y, D y = 0) (n : ℕ) (hn : n ≤ 21) (y : S80x5120.Idx) (hy : (y 0).val < 72) :
    dnN (F := Ideal) W' (actlF (F := Ideal) c A) D n y = dsum (fun k => q2v f ⟨(y 0).val, hy⟩ k * dwgt W' k (y 1).val) n := by
  induction n with
  | zero => exact hD y
  | succ n ih =>
    have hk : n < k0_t3_loop.trips := by rw [trips3]; omega
    unfold dnN dsum
    rw [dif_pos hk]
    unfold dnStep
    generalize hE : dnN (F := Ideal) W' (actlF (F := Ideal) c A) D n = E at ih ⊢
    refine (writes_whole_apply cc0_scoped1 E (k0_pay4 (F := Ideal) (daccLd E) (actlLd (actlF (F := Ideal) c A) (Rect.unit (k0_off86 ⟨n, hk⟩) ![1, 80, 512] (k0_off86_inb ⟨n, hk⟩)))
      (ringLd (LandD (F := Ideal) W' n) (Rect.unit (k0_off87 ⟨n, hk⟩) ![1, 512, 5120] (k0_off87_inb ⟨n, hk⟩)))) _ ?_ y ⟨_, List.mem_cons_self, ?_⟩).trans ?_
    · simp only [List.forall_mem_cons, List.not_mem_nil, false_imp_iff, implies_true, and_true]
      intro x
      refine congrArg _ (funext fun a => Fin.ext ?_)
      match a with
      | ⟨0, _⟩ => exact ((unit_emb (s := S80x5120) ![0, 0] ![80, 5120] inb_S80x5120_S80x5120_0_0 x 0).trans (Nat.zero_add _)).symm
      | ⟨1, _⟩ => exact ((unit_emb (s := S80x5120) ![0, 0] ![80, 5120] inb_S80x5120_S80x5120_0_0 x 1).trans (Nat.zero_add _)).symm
    · rw [Rect.mem_set_unit]
      have h0 : (y 0).val < 80 := (y 0).isLt
      have h1 : (y 1).val < 5120 := (y 1).isLt
      show ∀ a : Fin 2, _
      rw [Fin.forall_fin_two]
      exact ⟨⟨Nat.zero_le _, h0.trans_eq (Nat.zero_add _).symm⟩, ⟨Nat.zero_le _, h1.trans_eq (Nat.zero_add _).symm⟩⟩
    · refine (pay4_apply _ _ _ y).trans (congrArg₂ (· + ·) ((daccLd_apply E y).trans (ih (by omega))) (Finset.sum_congr rfl fun k _ => congrArg₂ (· * ·) ?_ ?_))
      · exact act_apply c A f hA n _ (k0_off86_inb ⟨n, hk⟩) (o3_a ⟨n, hk⟩) (y 0) hy k
      · exact ringD_apply W' n _ _ (k0_off87_inb ⟨n, hk⟩) (o3_r ⟨n, hk⟩) k (y 1)

include hA in
theorem outF_apply (y : S80x5120.Idx) (hy : (y 0).val < 72) : outF (F := Ideal) c W' A y = ev f W' ⟨(y 0).val, hy⟩ (y 1).val := by
  unfold outF
  refine (dnN_apply c A f W' hA _ (fun y => ?_) _ (le_of_eq trips3) y hy).trans ?_
  · refine writes_whole_apply cc0_scoped1 _ (fun _ => (0 : EReal)) (body_run.sl.HB6_1 (F := Ideal)) ?_ y ?_
    · unfold body_run.sl.HB6_1
      simp only [List.forall_mem_cons, List.not_mem_nil, false_imp_iff, implies_true, and_true]
      exact fun x => pay263_apply x
    · exact View.cover_of_tiledL (body_run.sl.HB6_1 (F := Ideal)) S80x5120.size (by sl_kernel_rfl) y
  · rw [trips3]
    exact dsum_all (fun k => q2v f ⟨(y 0).val, hy⟩ k * dwgt W' k (y 1).val)

variable (a0 : Memref sig .tc .vmem S72x5120 .f32) (a3 : Memref sig .tc .vmem S1x5120 .f32)
variable (X0 : Buf (Elt Ideal) (a0.view.loc (c : Thread nD τ))) (X3 : Buf (Elt Ideal) (a3.view.loc (c : Thread nD τ)))

/-- The residual's update as the specification states it. -/
def hv (r : Fin 72) (k : ℕ) : EReal := xr c a0 X0 r k + ev f W' r k * s2v f r * at2 (a3.view.read (Elt Ideal) X3) (0 : Fin 1) k

theorem eLd_apply (E : S80x5120.Idx → Elt Ideal .f32) (r : Rect S80x5120) (i : r.shape.Idx) :
    View.readAt (Elt Ideal) (Memref.whole (κ := .tc) cc0_scoped1).view r.toLoadRect E i = E (r.toLoadRect.idx i) := rfl

include hA in
theorem out_piece (o : ℕ) (inb : ∀ d, ![0, o] d + S72x512.size d ≤ S72x5120.size d) (inb8 : ∀ d, ![0, o] d + S72x512.size d ≤ S80x5120.size d)
    (inb' : ∀ d, ![0, o] d + S1x512.size d ≤ S1x5120.size d) (x : S72x512.Idx) :
    outB (body_run.sl.r_45 (F := Ideal) c A)
      ((Memref.whole (κ := .tc) cc0_scratch2).view.readCov (body_run.sl.HB4_10 (F := Ideal) c a0 X0) (Rect.unit (s := S72x5120) ![0, o] S72x512.size inb).toLoadRect)
      (View.readAt (Elt Ideal) (Memref.whole (κ := .tc) cc0_scoped1).view (Rect.unit (s := S80x5120) ![0, o] S72x512.size inb8).toLoadRect (outF (F := Ideal) c W' A))
      (View.readAt (Elt Ideal) a3.view (Rect.unit (s := S1x5120) ![0, o] S1x512.size inb').toLoadRect X3) x
      = (fun y : S72x5120.Idx => hv c f W' a0 a3 X0 X3 (y 0) (y 1).val) ((Rect.unit (s := S72x5120) ![0, o] S72x512.size inb).emb x) := by
  have h0 : (x 0).val < 72 := (x 0).isLt
  have e0 := (unit_emb (s := S72x5120) ![0, o] S72x512.size inb x 0).trans (Nat.zero_add _)
  have e1 := unit_emb (s := S72x5120) ![0, o] S72x512.size inb x 1
  have d0 : ((Rect.unit (s := S80x5120) ![0, o] S72x512.size inb8).toLoadRect.idx x 0).val = (x 0).val := by simp [LoadRect.idx, Rect.unit]
  have d1 : ((Rect.unit (s := S80x5120) ![0, o] S72x512.size inb8).toLoadRect.idx x 1).val = o + (x 1).val := by simp [LoadRect.idx, Rect.unit]
  refine Eq.trans (b := hv c f W' a0 a3 X0 X3 (x 0) (o + (x 1).val)) ?_ (congrArg₂ (hv c f W' a0 a3 X0 X3) (Fin.ext e0.symm) e1.symm)
  refine (outB_apply _ _ _ _ x).trans ?_
  unfold hv
  refine congrArg₂ (· + ·) (fb_apply c a0 X0 o inb x) (congrArg₂ (· * ·) (congrArg₂ (· * ·) ?_ (r45_apply c A f hA _)) (ldw_apply a3.view X3 o inb' _))
  refine (eLd_apply _ _ _).trans ?_
  refine (outF_apply c A f W' hA ((Rect.unit (s := S80x5120) ![0, o] S72x512.size inb8).toLoadRect.idx x) (d0.trans_lt h0)).trans ?_
  exact congrArg₂ (ev f W') (Fin.ext d0) d1

include hA in
/-- The rows the body copies out. -/
theorem dma50_apply (B11 : S72x5120.Idx → Elt Ideal .bf16) (y : S72x5120.Idx) :
    body_run.sl.dma50 (F := Ideal) c a0 a3 B11 X0 X3 A (outF (F := Ideal) c W' A) y = hv c f W' a0 a3 X0 X3 (y 0) (y 1).val := by
  have h0 : (y 0).val < 72 := (y 0).isLt
  have h := fun o inb inb8 inb' => out_piece c A f W' hA a0 a3 X0 X3 o inb inb8 inb'
  refine View.read_writes_apply_of_pieces (Memref.whole (κ := .tc) cc0_scoped6).view B11 (fun y : S72x5120.Idx => hv c f W' a0 a3 X0 X3 (y 0) (y 1).val)
    (body_run.sl.HB11_10 (F := Ideal) c a0 a3 X0 X3 A (outF (F := Ideal) c W' A)) ?_ y ?_
  · unfold body_run.sl.HB11_10
    simp only [List.forall_mem_cons, List.not_mem_nil, false_imp_iff, implies_true, and_true]
    exact ⟨h 4608 _ inb_S80x5120_S72x512_0_4608 inb_S1x5120_S1x512_0_4608, h 4096 _ inb_S80x5120_S72x512_0_4096 inb_S1x5120_S1x512_0_4096,
      h 3584 _ inb_S80x5120_S72x512_0_3584 inb_S1x5120_S1x512_0_3584, h 3072 _ inb_S80x5120_S72x512_0_3072 inb_S1x5120_S1x512_0_3072,
      h 2560 _ inb_S80x5120_S72x512_0_2560 inb_S1x5120_S1x512_0_2560, h 2048 _ inb_S80x5120_S72x512_0_2048 inb_S1x5120_S1x512_0_2048,
      h 1536 _ inb_S80x5120_S72x512_0_1536 inb_S1x5120_S1x512_0_1536, h 1024 _ inb_S80x5120_S72x512_0_1024 inb_S1x5120_S1x512_0_1024,
      h 512 _ inb_S80x5120_S72x512_0_512 inb_S1x5120_S1x512_0_512, h 0 _ inb_S80x5120_S72x512_0_0 inb_S1x5120_S1x512_0_0⟩
  · unfold body_run.sl.HB11_10
    exact cover10 _ _ _ _ _ _ _ _ _ _ _ _ _ _ _ _ _ _ _ _ y h0

end Cert.KernelIdeal.Hand
-- ==== Proof.KernelIdealSpec.lean ====
/-
The kernel's results at an index, in the terms of the mathematics of a row.
-/
module

public import proofs.«01_k».proof.Proof.KernelIdealDown

@[expose] public section

set_option maxRecDepth 16384

noncomputable section

namespace Cert.KernelIdeal.Hand

open Cert.KernelIdeal Cert.KernelIdeal.Gen
open Idealize.ShloMosaic Idealize.ShloMosaic.TcCoe

/-- Row `r` of an array. -/
def rw2 {R C : ℕ} (x : (⟨2, ![R, C]⟩ : Shape).Idx → EReal) (r : Fin R) : Fin C → EReal := fun k => x (ix2 r k)
/-- A weight matrix by its coordinates. -/
def mat2 {R C : ℕ} (w : (⟨2, ![R, C]⟩ : Shape).Idx → BitVec 8) : Fin R → Fin C → BitVec 8 := fun k u => w (ix2 k u)
/-- The gate and up scales, kept as 84 rows of 256. -/
def sc84 (g : S84x1x256.Idx → EReal) : Fin 21504 → EReal := fun u => g (ix3 (⟨u.val / 256, by omega⟩ : Fin 84) (0 : Fin 1) (⟨u.val % 256, by omega⟩ : Fin 256))

variable (c : Dev nD) (a0 : Memref sig .tc .vmem S72x5120 .f32) (a1 : Memref sig .tc .vmem S1x5120 .f32)
  (a2 : Memref sig .tc .vmem S84x1x256 .f32) (a3 : Memref sig .tc .vmem S1x5120 .f32)
  (X0 : Buf (Elt Ideal) (a0.view.loc (c : Thread nD τ))) (X1 : Buf (Elt Ideal) (a1.view.loc (c : Thread nD τ)))
  (X2 : Buf (Elt Ideal) (a2.view.loc (c : Thread nD τ))) (X3 : Buf (Elt Ideal) (a3.view.loc (c : Thread nD τ)))
  (W : S5120x21504.Idx → BitVec 8) (W' : S10752x5120.Idx → BitVec 8)
  (x : S72x5120.Idx → EReal) (n : S1x5120.Idx → EReal) (g : S84x1x256.Idx → EReal) (d : S1x5120.Idx → EReal)
  (hx : a0.view.read (Elt Ideal) X0 = x) (hn : a1.view.read (Elt Ideal) X1 = n) (hg : a2.view.read (Elt Ideal) X2 = g) (hd : a3.view.read (Elt Ideal) X3 = d)

include hx in
theorem xr_spec (r : Fin 72) (k : Fin 5120) : xr c a0 X0 r k.val = rw2 x r k := by
  subst hx; exact at2_lt _ r k
include hn in
theorem nr_spec (k : Fin 5120) : nr c a1 X1 k.val = rw2 n 0 k := by
  subst hn; exact at2_lt _ (0 : Fin 1) k

include hx hn in
theorem nv_spec (r : Fin 72) (k : Fin 5120) : nv c a0 a1 X0 X1 r k.val = Spec.nrm (rw2 x r) (rw2 n 0) k := by
  unfold nv Spec.nrm
  rw [nr_spec c a1 X1 n hn k]
  simp only [xr_spec c a0 X0 x hx r]

include hx hn in
theorem sv_spec (r : Fin 72) : sv c a0 a1 X0 X1 r = Spec.sc1 (rw2 x r) (rw2 n 0) := by
  unfold sv Spec.sc1
  exact congrArg (fun v => Spec.qscale (Spec.amax v)) (funext fun k => nv_spec c a0 a1 X0 X1 x n hx hn r k)

include hx hn in
theorem qv_spec (r : Fin 72) (k : Fin 5120) : qv c a0 a1 X0 X1 r k.val = Spec.cd1 (rw2 x r) (rw2 n 0) k := by
  unfold qv Spec.cd1
  rw [nv_spec c a0 a1 X0 X1 x n hx hn r k, sv_spec c a0 a1 X0 X1 x n hx hn r]

theorem wgt_spec (k : Fin 5120) (u : Fin 21504) : wgt W k.val u.val = Spec.num (mat2 W k u) := by
  unfold wgt mat2
  exact congrArg (fun i => Spec.num (W i)) (congrArg₂ ix2 (Fin.ext (Nat.mod_eq_of_lt k.isLt)) (Fin.ext (Nat.mod_eq_of_lt u.isLt)))

include hg in
theorem gv_spec (b l : ℕ) (hb : b < 84) (hl : l < 256) (u : Fin 21504) (hu : u.val = 256 * b + l) : gv c a2 X2 b l = sc84 g u := by
  subst hg
  unfold gv sc84
  exact congrArg₂ (fun i j => a2.view.read (Elt Ideal) X2 (ix3 i (0 : Fin 1) j)) (Fin.ext (show b % 84 = u.val / 256 by omega)) (Fin.ext (show l % 256 = u.val % 256 by omega))

include hx hn hg in
theorem pv_spec (r : Fin 72) (b l : ℕ) (hb : b < 84) (hl : l < 256) (u : Fin 21504) (hu : u.val = 256 * b + l) :
    pv c a0 a1 a2 X0 X1 X2 W r b l = Spec.pre (rw2 x r) (rw2 n 0) (mat2 W) (sc84 g) u := by
  unfold pv Spec.pre dv
  rw [gv_spec c a2 X2 g hg b l hb hl u hu, sv_spec c a0 a1 X0 X1 x n hx hn r, ← hu]
  refine congrArg (fun z => z * Spec.sc1 (rw2 x r) (rw2 n 0) * sc84 g u) (Finset.sum_congr rfl fun k _ => ?_)
  rw [qv_spec c a0 a1 X0 X1 x n hx hn r k, wgt_spec]

/-- The activation by its column. -/
def af (r : Fin 72) (u : ℕ) : EReal := av c a0 a1 a2 X0 X1 X2 W r (u / 256) (u % 256)

theorem actF_af (B3 : S80x5120.Idx → Elt Ideal .bf16) (B7 : S42x72x256.Idx → Elt Ideal .f32) (y : S42x72x256.Idx) :
    actF (F := Ideal) c W a0 a1 a2 X0 X1 X2 B3 B7 y = af c a0 a1 a2 X0 X1 X2 W (y 1) (256 * (y 0).val + (y 2).val) := by
  have h2 : (y 2).val < 256 := (y 2).isLt
  rw [actF_apply]
  unfold af
  exact congrArg₂ (av c a0 a1 a2 X0 X1 X2 W (y 1)) (by omega) (by omega)

include hx hn hg in
theorem af_spec (r : Fin 72) (u : Fin 10752) : af c a0 a1 a2 X0 X1 X2 W r u.val = Spec.act (rw2 x r) (rw2 n 0) (mat2 W) (sc84 g) u := by
  have hu := u.isLt
  unfold af av Spec.act
  rw [pv_spec c a0 a1 a2 X0 X1 X2 W x n g hx hn hg r (u.val / 256) (u.val % 256) (by omega) (by omega) ⟨u.val, by omega⟩ (by show u.val = _; omega),
    pv_spec c a0 a1 a2 X0 X1 X2 W x n g hx hn hg r (42 + u.val / 256) (u.val % 256) (by omega) (by omega) ⟨10752 + u.val, by omega⟩ (by show 10752 + u.val = _; omega)]

include hx hn hg in
theorem s2_spec (r : Fin 72) : s2v (af c a0 a1 a2 X0 X1 X2 W) r = Spec.sc2 (rw2 x r) (rw2 n 0) (mat2 W) (sc84 g) := by
  unfold s2v Spec.sc2
  exact congrArg (fun v => Spec.qscale (Spec.amax v)) (funext fun k => af_spec c a0 a1 a2 X0 X1 X2 W x n g hx hn hg r k)

include hx hn hg in
theorem q2_spec (r : Fin 72) (u : Fin 10752) : q2v (af c a0 a1 a2 X0 X1 X2 W) r u.val = Spec.cd2 (rw2 x r) (rw2 n 0) (mat2 W) (sc84 g) u := by
  unfold q2v Spec.cd2
  rw [af_spec c a0 a1 a2 X0 X1 X2 W x n g hx hn hg r u, s2_spec c a0 a1 a2 X0 X1 X2 W x n g hx hn hg r]

theorem dwgt_spec (k : Fin 10752) (u : Fin 5120) : dwgt W' k.val u.val = Spec.num (mat2 W' k u) := by
  unfold dwgt mat2
  exact congrArg (fun i => Spec.num (W' i)) (congrArg₂ ix2 (Fin.ext (Nat.mod_eq_of_lt k.isLt)) (Fin.ext (Nat.mod_eq_of_lt u.isLt)))

include hx hn hg hd in
theorem hv_spec (r : Fin 72) (k : Fin 5120) : hv c (af c a0 a1 a2 X0 X1 X2 W) W' a0 a3 X0 X3 r k.val
    = Spec.hid (rw2 x r) (rw2 n 0) (mat2 W) (sc84 g) (mat2 W') (rw2 d 0) k := by
  subst hd
  unfold hv Spec.hid ev
  rw [xr_spec c a0 X0 x hx r k, s2_spec c a0 a1 a2 X0 X1 X2 W x n g hx hn hg r, at2_lt _ (0 : Fin 1) k]
  refine congrArg (fun z => rw2 x r k + z * Spec.sc2 (rw2 x r) (rw2 n 0) (mat2 W) (sc84 g) * rw2 (a3.view.read (Elt Ideal) X3) 0 k) (Finset.sum_congr rfl fun j _ => ?_)
  rw [q2_spec c a0 a1 a2 X0 X1 X2 W x n g hx hn hg r j, dwgt_spec]

/-! ### The five results -/

/-- The new residual. -/
def res0 : S72x5120.Idx → EReal := fun y => Spec.hid (rw2 x (y 0)) (rw2 n 0) (mat2 W) (sc84 g) (mat2 W') (rw2 d 0) (y 1)
/-- The first codes. -/
def res1 : S72x5120.Idx → BitVec 8 := fun y => FloatOps.fptosi (F := Ideal) (φ := .f32) 8 (Spec.cd1 (rw2 x (y 0)) (rw2 n 0) (y 1))
/-- The first scales. -/
def res2 : S1x72.Idx → EReal := fun y => Spec.sc1 (rw2 x (y 1)) (rw2 n 0)
/-- The second codes. -/
def res3 : S72x10752.Idx → BitVec 8 := fun y => FloatOps.fptosi (F := Ideal) (φ := .f32) 8 (Spec.cd2 (rw2 x (y 0)) (rw2 n 0) (mat2 W) (sc84 g) (y 1))
/-- The second scales. -/
def res4 : S1x72.Idx → EReal := fun y => Spec.sc2 (rw2 x (y 1)) (rw2 n 0) (mat2 W) (sc84 g)

include hx hn hg hd in
theorem dma50_res (B3 : S80x5120.Idx → Elt Ideal .bf16) (B7 : S42x72x256.Idx → Elt Ideal .f32) (B11 : S72x5120.Idx → Elt Ideal .bf16) :
    body_run.sl.dma50 (F := Ideal) c a0 a3 B11 X0 X3 (actF c W a0 a1 a2 X0 X1 X2 B3 B7) (outF c W' (actF c W a0 a1 a2 X0 X1 X2 B3 B7)) = res0 W W' x n g d := by
  funext y
  exact (dma50_apply c _ (af c a0 a1 a2 X0 X1 X2 W) W' (actF_af c a0 a1 a2 X0 X1 X2 W B3 B7) a0 a3 X0 X3 B11 y).trans
    (hv_spec c a0 a1 a2 a3 X0 X1 X2 X3 W W' x n g d hx hn hg hd (y 0) (y 1))

include hx hn in
theorem dma122_res (B9 : S72x5120.Idx → Elt Ideal .i8) : body_run.sl.dma122 (F := Ideal) c a0 a1 B9 X0 X1 = res1 x n := by
  funext y
  exact (dma122_apply c a0 a1 X0 X1 B9 y).trans (congrArg (FloatOps.fptosi (F := Ideal) (φ := .f32) 8) (qv_spec c a0 a1 X0 X1 x n hx hn (y 0) (y 1)))

include hx hn in
theorem HX4_res (v : View sig .tc .vmem S1x72 .f32) (f : v.ty.Contents (Elt Ideal)) :
    v.read (Elt Ideal) (v.writes (Elt Ideal) f (body_run.sl.HX4_1 (F := Ideal) c a0 a1 X0 X1)) = res2 x n := by
  funext y
  exact (HX4_apply c a0 a1 X0 X1 v f y).trans (sv_spec c a0 a1 X0 X1 x n hx hn (y 1))

include hx hn hg in
theorem dma256_res (B3 : S80x5120.Idx → Elt Ideal .bf16) (B7 : S42x72x256.Idx → Elt Ideal .f32) (B10 : S72x10752.Idx → Elt Ideal .i8) :
    body_run.sl.dma256 (F := Ideal) c B10 (actF c W a0 a1 a2 X0 X1 X2 B3 B7) = res3 W x n g := by
  funext y
  exact (dma256_apply c _ (af c a0 a1 a2 X0 X1 X2 W) (actF_af c a0 a1 a2 X0 X1 X2 W B3 B7) B10 y).trans
    (congrArg (FloatOps.fptosi (F := Ideal) (φ := .f32) 8) (q2_spec c a0 a1 a2 X0 X1 X2 W x n g hx hn hg (y 0) (y 1)))

include hx hn hg in
theorem HX5_res (B3 : S80x5120.Idx → Elt Ideal .bf16) (B7 : S42x72x256.Idx → Elt Ideal .f32) (v : View sig .tc .vmem S1x72 .f32) (f : v.ty.Contents (Elt Ideal)) :
    v.read (Elt Ideal) (v.writes (Elt Ideal) f (body_run.sl.HX5_1 (F := Ideal) c (actF c W a0 a1 a2 X0 X1 X2 B3 B7))) = res4 W x n g := by
  funext y
  exact (HX5_apply c _ (af c a0 a1 a2 X0 X1 X2 W) (actF_af c a0 a1 a2 X0 X1 X2 W B3 B7) v f y).trans (s2_spec c a0 a1 a2 X0 X1 X2 W x n g hx hn hg (y 1))

end Cert.KernelIdeal.Hand

end
-- ==== Proof.KernelIdealVal.lean ====
/-
The run with its values: the arrays the body writes, and the two results staged out, end holding the five results.
-/
module

public import proofs.«01_k».proof.Proof.KernelIdealFrame
public import proofs.«01_k».proof.Proof.KernelIdealRun
public import proofs.«01_k».proof.Proof.KernelIdealSpec
public import Idealize.ShloMosaic.Lib.Pipeline.FrameValue
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The one point of the grid. -/
abbrev t0 : Fin cfg0.N := ⟨0, by decide⟩
theorem eq_t0 (t : Fin cfg0.N) : t = t0 := by
  have h : t.val < 1 := t.isLt
  exact Fin.ext (by show t.val = 0; omega)

/-- The rows. -/
def xI (c : Dev nD) : S72x5120.Idx → EReal := iblk m c 0 t0
/-- The norm's weights. -/
def nI (c : Dev nD) : S1x5120.Idx → EReal := iblk m c 1 t0
/-- The gate and up scales. -/
def gI (c : Dev nD) : S84x1x256.Idx → EReal := iblk m c 2 t0
/-- The down scales. -/
def dI (c : Dev nD) : S1x5120.Idx → EReal := iblk m c 3 t0
/-- The gate and up weights. -/
abbrev wI (c : Dev nD) : S5120x21504.Idx → BitVec 8 := V m c main_arg2
/-- The down weights. -/
abbrev wdI (c : Dev nD) : S10752x5120.Idx → BitVec 8 := V m c main_arg4

/-- What the buffers the body writes by its own copies end at. -/
def GV (c : Dev nD) : (b : Ref sig .tc) → Buf (Elt Ideal) ((c : Thread nD τ).loc b) :=
  Function.update (Function.update (Function.update (V m c) main_v3_0 (res0 (wI m c) (wdI m c) (xI m c) (nI m c) (gI m c) (dI m c)))
    main_v3_1 (res1 (xI m c) (nI m c))) main_v3_3 (res3 (wI m c) (xI m c) (nI m c) (gI m c))

theorem GV_0 (c : Dev nD) : GV m c main_v3_0 = res0 (wI m c) (wdI m c) (xI m c) (nI m c) (gI m c) (dI m c) := by
  unfold GV
  rw [Function.update_of_ne (by decide), Function.update_of_ne (by decide), Function.update_self]
theorem GV_1 (c : Dev nD) : GV m c main_v3_1 = res1 (xI m c) (nI m c) := by
  unfold GV
  rw [Function.update_of_ne (by decide), Function.update_self]
theorem GV_3 (c : Dev nD) : GV m c main_v3_3 = res3 (wI m c) (xI m c) (nI m c) (gI m c) := by
  unfold GV
  rw [Function.update_self]

theorem routed0_eq (c : Dev nD) (G : (b : Ref sig .tc) → Buf (Elt Ideal) ((c : Thread nD τ).loc b)) :
    (Pipeline.routed R0 c G : sProp 𝕄)
      = iprop(bufPt c (Memref.whole main_v3_0) (G main_v3_0) ∗ bufPt c (Memref.whole main_v3_1) (G main_v3_1) ∗ bufPt c (Memref.whole main_v3_3) (G main_v3_3)) := by
  unfold Pipeline.routed; rw [BI.bigSep_eq_bigSepL_of_eq [main_v3_0, main_v3_1, main_v3_3] (by decide) (by decide)]; rfl

theorem PhiDRG0_eq (c : Dev nD) (G : (c : Dev nD) → (b : Ref sig .tc) → Buf (Elt Ideal) ((c : Thread nD τ).loc b)) :
    (Pipeline.ΦDRG osem0 spec0 H0 R0 (V m) G c : sProp 𝕄)
      = iprop(scr c ∗ (∃ r, prngReg c r) ∗ iprop(semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0)
          ∗ iprop(guAll c (V m c main_arg2) ∗ dnAll c (V m c main_arg4))
          ∗ iprop(bufPt c (Memref.whole main_v3_0) (G c main_v3_0) ∗ bufPt c (Memref.whole main_v3_1) (G c main_v3_1) ∗ bufPt c (Memref.whole main_v3_3) (G c main_v3_3))) := by
  rw [Pipeline.ΦDRG_eq, scopedRest0_eq, ownSems00_eq, hbmPts0_eq, routed0_eq]; try rfl

def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res2 (xI m c) (nI m c)
    | ⟨5, _⟩ => res4 (wI m c) (xI m c) (nI m c) (gI m c)
  Φ i := if i.val = 0 then Pipeline.ΦDRG osem0 spec0 H0 R0 (V m) (V m) c else Pipeline.ΦDRG osem0 spec0 H0 R0 (V m) (GV m) c
  q _ := fullShare
  owed _ := 0

theorem A_eqV (c : Dev nD) (w : Fin cfg0.W) : (datsV m 0 c).A w = V m c (Pipeline.arrRef spec0 w) := by
  dsimp only [datsV]
theorem after0_0V (c : Dev nD) (t : Fin cfg0.N) : (datsV m 0 c).after 0 t = iblk m c 0 t := by dsimp only [datsV]
theorem after0_1V (c : Dev nD) (t : Fin cfg0.N) : (datsV m 0 c).after 1 t = iblk m c 1 t := by dsimp only [datsV]
theorem after0_2V (c : Dev nD) (t : Fin cfg0.N) : (datsV m 0 c).after 2 t = iblk m c 2 t := by dsimp only [datsV]
theorem after0_3V (c : Dev nD) (t : Fin cfg0.N) : (datsV m 0 c).after 3 t = iblk m c 3 t := by dsimp only [datsV]
theorem after0_4V (c : Dev nD) (t : Fin cfg0.N) : (datsV m 0 c).after 4 t = res2 (xI m c) (nI m c) := by dsimp only [datsV]
theorem after0_5V (c : Dev nD) (t : Fin cfg0.N) : (datsV m 0 c).after 5 t = res4 (wI m c) (xI m c) (nI m c) (gI m c) := by dsimp only [datsV]
theorem before0_0V (c : Dev nD) (t : Fin cfg0.N) (d) : (datsV m 0 c).before 0 t d = iblk m c 0 t :=
  ((datsV m 0 c).before_in_eq_fetched 0 rfl (fun _ => rfl) (fun _ _ _ => rfl) (fun t => by rw [after0_0V]; unfold Dat.blockOf iblk; rw [A_eqV]; try rfl) t d).trans
    (by unfold Dat.fetched Dat.blockOf iblk; rw [A_eqV]; try rfl)
theorem before0_1V (c : Dev nD) (t : Fin cfg0.N) (d) : (datsV m 0 c).before 1 t d = iblk m c 1 t :=
  ((datsV m 0 c).before_in_eq_fetched 1 rfl (fun _ => rfl) (fun _ _ _ => rfl) (fun t => by rw [after0_1V]; unfold Dat.blockOf iblk; rw [A_eqV]; try rfl) t d).trans
    (by unfold Dat.fetched Dat.blockOf iblk; rw [A_eqV]; try rfl)
theorem before0_2V (c : Dev nD) (t : Fin cfg0.N) (d) : (datsV m 0 c).before 2 t d = iblk m c 2 t :=
  ((datsV m 0 c).before_in_eq_fetched 2 rfl (fun _ => rfl) (fun _ _ _ => rfl) (fun t => by rw [after0_2V]; unfold Dat.blockOf iblk; rw [A_eqV]; try rfl) t d).trans
    (by unfold Dat.fetched Dat.blockOf iblk; rw [A_eqV]; try rfl)
theorem before0_3V (c : Dev nD) (t : Fin cfg0.N) (d) : (datsV m 0 c).before 3 t d = iblk m c 3 t :=
  ((datsV m 0 c).before_in_eq_fetched 3 rfl (fun _ => rfl) (fun _ _ _ => rfl) (fun t => by rw [after0_3V]; unfold Dat.blockOf iblk; rw [A_eqV]; try rfl) t d).trans
    (by unfold Dat.fetched Dat.blockOf iblk; rw [A_eqV]; try rfl)

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d)))
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t))

theorem Phi_castV (c : Dev nD) : (datsV m 0 c).Φ t0.castSucc = Pipeline.ΦDRG osem0 spec0 H0 R0 (V m) (V m) c := rfl
theorem Phi_succV (c : Dev nD) : (datsV m 0 c).Φ t0.succ = Pipeline.ΦDRG osem0 spec0 H0 R0 (V m) (GV m) c := rfl

set_option maxHeartbeats 800000 in
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  obtain rfl := eq_t0 t
  rw [Phi_succV, Phi_castV, PhiDRG0_eq, PhiDRG0_eq, GV_0, GV_1, GV_3, after0_0V, after0_1V, after0_2V, after0_3V, after0_4V, after0_5V]
  simp only [before0_0V, before0_1V, before0_2V, before0_3V]
  unfold Dat.owesAt Pipeline.owesWithin owns
  rw [show (datsV m 0 c).owed t0.castSucc = 0 from rfl, show (datsV m 0 c).owed t0.succ = 0 from rfl]
  iintro ⟨⟨⟨⟨%R, HR⟩, ⟨%B3, HB3⟩, ⟨%B4, HB4⟩, ⟨%B5, HB5⟩, ⟨%B6, HB6⟩, ⟨%B7, HB7⟩, ⟨%B8, HB8⟩, ⟨%B9, HB9⟩, ⟨%B10, HB10⟩, ⟨%B11, HB11⟩⟩, Hg, ⟨Hq6, Hq7, Hq8, Hq9, Hq10, Hq11, Hq12, Hq13, Hq14, Hq15, Hq16, Hq17, Hq18, Hq19, Hq20, Hq21, Hq22, Hq23, Hq24, Hq25, Hq26, Hq27, Hq28, Hq29, HS12, HS13, HS14, Hq33⟩, ⟨HGU, HDN⟩, ⟨HB0, HB1, HB2⟩⟩, ⟨%Wt, -, HW⟩, ⟨%d0, %X0, %e0, HX0⟩, ⟨%d1, %X1, %e1, HX1⟩, ⟨%d2, %X2, %e2, HX2⟩, ⟨%d3, %X3, %e3, HX3⟩, ⟨%d4, %X4, -, HX4⟩, ⟨%d5, %X5, -, HX5⟩⟩
  iapply wp_wand_r
  isplitr [Hg Hq18 Hq19 Hq20 Hq21 Hq22 Hq23 Hq24 Hq25 Hq26 Hq27 Hq28 Hq29 Hq33]
  · iapply (value_run c (V m c main_arg2) (V m c main_arg4) (win0_0.stage (cfg0.slots t0 0)) (hstage0_0 0) (win0_1.stage (cfg0.slots t0 1)) (hstage0_1 0) (win0_2.stage (cfg0.slots t0 2)) (hstage0_2 0)
      (win0_3.stage (cfg0.slots t0 3)) (hstage0_3 0) (win0_4.stage (cfg0.slots t0 4)) (hstage0_4 0) (win0_5.stage (cfg0.slots t0 5)) (hstage0_5 0)
      _ _ _ B3 B4 B5 B6 B7 B8 B9 B10 B11 R X0 X1 X2 X3 X4 X5 Wt)
    rw [cellsB_eq]
    isplitl [HX0]; · iexact HX0
    isplitl [HX1]; · iexact HX1
    isplitl [HX2]; · iexact HX2
    isplitl [HX3]; · iexact HX3
    isplitl [HX4]; · iexact HX4
    isplitl [HX5]; · iexact HX5
    isplitl [HGU]; · iexact HGU
    isplitl [HDN]; · iexact HDN
    isplitl [HR]; · iexact HR
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [Hq6 Hq7 Hq8 Hq9 Hq10 Hq11 Hq12 Hq13 Hq14 Hq15 Hq16 Hq17]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [HS12]; · iexact HS12
    isplitl [HS13]; · iexact HS13
    isplitl [HS14]; · iexact HS14
    iexact HW
  iintro %_ HQ
  unfold valPost
  rw [dma50_res c (win0_0.stage (cfg0.slots t0 0)) (win0_1.stage (cfg0.slots t0 1)) (win0_2.stage (cfg0.slots t0 2)) (win0_3.stage (cfg0.slots t0 3)) X0 X1 X2 X3 (wI m c) (wdI m c) (xI m c) (nI m c) (gI m c) (dI m c) e0 e1 e2 e3,
    dma122_res c (win0_0.stage (cfg0.slots t0 0)) (win0_1.stage (cfg0.slots t0 1)) X0 X1 (xI m c) (nI m c) e0 e1,
    dma256_res c (win0_0.stage (cfg0.slots t0 0)) (win0_1.stage (cfg0.slots t0 1)) (win0_2.stage (cfg0.slots t0 2)) X0 X1 X2 (wI m c) (xI m c) (nI m c) (gI m c) e0 e1 e2,
    View.write_whole_univ, View.write_whole_univ, View.write_whole_univ]
  rw [cellsB_eq]
  icases HQ with ⟨HX0, HX1, HX2, HX3, HX4, HX5, HGU, HDN, HR, HB0, HB1, HB2, HB3, HB4, HB5, HB6, HB7, HB8, HB9, HB10, HB11, ⟨Hq6, Hq7, Hq8, Hq9, Hq10, Hq11, Hq12, Hq13, Hq14, Hq15, Hq16, Hq17⟩, HS12, HS13, HS14, ⟨%Wt', HW⟩⟩
  isplitl [HR HB3 HB4 HB5 HB6 HB7 HB8 HB9 HB10 HB11 Hg Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33 HGU HDN HB0 HB1 HB2]
  · isplitl [HR HB3 HB4 HB5 HB6 HB7 HB8 HB9 HB10 HB11]
    · isplitl [HR]; · iexact HR
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      iexact HB11
    isplitl [Hg]; · iexact Hg
    isplitl [Hq6 Hq7 Hq8 Hq9 Hq10 Hq11 Hq12 Hq13 Hq14 Hq15 Hq16 Hq17 Hq18 Hq19 Hq20 Hq21 Hq22 Hq23 Hq24 Hq25 Hq26 Hq27 Hq28 Hq29 HS12 HS13 HS14 Hq33]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [HS12]; · iexact HS12
      isplitl [HS13]; · iexact HS13
      isplitl [HS14]; · iexact HS14
      iexact Hq33
    isplitl [HGU HDN]
    · isplitl [HGU]; · iexact HGU
      iexact HDN
    isplitl [HB0]; · iexact HB0
    isplitl [HB1]; · iexact HB1
    iexact HB2
  isplitl [HW]
  · iexists Wt'; isplitr; · ipureintro; exact fun _ _ => Or.inl trivial
    iexact HW
  isplitl [HX0]; · iexists X0; isplitr; · ipureintro; exact e0
                   iexact HX0
  isplitl [HX1]; · iexists X1; isplitr; · ipureintro; exact e1
                   iexact HX1
  isplitl [HX2]; · iexists X2; isplitr; · ipureintro; exact e2
                   iexact HX2
  isplitl [HX3]; · iexists X3; isplitr; · ipureintro; exact e3
                   iexact HX3
  isplitl [HX4]
  · iexists _; isplitr; · ipureintro; exact HX4_res c (win0_0.stage (cfg0.slots t0 0)) (win0_1.stage (cfg0.slots t0 1)) X0 X1 (xI m c) (nI m c) e0 e1 (win0_4.stage (cfg0.slots t0 4)).view (win0_4.stage (cfg0.slots t0 4)).view.junk
    iexact HX4
  iexists _; isplitr; · ipureintro; exact HX5_res c (win0_0.stage (cfg0.slots t0 0)) (win0_1.stage (cfg0.slots t0 1)) (win0_2.stage (cfg0.slots t0 2)) X0 X1 X2 (wI m c) (xI m c) (nI m c) (gI m c) e0 e1 e2 B3 B7 (win0_5.stage (cfg0.slots t0 5)).view (win0_5.stage (cfg0.slots t0 5)).view.junk
  iexact HX5

theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

set_option backward.isDefEq.respectTransparency.types false in
theorem run_mainV : θ_run defs (onTc (τ := τ) (main (F := Ideal))) (s₀ m ρ) (Pipeline.FramePostRG cfgs (datsV m) 0 R0 (V m) (GV m)) :=
  Pipeline.θ_run_frame_dmaRG (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V := V m) (hmain := hmainD m Variants.none) (hA := A_eqV m) (G := GV m)
    (hin := fun _ => .rfl) (hout := fun _ => .rfl)

end Cert.KernelIdeal.Hand

end
-- ==== Proof.Results.lean ====
/-
The five results as mathematics of the six arguments, shared by the kernel and the reference.
-/
module

public import proofs.«01_k».proof.Proof.Spec

@[expose] public section

noncomputable section

namespace Cert.Spec

open Idealize.ShloMosaic

/-- A row of an array. -/
def arow {R C : ℕ} (x : (⟨2, ![R, C]⟩ : Shape).Idx → EReal) (r : Fin R) : Fin C → EReal := fun k => x (ix2 r k)
/-- A vector by its coordinate. -/
def avec {C : ℕ} (v : (⟨1, ![C]⟩ : Shape).Idx → EReal) : Fin C → EReal := fun k => v (ix1 k)
/-- A weight matrix by its coordinates. -/
def amat {R C : ℕ} (w : (⟨2, ![R, C]⟩ : Shape).Idx → BitVec 8) : Fin R → Fin C → BitVec 8 := fun k u => w (ix2 k u)

variable (x : (⟨2, ![72, 5120]⟩ : Shape).Idx → EReal) (n : (⟨1, ![5120]⟩ : Shape).Idx → EReal)
  (w : (⟨2, ![5120, 21504]⟩ : Shape).Idx → BitVec 8) (g : (⟨1, ![21504]⟩ : Shape).Idx → EReal)
  (w' : (⟨2, ![10752, 5120]⟩ : Shape).Idx → BitVec 8) (d : (⟨1, ![5120]⟩ : Shape).Idx → EReal)

/-- The rows after the layer. -/
def fin0 : (⟨2, ![72, 5120]⟩ : Shape).Idx → EReal := fun y => hid (arow x (y 0)) (avec n) (amat w) (avec g) (amat w') (avec d) (y 1)
/-- The codes of the normalised rows. -/
def fin1 : (⟨2, ![72, 5120]⟩ : Shape).Idx → BitVec 8 := fun y => FloatOps.fptosi (F := Ideal) (φ := .f32) 8 (cd1 (arow x (y 0)) (avec n) (y 1))
/-- Their scales. -/
def fin2 : (⟨2, ![1, 72]⟩ : Shape).Idx → EReal := fun y => sc1 (arow x (y 1)) (avec n)
/-- The codes of the activations. -/
def fin3 : (⟨2, ![72, 10752]⟩ : Shape).Idx → BitVec 8 := fun y => FloatOps.fptosi (F := Ideal) (φ := .f32) 8 (cd2 (arow x (y 0)) (avec n) (amat w) (avec g) (y 1))
/-- Their scales. -/
def fin4 : (⟨2, ![1, 72]⟩ : Shape).Idx → EReal := fun y => sc2 (arow x (y 1)) (avec n) (amat w) (avec g)

/-! Each from equalities of the row, the vectors and the matrices. -/

theorem fin0_of (y : (⟨2, ![72, 5120]⟩ : Shape).Idx) (a : Fin 5120 → EReal) (b : Fin 5120 → EReal) (e : Fin 5120 → Fin 21504 → BitVec 8) (p : Fin 21504 → EReal) (e' : Fin 10752 → Fin 5120 → BitVec 8) (q : Fin 5120 → EReal)
    (h0 : a = arow x (y 0)) (h1 : b = avec n) (h2 : e = amat w) (h3 : p = avec g) (h4 : e' = amat w') (h5 : q = avec d) :
    hid a b e p e' q (y 1) = fin0 x n w g w' d y := by
  subst h0 h1 h2 h3 h4 h5; rfl
theorem fin1_of (y : (⟨2, ![72, 5120]⟩ : Shape).Idx) (a : Fin 5120 → EReal) (b : Fin 5120 → EReal)
    (h0 : a = arow x (y 0)) (h1 : b = avec n) :
    FloatOps.fptosi (F := Ideal) (φ := .f32) 8 (cd1 a b (y 1)) = fin1 x n y := by
  subst h0 h1; rfl
theorem fin2_of (y : (⟨2, ![1, 72]⟩ : Shape).Idx) (a : Fin 5120 → EReal) (b : Fin 5120 → EReal)
    (h0 : a = arow x (y 1)) (h1 : b = avec n) :
    sc1 a b = fin2 x n y := by
  subst h0 h1; rfl
theorem fin3_of (y : (⟨2, ![72, 10752]⟩ : Shape).Idx) (a : Fin 5120 → EReal) (b : Fin 5120 → EReal) (e : Fin 5120 → Fin 21504 → BitVec 8) (p : Fin 21504 → EReal)
    (h0 : a = arow x (y 0)) (h1 : b = avec n) (h2 : e = amat w) (h3 : p = avec g) :
    FloatOps.fptosi (F := Ideal) (φ := .f32) 8 (cd2 a b e p (y 1)) = fin3 x n w g y := by
  subst h0 h1 h2 h3; rfl
theorem fin4_of (y : (⟨2, ![1, 72]⟩ : Shape).Idx) (a : Fin 5120 → EReal) (b : Fin 5120 → EReal) (e : Fin 5120 → Fin 21504 → BitVec 8) (p : Fin 21504 → EReal)
    (h0 : a = arow x (y 1)) (h1 : b = avec n) (h2 : e = amat w) (h3 : p = avec g) :
    sc2 a b e p = fin4 x n w g y := by
  subst h0 h1 h2 h3; rfl

/-! Each at equal arguments. -/

theorem fin0_congr {x₁ x₂ : (⟨2, ![72, 5120]⟩ : Shape).Idx → EReal} {n₁ n₂ : (⟨1, ![5120]⟩ : Shape).Idx → EReal} {w₁ w₂ : (⟨2, ![5120, 21504]⟩ : Shape).Idx → BitVec 8} {g₁ g₂ : (⟨1, ![21504]⟩ : Shape).Idx → EReal} {w'₁ w'₂ : (⟨2, ![10752, 5120]⟩ : Shape).Idx → BitVec 8} {d₁ d₂ : (⟨1, ![5120]⟩ : Shape).Idx → EReal}
    (h0 : x₁ = x₂) (h1 : n₁ = n₂) (h2 : w₁ = w₂) (h3 : g₁ = g₂) (h4 : w'₁ = w'₂) (h5 : d₁ = d₂) :
    fin0 x₁ n₁ w₁ g₁ w'₁ d₁ = fin0 x₂ n₂ w₂ g₂ w'₂ d₂ := by
  subst h0 h1 h2 h3 h4 h5; rfl
theorem fin1_congr {x₁ x₂ : (⟨2, ![72, 5120]⟩ : Shape).Idx → EReal} {n₁ n₂ : (⟨1, ![5120]⟩ : Shape).Idx → EReal}
    (h0 : x₁ = x₂) (h1 : n₁ = n₂) :
    fin1 x₁ n₁ = fin1 x₂ n₂ := by
  subst h0 h1; rfl
theorem fin2_congr {x₁ x₂ : (⟨2, ![72, 5120]⟩ : Shape).Idx → EReal} {n₁ n₂ : (⟨1, ![5120]⟩ : Shape).Idx → EReal}
    (h0 : x₁ = x₂) (h1 : n₁ = n₂) :
    fin2 x₁ n₁ = fin2 x₂ n₂ := by
  subst h0 h1; rfl
theorem fin3_congr {x₁ x₂ : (⟨2, ![72, 5120]⟩ : Shape).Idx → EReal} {n₁ n₂ : (⟨1, ![5120]⟩ : Shape).Idx → EReal} {w₁ w₂ : (⟨2, ![5120, 21504]⟩ : Shape).Idx → BitVec 8} {g₁ g₂ : (⟨1, ![21504]⟩ : Shape).Idx → EReal}
    (h0 : x₁ = x₂) (h1 : n₁ = n₂) (h2 : w₁ = w₂) (h3 : g₁ = g₂) :
    fin3 x₁ n₁ w₁ g₁ = fin3 x₂ n₂ w₂ g₂ := by
  subst h0 h1 h2 h3; rfl
theorem fin4_congr {x₁ x₂ : (⟨2, ![72, 5120]⟩ : Shape).Idx → EReal} {n₁ n₂ : (⟨1, ![5120]⟩ : Shape).Idx → EReal} {w₁ w₂ : (⟨2, ![5120, 21504]⟩ : Shape).Idx → BitVec 8} {g₁ g₂ : (⟨1, ![21504]⟩ : Shape).Idx → EReal}
    (h0 : x₁ = x₂) (h1 : n₁ = n₂) (h2 : w₁ = w₂) (h3 : g₁ = g₂) :
    fin4 x₁ n₁ w₁ g₁ = fin4 x₂ n₂ w₂ g₂ := by
  subst h0 h1 h2 h3; rfl

end Cert.Spec
-- ==== Proof.KernelIdealIn.lean ====
/-
The kernel's four staged blocks, and its results, at the arguments.
-/
module

public import proofs.«01_k».proof.Proof.KernelIdealVal
public import proofs.«01_k».proof.Proof.Results
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem V_v0 (k : Fin 5120) : (V m c main_v0 : S1x5120.Idx → EReal) (ix2 0 k) = (m ((c : Thread nD τ).loc main_arg1) : S5120.Idx → EReal) (ix1 k) := by
  entry_read
  pointwise
theorem V_v1_eq : (V m c main_v1 : S84x1x256.Idx → EReal)
    = shapeCast S84x1x256 (m ((c : Thread nD τ).loc main_arg3) : S21504.Idx → EReal) shapeCasts_S21504_S84x1x256 := by
  entry_read
  rfl
omit m c in
theorem sc84_cast (g : S21504.Idx → EReal) (h : S21504.ShapeCasts S84x1x256) (u : Fin 21504) : sc84 (shapeCast S84x1x256 g h) u = g (ix1 u) := by
  unfold sc84
  refine shapeCast_apply _ _ _ _ ?_
  rw [Shape.rowMajor_val_three, Shape.rowMajor_val_one]
  show u.val = (u.val / 256 * 1 + 0) * 256 + u.val % 256
  omega
theorem V_v1 (u : Fin 21504) : sc84 (V m c main_v1 : S84x1x256.Idx → EReal) u = (m ((c : Thread nD τ).loc main_arg3) : S21504.Idx → EReal) (ix1 u) :=
  (congrArg (fun f => sc84 f u) (V_v1_eq m c)).trans (sc84_cast _ _ u)
theorem V_v2 (k : Fin 5120) : (V m c main_v2 : S1x5120.Idx → EReal) (ix2 0 k) = (m ((c : Thread nD τ).loc main_arg5) : S5120.Idx → EReal) (ix1 k) := by
  entry_read
  pointwise

theorem xI_eq : xI m c = V m c main_arg0 := by
  unfold xI
  exact Memref.read_access_unit_zero (Elt Ideal) main_arg0 (funext fun a => by fin_cases a <;> rfl) _ _
theorem nI_eq : nI m c = V m c main_v0 := by
  unfold nI
  exact Memref.read_access_unit_zero (Elt Ideal) main_v0 (funext fun a => by fin_cases a <;> rfl) _ _
theorem gI_eq : gI m c = V m c main_v1 := by
  unfold gI
  exact Memref.read_access_unit_zero (Elt Ideal) main_v1 (funext fun a => by fin_cases a <;> rfl) _ _
theorem dI_eq : dI m c = V m c main_v2 := by
  unfold dI
  exact Memref.read_access_unit_zero (Elt Ideal) main_v2 (funext fun a => by fin_cases a <;> rfl) _ _

theorem row_x (r : Fin 72) : rw2 (xI m c) r = Spec.arow (m ((c : Thread nD τ).loc main_arg0)) r :=
  congrArg (fun (f : S72x5120.Idx → EReal) => Spec.arow f r) ((xI_eq m c).trans (V_main_arg0 m c))
theorem row_n : rw2 (nI m c) 0 = Spec.avec (m ((c : Thread nD τ).loc main_arg1)) :=
  (congrArg (fun (f : S1x5120.Idx → EReal) => Spec.arow f 0) (nI_eq m c)).trans (funext fun k => V_v0 m c k)
theorem mat_w : mat2 (wI m c) = Spec.amat (m ((c : Thread nD τ).loc main_arg2)) :=
  congrArg (fun (f : S5120x21504.Idx → BitVec 8) => Spec.amat f) (V_main_arg2 m c)
theorem row_g : sc84 (gI m c) = Spec.avec (m ((c : Thread nD τ).loc main_arg3)) :=
  (congrArg sc84 (gI_eq m c)).trans (funext fun k => V_v1 m c k)
theorem mat_w' : mat2 (wdI m c) = Spec.amat (m ((c : Thread nD τ).loc main_arg4)) :=
  congrArg (fun (f : S10752x5120.Idx → BitVec 8) => Spec.amat f) (V_main_arg4 m c)
theorem row_d : rw2 (dI m c) 0 = Spec.avec (m ((c : Thread nD τ).loc main_arg5)) :=
  (congrArg (fun (f : S1x5120.Idx → EReal) => Spec.arow f 0) (dI_eq m c)).trans (funext fun k => V_v2 m c k)

theorem arr4 (G : S1x72.Idx → EReal) (hG : (datsV m 0 c).after 4 t0 = G) : (datsV m 0 c).arrAt 4 (cfgs 0).N = G := by
  subst hG
  refine (datsV m 0 c).arrAt_eq_of_after_last 4 t0 (by decide +kernel) _ fun j => ?_
  blk_simp
theorem arr5 (G : S1x72.Idx → EReal) (hG : (datsV m 0 c).after 5 t0 = G) : (datsV m 0 c).arrAt 5 (cfgs 0).N = G := by
  subst hG
  refine (datsV m 0 c).arrAt_eq_of_after_last 5 t0 (by decide +kernel) _ fun j => ?_
  blk_simp

/-- The five results as functions of the arguments. -/
theorem fin_0 : GV m c main_v3_0 = Spec.fin0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (GV_0 m c).trans <| funext fun y => Spec.fin0_of _ _ _ _ _ _ y _ _ _ _ _ _ (row_x m c _) (row_n m c) (mat_w m c) (row_g m c) (mat_w' m c) (row_d m c)
theorem fin_1 : GV m c main_v3_1 = Spec.fin1 (m ((c : Thread nD τ).loc main_arg0)) (m ((c : Thread nD τ).loc main_arg1)) :=
  (GV_1 m c).trans <| funext fun y => Spec.fin1_of _ _ y _ _ (row_x m c _) (row_n m c)
theorem fin_2 : (datsV m 0 c).arrAt 4 (cfgs 0).N = Spec.fin2 (m ((c : Thread nD τ).loc main_arg0)) (m ((c : Thread nD τ).loc main_arg1)) :=
  arr4 m c _ <| (after0_4V m c t0).trans <| funext fun y => Spec.fin2_of _ _ y _ _ (row_x m c _) (row_n m c)
theorem fin_3 : GV m c main_v3_3 = Spec.fin3 (m ((c : Thread nD τ).loc main_arg0)) (m ((c : Thread nD τ).loc main_arg1)) (m ((c : Thread nD τ).loc main_arg2)) (m ((c : Thread nD τ).loc main_arg3)) :=
  (GV_3 m c).trans <| funext fun y => Spec.fin3_of _ _ _ _ y _ _ _ _ (row_x m c _) (row_n m c) (mat_w m c) (row_g m c)
theorem fin_4 : (datsV m 0 c).arrAt 5 (cfgs 0).N = Spec.fin4 (m ((c : Thread nD τ).loc main_arg0)) (m ((c : Thread nD τ).loc main_arg1)) (m ((c : Thread nD τ).loc main_arg2)) (m ((c : Thread nD τ).loc main_arg3)) :=
  arr5 m c _ <| (after0_5V m c t0).trans <| funext fun y => Spec.fin4_of _ _ _ _ y _ _ _ _ (row_x m c _) (row_n m c) (mat_w m c) (row_g m c)

/-- The kernel's run: the five results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v3_0) = Spec.fin0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ∧
      r.2.mem ((c.tc : Thread nD τ).loc main_v3_1) = Spec.fin1 (m ((c : Thread nD τ).loc main_arg0)) (m ((c : Thread nD τ).loc main_arg1)) ∧
      r.2.mem ((c.tc : Thread nD τ).loc main_v3_2) = Spec.fin2 (m ((c : Thread nD τ).loc main_arg0)) (m ((c : Thread nD τ).loc main_arg1)) ∧
      r.2.mem ((c.tc : Thread nD τ).loc main_v3_3) = Spec.fin3 (m ((c : Thread nD τ).loc main_arg0)) (m ((c : Thread nD τ).loc main_arg1)) (m ((c : Thread nD τ).loc main_arg2)) (m ((c : Thread nD τ).loc main_arg3)) ∧
      r.2.mem ((c.tc : Thread nD τ).loc main_v3_4) = Spec.fin4 (m ((c : Thread nD τ).loc main_arg0)) (m ((c : Thread nD τ).loc main_arg1)) (m ((c : Thread nD τ).loc main_arg2)) (m ((c : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) :=
  (θ_run defs _ _).mono (fun _ h c => ⟨(h.2 c main_v3_0 (by decide)).trans (fin_0 m c),
      (h.2 c main_v3_1 (by decide)).trans (fin_1 m c),
      ((h.1 c).1 4).trans (fin_2 m c),
      (h.2 c main_v3_3 (by decide)).trans (fin_3 m c),
      ((h.1 c).1 5).trans (fin_4 m c),
      ((h.1 c).1 0).trans (((datsV m 0 c).arrAt_in 0 rfl _).trans ((A_eqV m c 0).trans (V_main_arg0 m c))),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩) (run_mainV m ρ)

end Cert.KernelIdeal.Hand
-- ==== Proof.RefOps.lean ====
/-
The reference's operations, one by one, on the extended reals.
-/
module

public import proofs.«01_k».proof.Proof.Gen.ReferenceIdeal.Frame
public import proofs.«01_k».proof.Proof.Spec

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

section Ops
variable {F : FTy → Type} [FloatOps F]

/-- The scale of each row of the normalised rows. -/
def scA (y : FVec F S72x5120 .f32) : FVec F S72 .f32 :=
  let m := multiReduction .maximumf [1] S72 (absf y) 0xFF800000#32 reduces_S72x5120_S72 (.inl rfl) rfl
  select (cmpf .oeq m (broadcast S72 (Scalar.ofBits .f32 0x00000000#32))) (broadcast S72 (Scalar.ofBits .f32 0x3F800000#32)) (divf m (broadcast S72 (Scalar.ofBits .f32 0x42FE0000#32)))
/-- The codes of the normalised rows. -/
def qA (y : FVec F S72x5120 .f32) (s : FVec F S72 .f32) : IVec S72x5120 8 :=
  fptosi 8 (minimumf (broadcast S72x5120 (Scalar.sitofp .f32 127#32)) (maximumf (broadcast S72x5120 (Scalar.sitofp .f32 4294967169#32))
    (roundeven (divf y (broadcastTo S72x5120 (shapeCast S72x1 s shapeCasts_S72_S72x1) broadcasts_S72x1_S72x5120)))))
/-- The first product. -/
def dotA (q : IVec S72x5120 8) (w : Vec F S5120x21504 .i8) : FVec F S72x21504 .f32 :=
  matmul dot_S72x5120_S5120x21504_S72x21504_1_0_0_1_n_n none (sitofp .bf16 q) (sitofp .bf16 w) (constant S72x21504 .f32 0x00000000#32)
/-- A scale spread over the first product. -/
def spA (s : FVec F S72 .f32) : FVec F S72x21504 .f32 := broadcastTo S72x21504 (shapeCast S72x1 s shapeCasts_S72_S72x1) broadcasts_S72x1_S72x21504
/-- The scale of each row of the activations. -/
def scB (y : FVec F S72x10752 .f32) : FVec F S72 .f32 :=
  let m := multiReduction .maximumf [1] S72 (absf y) 0xFF800000#32 reduces_S72x10752_S72 (.inl rfl) rfl
  select (cmpf .oeq m (broadcast S72 (Scalar.ofBits .f32 0x00000000#32))) (broadcast S72 (Scalar.ofBits .f32 0x3F800000#32)) (divf m (broadcast S72 (Scalar.ofBits .f32 0x42FE0000#32)))
/-- The codes of the activations. -/
def qBb (y : FVec F S72x10752 .f32) (s : FVec F S72 .f32) : IVec S72x10752 8 :=
  fptosi 8 (minimumf (broadcast S72x10752 (Scalar.sitofp .f32 127#32)) (maximumf (broadcast S72x10752 (Scalar.sitofp .f32 4294967169#32))
    (roundeven (divf y (broadcastTo S72x10752 (shapeCast S72x1 s shapeCasts_S72_S72x1) broadcasts_S72x1_S72x10752)))))
/-- The second product, scaled and added to the rows. -/
def outA (x : Vec F S72x5120 .f32) (q : IVec S72x10752 8) (s : FVec F S72 .f32) (w : Vec F S10752x5120 .i8) (d : Vec F S1x5120 .f32) : FVec F S72x5120 .bf16 :=
  truncf .bf16 (addf x (mulf (mulf (matmul dot_S72x10752_S10752x5120_S72x5120_1_0_0_1_n_n none (sitofp .bf16 q) (sitofp .bf16 w) (constant S72x5120 .f32 0x00000000#32))
    (broadcastTo S72x5120 (shapeCast S72x1 s shapeCasts_S72_S72x1) broadcasts_S72x1_S72x5120))
    (broadcastTo S72x5120 (shapeCast S1x5120 d shapeCasts_S1x5120_S1x5120) broadcasts_S1x5120_S72x5120))) bitsLt_bf16_f32
end Ops

theorem scA_apply (y : FVec Ideal S72x5120 .f32) (j : S72.Idx) : scA y j = Spec.qscale (Spec.amax fun k => y (ix2 (j 0) k)) := by
  unfold scA Spec.qscale Spec.amax
  pointwise
theorem scB_apply (y : FVec Ideal S72x10752 .f32) (j : S72.Idx) : scB y j = Spec.qscale (Spec.amax fun k => y (ix2 (j 0) k)) := by
  unfold scB Spec.qscale Spec.amax
  pointwise
theorem qA_apply (y : FVec Ideal S72x5120 .f32) (s : FVec Ideal S72 .f32) (j : S72x5120.Idx) :
    qA y s j = FloatOps.fptosi (F := Ideal) (φ := .f32) 8 (Spec.code (Ideal.div (y j) (s (ix1 (j 0))))) := by
  unfold qA Spec.code
  pointwise
theorem qBb_apply (y : FVec Ideal S72x10752 .f32) (s : FVec Ideal S72 .f32) (j : S72x10752.Idx) :
    qBb y s j = FloatOps.fptosi (F := Ideal) (φ := .f32) 8 (Spec.code (Ideal.div (y j) (s (ix1 (j 0))))) := by
  unfold qBb Spec.code
  pointwise
theorem dotA_apply (q : IVec S72x5120 8) (w : Vec Ideal S5120x21504 .i8) (j : S72x21504.Idx) :
    dotA q w j = ∑ k, Spec.num (q (ix2 (j 0) k)) * Spec.num (w (ix2 k (j 1))) := by
  unfold dotA Spec.num
  pointwise
theorem spA_apply (s : FVec Ideal S72 .f32) (j : S72x21504.Idx) : spA s j = s (ix1 (j 0)) := by
  unfold spA
  pointwise
theorem actA_apply (g : FVec Ideal S1x21504 .f32) (p s : FVec Ideal S72x21504 .f32) (P : Fin 72 → Fin 21504 → EReal)
    (h : ∀ r u, p (ix2 r u) * s (ix2 r u) * g (ix2 0 u) = P r u) (j : S72x10752.Idx) :
    k0_pay8 g p s j = P (j 0) ⟨(j 1).val, (j 1).isLt.trans (by decide)⟩ * Ideal.logistic (P (j 0) ⟨(j 1).val, (j 1).isLt.trans (by decide)⟩)
      * P (j 0) ⟨10752 + (j 1).val, Nat.add_lt_add_left (j 1).isLt _⟩ := by
  unfold k0_pay8
  pointwise
  exact congrArg₂ (· * ·) (congrArg₂ (· * ·) (h _ _) (congrArg Ideal.logistic (h _ _))) (h _ _)
theorem outA_apply (x : Vec Ideal S72x5120 .f32) (q : IVec S72x10752 8) (s : FVec Ideal S72 .f32) (w : Vec Ideal S10752x5120 .i8) (d : Vec Ideal S1x5120 .f32)
    (j : S72x5120.Idx) : outA x q s w d j = x j + (∑ k, Spec.num (q (ix2 (j 0) k)) * Spec.num (w (ix2 k (j 1)))) * s (ix1 (j 0)) * d (ix2 0 (j 1)) := by
  unfold outA Spec.num
  pointwise

variable (x : Vec Ideal S72x5120 .f32) (n : Vec Ideal S1x5120 .f32) (w : Vec Ideal S5120x21504 .i8) (g : Vec Ideal S1x21504 .f32)
  (w' : Vec Ideal S10752x5120 .i8) (d : Vec Ideal S1x5120 .f32)

/-- A row of an array. -/
abbrev row {α : Type} {R C : ℕ} (x : (⟨2, ![R, C]⟩ : Shape).Idx → α) (r : Fin R) : Fin C → α := fun k => x (ix2 r k)
/-- An array by row and column. -/
abbrev mat {α : Type} {R C : ℕ} (x : (⟨2, ![R, C]⟩ : Shape).Idx → α) : Fin R → Fin C → α := fun r k => x (ix2 r k)

theorem eq_ix2 {R C : ℕ} (j : (⟨2, ![R, C]⟩ : Shape).Idx) : j = ix2 (j 0) (j 1) := by
  funext a
  match a with
  | ⟨0, _⟩ => rfl
  | ⟨1, _⟩ => rfl

theorem pay2_apply (j : S72x5120.Idx) : k0_pay2 x n j = Spec.nrm (row x (j 0)) (row n 0) (j 1) := by
  unfold k0_pay2 Spec.nrm
  pointwise
  exact congrArg (fun t => Ideal.div t _ * _) (congrArg x (eq_ix2 j))

theorem pay5_apply (j : S1x21504.Idx) : k0_pay5 g j = g j := by
  unfold k0_pay5
  pointwise

theorem pay1_apply (v : FVec Ideal S72 .f32) (j : S1x72.Idx) : k0_pay1 v j = v (ix1 (j 1)) := by
  unfold k0_pay1
  pointwise
theorem pay12_apply (v : FVec Ideal S72 .f32) (j : S1x72.Idx) : k0_pay12 v j = v (ix1 (j 1)) := by
  unfold k0_pay12
  pointwise

end Cert.ReferenceIdeal.Hand
-- ==== Proof.RefVal.lean ====
/-
The reference's values at an index, in the terms of `Spec`.
-/
module

public import proofs.«01_k».proof.Proof.Gen.ReferenceIdeal.Frame
public import proofs.«01_k».proof.Proof.RefOps

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (x : Vec Ideal S72x5120 .f32) (n : Vec Ideal S1x5120 .f32) (w : Vec Ideal S5120x21504 .i8) (g : Vec Ideal S1x21504 .f32)
  (w' : Vec Ideal S10752x5120 .i8) (d : Vec Ideal S1x5120 .f32)

theorem pay3_apply (j : S72.Idx) : k0_pay3 x n j = Spec.sc1 (row x (j 0)) (row n 0) := by
  have h : k0_pay3 x n = scA (k0_pay2 x n) := rfl
  rw [h]
  refine (scA_apply _ j).trans ?_
  unfold Spec.sc1
  exact congrArg (fun v => Spec.qscale (Spec.amax v)) (funext fun k => pay2_apply x n _)

theorem pay4_apply (j : S72x5120.Idx) : k0_pay4 x n j = FloatOps.fptosi (F := Ideal) (φ := .f32) 8 (Spec.cd1 (row x (j 0)) (row n 0) (j 1)) := by
  have h : k0_pay4 x n = qA (k0_pay2 x n) (k0_pay3 x n) := rfl
  rw [h]
  refine (qA_apply _ _ j).trans ?_
  unfold Spec.cd1
  exact congrArg (fun z => FloatOps.fptosi (F := Ideal) (φ := .f32) 8 (Spec.code z)) (congrArg₂ Ideal.div (pay2_apply x n j) (pay3_apply x n _))

theorem pay6_apply (j : S72x21504.Idx) : k0_pay6 x n w j = ∑ k, Spec.cd1 (row x (j 0)) (row n 0) k * Spec.num (w (ix2 k (j 1))) := by
  have h : k0_pay6 x n w = dotA (k0_pay4 x n) w := rfl
  rw [h]
  refine (dotA_apply _ _ j).trans (Finset.sum_congr rfl fun k _ => congrArg (· * _) ?_)
  exact (congrArg Spec.num (pay4_apply x n _)).trans (Spec.num_code _)

theorem pay7_apply (j : S72x21504.Idx) : k0_pay7 x n j = Spec.sc1 (row x (j 0)) (row n 0) := by
  have h : k0_pay7 x n = spA (k0_pay3 x n) := rfl
  rw [h]
  exact (spA_apply _ j).trans (pay3_apply x n _)

theorem pay8_apply (j : S72x10752.Idx) : k0_pay8 (k0_pay5 g) (k0_pay6 x n w) (k0_pay7 x n) j = Spec.act (row x (j 0)) (row n 0) (mat w) (row g 0) (j 1) :=
  actA_apply _ _ _ (fun r u => Spec.pre (row x r) (row n 0) (mat w) (row g 0) u)
    (fun r u => congrArg₂ (· * ·) (congrArg₂ (· * ·) (pay6_apply x n w _) (pay7_apply x n _)) (pay5_apply g _)) j

theorem pay9_apply (j : S72.Idx) : k0_pay9 (k0_pay5 g) (k0_pay6 x n w) (k0_pay7 x n) j = Spec.sc2 (row x (j 0)) (row n 0) (mat w) (row g 0) := by
  have h : k0_pay9 (k0_pay5 g) (k0_pay6 x n w) (k0_pay7 x n) = scB (k0_pay8 (k0_pay5 g) (k0_pay6 x n w) (k0_pay7 x n)) := rfl
  rw [h]
  refine (scB_apply _ j).trans ?_
  unfold Spec.sc2
  exact congrArg (fun v => Spec.qscale (Spec.amax v)) (funext fun k => pay8_apply x n w g _)

theorem pay10_apply (j : S72x10752.Idx) : k0_pay10 (k0_pay5 g) (k0_pay6 x n w) (k0_pay7 x n) j
    = FloatOps.fptosi (F := Ideal) (φ := .f32) 8 (Spec.cd2 (row x (j 0)) (row n 0) (mat w) (row g 0) (j 1)) := by
  have h : k0_pay10 (k0_pay5 g) (k0_pay6 x n w) (k0_pay7 x n) = qBb (k0_pay8 (k0_pay5 g) (k0_pay6 x n w) (k0_pay7 x n)) (k0_pay9 (k0_pay5 g) (k0_pay6 x n w) (k0_pay7 x n)) := rfl
  rw [h]
  refine (qBb_apply _ _ j).trans ?_
  unfold Spec.cd2
  exact congrArg (fun z => FloatOps.fptosi (F := Ideal) (φ := .f32) 8 (Spec.code z)) (congrArg₂ Ideal.div (pay8_apply x n w g j) (pay9_apply x n w g _))

theorem pay11_apply (j : S72x5120.Idx) : k0_pay11 x (k0_pay5 g) (k0_pay6 x n w) (k0_pay7 x n) w' d j
    = Spec.hid (row x (j 0)) (row n 0) (mat w) (row g 0) (mat w') (row d 0) (j 1) := by
  have h : k0_pay11 x (k0_pay5 g) (k0_pay6 x n w) (k0_pay7 x n) w' d = outA x (k0_pay10 (k0_pay5 g) (k0_pay6 x n w) (k0_pay7 x n)) (k0_pay9 (k0_pay5 g) (k0_pay6 x n w) (k0_pay7 x n)) w' d := rfl
  rw [h]
  refine (outA_apply _ _ _ _ _ j).trans ?_
  unfold Spec.hid
  have hx : x j = row x (j 0) (j 1) := congrArg x (eq_ix2 j)
  have hs : k0_pay9 (k0_pay5 g) (k0_pay6 x n w) (k0_pay7 x n) (ix1 (j 0)) = Spec.sc2 (row x (j 0)) (row n 0) (mat w) (row g 0) := pay9_apply x n w g (ix1 (j 0))
  have hq : ∀ k : Fin 10752, Spec.num (k0_pay10 (k0_pay5 g) (k0_pay6 x n w) (k0_pay7 x n) (ix2 (j 0) k)) * Spec.num (w' (ix2 k (j 1)))
      = Spec.cd2 (row x (j 0)) (row n 0) (mat w) (row g 0) k * Spec.num (mat w' k (j 1)) := fun k =>
    congrArg (fun z => z * Spec.num (w' (ix2 k (j 1)))) ((congrArg Spec.num (pay10_apply x n w g (ix2 (j 0) k))).trans (Spec.num_code _))
  have hS := Finset.sum_congr (s₁ := (Finset.univ : Finset (Fin 10752))) rfl (fun k _ => hq k)
  exact congrArg₂ (fun a b : EReal => a + b * d (ix2 0 (j 1))) hx (congrArg₂ (fun a b : EReal => a * b) hS hs)

end Cert.ReferenceIdeal.Hand
-- ==== Proof.RefRun.lean ====
/-
The reference's run: what its five result arrays end holding, as functions of the arguments.
-/
module

public import proofs.«01_k».proof.Proof.RefVal
public import proofs.«01_k».proof.Proof.Results
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- The one point of the grid. -/
abbrev t0 : Fin cfg0.N := ⟨0, by decide⟩

theorem V_v0 (k : Fin 5120) : (V m c main_v0 : S1x5120.Idx → EReal) (ix2 0 k) = (m ((c : Thread nD τ).loc main_arg1) : S5120.Idx → EReal) (ix1 k) := by
  entry_read
  pointwise
theorem V_v1 (k : Fin 21504) : (V m c main_v1 : S1x21504.Idx → EReal) (ix2 0 k) = (m ((c : Thread nD τ).loc main_arg3) : S21504.Idx → EReal) (ix1 k) := by
  entry_read
  pointwise
theorem V_v2 (k : Fin 5120) : (V m c main_v2 : S1x5120.Idx → EReal) (ix2 0 k) = (m ((c : Thread nD τ).loc main_arg5) : S5120.Idx → EReal) (ix1 k) := by
  entry_read
  pointwise

theorem b0 : (iblk m c 0 t0 : S72x5120.Idx → EReal) = V m c main_arg0 :=
  Memref.read_access_unit_zero (Elt Ideal) main_arg0 (funext fun a => by fin_cases a <;> rfl) _ _
theorem b1 : (iblk m c 1 t0 : S1x5120.Idx → EReal) = V m c main_v0 :=
  Memref.read_access_unit_zero (Elt Ideal) main_v0 (funext fun a => by fin_cases a <;> rfl) _ _
theorem b2 : (iblk m c 2 t0 : S5120x21504.Idx → BitVec 8) = V m c main_arg2 :=
  Memref.read_access_unit_zero (Elt Ideal) main_arg2 (funext fun a => by fin_cases a <;> rfl) _ _
theorem b3 : (iblk m c 3 t0 : S1x21504.Idx → EReal) = V m c main_v1 :=
  Memref.read_access_unit_zero (Elt Ideal) main_v1 (funext fun a => by fin_cases a <;> rfl) _ _
theorem b4 : (iblk m c 4 t0 : S10752x5120.Idx → BitVec 8) = V m c main_arg4 :=
  Memref.read_access_unit_zero (Elt Ideal) main_arg4 (funext fun a => by fin_cases a <;> rfl) _ _
theorem b5 : (iblk m c 5 t0 : S1x5120.Idx → EReal) = V m c main_v2 :=
  Memref.read_access_unit_zero (Elt Ideal) main_v2 (funext fun a => by fin_cases a <;> rfl) _ _

/-! ## The blocks at the arguments -/

theorem row_x (r : Fin 72) : row (iblk m c 0 t0) r = Spec.arow (m ((c : Thread nD τ).loc main_arg0)) r :=
  congrArg (fun (f : S72x5120.Idx → EReal) => Spec.arow f r) ((b0 m c).trans (V_main_arg0 m c))
theorem row_n : row (iblk m c 1 t0) 0 = Spec.avec (m ((c : Thread nD τ).loc main_arg1)) :=
  (congrArg (fun (f : S1x5120.Idx → EReal) => Spec.arow f 0) (b1 m c)).trans (funext fun k => V_v0 m c k)
theorem mat_w : mat (iblk m c 2 t0) = Spec.amat (m ((c : Thread nD τ).loc main_arg2)) :=
  congrArg (fun (f : S5120x21504.Idx → BitVec 8) => Spec.amat f) ((b2 m c).trans (V_main_arg2 m c))
theorem row_g : row (iblk m c 3 t0) 0 = Spec.avec (m ((c : Thread nD τ).loc main_arg3)) :=
  (congrArg (fun (f : S1x21504.Idx → EReal) => Spec.arow f 0) (b3 m c)).trans (funext fun k => V_v1 m c k)
theorem mat_w' : mat (iblk m c 4 t0) = Spec.amat (m ((c : Thread nD τ).loc main_arg4)) :=
  congrArg (fun (f : S10752x5120.Idx → BitVec 8) => Spec.amat f) ((b4 m c).trans (V_main_arg4 m c))
theorem row_d : row (iblk m c 5 t0) 0 = Spec.avec (m ((c : Thread nD τ).loc main_arg5)) :=
  (congrArg (fun (f : S1x5120.Idx → EReal) => Spec.arow f 0) (b5 m c)).trans (funext fun k => V_v2 m c k)

/-! ## What the body leaves -/

section Out
variable (x : Vec Ideal S72x5120 .f32) (n : Vec Ideal S1x5120 .f32) (w : Vec Ideal S5120x21504 .i8) (g : Vec Ideal S1x21504 .f32)
  (w' : Vec Ideal S10752x5120 .i8) (d : Vec Ideal S1x5120 .f32)

theorem out6 : out0_6 x n w g w' d = k0_pay11 x (k0_pay5 g) (k0_pay6 x n w) (k0_pay7 x n) w' d := by
  frame_out
  unfold k0_pay13 k0_pay14 k0_pay15
  frame_out
theorem out7 : out0_7 x n w g w' d = k0_pay4 x n := by
  frame_out
theorem out8 : out0_8 x n w g w' d = k0_pay12 (k0_pay3 x n) := by
  frame_out
theorem out9 : out0_9 x n w g w' d = k0_pay10 (k0_pay5 g) (k0_pay6 x n w) (k0_pay7 x n) := by
  frame_out
  unfold k0_pay13 k0_pay14 k0_pay15
  frame_out
theorem out10 : out0_10 x n w g w' d = k0_pay1 (k0_pay9 (k0_pay5 g) (k0_pay6 x n w) (k0_pay7 x n)) := by
  frame_out
  unfold k0_pay13 k0_pay14 k0_pay15
  frame_out
end Out

/-! ## The result arrays -/

theorem arr6 (G : S72x5120.Idx → EReal) (hG : (dats m 0 c).after 6 t0 = G) : (dats m 0 c).arrAt 6 (cfgs 0).N = G := by
  subst hG
  refine (dats m 0 c).arrAt_eq_of_after_last 6 t0 (by decide +kernel) _ fun j => ?_
  blk_simp
theorem arr7 (G : S72x5120.Idx → BitVec 8) (hG : (dats m 0 c).after 7 t0 = G) : (dats m 0 c).arrAt 7 (cfgs 0).N = G := by
  subst hG
  refine (dats m 0 c).arrAt_eq_of_after_last 7 t0 (by decide +kernel) _ fun j => ?_
  blk_simp
theorem arr8 (G : S1x72.Idx → EReal) (hG : (dats m 0 c).after 8 t0 = G) : (dats m 0 c).arrAt 8 (cfgs 0).N = G := by
  subst hG
  refine (dats m 0 c).arrAt_eq_of_after_last 8 t0 (by decide +kernel) _ fun j => ?_
  blk_simp
theorem arr9 (G : S72x10752.Idx → BitVec 8) (hG : (dats m 0 c).after 9 t0 = G) : (dats m 0 c).arrAt 9 (cfgs 0).N = G := by
  subst hG
  refine (dats m 0 c).arrAt_eq_of_after_last 9 t0 (by decide +kernel) _ fun j => ?_
  blk_simp
theorem arr10 (G : S1x72.Idx → EReal) (hG : (dats m 0 c).after 10 t0 = G) : (dats m 0 c).arrAt 10 (cfgs 0).N = G := by
  subst hG
  refine (dats m 0 c).arrAt_eq_of_after_last 10 t0 (by decide +kernel) _ fun j => ?_
  blk_simp

/-- The five results as functions of the arguments. -/
theorem fin_0 : (dats m 0 c).arrAt 6 (cfgs 0).N = Spec.fin0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  arr6 m c _ <| ((after0_6 m c t0).trans (out6 _ _ _ _ _ _)).trans <| funext fun y => (pay11_apply _ _ _ _ _ _ y).trans <| Spec.fin0_of _ _ _ _ _ _ y _ _ _ _ _ _ (row_x m c _) (row_n m c) (mat_w m c) (row_g m c) (mat_w' m c) (row_d m c)
theorem fin_1 : (dats m 0 c).arrAt 7 (cfgs 0).N = Spec.fin1 (m ((c : Thread nD τ).loc main_arg0)) (m ((c : Thread nD τ).loc main_arg1)) :=
  arr7 m c _ <| ((after0_7 m c t0).trans (out7 _ _ _ _ _ _)).trans <| funext fun y => (pay4_apply _ _ y).trans <| Spec.fin1_of _ _ y _ _ (row_x m c _) (row_n m c)
theorem fin_2 : (dats m 0 c).arrAt 8 (cfgs 0).N = Spec.fin2 (m ((c : Thread nD τ).loc main_arg0)) (m ((c : Thread nD τ).loc main_arg1)) :=
  arr8 m c _ <| ((after0_8 m c t0).trans (out8 _ _ _ _ _ _)).trans <| funext fun y => ((pay12_apply _ y).trans (pay3_apply _ _ _)).trans <| Spec.fin2_of _ _ y _ _ (row_x m c _) (row_n m c)
theorem fin_3 : (dats m 0 c).arrAt 9 (cfgs 0).N = Spec.fin3 (m ((c : Thread nD τ).loc main_arg0)) (m ((c : Thread nD τ).loc main_arg1)) (m ((c : Thread nD τ).loc main_arg2)) (m ((c : Thread nD τ).loc main_arg3)) :=
  arr9 m c _ <| ((after0_9 m c t0).trans (out9 _ _ _ _ _ _)).trans <| funext fun y => (pay10_apply _ _ _ _ y).trans <| Spec.fin3_of _ _ _ _ y _ _ _ _ (row_x m c _) (row_n m c) (mat_w m c) (row_g m c)
theorem fin_4 : (dats m 0 c).arrAt 10 (cfgs 0).N = Spec.fin4 (m ((c : Thread nD τ).loc main_arg0)) (m ((c : Thread nD τ).loc main_arg1)) (m ((c : Thread nD τ).loc main_arg2)) (m ((c : Thread nD τ).loc main_arg3)) :=
  arr10 m c _ <| ((after0_10 m c t0).trans (out10 _ _ _ _ _ _)).trans <| funext fun y => ((pay1_apply _ y).trans (pay9_apply _ _ _ _ _)).trans <| Spec.fin4_of _ _ _ _ y _ _ _ _ (row_x m c _) (row_n m c) (mat_w m c) (row_g m c)

/-- The reference's run: the five results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v3_0) = Spec.fin0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ∧
      r.2.mem ((c.tc : Thread nD τ).loc main_v3_1) = Spec.fin1 (m ((c : Thread nD τ).loc main_arg0)) (m ((c : Thread nD τ).loc main_arg1)) ∧
      r.2.mem ((c.tc : Thread nD τ).loc main_v3_2) = Spec.fin2 (m ((c : Thread nD τ).loc main_arg0)) (m ((c : Thread nD τ).loc main_arg1)) ∧
      r.2.mem ((c.tc : Thread nD τ).loc main_v3_3) = Spec.fin3 (m ((c : Thread nD τ).loc main_arg0)) (m ((c : Thread nD τ).loc main_arg1)) (m ((c : Thread nD τ).loc main_arg2)) (m ((c : Thread nD τ).loc main_arg3)) ∧
      r.2.mem ((c.tc : Thread nD τ).loc main_v3_4) = Spec.fin4 (m ((c : Thread nD τ).loc main_arg0)) (m ((c : Thread nD τ).loc main_arg1)) (m ((c : Thread nD τ).loc main_arg2)) (m ((c : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) :=
  (θ_run defs _ _).mono (fun _ h c => ⟨((h.1 c).1 6).trans (fin_0 m c),
      ((h.1 c).1 7).trans (fin_1 m c),
      ((h.1 c).1 8).trans (fin_2 m c),
      ((h.1 c).1 9).trans (fin_3 m c),
      ((h.1 c).1 10).trans (fin_4 m c), h.2 c⟩) (θ_run_and (run_main m ρ) (unchanged m ρ))

end Cert.ReferenceIdeal.Hand
-- ==== Proof.Alg.lean ====
/-
The kernel and the reference end with equal results.
-/
module

public import proofs.«01_k».proof.Proof.KernelIdealIn
public import proofs.«01_k».proof.Proof.RefRun
public import proofs.«01_k».proof.Defs

@[expose] public section

noncomputable section

namespace Cert

open Idealize.ShloMosaic Idealize.ShloMosaic.TcCoe

theorem algebraic_all : algebraic_KernelIdeal_ReferenceIdeal (hKernelIdeal := Cert.KernelIdeal.Gen.facts) (hReferenceIdeal := Cert.ReferenceIdeal.Gen.facts) :=
  fun m g m' g' _ hm => ⟨fun c => Spec.fin0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Spec.fin1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Spec.fin2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Spec.fin3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Spec.fin4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_res m g,
    (θ_run _ _ _).mono (fun _ h c => ⟨(h c).1.trans (Spec.fin0_congr (hm c).1 (hm c).2.1 (hm c).2.2.1 (hm c).2.2.2.1 (hm c).2.2.2.2.1 (hm c).2.2.2.2.2),
      (h c).2.1.trans (Spec.fin1_congr (hm c).1 (hm c).2.1),
      (h c).2.2.1.trans (Spec.fin2_congr (hm c).1 (hm c).2.1),
      (h c).2.2.2.1.trans (Spec.fin3_congr (hm c).1 (hm c).2.1 (hm c).2.2.1 (hm c).2.2.2.1),
      (h c).2.2.2.2.1.trans (Spec.fin4_congr (hm c).1 (hm c).2.1 (hm c).2.2.1 (hm c).2.2.2.1),
      (h c).2.2.2.2.2.1,
      (h c).2.2.2.2.2.2.1,
      (h c).2.2.2.2.2.2.2.1,
      (h c).2.2.2.2.2.2.2.2.1,
      (h c).2.2.2.2.2.2.2.2.2.1,
      (h c).2.2.2.2.2.2.2.2.2.2⟩) (Cert.ReferenceIdeal.Hand.run_res m' g')⟩

end Cert
-- ==== Proof.XKernelIdealRun.lean ====
/-
The second slice's body, run once: first with its results at some contents, which names what it
computes, then with the values it leaves.
-/
module

public import proofs.«01_k».proof.Proof.Gen.XKernelIdeal.Frame.RunA
public import Idealize.ShloMosaic.Lib.Tactic

@[expose] public section

set_option maxRecDepth 16384

noncomputable section

namespace Cert.XKernelIdeal.Hand

open Cert.XKernelIdeal Cert.XKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (a0 : Memref sig .tc .vmem S72x5120 .bf16) (h0 : a0.IsWhole) (a1 : Memref sig .tc .vmem S1x5120 .f32) (h1 : a1.IsWhole)
  (a3 : Memref sig .tc .vmem S1x72 .f32) (h3 : a3.IsWhole)

/-- A buffer held whole at contents `f`, through the memref the program names it by. -/
abbrev bufPt {sp : Space} {sh : Shape} {e : EltTy} (m : Memref sig .tc sp sh e) (f : Buf (Elt F) (m.view.loc (c : Thread nD τ))) : sProp 𝕄 :=
  m.view.loc (c : Thread nD τ) ↦{fullShare} f
/-- A window's buffer held by its own elements. -/
abbrev winPt {sp : Space} {sh : Shape} {e : EltTy} (m : Memref sig .tc sp sh e) (f : Buf (Elt F) (m.view.loc (c : Thread nD τ))) : sProp 𝕄 :=
  m.view.loc (c : Thread nD τ) ↦[m.view.set]{fullShare} f

/-- What the body leaves: its operands as they were, its results and scratch at some contents. -/
def runPost (X0 : Buf (Elt F) (a0.view.loc (c : Thread nD τ))) (X1 : Buf (Elt F) (a1.view.loc (c : Thread nD τ))) : sProp 𝕄 :=
  iprop(winPt c a0 X0 ∗ winPt c a1 X1 ∗ (∃ f, winPt c a3 f) ∗ (∃ f, bufPt c (Memref.whole main_v1_0) f) ∗ (∃ f, bufPt c scM0_0 f) ∗ (∃ f, bufPt c scM0_1 f) ∗ (∃ f, bufPt c scM0_2 f) ∗ semVal ((c : Thread nD τ), SemLoc.dma 6) 0 ∗ ∃ Wt, owes (c : Thread nD τ) 0 Wt)

set_option maxHeartbeats 1000000 in
set_option sl_exec.partsLeafInline true in
theorem body_run (B0 : S72x5120.Idx → Elt F .i8) (B1 : S80x5120.Idx → Elt F .bf16) (B2 : S72x5120.Idx → Elt F .f32) (B3 : S72x5120.Idx → Elt F .i8)
    (X0 : Buf (Elt F) (a0.view.loc (c : Thread nD τ))) (X1 : Buf (Elt F) (a1.view.loc (c : Thread nD τ))) (X3 : Buf (Elt F) (a3.view.loc (c : Thread nD τ))) (Wt : Waits sig Unit) :
    iprop(winPt c a0 X0 ∗ winPt c a1 X1 ∗ winPt c a3 X3 ∗ bufPt c (Memref.whole main_v1_0) B0 ∗ bufPt c scM0_0 B1 ∗ bufPt c scM0_1 B2 ∗ bufPt c scM0_2 B3 ∗ semVal ((c : Thread nD τ), SemLoc.dma 6) 0 ∗ owes (c : Thread nD τ) 0 Wt)
    ⊢ wp frame (wpE (defs₀ (F := F)) Variants.none (c : Thread nD τ) none) Set.univ
      (cc0_falcon_h1_decode_x (F := F) a0 h0 a1 h1 (Memref.whole main_v1_0) (Memref.isWhole_whole _) a3 h3 scM0_0 (Memref.isWhole_whole _) scM0_1 (Memref.isWhole_whole _) cc0_scratch2 scM0_2 (Memref.isWhole_whole _)) (fun _ => runPost c a0 a1 a3 X0 X1) := by
  rw [cc0_falcon_h1_decode_x_eq_skeleton]
  unfold cc0_falcon_h1_decode_x_skel
  iintro ⟨HX0, HX1, HX3, HB0, HB1, HB2, HB3, HS, HW⟩
  sl_exec
  sl_step
  unfold runPost
  isplitl [HX0]; · iexact HX0
  isplitl [HX1]; · iexact HX1
  isplitl [HX3]; · iexists _; iexact HX3
  isplitl [HB0]; · iexists _; iexact HB0
  isplitl [HB1]; · iexists _; iexact HB1
  isplitl [HB2]; · iexists _; iexact HB2
  isplitl [HB3]; · iexists _; iexact HB3
  isplitl [HS]; · iexact HS
  iexists _; iexact HW

/-- The scales, as the body stores them. -/
def scP (X0 : Buf (Elt F) (a0.view.loc (c : Thread nD τ))) (X1 : Buf (Elt F) (a1.view.loc (c : Thread nD τ))) : List (View.Piece (Elt F) S1x72 .f32) :=
  [⟨Rect.unit ![0, 0] S1x72.size inb_S1x72_S1x72_0_0, k0_pay37 (body_run.sl.r_15 c a0 a1 X0 X1) (body_run.sl.r_16 c a0 a1 X0 X1)⟩]

/-- What the body leaves, the results at their values. -/
def valPost (X3 : Buf (Elt F) (a3.view.loc (c : Thread nD τ))) (B0 : S72x5120.Idx → Elt F .i8) (B3 : S72x5120.Idx → Elt F .i8) (X0 : Buf (Elt F) (a0.view.loc (c : Thread nD τ))) (X1 : Buf (Elt F) (a1.view.loc (c : Thread nD τ))) : sProp 𝕄 :=
  iprop(winPt c a0 X0 ∗ winPt c a1 X1 ∗ winPt c a3 (a3.view.writes (Elt F) X3 (scP c a0 a1 X0 X1)) ∗ bufPt c (Memref.whole main_v1_0) (View.write (Elt F) (Memref.whole main_v1_0).view B0 (body_run.sl.dma104 c a0 a1 B3 X0 X1) Finset.univ) ∗ (∃ f, bufPt c scM0_0 f) ∗ (∃ f, bufPt c scM0_1 f) ∗ (∃ f, bufPt c scM0_2 f) ∗ semVal ((c : Thread nD τ), SemLoc.dma 6) 0 ∗ ∃ Wt, owes (c : Thread nD τ) 0 Wt)

set_option maxHeartbeats 1000000 in
set_option sl_exec.partsLeafInline true in
theorem value_run (B0 : S72x5120.Idx → Elt F .i8) (B1 : S80x5120.Idx → Elt F .bf16) (B2 : S72x5120.Idx → Elt F .f32) (B3 : S72x5120.Idx → Elt F .i8)
    (X0 : Buf (Elt F) (a0.view.loc (c : Thread nD τ))) (X1 : Buf (Elt F) (a1.view.loc (c : Thread nD τ))) (X3 : Buf (Elt F) (a3.view.loc (c : Thread nD τ))) (Wt : Waits sig Unit) :
    iprop(winPt c a0 X0 ∗ winPt c a1 X1 ∗ winPt c a3 X3 ∗ bufPt c (Memref.whole main_v1_0) B0 ∗ bufPt c scM0_0 B1 ∗ bufPt c scM0_1 B2 ∗ bufPt c scM0_2 B3 ∗ semVal ((c : Thread nD τ), SemLoc.dma 6) 0 ∗ owes (c : Thread nD τ) 0 Wt)
    ⊢ wp frame (wpE (defs₀ (F := F)) Variants.none (c : Thread nD τ) none) Set.univ
      (cc0_falcon_h1_decode_x (F := F) a0 h0 a1 h1 (Memref.whole main_v1_0) (Memref.isWhole_whole _) a3 h3 scM0_0 (Memref.isWhole_whole _) scM0_1 (Memref.isWhole_whole _) cc0_scratch2 scM0_2 (Memref.isWhole_whole _)) (fun _ => valPost c a0 a1 a3 X3 B0 B3 X0 X1) := by
  rw [cc0_falcon_h1_decode_x_eq_skeleton]
  unfold cc0_falcon_h1_decode_x_skel
  iintro ⟨HX0, HX1, HX3, HB0, HB1, HB2, HB3, HS, HW⟩
  sl_exec
  sl_step
  unfold valPost
  isplitl [HX0]; · iexact HX0
  isplitl [HX1]; · iexact HX1
  isplitl [HX3]; · iexact HX3
  isplitl [HB0]; · iexact HB0
  isplitl [HB1]; · iexists _; iexact HB1
  isplitl [HB2]; · iexists _; iexact HB2
  isplitl [HB3]; · iexists _; iexact HB3
  isplitl [HS]; · iexact HS
  iexists _; iexact HW

end Cert.XKernelIdeal.Hand
-- ==== Proof.XKernelIdealNorm.lean ====
/-
The second slice's arithmetic: the root mean square, the normalised rows, their scale and their
codes, read off the body's run. The operations on blocks of columns are the first slice's.
-/
module

public import proofs.«01_k».proof.Proof.XKernelIdealRun
public import proofs.«01_k».proof.Proof.KernelIdealQuant
public import Idealize.ShloMosaic.Lib.Pipeline.Value

@[expose] public section

set_option maxRecDepth 16384

noncomputable section

namespace Cert.XKernelIdeal.Hand

open Cert.XKernelIdeal Cert.XKernelIdeal.Gen
open Cert.KernelIdeal.Hand (sq4 colDen nrmB mx4 colScale rowOf qI at2 at2_lt sq4_apply mx4_apply colDen_apply nrmB_apply colScale_apply rowOf_apply qI_apply unit_emb cover10)
open Idealize.ShloMosaic Idealize.ShloMosaic.TcCoe

/-- A block of the rows, widened. -/
def exB {F : FTy → Type} [FloatOps F] (v : Vec F S72x512 .bf16) : FVec F S72x512 .f32 := extf .f32 v bitsLt_bf16_f32

theorem exB_apply (v : Vec Ideal S72x512 .bf16) (i : S72x512.Idx) : exB v i = v i := rfl

/-- A load of 512 columns from an array of rows. -/
theorem ld_apply {κ : Kind} {sp : Space} (v : View sig κ sp S72x5120 .bf16) (X : v.ty.Contents (Elt Ideal)) (o : ℕ)
    (inb : ∀ d, ![0, o] d + S72x512.size d ≤ S72x5120.size d) (i : S72x512.Idx) :
    exB (v.readAt (Elt Ideal) (Rect.unit (s := S72x5120) ![0, o] S72x512.size inb).toLoadRect X) i = at2 (v.read (Elt Ideal) X) (i 0) (o + (i 1).val) := by
  have h1 : (i 1).val < 512 := (i 1).isLt
  have h2 : o + 512 ≤ 5120 := inb 1
  rw [exB_apply, View.readAt_apply]
  unfold at2
  rw [dif_pos (show o + (i 1).val < 5120 by omega)]
  refine congrArg (v.read (Elt Ideal) X) (funext fun a => Fin.ext ?_)
  match a with
  | ⟨0, _⟩ => simp [LoadRect.idx, Rect.unit, ix2]
  | ⟨1, _⟩ => simp [LoadRect.idx, Rect.unit, ix2]

theorem ldw_apply {κ : Kind} {sp : Space} (v : View sig κ sp S1x5120 .f32) (X : v.ty.Contents (Elt Ideal)) (o : ℕ)
    (inb : ∀ d, ![0, o] d + S1x512.size d ≤ S1x5120.size d) (i : S1x512.Idx) :
    v.readAt (Elt Ideal) (Rect.unit (s := S1x5120) ![0, o] S1x512.size inb).toLoadRect X i = at2 (v.read (Elt Ideal) X) (i 0) (o + (i 1).val) := by
  have h1 : (i 1).val < 512 := (i 1).isLt
  have h2 : o + 512 ≤ 5120 := inb 1
  rw [View.readAt_apply]
  unfold at2
  rw [dif_pos (show o + (i 1).val < 5120 by omega)]
  refine congrArg (v.read (Elt Ideal) X) (funext fun a => Fin.ext ?_)
  match a with
  | ⟨0, _⟩ => simp [LoadRect.idx, Rect.unit, ix2]
  | ⟨1, _⟩ => simp [LoadRect.idx, Rect.unit, ix2]

/-- A load of a stored buffer, each of whose pieces agrees with one function. -/
theorem readCov_apply {κ : Kind} {sp : Space} {s : Shape} {e : EltTy} (v : View sig κ sp s e) (L : List (View.Piece (Elt Ideal) s e)) (B : LoadRect s)
    (G : s.Idx → Elt Ideal e) (hL : ∀ p ∈ L, ∀ x, p.2 x = G (p.1.emb x)) (j : B.shape.Idx) (h : ∃ p ∈ L, B.idx j ∈ p.1.set) :
    v.readCov L B j = G (B.idx j) :=
  View.read_writes_apply_of_pieces v _ G L hL _ h

variable (c : Dev nD)
variable (a0 : Memref sig .tc .vmem S72x5120 .bf16) (a1 : Memref sig .tc .vmem S1x5120 .f32)
variable (X0 : Buf (Elt Ideal) (a0.view.loc (c : Thread nD τ))) (X1 : Buf (Elt Ideal) (a1.view.loc (c : Thread nD τ)))

/-- The rows as the body reads them. -/
abbrev xr (r : Fin 72) (k : ℕ) : EReal := at2 (R := 72) (C := 5120) (a0.view.read (Elt Ideal) X0) r k
/-- The norm weights as the body reads them. -/
abbrev nr (k : ℕ) : EReal := at2 (R := 1) (C := 5120) (a1.view.read (Elt Ideal) X1) (0 : Fin 1) k
/-- The block of the rows at column `o`. -/
abbrev xB (o : ℕ) (inb : ∀ d, ![0, o] d + S72x512.size d ≤ S72x5120.size d) : FVec Ideal S72x512 .f32 :=
  exB (a0.view.readAt (Elt Ideal) (Rect.unit (s := S72x5120) ![0, o] S72x512.size inb).toLoadRect X0)

theorem r3_eq : body_run.sl.r_3 (F := Ideal) c a0 X0 =
    sq4 (sq4 (sq4 (sq4 (sq4 (sq4 (sq4 (sq4 (sq4 (broadcast S72x128 (Scalar.ofBits .f32 0x00000000#32))
      (xB c a0 X0 0 inb_S72x5120_S72x512_0_0))
      (xB c a0 X0 512 inb_S72x5120_S72x512_0_512))
      (xB c a0 X0 1024 inb_S72x5120_S72x512_0_1024))
      (xB c a0 X0 1536 inb_S72x5120_S72x512_0_1536))
      (xB c a0 X0 2048 inb_S72x5120_S72x512_0_2048))
      (xB c a0 X0 2560 inb_S72x5120_S72x512_0_2560))
      (xB c a0 X0 3072 inb_S72x5120_S72x512_0_3072))
      (xB c a0 X0 3584 inb_S72x5120_S72x512_0_3584))
      (xB c a0 X0 4096 inb_S72x5120_S72x512_0_4096) := rfl

theorem r4_eq : body_run.sl.r_4 (F := Ideal) c a0 X0 = colDen (sq4 (body_run.sl.r_3 (F := Ideal) c a0 X0) (xB c a0 X0 4608 inb_S72x5120_S72x512_0_4608)) := rfl

theorem r4_apply (i : S72x1.Idx) : body_run.sl.r_4 (F := Ideal) c a0 X0 i
    = Ideal.sqrt (Ideal.div (∑ k : Fin 5120, xr c a0 X0 (i 0) k.val * xr c a0 X0 (i 0) k.val) (Ideal.ofBits FTy.f32 0x45A00000#32) + Ideal.ofBits FTy.f32 0x3727C5AC#32) := by
  rw [r4_eq, r3_eq]
  refine colDen_apply _ (fun r k => xr c a0 X0 r k * xr c a0 X0 r k) ?_ i
  have h0 : ∀ i : S72x128.Idx, broadcast (α := Ideal .f32) S72x128 (Scalar.ofBits .f32 0x00000000#32) i = Spec.lsum (fun k => xr c a0 X0 (i 0) k * xr c a0 X0 (i 0) k) (i 1).val 0 := fun i => by
    unfold Spec.lsum
    pointwise
  have h1 := sq4_apply _ _ (xr c a0 X0) 0 h0 (ld_apply a0.view X0 0 inb_S72x5120_S72x512_0_0)
  have h2 := sq4_apply _ _ (xr c a0 X0) 1 h1 (ld_apply a0.view X0 512 inb_S72x5120_S72x512_0_512)
  have h3 := sq4_apply _ _ (xr c a0 X0) 2 h2 (ld_apply a0.view X0 1024 inb_S72x5120_S72x512_0_1024)
  have h4 := sq4_apply _ _ (xr c a0 X0) 3 h3 (ld_apply a0.view X0 1536 inb_S72x5120_S72x512_0_1536)
  have h5 := sq4_apply _ _ (xr c a0 X0) 4 h4 (ld_apply a0.view X0 2048 inb_S72x5120_S72x512_0_2048)
  have h6 := sq4_apply _ _ (xr c a0 X0) 5 h5 (ld_apply a0.view X0 2560 inb_S72x5120_S72x512_0_2560)
  have h7 := sq4_apply _ _ (xr c a0 X0) 6 h6 (ld_apply a0.view X0 3072 inb_S72x5120_S72x512_0_3072)
  have h8 := sq4_apply _ _ (xr c a0 X0) 7 h7 (ld_apply a0.view X0 3584 inb_S72x5120_S72x512_0_3584)
  have h9 := sq4_apply _ _ (xr c a0 X0) 8 h8 (ld_apply a0.view X0 4096 inb_S72x5120_S72x512_0_4096)
  exact sq4_apply _ _ (xr c a0 X0) 9 h9 (ld_apply a0.view X0 4608 inb_S72x5120_S72x512_0_4608)

/-- The normalised rows of the specification, as the body reads its operands. -/
def nv (r : Fin 72) (k : ℕ) : EReal := Ideal.div (xr c a0 X0 r k)
  (Ideal.sqrt (Ideal.div (∑ k : Fin 5120, xr c a0 X0 r k.val * xr c a0 X0 r k.val) (Ideal.ofBits FTy.f32 0x45A00000#32) + Ideal.ofBits FTy.f32 0x3727C5AC#32)) * nr c a1 X1 k

/-- The normalised block at column `o`. -/
abbrev nB (o : ℕ) (inb : ∀ d, ![0, o] d + S72x512.size d ≤ S72x5120.size d) (inb' : ∀ d, ![0, o] d + S1x512.size d ≤ S1x5120.size d) : FVec Ideal S72x512 .f32 :=
  nrmB (body_run.sl.r_4 (F := Ideal) c a0 X0) (xB c a0 X0 o inb) (a1.view.readAt (Elt Ideal) (Rect.unit (s := S1x5120) ![0, o] S1x512.size inb').toLoadRect X1)

theorem nrmB_ld (o : ℕ) (inb : ∀ d, ![0, o] d + S72x512.size d ≤ S72x5120.size d) (inb' : ∀ d, ![0, o] d + S1x512.size d ≤ S1x5120.size d) (i : S72x512.Idx) :
    nB c a0 a1 X0 X1 o inb inb' i = nv c a0 a1 X0 X1 (i 0) (o + (i 1).val) := by
  refine (nrmB_apply _ _ _ i).trans ?_
  unfold nv
  exact congrArg₂ (· * ·) (congrArg₂ Ideal.div (ld_apply a0.view X0 o inb i) (r4_apply c a0 X0 _)) (ldw_apply a1.view X1 o inb' _)

theorem r14_eq : body_run.sl.r_14 (F := Ideal) c a0 a1 X0 X1 =
    mx4 (mx4 (mx4 (mx4 (mx4 (mx4 (mx4 (mx4 (broadcast S72x128 (Scalar.ofBits .f32 0x00000000#32))
      (nB c a0 a1 X0 X1 0 inb_S72x5120_S72x512_0_0 inb_S1x5120_S1x512_0_0))
      (nB c a0 a1 X0 X1 512 inb_S72x5120_S72x512_0_512 inb_S1x5120_S1x512_0_512))
      (nB c a0 a1 X0 X1 1024 inb_S72x5120_S72x512_0_1024 inb_S1x5120_S1x512_0_1024))
      (nB c a0 a1 X0 X1 1536 inb_S72x5120_S72x512_0_1536 inb_S1x5120_S1x512_0_1536))
      (nB c a0 a1 X0 X1 2048 inb_S72x5120_S72x512_0_2048 inb_S1x5120_S1x512_0_2048))
      (nB c a0 a1 X0 X1 2560 inb_S72x5120_S72x512_0_2560 inb_S1x5120_S1x512_0_2560))
      (nB c a0 a1 X0 X1 3072 inb_S72x5120_S72x512_0_3072 inb_S1x5120_S1x512_0_3072))
      (nB c a0 a1 X0 X1 3584 inb_S72x5120_S72x512_0_3584 inb_S1x5120_S1x512_0_3584) := rfl

theorem r17_eq : body_run.sl.r_17 (F := Ideal) c a0 a1 X0 X1 = colScale (mx4 (mx4 (body_run.sl.r_14 (F := Ideal) c a0 a1 X0 X1)
      (nB c a0 a1 X0 X1 4096 inb_S72x5120_S72x512_0_4096 inb_S1x5120_S1x512_0_4096))
      (nB c a0 a1 X0 X1 4608 inb_S72x5120_S72x512_0_4608 inb_S1x5120_S1x512_0_4608)) := rfl

/-- The scale as the specification states it. -/
def sv (r : Fin 72) : EReal := Spec.qscale (Spec.amax fun k : Fin 5120 => nv c a0 a1 X0 X1 r k.val)

theorem r17_apply (i : S72x1.Idx) : body_run.sl.r_17 (F := Ideal) c a0 a1 X0 X1 i = sv c a0 a1 X0 X1 (i 0) := by
  rw [r17_eq, r14_eq]
  refine (colScale_apply _ i).trans ?_
  unfold sv Spec.amax
  refine congrArg Spec.qscale ?_
  have h0 : ∀ i : S72x128.Idx, broadcast (α := Ideal .f32) S72x128 (Scalar.ofBits .f32 0x00000000#32) i
      = Spec.lmax (fun k => FloatOps.absf (F := Ideal) (φ := .f32) (nv c a0 a1 X0 X1 (i 0) k)) (i 1).val 0 := fun i => by
    unfold Spec.lmax
    pointwise
  have h1 := mx4_apply _ _ (nv c a0 a1 X0 X1) 0 h0 (nrmB_ld c a0 a1 X0 X1 0 inb_S72x5120_S72x512_0_0 inb_S1x5120_S1x512_0_0)
  have h2 := mx4_apply _ _ (nv c a0 a1 X0 X1) 1 h1 (nrmB_ld c a0 a1 X0 X1 512 inb_S72x5120_S72x512_0_512 inb_S1x5120_S1x512_0_512)
  have h3 := mx4_apply _ _ (nv c a0 a1 X0 X1) 2 h2 (nrmB_ld c a0 a1 X0 X1 1024 inb_S72x5120_S72x512_0_1024 inb_S1x5120_S1x512_0_1024)
  have h4 := mx4_apply _ _ (nv c a0 a1 X0 X1) 3 h3 (nrmB_ld c a0 a1 X0 X1 1536 inb_S72x5120_S72x512_0_1536 inb_S1x5120_S1x512_0_1536)
  have h5 := mx4_apply _ _ (nv c a0 a1 X0 X1) 4 h4 (nrmB_ld c a0 a1 X0 X1 2048 inb_S72x5120_S72x512_0_2048 inb_S1x5120_S1x512_0_2048)
  have h6 := mx4_apply _ _ (nv c a0 a1 X0 X1) 5 h5 (nrmB_ld c a0 a1 X0 X1 2560 inb_S72x5120_S72x512_0_2560 inb_S1x5120_S1x512_0_2560)
  have h7 := mx4_apply _ _ (nv c a0 a1 X0 X1) 6 h6 (nrmB_ld c a0 a1 X0 X1 3072 inb_S72x5120_S72x512_0_3072 inb_S1x5120_S1x512_0_3072)
  have h8 := mx4_apply _ _ (nv c a0 a1 X0 X1) 7 h7 (nrmB_ld c a0 a1 X0 X1 3584 inb_S72x5120_S72x512_0_3584 inb_S1x5120_S1x512_0_3584)
  have h9 := mx4_apply _ _ (nv c a0 a1 X0 X1) 8 h8 (nrmB_ld c a0 a1 X0 X1 4096 inb_S72x5120_S72x512_0_4096 inb_S1x5120_S1x512_0_4096)
  have h10 := mx4_apply _ _ (nv c a0 a1 X0 X1) 9 h9 (nrmB_ld c a0 a1 X0 X1 4608 inb_S72x5120_S72x512_0_4608 inb_S1x5120_S1x512_0_4608)
  refine Eq.trans (congrArg (fun g => Finset.fold max _ g Finset.univ) (funext fun l => h10 (ix2 (i 0) l))) ?_
  exact Spec.fold_lanes 40 5120 rfl (by decide) (fun k => FloatOps.absf (F := Ideal) (φ := .f32) (nv c a0 a1 X0 X1 (i 0) k)) (fun k => Spec.absf_nonneg _)
    (fun l => Spec.lmax (fun k => FloatOps.absf (F := Ideal) (φ := .f32) (nv c a0 a1 X0 X1 (i 0) k)) l 10) (fun l c => Spec.lmax_le _ l 10 c)

theorem emb_nv (o : ℕ) (inb : ∀ d, ![0, o] d + S72x512.size d ≤ S72x5120.size d) (f : Fin 72 → ℕ → EReal) (x : S72x512.Idx) :
    f (x 0) (o + (x 1).val) = (fun y : S72x5120.Idx => f (y 0) (y 1).val) ((Rect.unit (s := S72x5120) ![0, o] S72x512.size inb).emb x) := by
  refine congrArg₂ f (Fin.ext ?_) ?_
  · exact ((unit_emb (s := S72x5120) ![0, o] S72x512.size inb x 0).trans (Nat.zero_add _)).symm
  · exact (unit_emb (s := S72x5120) ![0, o] S72x512.size inb x 1).symm

theorem nb_piece (o : ℕ) (inb : ∀ d, ![0, o] d + S72x512.size d ≤ S72x5120.size d)
    (inb' : ∀ d, ![0, o] d + S1x512.size d ≤ S1x5120.size d) (x : S72x512.Idx) :
    shapeCast S72x512 (nB c a0 a1 X0 X1 o inb inb') shapeCasts_S72x512_S72x512 x = (fun y : S72x5120.Idx => nv c a0 a1 X0 X1 (y 0) (y 1).val) ((Rect.unit (s := S72x5120) ![0, o] S72x512.size inb).emb x) := by
  rw [shapeCast_self]
  exact (nrmB_ld c a0 a1 X0 X1 o inb inb' x).trans (emb_nv o inb _ x)

theorem nb_pieces : ∀ p ∈ body_run.sl.HB2_10 (F := Ideal) c a0 a1 X0 X1, ∀ x, p.2 x = (fun y : S72x5120.Idx => nv c a0 a1 X0 X1 (y 0) (y 1).val) (p.1.emb x) := by
  unfold body_run.sl.HB2_10
  simp only [List.forall_mem_cons, List.not_mem_nil, false_imp_iff, implies_true, and_true]
  exact ⟨nb_piece c a0 a1 X0 X1 4608 inb_S72x5120_S72x512_0_4608 inb_S1x5120_S1x512_0_4608,
    nb_piece c a0 a1 X0 X1 4096 inb_S72x5120_S72x512_0_4096 inb_S1x5120_S1x512_0_4096,
    nb_piece c a0 a1 X0 X1 3584 inb_S72x5120_S72x512_0_3584 inb_S1x5120_S1x512_0_3584,
    nb_piece c a0 a1 X0 X1 3072 inb_S72x5120_S72x512_0_3072 inb_S1x5120_S1x512_0_3072,
    nb_piece c a0 a1 X0 X1 2560 inb_S72x5120_S72x512_0_2560 inb_S1x5120_S1x512_0_2560,
    nb_piece c a0 a1 X0 X1 2048 inb_S72x5120_S72x512_0_2048 inb_S1x5120_S1x512_0_2048,
    nb_piece c a0 a1 X0 X1 1536 inb_S72x5120_S72x512_0_1536 inb_S1x5120_S1x512_0_1536,
    nb_piece c a0 a1 X0 X1 1024 inb_S72x5120_S72x512_0_1024 inb_S1x5120_S1x512_0_1024,
    nb_piece c a0 a1 X0 X1 512 inb_S72x5120_S72x512_0_512 inb_S1x5120_S1x512_0_512,
    nb_piece c a0 a1 X0 X1 0 inb_S72x5120_S72x512_0_0 inb_S1x5120_S1x512_0_0⟩

theorem nb_cover (y : S72x5120.Idx) : ∃ p ∈ body_run.sl.HB2_10 (F := Ideal) c a0 a1 X0 X1, y ∈ p.1.set := by
  unfold body_run.sl.HB2_10
  exact cover10 _ _ _ _ _ _ _ _ _ _ _ _ _ _ _ _ _ _ _ _ y (y 0).isLt

/-- The block the codes at column `o` are made of. -/
abbrev rB (o : ℕ) (inb : ∀ d, ![0, o] d + S72x512.size d ≤ S72x5120.size d) : Vec Ideal S72x512 .f32 :=
  scM0_1.view.readCov (body_run.sl.HB2_10 (F := Ideal) c a0 a1 X0 X1) (Rect.unit (s := S72x5120) ![0, o] S72x512.size inb).toLoadRect

/-- The normalised rows as read back. -/
theorem nb_apply (o : ℕ) (inb : ∀ d, ![0, o] d + S72x512.size d ≤ S72x5120.size d) (i : S72x512.Idx) :
    rB c a0 a1 X0 X1 o inb i = nv c a0 a1 X0 X1 (i 0) (o + (i 1).val) :=
  (readCov_apply scM0_1.view (body_run.sl.HB2_10 (F := Ideal) c a0 a1 X0 X1) (Rect.unit (s := S72x5120) ![0, o] S72x512.size inb).toLoadRect
    (fun y : S72x5120.Idx => nv c a0 a1 X0 X1 (y 0) (y 1).val) (nb_pieces c a0 a1 X0 X1) i (nb_cover c a0 a1 X0 X1 _)).trans (emb_nv o inb _ i).symm

/-- The quantised rows of the specification, as the body reads its operands. -/
def qv (r : Fin 72) (k : ℕ) : EReal := Spec.code (Ideal.div (nv c a0 a1 X0 X1 r k) (sv c a0 a1 X0 X1 r))

theorem qI_piece (o : ℕ) (inb : ∀ d, ![0, o] d + S72x512.size d ≤ S72x5120.size d) (x : S72x512.Idx) :
    qI (body_run.sl.r_17 (F := Ideal) c a0 a1 X0 X1) (rB c a0 a1 X0 X1 o inb) x
      = (fun y : S72x5120.Idx => FloatOps.fptosi (F := Ideal) (φ := .f32) 8 (qv c a0 a1 X0 X1 (y 0) (y 1).val)) ((Rect.unit (s := S72x5120) ![0, o] S72x512.size inb).emb x) := by
  refine (qI_apply _ _ x).trans (congrArg (fun z => FloatOps.fptosi (F := Ideal) (φ := .f32) 8 z) ?_)
  refine Eq.trans (b := qv c a0 a1 X0 X1 (x 0) (o + (x 1).val)) ?_ (emb_nv o inb _ x)
  exact congrArg Spec.code (congrArg₂ Ideal.div (nb_apply c a0 a1 X0 X1 o inb x) (r17_apply c a0 a1 X0 X1 _))

/-- The codes the body copies out. -/
theorem dma104_apply (B3 : S72x5120.Idx → Elt Ideal .i8) (y : S72x5120.Idx) :
    body_run.sl.dma104 (F := Ideal) c a0 a1 B3 X0 X1 y = FloatOps.fptosi (F := Ideal) (φ := .f32) 8 (qv c a0 a1 X0 X1 (y 0) (y 1).val) := by
  refine View.read_writes_apply_of_pieces scM0_2.view B3 (fun y : S72x5120.Idx => FloatOps.fptosi (F := Ideal) (φ := .f32) 8 (qv c a0 a1 X0 X1 (y 0) (y 1).val))
    (body_run.sl.HB3_10 (F := Ideal) c a0 a1 X0 X1) ?_ y ?_
  · unfold body_run.sl.HB3_10
    simp only [List.forall_mem_cons, List.not_mem_nil, false_imp_iff, implies_true, and_true]
    exact ⟨qI_piece c a0 a1 X0 X1 4608 inb_S72x5120_S72x512_0_4608,
      qI_piece c a0 a1 X0 X1 4096 inb_S72x5120_S72x512_0_4096,
      qI_piece c a0 a1 X0 X1 3584 inb_S72x5120_S72x512_0_3584,
      qI_piece c a0 a1 X0 X1 3072 inb_S72x5120_S72x512_0_3072,
      qI_piece c a0 a1 X0 X1 2560 inb_S72x5120_S72x512_0_2560,
      qI_piece c a0 a1 X0 X1 2048 inb_S72x5120_S72x512_0_2048,
      qI_piece c a0 a1 X0 X1 1536 inb_S72x5120_S72x512_0_1536,
      qI_piece c a0 a1 X0 X1 1024 inb_S72x5120_S72x512_0_1024,
      qI_piece c a0 a1 X0 X1 512 inb_S72x5120_S72x512_0_512,
      qI_piece c a0 a1 X0 X1 0 inb_S72x5120_S72x512_0_0⟩
  · unfold body_run.sl.HB3_10
    exact cover10 _ _ _ _ _ _ _ _ _ _ _ _ _ _ _ _ _ _ _ _ y (y 0).isLt

/-- The scales as the row the body stores. -/
theorem scP_apply (v : View sig .tc .vmem S1x72 .f32) (f : v.ty.Contents (Elt Ideal)) (y : S1x72.Idx) :
    v.read (Elt Ideal) (v.writes (Elt Ideal) f (scP (F := Ideal) c a0 a1 X0 X1)) y = sv c a0 a1 X0 X1 (y 1) := by
  have h0 : (y 0).val < 1 := (y 0).isLt
  have h1 : (y 1).val < 72 := (y 1).isLt
  refine View.read_writes_apply_of_pieces v f (fun y : S1x72.Idx => sv c a0 a1 X0 X1 (y 1)) (scP (F := Ideal) c a0 a1 X0 X1) ?_ y ?_
  · unfold scP
    simp only [List.forall_mem_cons, List.not_mem_nil, false_imp_iff, implies_true, and_true]
    intro x
    refine Eq.trans (b := rowOf (body_run.sl.r_17 (F := Ideal) c a0 a1 X0 X1) x) rfl ((rowOf_apply _ x).trans ((r17_apply c a0 a1 X0 X1 _).trans (congrArg (sv c a0 a1 X0 X1) (Fin.ext ?_))))
    exact ((unit_emb (s := S1x72) ![0, 0] S1x72.size inb_S1x72_S1x72_0_0 x 1).trans (Nat.zero_add _)).symm
  · unfold scP
    simp only [List.exists_mem_cons_iff, List.not_mem_nil, false_and, exists_false, or_false, Rect.mem_set_unit, Fin.forall_fin_two]
    simp
    omega

/-! ## At the mathematics of a row -/

/-- Row `r` of an array. -/
def rw2 {R C : ℕ} (x : (⟨2, ![R, C]⟩ : Shape).Idx → EReal) (r : Fin R) : Fin C → EReal := fun k => x (ix2 r k)

variable (x : S72x5120.Idx → EReal) (n : S1x5120.Idx → EReal)
  (hx : a0.view.read (Elt Ideal) X0 = x) (hn : a1.view.read (Elt Ideal) X1 = n)

include hx in
theorem xr_spec (r : Fin 72) (k : Fin 5120) : xr c a0 X0 r k.val = rw2 x r k := by
  subst hx; exact at2_lt _ r k
include hn in
theorem nr_spec (k : Fin 5120) : nr c a1 X1 k.val = rw2 n 0 k := by
  subst hn; exact at2_lt _ (0 : Fin 1) k

include hx hn in
theorem nv_spec (r : Fin 72) (k : Fin 5120) : nv c a0 a1 X0 X1 r k.val = Spec.nrm (rw2 x r) (rw2 n 0) k := by
  unfold nv Spec.nrm
  rw [nr_spec c a1 X1 n hn k]
  simp only [xr_spec c a0 X0 x hx r]

include hx hn in
theorem sv_spec (r : Fin 72) : sv c a0 a1 X0 X1 r = Spec.sc1 (rw2 x r) (rw2 n 0) := by
  unfold sv Spec.sc1
  exact congrArg (fun v => Spec.qscale (Spec.amax v)) (funext fun k => nv_spec c a0 a1 X0 X1 x n hx hn r k)

include hx hn in
theorem qv_spec (r : Fin 72) (k : Fin 5120) : qv c a0 a1 X0 X1 r k.val = Spec.cd1 (rw2 x r) (rw2 n 0) k := by
  unfold qv Spec.cd1
  rw [nv_spec c a0 a1 X0 X1 x n hx hn r k, sv_spec c a0 a1 X0 X1 x n hx hn r]

/-- The codes as a function of the operands. -/
def res0 : S72x5120.Idx → BitVec 8 := fun y => FloatOps.fptosi (F := Ideal) (φ := .f32) 8 (Spec.cd1 (rw2 x (y 0)) (rw2 n 0) (y 1))
/-- The scales as a function of the operands. -/
def res1 : S1x72.Idx → EReal := fun y => Spec.sc1 (rw2 x (y 1)) (rw2 n 0)

include hx hn in
theorem dma104_res (B3 : S72x5120.Idx → Elt Ideal .i8) : body_run.sl.dma104 (F := Ideal) c a0 a1 B3 X0 X1 = res0 x n := by
  funext y
  exact (dma104_apply c a0 a1 X0 X1 B3 y).trans (congrArg (FloatOps.fptosi (F := Ideal) (φ := .f32) 8) (qv_spec c a0 a1 X0 X1 x n hx hn (y 0) (y 1)))

include hx hn in
theorem scP_res (v : View sig .tc .vmem S1x72 .f32) (f : v.ty.Contents (Elt Ideal)) :
    v.read (Elt Ideal) (v.writes (Elt Ideal) f (scP (F := Ideal) c a0 a1 X0 X1)) = res1 x n := by
  funext y
  exact (scP_apply c a0 a1 X0 X1 v f y).trans (sv_spec c a0 a1 X0 X1 x n hx hn (y 1))

end Cert.XKernelIdeal.Hand
-- ==== Proof.XKernelIdealVal.lean ====
/-
The second slice's run with its values: the codes the body copies out, and the scales staged out.
-/
module

public import proofs.«01_k».proof.Proof.Gen.XKernelIdeal.Frame
public import proofs.«01_k».proof.Proof.XKernelIdealNorm
public import Idealize.ShloMosaic.Lib.Pipeline.FrameValue
public import Idealize.ShloMosaic.Lib.Pipeline.Value

@[expose] public section

noncomputable section

namespace Cert.XKernelIdeal.Hand

open Cert.XKernelIdeal Cert.XKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The one point of the grid. -/
abbrev t0 : Fin cfg0.N := ⟨0, by decide⟩
theorem eq_t0 (t : Fin cfg0.N) : t = t0 := by
  have h : t.val < 1 := t.isLt
  exact Fin.ext (by show t.val = 0; omega)

/-- The rows. -/
def xI (c : Dev nD) : S72x5120.Idx → EReal := iblk m c 0 t0
/-- The norm's weights. -/
def nI (c : Dev nD) : S1x5120.Idx → EReal := iblk m c 1 t0

/-- What the buffer the body writes by its own copy ends at. -/
def GV (c : Dev nD) : (b : Ref sig .tc) → Buf (Elt Ideal) ((c : Thread nD τ).loc b) :=
  Function.update (V m c) main_v1_0 (res0 (xI m c) (nI m c))

theorem GV_0 (c : Dev nD) : GV m c main_v1_0 = res0 (xI m c) (nI m c) := by
  unfold GV
  rw [Function.update_self]

theorem routed0_eq (c : Dev nD) (G : (b : Ref sig .tc) → Buf (Elt Ideal) ((c : Thread nD τ).loc b)) :
    (Pipeline.routed R0 c G : sProp 𝕄) = bufPt c (Memref.whole main_v1_0) (G main_v1_0) := by
  unfold Pipeline.routed; rw [BI.bigSep_eq_bigSepL_of_eq [main_v1_0] (by decide) (by decide)]; rfl

/-- The kernel's own semaphores at zero, but the one it uses. -/
def cells (c : Dev nD) : sProp 𝕄 :=
  iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)

theorem PhiDRG0_eq (c : Dev nD) (G : (c : Dev nD) → (b : Ref sig .tc) → Buf (Elt Ideal) ((c : Thread nD τ).loc b)) :
    (Pipeline.ΦDRG osem0 spec0 H0 R0 (V m) G c : sProp 𝕄)
      = iprop(iprop((∃ f, bufPt c scM0_0 f) ∗ (∃ f, bufPt c scM0_1 f) ∗ (∃ f, bufPt c scM0_2 f)) ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ cells c)
          ∗ iprop(emp) ∗ bufPt c (Memref.whole main_v1_0) (G c main_v1_0)) := by
  rw [Pipeline.ΦDRG_eq, scopedRest0_eq, ownSems00_eq, hbmPts0_eq, routed0_eq]; try rfl

def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => res1 (xI m c) (nI m c)
  Φ i := if i.val = 0 then Pipeline.ΦDRG osem0 spec0 H0 R0 (V m) (V m) c else Pipeline.ΦDRG osem0 spec0 H0 R0 (V m) (GV m) c
  q _ := fullShare
  owed _ := 0

theorem A_eqV (c : Dev nD) (w : Fin cfg0.W) : (datsV m 0 c).A w = V m c (Pipeline.arrRef spec0 w) := by
  dsimp only [datsV]
theorem after0_0V (c : Dev nD) (t : Fin cfg0.N) : (datsV m 0 c).after 0 t = iblk m c 0 t := by dsimp only [datsV]
theorem after0_1V (c : Dev nD) (t : Fin cfg0.N) : (datsV m 0 c).after 1 t = iblk m c 1 t := by dsimp only [datsV]
theorem after0_2V (c : Dev nD) (t : Fin cfg0.N) : (datsV m 0 c).after 2 t = res1 (xI m c) (nI m c) := by dsimp only [datsV]
theorem before0_0V (c : Dev nD) (t : Fin cfg0.N) (d) : (datsV m 0 c).before 0 t d = iblk m c 0 t :=
  before0_0_of m (datsV m 0 c) (A_eqV m c 0) (after0_0V m c) t d
theorem before0_1V (c : Dev nD) (t : Fin cfg0.N) (d) : (datsV m 0 c).before 1 t d = iblk m c 1 t :=
  before0_1_of m (datsV m 0 c) (A_eqV m c 1) (after0_1V m c) t d

def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d)))
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t))

theorem Phi_castV (c : Dev nD) : (datsV m 0 c).Φ t0.castSucc = Pipeline.ΦDRG osem0 spec0 H0 R0 (V m) (V m) c := rfl
theorem Phi_succV (c : Dev nD) : (datsV m 0 c).Φ t0.succ = Pipeline.ΦDRG osem0 spec0 H0 R0 (V m) (GV m) c := rfl

set_option maxHeartbeats 800000 in
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  obtain rfl := eq_t0 t
  rw [Phi_succV, Phi_castV, PhiDRG0_eq, PhiDRG0_eq, GV_0, after0_0V, after0_1V, after0_2V]
  simp only [before0_0V, before0_1V]
  unfold Dat.owesAt Pipeline.owesWithin owns
  rw [show (datsV m 0 c).owed t0.castSucc = 0 from rfl, show (datsV m 0 c).owed t0.succ = 0 from rfl]
  iintro ⟨⟨⟨⟨%B1, HB1⟩, ⟨%B2, HB2⟩, ⟨%B3, HB3⟩⟩, Hg, ⟨Hq3, Hq4, Hq5, HS, Hq⟩, -, HB0⟩, ⟨%Wt, -, HW⟩, ⟨%d0, %X0, %e0, HX0⟩, ⟨%d1, %X1, %e1, HX1⟩, ⟨%d2, %X3, -, HX3⟩⟩
  iapply wp_wand_r
  isplitr [Hg Hq3 Hq4 Hq5 Hq]
  · iapply (value_run c (ms0_0 t0) (hs0_0 t0) (ms0_1 t0) (hs0_1 t0) (ms0_2 t0) (hs0_2 t0) _ B1 B2 B3 X0 X1 X3 Wt)
    isplitl [HX0]; · iexact HX0
    isplitl [HX1]; · iexact HX1
    isplitl [HX3]; · iexact HX3
    isplitl [HB0]; · iexact HB0
    isplitl [HB1]; · iexact HB1
    isplitl [HB2]; · iexact HB2
    isplitl [HB3]; · iexact HB3
    isplitl [HS]; · iexact HS
    iexact HW
  iintro %_ HQ
  unfold valPost
  rw [dma104_res c (ms0_0 t0) (ms0_1 t0) X0 X1 (xI m c) (nI m c) e0 e1, View.write_whole_univ]
  icases HQ with ⟨HX0, HX1, HX3, HB0, HB1, HB2, HB3, HS, ⟨%Wt', HW⟩⟩
  isplitl [HB1 HB2 HB3 Hg Hq3 Hq4 Hq5 HS Hq HB0]
  · isplitl [HB1 HB2 HB3]
    · isplitl [HB1]; · iexact HB1
      isplitl [HB2]; · iexact HB2
      iexact HB3
    isplitl [Hg]; · iexact Hg
    isplitl [Hq3 Hq4 Hq5 HS Hq]
    · isplitl [Hq3]; · iexact Hq3
      isplitl [Hq4]; · iexact Hq4
      isplitl [Hq5]; · iexact Hq5
      isplitl [HS]; · iexact HS
      iexact Hq
    isplitr; · iempintro
    iexact HB0
  isplitl [HW]
  · iexists Wt'; isplitr; · ipureintro; exact fun _ _ => Or.inl trivial
    iexact HW
  isplitl [HX0]; · iexists X0; isplitr; · ipureintro; exact e0
                   iexact HX0
  isplitl [HX1]; · iexists X1; isplitr; · ipureintro; exact e1
                   iexact HX1
  iexists _; isplitr; · ipureintro; exact scP_res c (ms0_0 t0) (ms0_1 t0) X0 X1 (xI m c) (nI m c) e0 e1 (ms0_2 t0).view X3
  iexact HX3

theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

set_option backward.isDefEq.respectTransparency.types false in
theorem run_mainV : θ_run defs (onTc (τ := τ) (main (F := Ideal))) (s₀ m ρ) (Pipeline.FramePostRG cfgs (datsV m) 0 R0 (V m) (GV m)) :=
  Pipeline.θ_run_frame_dmaRG (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V := V m) (hmain := hmain m Variants.none) (hA := A_eqV m) (G := GV m)
    (hin := fun _ => .rfl) (hout := fun _ => .rfl)

end Cert.XKernelIdeal.Hand

end
-- ==== Proof.XKernelIdealIn.lean ====
/-
The second slice's staged blocks, and its results, at the arguments.
-/
module

public import proofs.«01_k».proof.Proof.XKernelIdealVal
public import proofs.«01_k».proof.Proof.Results
public import Idealize.ShloMosaic.Lib.Pipeline.ValueKit
public import Idealize.ShloMosaic.Lib.Claim

@[expose] public section

set_option maxRecDepth 16384

noncomputable section

namespace Cert.XKernelIdeal.Hand

open Cert.XKernelIdeal Cert.XKernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem V_v0 (k : Fin 5120) : (V m c main_v0 : S1x5120.Idx → EReal) (ix2 0 k) = (m ((c : Thread nD τ).loc main_arg1) : S5120.Idx → EReal) (ix1 k) := by
  entry_read
  pointwise

theorem xI_eq : xI m c = V m c main_arg0 := by
  unfold xI
  exact Memref.read_access_unit_zero (Elt Ideal) main_arg0 (funext fun a => by fin_cases a <;> rfl) _ _
theorem nI_eq : nI m c = V m c main_v0 := by
  unfold nI
  exact Memref.read_access_unit_zero (Elt Ideal) main_v0 (funext fun a => by fin_cases a <;> rfl) _ _

theorem row_x (r : Fin 72) : rw2 (xI m c) r = Spec.arow (m ((c : Thread nD τ).loc main_arg0)) r :=
  congrArg (fun (f : S72x5120.Idx → EReal) => Spec.arow f r) ((xI_eq m c).trans (V_main_arg0 m c))
theorem row_n : rw2 (nI m c) 0 = Spec.avec (m ((c : Thread nD τ).loc main_arg1)) :=
  (congrArg (fun (f : S1x5120.Idx → EReal) => Spec.arow f 0) (nI_eq m c)).trans (funext fun k => V_v0 m c k)

theorem arr2 (G : S1x72.Idx → EReal) (hG : (datsV m 0 c).after 2 t0 = G) : (datsV m 0 c).arrAt 2 (cfgs 0).N = G := by
  subst hG
  refine (datsV m 0 c).arrAt_eq_of_after_last 2 t0 (by decide +kernel) _ fun j => ?_
  blk_simp

/-- The two results as functions of the arguments. -/
theorem fin_1 : GV m c main_v1_0 = Spec.fin1 (m ((c : Thread nD τ).loc main_arg0)) (m ((c : Thread nD τ).loc main_arg1)) :=
  (GV_0 m c).trans <| funext fun y => Spec.fin1_of _ _ y _ _ (row_x m c _) (row_n m c)
theorem fin_2 : (datsV m 0 c).arrAt 2 (cfgs 0).N = Spec.fin2 (m ((c : Thread nD τ).loc main_arg0)) (m ((c : Thread nD τ).loc main_arg1)) :=
  arr2 m c _ <| (after0_2V m c t0).trans <| funext fun y => Spec.fin2_of _ _ y _ _ (row_x m c _) (row_n m c)

/-- The second slice's run: the two results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v1_0) = Spec.fin1 (m ((c : Thread nD τ).loc main_arg0)) (m ((c : Thread nD τ).loc main_arg1)) ∧
      r.2.mem ((c.tc : Thread nD τ).loc main_v1_1) = Spec.fin2 (m ((c : Thread nD τ).loc main_arg0)) (m ((c : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1)) :=
  (θ_run defs _ _).mono (fun _ h c => ⟨(h.2 c main_v1_0 (by decide)).trans (fin_1 m c),
      ((h.1 c).1 2).trans (fin_2 m c),
      ((h.1 c).1 0).trans (((datsV m 0 c).arrAt_in 0 rfl _).trans ((A_eqV m c 0).trans (V_main_arg0 m c))),
      ((h.1 c).2 main_arg1 (Finset.mem_sdiff.mpr ⟨Pipeline.mem_restRefs_of main_arg1 (by decide) (by decide), by decide⟩)).trans (V_main_arg1 m c)⟩) (run_mainV m ρ)

end Cert.XKernelIdeal.Hand
-- ==== Proof.XRefRun.lean ====
/-
The second slice's reference: what its two result arrays end holding, as functions of the arguments.
-/
module

public import proofs.«01_k».proof.Proof.Gen.XReferenceIdeal.Frame
public import proofs.«01_k».proof.Proof.RefOps
public import proofs.«01_k».proof.Proof.Results
public import Idealize.ShloMosaic.Lib.Pipeline.ValueKit
public import Idealize.ShloMosaic.Lib.Claim

@[expose] public section

set_option maxRecDepth 16384

noncomputable section

namespace Cert.XReferenceIdeal.Hand

open Cert.XReferenceIdeal Cert.XReferenceIdeal.Gen
open Cert.ReferenceIdeal.Hand (scA qA scA_apply qA_apply row)
open Idealize.ShloMosaic Idealize.ShloMosaic.TcCoe Idealize.ShloMosaic.Tactic
open Idealize.ShloMosaic.Pipeline (Dat Cfg Window)

/-! ## The values at an index -/

section Val
variable (x : Vec Ideal S72x5120 .bf16) (n : Vec Ideal S1x5120 .f32)

theorem pay1_apply (j : S72x5120.Idx) : k0_pay1 x n j = Spec.nrm (row x (j 0)) (row n 0) (j 1) := by
  unfold k0_pay1 Spec.nrm
  pointwise
  exact congrArg (fun t => Ideal.div t _ * _) (congrArg x (eq_ix2 j))

theorem pay2_apply (j : S72.Idx) : k0_pay2 x n j = Spec.sc1 (row x (j 0)) (row n 0) := by
  have h : k0_pay2 x n = scA (k0_pay1 x n) := rfl
  rw [h]
  refine (scA_apply _ j).trans ?_
  unfold Spec.sc1
  exact congrArg (fun v => Spec.qscale (Spec.amax v)) (funext fun k => pay1_apply x n _)

theorem pay3_apply (j : S72x5120.Idx) : k0_pay3 x n j = FloatOps.fptosi (F := Ideal) (φ := .f32) 8 (Spec.cd1 (row x (j 0)) (row n 0) (j 1)) := by
  have h : k0_pay3 x n = qA (k0_pay1 x n) (k0_pay2 x n) := rfl
  rw [h]
  refine (qA_apply _ _ j).trans ?_
  unfold Spec.cd1
  exact congrArg (fun z => FloatOps.fptosi (F := Ideal) (φ := .f32) 8 (Spec.code z)) (congrArg₂ Ideal.div (pay1_apply x n j) (pay2_apply x n _))

theorem spread_apply (v : FVec Ideal S72 .f32) (j : S1x72.Idx) : shapeCast S1x72 v shapeCasts_S72_S1x72 j = v (ix1 (j 1)) := by
  pointwise

theorem pay4_apply (j : S1x72.Idx) : k0_pay4 x n j = Spec.sc1 (row x (j 1)) (row n 0) := by
  unfold k0_pay4
  exact (spread_apply _ j).trans (pay2_apply x n _)

theorem out2 : out0_2 x n = k0_pay3 x n := by
  frame_out
theorem out3 : out0_3 x n = k0_pay4 x n := by
  frame_out
end Val

/-! ## The blocks at the arguments -/

variable (m : (ℓ : Loc nD τ sig) → Buf (Elt Ideal) ℓ) (c : Dev nD)

/-- The one point of the grid. -/
abbrev t0 : Fin cfg0.N := ⟨0, by decide⟩

theorem V_v0 (k : Fin 5120) : (V m c main_v0 : S1x5120.Idx → EReal) (ix2 0 k) = (m ((c : Thread nD τ).loc main_arg1) : S5120.Idx → EReal) (ix1 k) := by
  entry_read
  pointwise

theorem b0 : (iblk m c 0 t0 : S72x5120.Idx → EReal) = V m c main_arg0 :=
  Memref.read_access_unit_zero (Elt Ideal) main_arg0 (funext fun a => by fin_cases a <;> rfl) _ _
theorem b1 : (iblk m c 1 t0 : S1x5120.Idx → EReal) = V m c main_v0 :=
  Memref.read_access_unit_zero (Elt Ideal) main_v0 (funext fun a => by fin_cases a <;> rfl) _ _

theorem row_x (r : Fin 72) : row (iblk m c 0 t0) r = Spec.arow (m ((c : Thread nD τ).loc main_arg0)) r :=
  congrArg (fun (f : S72x5120.Idx → EReal) => Spec.arow f r) ((b0 m c).trans (V_main_arg0 m c))
theorem row_n : row (iblk m c 1 t0) 0 = Spec.avec (m ((c : Thread nD τ).loc main_arg1)) :=
  (congrArg (fun (f : S1x5120.Idx → EReal) => Spec.arow f 0) (b1 m c)).trans (funext fun k => V_v0 m c k)

/-! ## The result arrays -/

theorem arr2 (G : S72x5120.Idx → BitVec 8) (hG : (dats m 0 c).after 2 t0 = G) : (dats m 0 c).arrAt 2 (cfgs 0).N = G := by
  subst hG
  refine (dats m 0 c).arrAt_eq_of_after_last 2 t0 (by decide +kernel) _ fun j => ?_
  blk_simp
theorem arr3 (G : S1x72.Idx → EReal) (hG : (dats m 0 c).after 3 t0 = G) : (dats m 0 c).arrAt 3 (cfgs 0).N = G := by
  subst hG
  refine (dats m 0 c).arrAt_eq_of_after_last 3 t0 (by decide +kernel) _ fun j => ?_
  blk_simp

/-- The two results as functions of the arguments. -/
theorem fin_1 : (dats m 0 c).arrAt 2 (cfgs 0).N = Spec.fin1 (m ((c : Thread nD τ).loc main_arg0)) (m ((c : Thread nD τ).loc main_arg1)) :=
  arr2 m c _ <| ((after0_2 m c t0).trans (out2 _ _)).trans <| funext fun y => (pay3_apply _ _ y).trans <| Spec.fin1_of _ _ y _ _ (row_x m c _) (row_n m c)
theorem fin_2 : (dats m 0 c).arrAt 3 (cfgs 0).N = Spec.fin2 (m ((c : Thread nD τ).loc main_arg0)) (m ((c : Thread nD τ).loc main_arg1)) :=
  arr3 m c _ <| ((after0_3 m c t0).trans (out3 _ _)).trans <| funext fun y => (pay4_apply _ _ y).trans <| Spec.fin2_of _ _ y _ _ (row_x m c _) (row_n m c)

/-- The reference's run: the two results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v1_0) = Spec.fin1 (m ((c : Thread nD τ).loc main_arg0)) (m ((c : Thread nD τ).loc main_arg1)) ∧
      r.2.mem ((c.tc : Thread nD τ).loc main_v1_1) = Spec.fin2 (m ((c : Thread nD τ).loc main_arg0)) (m ((c : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1)) :=
  (θ_run defs _ _).mono (fun _ h c => ⟨((h.1 c).1 2).trans (fin_1 m c),
      ((h.1 c).1 3).trans (fin_2 m c), h.2 c⟩) (θ_run_and (run_main m ρ) (unchanged m ρ))

end Cert.XReferenceIdeal.Hand
-- ==== Proof.XAlg.lean ====
/-
The second slice and its reference end with equal results.
-/
module

public import proofs.«01_k».proof.Proof.XKernelIdealIn
public import proofs.«01_k».proof.Proof.XRefRun
public import proofs.«01_k».proof.Defs

@[expose] public section

noncomputable section

namespace Cert

open Idealize.ShloMosaic Idealize.ShloMosaic.TcCoe

theorem xalgebraic_all : algebraic_XKernelIdeal_XReferenceIdeal (hXKernelIdeal := Cert.XKernelIdeal.Gen.facts) (hXReferenceIdeal := Cert.XReferenceIdeal.Gen.facts) :=
  fun m g m' g' _ hm => ⟨fun c => Spec.fin1 (m ((c.tc : Thread Cert.XKernelIdeal.nD Cert.XKernelIdeal.τ).loc Cert.XKernelIdeal.main_arg0)) (m ((c.tc : Thread Cert.XKernelIdeal.nD Cert.XKernelIdeal.τ).loc Cert.XKernelIdeal.main_arg1)),
    fun c => Spec.fin2 (m ((c.tc : Thread Cert.XKernelIdeal.nD Cert.XKernelIdeal.τ).loc Cert.XKernelIdeal.main_arg0)) (m ((c.tc : Thread Cert.XKernelIdeal.nD Cert.XKernelIdeal.τ).loc Cert.XKernelIdeal.main_arg1)),
    Cert.XKernelIdeal.Hand.run_res m g,
    (θ_run _ _ _).mono (fun _ h c => ⟨(h c).1.trans (Spec.fin1_congr (hm c).1 (hm c).2),
      (h c).2.1.trans (Spec.fin2_congr (hm c).1 (hm c).2),
      (h c).2.2.1,
      (h c).2.2.2⟩) (Cert.XReferenceIdeal.Hand.run_res m' g')⟩

end Cert
-- ==== Proof.QSpec.lean ====
/-
The two quantised arrays of the third slice as mathematics of its two arguments.
-/
module

public import proofs.«01_k».proof.Proof.Results

@[expose] public section

noncomputable section

namespace Cert.Spec

open Idealize.ShloMosaic

/-- The scale of row `r` of an array. -/
def rscale {R C : ℕ} (x : (⟨2, ![R, C]⟩ : Shape).Idx → EReal) (r : Fin R) : EReal := qscale (amax (arow x r))
/-- The codes of an array's rows. -/
def qcodes {C : ℕ} (x : (⟨2, ![72, C]⟩ : Shape).Idx → EReal) : (⟨2, ![72, C]⟩ : Shape).Idx → BitVec 8 :=
  fun y => FloatOps.fptosi (F := Ideal) (φ := .f32) 8 (code (Ideal.div (x y) (rscale x (y 0))))
/-- The scales of an array's rows. -/
def qscales {C : ℕ} (x : (⟨2, ![72, C]⟩ : Shape).Idx → EReal) : (⟨2, ![1, 72]⟩ : Shape).Idx → EReal := fun y => rscale x (y 1)

/-- The lane maxima of `n` blocks of 128 columns. -/
def lmax1 (f : ℕ → EReal) (l : ℕ) : ℕ → EReal
  | 0 => 0
  | n + 1 => max (lmax1 f l n) (f (128 * n + l))

theorem lmax1_le (f : ℕ → EReal) (l n : ℕ) (c : EReal) : lmax1 f l n ≤ c ↔ 0 ≤ c ∧ ∀ m < n, f (l + 128 * m) ≤ c := by
  induction n with
  | zero => simp [lmax1]
  | succ n ih =>
    rw [lmax1, max_le_iff, ih, show 128 * n + l = l + 128 * n from by ring]
    simp only [Nat.forall_lt_succ_right]
    tauto

end Cert.Spec
-- ==== Proof.QKernelIdealVal.lean ====
/-
The third slice's arithmetic: the scale and the codes of the rows of the two branches' outputs, read
off the body's run.
-/
module

public import proofs.«01_k».proof.Proof.Gen.QKernelIdeal.Frame
public import proofs.«01_k».proof.Proof.KernelIdealQuant
public import proofs.«01_k».proof.Proof.QSpec
public import Idealize.ShloMosaic.Lib.Pipeline.Value
public import Idealize.ShloMosaic.Lib.Pipeline.ValueKit
public import Idealize.ShloMosaic.Lib.Claim

@[expose] public section

set_option maxRecDepth 16384

noncomputable section

namespace Cert.QKernelIdeal.Hand

open Cert.QKernelIdeal Cert.QKernelIdeal.Gen
open Cert.KernelIdeal.Hand (mx4 colScale rowOf qB qB_apply at2 at2_lt mx4_apply colScale_apply rowOf_apply unit_emb)
open Idealize.ShloMosaic Idealize.ShloMosaic.TcCoe Idealize.ShloMosaic.Tactic

section Ops
variable {F : FTy → Type} [FloatOps F]
/-- Takes the magnitudes of a block of 128 columns into the 128 running maxima. -/
def mx1 (a : FVec F S72x128 .f32) (v : Vec F S72x128 .f32) : FVec F S72x128 .f32 := maximumf a (absf v)
/-- A block of 256 columns quantised, still in floats. -/
def qB2 (s : FVec F S72x1 .f32) (v : Vec F S72x256 .f32) : FVec F S72x256 .f32 :=
  roundeven (minimumf (broadcast S72x256 (Scalar.ofBits .f32 0x42FE0000#32)) (maximumf (broadcast S72x256 (Scalar.ofBits .f32 0xC2FE0000#32))
    (divf v (broadcastTo S72x256 s broadcasts_S72x1_S72x256))))
end Ops

theorem mx1_apply (a : FVec Ideal S72x128 .f32) (v : Vec Ideal S72x128 .f32) (f : Fin 72 → ℕ → EReal) (n : ℕ)
    (ha : ∀ i : S72x128.Idx, a i = Spec.lmax1 (fun k => FloatOps.absf (F := Ideal) (φ := .f32) (f (i 0) k)) (i 1).val n)
    (hv : ∀ i : S72x128.Idx, v i = f (i 0) (128 * n + (i 1).val)) (i : S72x128.Idx) :
    mx1 a v i = Spec.lmax1 (fun k => FloatOps.absf (F := Ideal) (φ := .f32) (f (i 0) k)) (i 1).val (n + 1) := by
  unfold mx1
  pointwise
  simp only [ha, hv]
  rfl

theorem qB2_apply (s : FVec Ideal S72x1 .f32) (v : Vec Ideal S72x256 .f32) (i : S72x256.Idx) :
    qB2 s v i = Spec.code (Ideal.div (v i) (s (ix2 (i 0) 0))) := by
  rw [← Spec.round_clip, ← Spec.ofBits_hi, ← Spec.ofBits_lo]
  unfold qB2
  pointwise

/-- A load of some columns from a staged array of rows. -/
theorem ld_apply {C W : ℕ} (a : Memref sig .tc .vmem ⟨2, ![72, C]⟩ .f32) (h : a.IsWhole) (x : Vec Ideal ⟨2, ![72, C]⟩ .f32) (o : ℕ)
    (inb : ∀ d, ![0, o] d + (⟨2, ![72, W]⟩ : Shape).size d ≤ (⟨2, ![72, C]⟩ : Shape).size d) (i : (⟨2, ![72, W]⟩ : Shape).Idx) :
    a.view.readAt (Elt Ideal) (Rect.unit (s := ⟨2, ![72, C]⟩) ![0, o] (⟨2, ![72, W]⟩ : Shape).size inb).toLoadRect (h.unread x) i = at2 x (i 0) (o + (i 1).val) := by
  have h1 : (i 1).val < W := (i 1).isLt
  have h2 : o + W ≤ C := inb 1
  rw [View.readAt_apply, h.read_unread]
  unfold at2
  rw [dif_pos (show o + (i 1).val < C by omega)]
  refine congrArg x (funext fun b => Fin.ext ?_)
  match b with
  | ⟨0, _⟩ => simp [LoadRect.idx, Rect.unit, ix2]
  | ⟨1, _⟩ => simp [LoadRect.idx, Rect.unit, ix2]

/-- A load of a stored buffer whose latest pieces agree with one function and hold every index read. -/
theorem readCov_apply {κ : Kind} {sp : Space} {s : Shape} {e : EltTy} (v : View sig κ sp s e) (L L' : List (View.Piece (Elt Ideal) s e)) (B : LoadRect s)
    (G : s.Idx → Elt Ideal e) (hL : ∀ p ∈ L, ∀ x, p.2 x = G (p.1.emb x)) (j : B.shape.Idx) (h : ∃ p ∈ L, B.idx j ∈ p.1.set) :
    v.readCov (L ++ L') B j = G (B.idx j) := by
  unfold View.readCov
  rw [View.writes_append]
  exact View.read_writes_apply_of_pieces v _ G L hL _ h

theorem emb_at2 {C D W : ℕ} (o : ℕ) (inb : ∀ d, ![0, o] d + (⟨2, ![72, W]⟩ : Shape).size d ≤ (⟨2, ![72, D]⟩ : Shape).size d) {α : Type} (f : Fin 72 → ℕ → α) (x : (⟨2, ![72, W]⟩ : Shape).Idx) :
    f (x 0) (o + (x 1).val) = (fun y : (⟨2, ![72, D]⟩ : Shape).Idx => f (y 0) (y 1).val) ((Rect.unit (s := ⟨2, ![72, D]⟩) ![0, o] (⟨2, ![72, W]⟩ : Shape).size inb).emb x) := by
  refine congrArg₂ f (Fin.ext ?_) ?_
  · exact ((unit_emb (s := ⟨2, ![72, D]⟩) ![0, o] (⟨2, ![72, W]⟩ : Shape).size inb x 0).trans (Nat.zero_add _)).symm
  · exact (unit_emb (s := ⟨2, ![72, D]⟩) ![0, o] (⟨2, ![72, W]⟩ : Shape).size inb x 1).symm

theorem mem_blk (o : ℕ) (inb : ∀ d, ![0, o] d + S72x128.size d ≤ S72x5120.size d) (y : S72x5120.Idx) :
    y ∈ (Rect.unit (s := S72x5120) ![0, o] S72x128.size inb).set ↔ o ≤ (y 1).val ∧ (y 1).val < o + 128 := by
  have h0 : (y 0).val < 72 := (y 0).isLt
  rw [Rect.mem_set_unit, Fin.forall_fin_two]
  simp [h0]

/-- A block stored as it was loaded. -/
theorem st_piece {C : ℕ} (a : Memref sig .tc .vmem ⟨2, ![72, C]⟩ .f32) (h : a.IsWhole) (x : Vec Ideal ⟨2, ![72, C]⟩ .f32) (o : ℕ)
    (inb : ∀ d, ![0, o] d + S72x128.size d ≤ (⟨2, ![72, C]⟩ : Shape).size d) (inb' : ∀ d, ![0, o] d + S72x128.size d ≤ S72x5120.size d) (i : S72x128.Idx) :
    shapeCast S72x128 (a.view.readAt (Elt Ideal) (Rect.unit (s := ⟨2, ![72, C]⟩) ![0, o] S72x128.size inb).toLoadRect (h.unread x)) shapeCasts_S72x128_S72x128 i
      = (fun y : S72x5120.Idx => at2 x (y 0) (y 1).val) ((Rect.unit (s := S72x5120) ![0, o] S72x128.size inb').emb i) := by
  refine (congrFun (shapeCast_self _ _) i).trans ?_
  exact (ld_apply a h x o inb i).trans (emb_at2 (C := C) o inb' (at2 x) i)

/-- The greatest magnitude of a row over the numbers below its length. -/
theorem amax_at2 {C : ℕ} (x : (⟨2, ![72, C]⟩ : Shape).Idx → EReal) (r : Fin 72) :
    Finset.fold max (Ideal.ofBits FTy.f32 0xFF800000#32) (fun k : Fin C => FloatOps.absf (F := Ideal) (φ := .f32) (at2 x r k.val)) Finset.univ = Spec.amax (Spec.arow x r) := by
  unfold Spec.amax Spec.arow
  exact congrArg (fun g => Finset.fold max _ g Finset.univ) (funext fun k => congrArg _ (at2_lt x r k))

variable (c : Dev nD) (a0 : Memref sig .tc .vmem S72x1280 .f32) (h0 : a0.IsWhole) (a1 : Memref sig .tc .vmem S72x2048 .f32) (h1 : a1.IsWhole)
variable (a2 : Memref sig .tc .vmem S72x1280 .i8) (h2 : a2.IsWhole) (a3 : Memref sig .tc .vmem S1x72 .f32) (h3 : a3.IsWhole)
variable (a4 : Memref sig .tc .vmem S72x2048 .i8) (h4 : a4.IsWhole) (a5 : Memref sig .tc .vmem S1x72 .f32) (h5 : a5.IsWhole)
variable (a6 : Memref sig .tc .vmem S72x5120 .f32) (h6 : a6.IsWhole) (a7 : Memref sig .tc .vmem S3x80x512 .bf16) (h7 : a7.IsWhole) (a8 : Memref sig .tc .vmem S4x80x512 .bf16) (h8 : a8.IsWhole)
variable (x0 : Vec Ideal S72x1280 .f32) (x1 : Vec Ideal S72x2048 .f32)

/-! ## The attention output -/

/-- The block of the attention output at column `o`. -/
abbrev rdA (o : ℕ) (inb : ∀ d, ![0, o] d + S72x128.size d ≤ S72x1280.size d) : Vec Ideal S72x128 .f32 :=
  a0.view.readAt (Elt Ideal) (Rect.unit (s := S72x1280) ![0, o] S72x128.size inb).toLoadRect (h0.unread x0)

theorem r4_eq : kernelRun0_A.sl.r_4 (F := Ideal) c a0 h0 x0 = colScale (mx1 (mx1 (mx1 (mx1 (mx1 (mx1 (mx1 (mx1 (mx1 (mx1 (broadcast S72x128 (Scalar.ofBits .f32 0x00000000#32))
      (rdA a0 h0 x0 0 inb_S72x1280_S72x128_0_0))
      (rdA a0 h0 x0 128 inb_S72x1280_S72x128_0_128))
      (rdA a0 h0 x0 256 inb_S72x1280_S72x128_0_256))
      (rdA a0 h0 x0 384 inb_S72x1280_S72x128_0_384))
      (rdA a0 h0 x0 512 inb_S72x1280_S72x128_0_512))
      (rdA a0 h0 x0 640 inb_S72x1280_S72x128_0_640))
      (rdA a0 h0 x0 768 inb_S72x1280_S72x128_0_768))
      (rdA a0 h0 x0 896 inb_S72x1280_S72x128_0_896))
      (rdA a0 h0 x0 1024 inb_S72x1280_S72x128_0_1024))
      (rdA a0 h0 x0 1152 inb_S72x1280_S72x128_0_1152)) := rfl

theorem r4_apply (i : S72x1.Idx) : kernelRun0_A.sl.r_4 (F := Ideal) c a0 h0 x0 i = Spec.rscale x0 (i 0) := by
  rw [r4_eq]
  refine (colScale_apply _ i).trans ?_
  unfold Spec.rscale
  refine congrArg Spec.qscale ?_
  have g0 : ∀ i : S72x128.Idx, broadcast (α := Ideal .f32) S72x128 (Scalar.ofBits .f32 0x00000000#32) i
      = Spec.lmax1 (fun k => FloatOps.absf (F := Ideal) (φ := .f32) (at2 x0 (i 0) k)) (i 1).val 0 := fun i => by
    unfold Spec.lmax1
    pointwise
  have g1 := mx1_apply _ _ (at2 x0) 0 g0 (ld_apply a0 h0 x0 0 inb_S72x1280_S72x128_0_0)
  have g2 := mx1_apply _ _ (at2 x0) 1 g1 (ld_apply a0 h0 x0 128 inb_S72x1280_S72x128_0_128)
  have g3 := mx1_apply _ _ (at2 x0) 2 g2 (ld_apply a0 h0 x0 256 inb_S72x1280_S72x128_0_256)
  have g4 := mx1_apply _ _ (at2 x0) 3 g3 (ld_apply a0 h0 x0 384 inb_S72x1280_S72x128_0_384)
  have g5 := mx1_apply _ _ (at2 x0) 4 g4 (ld_apply a0 h0 x0 512 inb_S72x1280_S72x128_0_512)
  have g6 := mx1_apply _ _ (at2 x0) 5 g5 (ld_apply a0 h0 x0 640 inb_S72x1280_S72x128_0_640)
  have g7 := mx1_apply _ _ (at2 x0) 6 g6 (ld_apply a0 h0 x0 768 inb_S72x1280_S72x128_0_768)
  have g8 := mx1_apply _ _ (at2 x0) 7 g7 (ld_apply a0 h0 x0 896 inb_S72x1280_S72x128_0_896)
  have g9 := mx1_apply _ _ (at2 x0) 8 g8 (ld_apply a0 h0 x0 1024 inb_S72x1280_S72x128_0_1024)
  have g10 := mx1_apply _ _ (at2 x0) 9 g9 (ld_apply a0 h0 x0 1152 inb_S72x1280_S72x128_0_1152)
  refine Eq.trans (congrArg (fun g => Finset.fold max _ g Finset.univ) (funext fun l => g10 (ix2 (i 0) l))) ?_
  refine (Spec.fold_lanes 10 1280 rfl (by decide) (fun k => FloatOps.absf (F := Ideal) (φ := .f32) (at2 x0 (i 0) k)) (fun k => Spec.absf_nonneg _)
    (fun l => Spec.lmax1 (fun k => FloatOps.absf (F := Ideal) (φ := .f32) (at2 x0 (i 0) k)) l 10) (fun l c => Spec.lmax1_le _ l 10 c)).trans ?_
  exact amax_at2 x0 (i 0)

theorem A_pieces : ∀ p ∈ kernelRun0_A.sl.HS0_10 (F := Ideal) c a0 h0 x0, ∀ x, p.2 x = (fun y : S72x5120.Idx => at2 x0 (y 0) (y 1).val) (p.1.emb x) := by
  unfold kernelRun0_A.sl.HS0_10
  simp only [List.forall_mem_cons, List.not_mem_nil, false_imp_iff, implies_true, and_true]
  exact ⟨st_piece a0 h0 x0 1152 inb_S72x1280_S72x128_0_1152 inb_S72x5120_S72x128_0_1152,
    st_piece a0 h0 x0 1024 inb_S72x1280_S72x128_0_1024 inb_S72x5120_S72x128_0_1024,
    st_piece a0 h0 x0 896 inb_S72x1280_S72x128_0_896 inb_S72x5120_S72x128_0_896,
    st_piece a0 h0 x0 768 inb_S72x1280_S72x128_0_768 inb_S72x5120_S72x128_0_768,
    st_piece a0 h0 x0 640 inb_S72x1280_S72x128_0_640 inb_S72x5120_S72x128_0_640,
    st_piece a0 h0 x0 512 inb_S72x1280_S72x128_0_512 inb_S72x5120_S72x128_0_512,
    st_piece a0 h0 x0 384 inb_S72x1280_S72x128_0_384 inb_S72x5120_S72x128_0_384,
    st_piece a0 h0 x0 256 inb_S72x1280_S72x128_0_256 inb_S72x5120_S72x128_0_256,
    st_piece a0 h0 x0 128 inb_S72x1280_S72x128_0_128 inb_S72x5120_S72x128_0_128,
    st_piece a0 h0 x0 0 inb_S72x1280_S72x128_0_0 inb_S72x5120_S72x128_0_0⟩

theorem A_cover (y : S72x5120.Idx) (hy : (y 1).val < 1280) : ∃ p ∈ kernelRun0_A.sl.HS0_10 (F := Ideal) c a0 h0 x0, y ∈ p.1.set := by
  unfold kernelRun0_A.sl.HS0_10
  simp only [List.exists_mem_cons_iff, List.not_mem_nil, false_and, exists_false, or_false]
  refine ((mem_blk 1152 inb_S72x5120_S72x128_0_1152 y).or ((mem_blk 1024 inb_S72x5120_S72x128_0_1024 y).or ((mem_blk 896 inb_S72x5120_S72x128_0_896 y).or ((mem_blk 768 inb_S72x5120_S72x128_0_768 y).or ((mem_blk 640 inb_S72x5120_S72x128_0_640 y).or ((mem_blk 512 inb_S72x5120_S72x128_0_512 y).or ((mem_blk 384 inb_S72x5120_S72x128_0_384 y).or ((mem_blk 256 inb_S72x5120_S72x128_0_256 y).or ((mem_blk 128 inb_S72x5120_S72x128_0_128 y).or (mem_blk 0 inb_S72x5120_S72x128_0_0 y)))))))))).mpr ?_
  omega

/-- The block the codes at column `o` are made of. -/
abbrev rA (o : ℕ) (inb : ∀ d, ![0, o] d + S72x256.size d ≤ S72x5120.size d) : Vec Ideal S72x256 .f32 :=
  a6.view.readCov (kernelRun0_A.sl.HS0_10 (F := Ideal) c a0 h0 x0) (Rect.unit (s := S72x5120) ![0, o] S72x256.size inb).toLoadRect

theorem rA_apply (o : ℕ) (inb : ∀ d, ![0, o] d + S72x256.size d ≤ S72x5120.size d) (ho : o + 256 ≤ 1280) (i : S72x256.Idx) :
    rA c a0 h0 a6 x0 o inb i = at2 x0 (i 0) (o + (i 1).val) := by
  have hi : (i 1).val < 256 := (i 1).isLt
  have e := unit_emb (s := S72x5120) ![0, o] S72x256.size inb i 1
  refine Eq.trans ?_ (emb_at2 (C := 1280) o inb (at2 x0) i).symm
  unfold rA
  rw [← List.append_nil (kernelRun0_A.sl.HS0_10 (F := Ideal) c a0 h0 x0)]
  exact readCov_apply a6.view _ [] (Rect.unit (s := S72x5120) ![0, o] S72x256.size inb).toLoadRect
    (fun y : S72x5120.Idx => at2 x0 (y 0) (y 1).val) (A_pieces c a0 h0 x0) i
    (A_cover c a0 h0 x0 _ (by refine (e.trans_lt ?_); show o + (i 1).val < 1280; omega))

/-- The codes at an index, of an array given by row and column. -/
def cdv (f : Fin 72 → ℕ → EReal) (s : Fin 72 → EReal) (r : Fin 72) (k : ℕ) : BitVec 8 := FloatOps.fptosi (F := Ideal) (φ := .f32) 8 (Spec.code (Ideal.div (f r k) (s r)))

theorem cdv_at2 {C : ℕ} (x : (⟨2, ![72, C]⟩ : Shape).Idx → EReal) (y : (⟨2, ![72, C]⟩ : Shape).Idx) : cdv (at2 x) (Spec.rscale x) (y 0) (y 1).val = Spec.qcodes x y := by
  unfold cdv Spec.qcodes
  rw [at2_lt x (y 0) (y 1), ← eq_ix2 y]

theorem qA_piece (o : ℕ) (inb : ∀ d, ![0, o] d + S72x256.size d ≤ S72x5120.size d) (inb' : ∀ d, ![0, o] d + S72x256.size d ≤ S72x1280.size d) (ho : o + 256 ≤ 1280) (x : S72x256.Idx) :
    (fptosi 8 (qB2 (kernelRun0_A.sl.r_4 (F := Ideal) c a0 h0 x0) (rA c a0 h0 a6 x0 o inb)) : IVec S72x256 8) x
      = (fun y : S72x1280.Idx => cdv (at2 x0) (Spec.rscale x0) (y 0) (y 1).val) ((Rect.unit (s := S72x1280) ![0, o] S72x256.size inb').emb x) := by
  refine Eq.trans (b := cdv (at2 x0) (Spec.rscale x0) (x 0) (o + (x 1).val)) ?_ (emb_at2 (C := 1280) o inb' _ x)
  refine congrArg (fun z => FloatOps.fptosi (F := Ideal) (φ := .f32) 8 z) ?_
  exact (qB2_apply _ _ x).trans (congrArg Spec.code (congrArg₂ Ideal.div (rA_apply c a0 h0 a6 x0 o inb ho x) (r4_apply c a0 h0 x0 _)))

theorem out2 : out0_A_2 c a0 h0 a1 h1 a2 h2 a3 h3 a4 h4 a5 h5 a6 h6 a7 h7 a8 h8 x0 x1 = Spec.qcodes x0 := by
  funext y
  refine Eq.trans ?_ (cdv_at2 x0 y)
  unfold out0_A_2
  refine View.read_writes_apply_of_pieces VO0_2 _ (fun y : S72x1280.Idx => cdv (at2 x0) (Spec.rscale x0) (y 0) (y 1).val) _ ?_ y (cover0_A_2 c a0 h0 a1 h1 a2 h2 a3 h3 a4 h4 a5 h5 a6 h6 a7 h7 a8 h8 x0 x1 y)
  unfold kernelRun0_A
  dsimp only
  simp only [List.forall_mem_cons, List.not_mem_nil, false_imp_iff, implies_true, and_true]
  exact ⟨qA_piece c a0 h0 a6 x0 1024 inb_S72x5120_S72x256_0_1024 inb_S72x1280_S72x256_0_1024 (by decide),
    qA_piece c a0 h0 a6 x0 768 inb_S72x5120_S72x256_0_768 inb_S72x1280_S72x256_0_768 (by decide),
    qA_piece c a0 h0 a6 x0 512 inb_S72x5120_S72x256_0_512 inb_S72x1280_S72x256_0_512 (by decide),
    qA_piece c a0 h0 a6 x0 256 inb_S72x5120_S72x256_0_256 inb_S72x1280_S72x256_0_256 (by decide),
    qA_piece c a0 h0 a6 x0 0 inb_S72x5120_S72x256_0_0 inb_S72x1280_S72x256_0_0 (by decide)⟩

/-- A column of scales stored as a row. -/
theorem row_piece (s : FVec Ideal S72x1 .f32) (f : Fin 72 → EReal) (hs : ∀ i, s i = f (i 0)) (x : S1x72.Idx) :
    rowOf s x = (fun y : S1x72.Idx => f (y 1)) ((Rect.unit (s := S1x72) ![0, 0] S1x72.size inb_S1x72_S1x72_0_0).emb x) := by
  refine (rowOf_apply s x).trans ((hs _).trans (congrArg f (Fin.ext ?_)))
  exact ((unit_emb (s := S1x72) ![0, 0] S1x72.size inb_S1x72_S1x72_0_0 x 1).trans (Nat.zero_add _)).symm

theorem out3 : out0_A_3 c a0 h0 a1 h1 a2 h2 a3 h3 a4 h4 a5 h5 a6 h6 a7 h7 a8 h8 x0 x1 = Spec.qscales x0 := by
  funext y
  unfold out0_A_3
  refine View.read_writes_apply_of_pieces VO0_3 _ (Spec.qscales x0) _ ?_ y (cover0_A_3 c a0 h0 a1 h1 a2 h2 a3 h3 a4 h4 a5 h5 a6 h6 a7 h7 a8 h8 x0 x1 y)
  unfold kernelRun0_A
  dsimp only
  simp only [List.forall_mem_cons, List.not_mem_nil, false_imp_iff, implies_true, and_true]
  exact row_piece (kernelRun0_A.sl.r_4 (F := Ideal) c a0 h0 x0) (Spec.rscale x0) (r4_apply c a0 h0 x0)

/-! ## The state-space output -/

theorem B_split : kernelRun0_A.sl.HS0_26 (F := Ideal) c a0 h0 a1 h1 x0 x1 = (kernelRun0_A.sl.HS0_26 (F := Ideal) c a0 h0 a1 h1 x0 x1).take 16 ++ (kernelRun0_A.sl.HS0_26 (F := Ideal) c a0 h0 a1 h1 x0 x1).drop 16 :=
  (List.take_append_drop 16 _).symm

theorem B_pieces : ∀ p ∈ (kernelRun0_A.sl.HS0_26 (F := Ideal) c a0 h0 a1 h1 x0 x1).take 16, ∀ x, p.2 x = (fun y : S72x5120.Idx => at2 x1 (y 0) (y 1).val) (p.1.emb x) := by
  unfold kernelRun0_A.sl.HS0_26
  simp only [List.take_succ_cons, List.take_zero, List.forall_mem_cons, List.not_mem_nil, false_imp_iff, implies_true, and_true]
  exact ⟨st_piece a1 h1 x1 1920 inb_S72x2048_S72x128_0_1920 inb_S72x5120_S72x128_0_1920,
    st_piece a1 h1 x1 1792 inb_S72x2048_S72x128_0_1792 inb_S72x5120_S72x128_0_1792,
    st_piece a1 h1 x1 1664 inb_S72x2048_S72x128_0_1664 inb_S72x5120_S72x128_0_1664,
    st_piece a1 h1 x1 1536 inb_S72x2048_S72x128_0_1536 inb_S72x5120_S72x128_0_1536,
    st_piece a1 h1 x1 1408 inb_S72x2048_S72x128_0_1408 inb_S72x5120_S72x128_0_1408,
    st_piece a1 h1 x1 1280 inb_S72x2048_S72x128_0_1280 inb_S72x5120_S72x128_0_1280,
    st_piece a1 h1 x1 1152 inb_S72x2048_S72x128_0_1152 inb_S72x5120_S72x128_0_1152,
    st_piece a1 h1 x1 1024 inb_S72x2048_S72x128_0_1024 inb_S72x5120_S72x128_0_1024,
    st_piece a1 h1 x1 896 inb_S72x2048_S72x128_0_896 inb_S72x5120_S72x128_0_896,
    st_piece a1 h1 x1 768 inb_S72x2048_S72x128_0_768 inb_S72x5120_S72x128_0_768,
    st_piece a1 h1 x1 640 inb_S72x2048_S72x128_0_640 inb_S72x5120_S72x128_0_640,
    st_piece a1 h1 x1 512 inb_S72x2048_S72x128_0_512 inb_S72x5120_S72x128_0_512,
    st_piece a1 h1 x1 384 inb_S72x2048_S72x128_0_384 inb_S72x5120_S72x128_0_384,
    st_piece a1 h1 x1 256 inb_S72x2048_S72x128_0_256 inb_S72x5120_S72x128_0_256,
    st_piece a1 h1 x1 128 inb_S72x2048_S72x128_0_128 inb_S72x5120_S72x128_0_128,
    st_piece a1 h1 x1 0 inb_S72x2048_S72x128_0_0 inb_S72x5120_S72x128_0_0⟩

theorem B_cover (y : S72x5120.Idx) (hy : (y 1).val < 2048) : ∃ p ∈ (kernelRun0_A.sl.HS0_26 (F := Ideal) c a0 h0 a1 h1 x0 x1).take 16, y ∈ p.1.set := by
  unfold kernelRun0_A.sl.HS0_26
  simp only [List.take_succ_cons, List.take_zero, List.exists_mem_cons_iff, List.not_mem_nil, false_and, exists_false, or_false]
  refine ((mem_blk 1920 inb_S72x5120_S72x128_0_1920 y).or ((mem_blk 1792 inb_S72x5120_S72x128_0_1792 y).or ((mem_blk 1664 inb_S72x5120_S72x128_0_1664 y).or ((mem_blk 1536 inb_S72x5120_S72x128_0_1536 y).or ((mem_blk 1408 inb_S72x5120_S72x128_0_1408 y).or ((mem_blk 1280 inb_S72x5120_S72x128_0_1280 y).or ((mem_blk 1152 inb_S72x5120_S72x128_0_1152 y).or ((mem_blk 1024 inb_S72x5120_S72x128_0_1024 y).or ((mem_blk 896 inb_S72x5120_S72x128_0_896 y).or ((mem_blk 768 inb_S72x5120_S72x128_0_768 y).or ((mem_blk 640 inb_S72x5120_S72x128_0_640 y).or ((mem_blk 512 inb_S72x5120_S72x128_0_512 y).or ((mem_blk 384 inb_S72x5120_S72x128_0_384 y).or ((mem_blk 256 inb_S72x5120_S72x128_0_256 y).or ((mem_blk 128 inb_S72x5120_S72x128_0_128 y).or (mem_blk 0 inb_S72x5120_S72x128_0_0 y)))))))))))))))).mpr ?_
  omega

/-- The block of the state-space output at column `o`, as read back. -/
abbrev rB (o : ℕ) (inb : ∀ d, ![0, o] d + S72x512.size d ≤ S72x5120.size d) : Vec Ideal S72x512 .f32 :=
  a6.view.readCov (kernelRun0_A.sl.HS0_26 (F := Ideal) c a0 h0 a1 h1 x0 x1) (Rect.unit (s := S72x5120) ![0, o] S72x512.size inb).toLoadRect

theorem rB_apply (o : ℕ) (inb : ∀ d, ![0, o] d + S72x512.size d ≤ S72x5120.size d) (ho : o + 512 ≤ 2048) (i : S72x512.Idx) :
    rB c a0 h0 a1 h1 a6 x0 x1 o inb i = at2 x1 (i 0) (o + (i 1).val) := by
  have hi : (i 1).val < 512 := (i 1).isLt
  have e := unit_emb (s := S72x5120) ![0, o] S72x512.size inb i 1
  refine Eq.trans ?_ (emb_at2 (C := 2048) o inb (at2 x1) i).symm
  unfold rB
  rw [B_split c a0 h0 a1 h1 x0 x1]
  exact readCov_apply a6.view _ _ (Rect.unit (s := S72x5120) ![0, o] S72x512.size inb).toLoadRect
    (fun y : S72x5120.Idx => at2 x1 (y 0) (y 1).val) (B_pieces c a0 h0 a1 h1 x0 x1) i
    (B_cover c a0 h0 a1 h1 x0 x1 _ (by refine (e.trans_lt ?_); show o + (i 1).val < 2048; omega))

theorem r13_eq : kernelRun0_A.sl.r_13 (F := Ideal) c a0 h0 a1 h1 a6 x0 x1 = colScale (mx4 (mx4 (mx4 (mx4 (broadcast S72x128 (Scalar.ofBits .f32 0x00000000#32))
      (rB c a0 h0 a1 h1 a6 x0 x1 0 inb_S72x5120_S72x512_0_0))
      (rB c a0 h0 a1 h1 a6 x0 x1 512 inb_S72x5120_S72x512_0_512))
      (rB c a0 h0 a1 h1 a6 x0 x1 1024 inb_S72x5120_S72x512_0_1024))
      (rB c a0 h0 a1 h1 a6 x0 x1 1536 inb_S72x5120_S72x512_0_1536)) := rfl

theorem r13_apply (i : S72x1.Idx) : kernelRun0_A.sl.r_13 (F := Ideal) c a0 h0 a1 h1 a6 x0 x1 i = Spec.rscale x1 (i 0) := by
  rw [r13_eq]
  refine (colScale_apply _ i).trans ?_
  unfold Spec.rscale
  refine congrArg Spec.qscale ?_
  have g0 : ∀ i : S72x128.Idx, broadcast (α := Ideal .f32) S72x128 (Scalar.ofBits .f32 0x00000000#32) i
      = Spec.lmax (fun k => FloatOps.absf (F := Ideal) (φ := .f32) (at2 x1 (i 0) k)) (i 1).val 0 := fun i => by
    unfold Spec.lmax
    pointwise
  have g1 := mx4_apply _ _ (at2 x1) 0 g0 (rB_apply c a0 h0 a1 h1 a6 x0 x1 0 inb_S72x5120_S72x512_0_0 (by decide))
  have g2 := mx4_apply _ _ (at2 x1) 1 g1 (rB_apply c a0 h0 a1 h1 a6 x0 x1 512 inb_S72x5120_S72x512_0_512 (by decide))
  have g3 := mx4_apply _ _ (at2 x1) 2 g2 (rB_apply c a0 h0 a1 h1 a6 x0 x1 1024 inb_S72x5120_S72x512_0_1024 (by decide))
  have g4 := mx4_apply _ _ (at2 x1) 3 g3 (rB_apply c a0 h0 a1 h1 a6 x0 x1 1536 inb_S72x5120_S72x512_0_1536 (by decide))
  refine Eq.trans (congrArg (fun g => Finset.fold max _ g Finset.univ) (funext fun l => g4 (ix2 (i 0) l))) ?_
  refine (Spec.fold_lanes 16 2048 rfl (by decide) (fun k => FloatOps.absf (F := Ideal) (φ := .f32) (at2 x1 (i 0) k)) (fun k => Spec.absf_nonneg _)
    (fun l => Spec.lmax (fun k => FloatOps.absf (F := Ideal) (φ := .f32) (at2 x1 (i 0) k)) l 4) (fun l c => Spec.lmax_le _ l 4 c)).trans ?_
  exact amax_at2 x1 (i 0)

theorem qB_piece (o : ℕ) (inb : ∀ d, ![0, o] d + S72x512.size d ≤ S72x5120.size d) (inb' : ∀ d, ![0, o] d + S72x512.size d ≤ S72x2048.size d) (ho : o + 512 ≤ 2048) (x : S72x512.Idx) :
    (fptosi 8 (qB (kernelRun0_A.sl.r_13 (F := Ideal) c a0 h0 a1 h1 a6 x0 x1) (rB c a0 h0 a1 h1 a6 x0 x1 o inb)) : IVec S72x512 8) x
      = (fun y : S72x2048.Idx => cdv (at2 x1) (Spec.rscale x1) (y 0) (y 1).val) ((Rect.unit (s := S72x2048) ![0, o] S72x512.size inb').emb x) := by
  refine Eq.trans (b := cdv (at2 x1) (Spec.rscale x1) (x 0) (o + (x 1).val)) ?_ (emb_at2 (C := 2048) o inb' _ x)
  refine congrArg (fun z => FloatOps.fptosi (F := Ideal) (φ := .f32) 8 z) ?_
  exact (qB_apply _ _ x).trans (congrArg Spec.code (congrArg₂ Ideal.div (rB_apply c a0 h0 a1 h1 a6 x0 x1 o inb ho x) (r13_apply c a0 h0 a1 h1 a6 x0 x1 _)))

theorem out4 : out0_A_4 c a0 h0 a1 h1 a2 h2 a3 h3 a4 h4 a5 h5 a6 h6 a7 h7 a8 h8 x0 x1 = Spec.qcodes x1 := by
  funext y
  refine Eq.trans ?_ (cdv_at2 x1 y)
  unfold out0_A_4
  refine View.read_writes_apply_of_pieces VO0_4 _ (fun y : S72x2048.Idx => cdv (at2 x1) (Spec.rscale x1) (y 0) (y 1).val) _ ?_ y (cover0_A_4 c a0 h0 a1 h1 a2 h2 a3 h3 a4 h4 a5 h5 a6 h6 a7 h7 a8 h8 x0 x1 y)
  unfold kernelRun0_A
  dsimp only
  simp only [List.forall_mem_cons, List.not_mem_nil, false_imp_iff, implies_true, and_true]
  exact ⟨qB_piece c a0 h0 a1 h1 a6 x0 x1 1536 inb_S72x5120_S72x512_0_1536 inb_S72x2048_S72x512_0_1536 (by decide),
    qB_piece c a0 h0 a1 h1 a6 x0 x1 1024 inb_S72x5120_S72x512_0_1024 inb_S72x2048_S72x512_0_1024 (by decide),
    qB_piece c a0 h0 a1 h1 a6 x0 x1 512 inb_S72x5120_S72x512_0_512 inb_S72x2048_S72x512_0_512 (by decide),
    qB_piece c a0 h0 a1 h1 a6 x0 x1 0 inb_S72x5120_S72x512_0_0 inb_S72x2048_S72x512_0_0 (by decide)⟩

theorem out5 : out0_A_5 c a0 h0 a1 h1 a2 h2 a3 h3 a4 h4 a5 h5 a6 h6 a7 h7 a8 h8 x0 x1 = Spec.qscales x1 := by
  funext y
  unfold out0_A_5
  refine View.read_writes_apply_of_pieces VO0_5 _ (Spec.qscales x1) _ ?_ y (cover0_A_5 c a0 h0 a1 h1 a2 h2 a3 h3 a4 h4 a5 h5 a6 h6 a7 h7 a8 h8 x0 x1 y)
  unfold kernelRun0_A
  dsimp only
  simp only [List.forall_mem_cons, List.not_mem_nil, false_imp_iff, implies_true, and_true]
  exact row_piece (kernelRun0_A.sl.r_13 (F := Ideal) c a0 h0 a1 h1 a6 x0 x1) (Spec.rscale x1) (r13_apply c a0 h0 a1 h1 a6 x0 x1)

end Cert.QKernelIdeal.Hand
-- ==== Proof.QKernelIdealIn.lean ====
/-
The third slice's results at the arguments.
-/
module

public import proofs.«01_k».proof.Proof.QKernelIdealVal

@[expose] public section

set_option maxRecDepth 16384

noncomputable section

namespace Cert.QKernelIdeal.Hand

open Cert.QKernelIdeal Cert.QKernelIdeal.Gen
open Idealize.ShloMosaic Idealize.ShloMosaic.TcCoe Idealize.ShloMosaic.Tactic
open Idealize.ShloMosaic.Pipeline (Dat Cfg Window)

/-! ## The blocks at the arguments -/

variable (m : (ℓ : Loc nD τ sig) → Buf (Elt Ideal) ℓ) (c : Dev nD)

/-- The one point of the grid. -/
abbrev t0 : Fin cfg0.N := ⟨0, by decide⟩

theorem b0 : (iblk m c 0 t0 : S72x1280.Idx → EReal) = m ((c : Thread nD τ).loc main_arg0) :=
  (Memref.read_access_unit_zero (Elt Ideal) main_arg0 (funext fun a => by fin_cases a <;> rfl) _ _ : (iblk m c 0 t0 : S72x1280.Idx → EReal) = V m c main_arg0).trans (V_main_arg0 m c)
theorem b1 : (iblk m c 1 t0 : S72x2048.Idx → EReal) = m ((c : Thread nD τ).loc main_arg1) :=
  (Memref.read_access_unit_zero (Elt Ideal) main_arg1 (funext fun a => by fin_cases a <;> rfl) _ _ : (iblk m c 1 t0 : S72x2048.Idx → EReal) = V m c main_arg1).trans (V_main_arg1 m c)

/-! ## The result arrays -/

theorem arr2 (G : S72x1280.Idx → BitVec 8) (hG : (dats m 0 c).after 2 t0 = G) : (dats m 0 c).arrAt 2 (cfgs 0).N = G := by
  subst hG
  refine (dats m 0 c).arrAt_eq_of_after_last 2 t0 (by decide +kernel) _ fun j => ?_
  blk_simp
theorem arr3 (G : S1x72.Idx → EReal) (hG : (dats m 0 c).after 3 t0 = G) : (dats m 0 c).arrAt 3 (cfgs 0).N = G := by
  subst hG
  refine (dats m 0 c).arrAt_eq_of_after_last 3 t0 (by decide +kernel) _ fun j => ?_
  blk_simp
theorem arr4 (G : S72x2048.Idx → BitVec 8) (hG : (dats m 0 c).after 4 t0 = G) : (dats m 0 c).arrAt 4 (cfgs 0).N = G := by
  subst hG
  refine (dats m 0 c).arrAt_eq_of_after_last 4 t0 (by decide +kernel) _ fun j => ?_
  blk_simp
theorem arr5 (G : S1x72.Idx → EReal) (hG : (dats m 0 c).after 5 t0 = G) : (dats m 0 c).arrAt 5 (cfgs 0).N = G := by
  subst hG
  refine (dats m 0 c).arrAt_eq_of_after_last 5 t0 (by decide +kernel) _ fun j => ?_
  blk_simp

/-! What the staging buffers hold after the one point. -/

theorem outs_2 : (outsAt0 m c t0).1 = Spec.qcodes (C := 1280) (iblk m c 0 t0) := by
  unfold outsAt0
  dsimp only
  exact out2 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) (iblk m c 0 t0) (iblk m c 1 t0)
theorem outs_3 : (outsAt0 m c t0).2.1 = Spec.qscales (C := 1280) (iblk m c 0 t0) := by
  unfold outsAt0
  dsimp only
  exact out3 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) (iblk m c 0 t0) (iblk m c 1 t0)
theorem outs_4 : (outsAt0 m c t0).2.2.1 = Spec.qcodes (C := 2048) (iblk m c 1 t0) := by
  unfold outsAt0
  dsimp only
  exact out4 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) (iblk m c 0 t0) (iblk m c 1 t0)
theorem outs_5 : (outsAt0 m c t0).2.2.2 = Spec.qscales (C := 2048) (iblk m c 1 t0) := by
  unfold outsAt0
  dsimp only
  exact out5 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) scM0_1 (Memref.isWhole_whole _) scM0_2 (Memref.isWhole_whole _) (iblk m c 0 t0) (iblk m c 1 t0)

/-- The four results as functions of the arguments. -/
theorem fin_0 : (dats m 0 c).arrAt 2 (cfgs 0).N = Spec.qcodes (m ((c : Thread nD τ).loc main_arg0)) :=
  arr2 m c _ <| (after0_2 m c t0).trans <| (outs_2 m c).trans (congrArg (Spec.qcodes (C := 1280)) (b0 m c))
theorem fin_1 : (dats m 0 c).arrAt 3 (cfgs 0).N = Spec.qscales (m ((c : Thread nD τ).loc main_arg0)) :=
  arr3 m c _ <| (after0_3 m c t0).trans <| (outs_3 m c).trans (congrArg (Spec.qscales (C := 1280)) (b0 m c))
theorem fin_2 : (dats m 0 c).arrAt 4 (cfgs 0).N = Spec.qcodes (m ((c : Thread nD τ).loc main_arg1)) :=
  arr4 m c _ <| (after0_4 m c t0).trans <| (outs_4 m c).trans (congrArg (Spec.qcodes (C := 2048)) (b1 m c))
theorem fin_3 : (dats m 0 c).arrAt 5 (cfgs 0).N = Spec.qscales (m ((c : Thread nD τ).loc main_arg1)) :=
  arr5 m c _ <| (after0_5 m c t0).trans <| (outs_5 m c).trans (congrArg (Spec.qscales (C := 2048)) (b1 m c))

/-- The run: the four results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v0_0) = Spec.qcodes (m ((c : Thread nD τ).loc main_arg0)) ∧
      r.2.mem ((c.tc : Thread nD τ).loc main_v0_1) = Spec.qscales (m ((c : Thread nD τ).loc main_arg0)) ∧
      r.2.mem ((c.tc : Thread nD τ).loc main_v0_2) = Spec.qcodes (m ((c : Thread nD τ).loc main_arg1)) ∧
      r.2.mem ((c.tc : Thread nD τ).loc main_v0_3) = Spec.qscales (m ((c : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1)) :=
  (θ_run defs _ _).mono (fun _ h c => ⟨((h.1 c).1 2).trans (fin_0 m c), ((h.1 c).1 3).trans (fin_1 m c),
      ((h.1 c).1 4).trans (fin_2 m c), ((h.1 c).1 5).trans (fin_3 m c), h.2 c⟩) (θ_run_and (run_main m ρ) (unchanged m ρ))

end Cert.QKernelIdeal.Hand
-- ==== Proof.QRefRun.lean ====
/-
The third slice's reference: what its four result arrays end holding, as functions of the arguments.
-/
module

public import proofs.«01_k».proof.Proof.Gen.QReferenceIdeal.Frame
public import proofs.«01_k».proof.Proof.QSpec
public import Idealize.ShloMosaic.Lib.Pipeline.ValueKit
public import Idealize.ShloMosaic.Lib.Claim

@[expose] public section

set_option maxRecDepth 16384

noncomputable section

namespace Cert.QReferenceIdeal.Hand

open Cert.QReferenceIdeal Cert.QReferenceIdeal.Gen
open Idealize.ShloMosaic Idealize.ShloMosaic.TcCoe Idealize.ShloMosaic.Tactic
open Idealize.ShloMosaic.Pipeline (Dat Cfg Window)

/-! ## The values at an index -/

section Val
variable (x0 : Vec Ideal S72x1280 .f32) (x1 : Vec Ideal S72x2048 .f32)

theorem sc0_apply (j : S72.Idx) : k0_pay3 x0 j = Spec.rscale x0 (j 0) := by
  unfold k0_pay3 Spec.rscale Spec.qscale Spec.amax Spec.arow
  pointwise
theorem sc1_apply (j : S72.Idx) : k0_pay6 x1 j = Spec.rscale x1 (j 0) := by
  unfold k0_pay6 Spec.rscale Spec.qscale Spec.amax Spec.arow
  pointwise

theorem cd0_apply (j : S72x1280.Idx) : k0_pay4 x0 j = Spec.qcodes x0 j := by
  have h : k0_pay4 x0 j = FloatOps.fptosi (F := Ideal) (φ := .f32) 8 (Spec.code (Ideal.div (x0 j) (k0_pay3 x0 (ix1 (j 0))))) := by
    unfold k0_pay4 Spec.code
    pointwise
  rw [h, sc0_apply]
  rfl
theorem cd1_apply (j : S72x2048.Idx) : k0_pay1 (k0_pay7 x1) 127#32 (k0_pay8 (F := Ideal)) j = Spec.qcodes x1 j := by
  have h : k0_pay1 (k0_pay7 x1) 127#32 (k0_pay8 (F := Ideal)) j = FloatOps.fptosi (F := Ideal) (φ := .f32) 8 (Spec.code (Ideal.div (x1 j) (k0_pay6 x1 (ix1 (j 0))))) := by
    unfold k0_pay1 k0_pay7 k0_pay8 Spec.code
    pointwise
  rw [h, sc1_apply]
  rfl

theorem spread_apply (v : FVec Ideal S72 .f32) (j : S1x72.Idx) : shapeCast S1x72 v shapeCasts_S72_S1x72 j = v (ix1 (j 1)) := by
  pointwise

theorem row0_apply (j : S1x72.Idx) : k0_pay5 x0 j = Spec.qscales x0 j := by
  unfold k0_pay5
  exact (spread_apply _ j).trans (sc0_apply x0 _)
theorem row1_apply (j : S1x72.Idx) : k0_pay2 (k0_pay6 x1) j = Spec.qscales x1 j := by
  unfold k0_pay2
  exact (spread_apply _ j).trans (sc1_apply x1 _)

theorem out2 : out0_2 x0 x1 = Spec.qcodes x0 :=
  (show out0_2 x0 x1 = k0_pay4 x0 by frame_out).trans (funext fun j => cd0_apply x0 j)
theorem out3 : out0_3 x0 x1 = Spec.qscales x0 :=
  (show out0_3 x0 x1 = k0_pay5 x0 by frame_out).trans (funext fun j => row0_apply x0 j)
theorem out4 : out0_4 x0 x1 = Spec.qcodes x1 :=
  (show out0_4 x0 x1 = k0_pay1 (k0_pay7 x1) 127#32 (k0_pay8 (F := Ideal)) by frame_out).trans (funext fun j => cd1_apply x1 j)
theorem out5 : out0_5 x0 x1 = Spec.qscales x1 :=
  (show out0_5 x0 x1 = k0_pay2 (k0_pay6 x1) by frame_out).trans (funext fun j => row1_apply x1 j)
end Val

/-! ## The blocks at the arguments -/

variable (m : (ℓ : Loc nD τ sig) → Buf (Elt Ideal) ℓ) (c : Dev nD)

/-- The one point of the grid. -/
abbrev t0 : Fin cfg0.N := ⟨0, by decide⟩

theorem b0 : (iblk m c 0 t0 : S72x1280.Idx → EReal) = m ((c : Thread nD τ).loc main_arg0) :=
  (Memref.read_access_unit_zero (Elt Ideal) main_arg0 (funext fun a => by fin_cases a <;> rfl) _ _ : (iblk m c 0 t0 : S72x1280.Idx → EReal) = V m c main_arg0).trans (V_main_arg0 m c)
theorem b1 : (iblk m c 1 t0 : S72x2048.Idx → EReal) = m ((c : Thread nD τ).loc main_arg1) :=
  (Memref.read_access_unit_zero (Elt Ideal) main_arg1 (funext fun a => by fin_cases a <;> rfl) _ _ : (iblk m c 1 t0 : S72x2048.Idx → EReal) = V m c main_arg1).trans (V_main_arg1 m c)

/-! ## The result arrays -/

theorem arr2 (G : S72x1280.Idx → BitVec 8) (hG : (dats m 0 c).after 2 t0 = G) : (dats m 0 c).arrAt 2 (cfgs 0).N = G := by
  subst hG
  refine (dats m 0 c).arrAt_eq_of_after_last 2 t0 (by decide +kernel) _ fun j => ?_
  blk_simp
theorem arr3 (G : S1x72.Idx → EReal) (hG : (dats m 0 c).after 3 t0 = G) : (dats m 0 c).arrAt 3 (cfgs 0).N = G := by
  subst hG
  refine (dats m 0 c).arrAt_eq_of_after_last 3 t0 (by decide +kernel) _ fun j => ?_
  blk_simp
theorem arr4 (G : S72x2048.Idx → BitVec 8) (hG : (dats m 0 c).after 4 t0 = G) : (dats m 0 c).arrAt 4 (cfgs 0).N = G := by
  subst hG
  refine (dats m 0 c).arrAt_eq_of_after_last 4 t0 (by decide +kernel) _ fun j => ?_
  blk_simp
theorem arr5 (G : S1x72.Idx → EReal) (hG : (dats m 0 c).after 5 t0 = G) : (dats m 0 c).arrAt 5 (cfgs 0).N = G := by
  subst hG
  refine (dats m 0 c).arrAt_eq_of_after_last 5 t0 (by decide +kernel) _ fun j => ?_
  blk_simp

/-- The four results as functions of the arguments. -/
theorem fin_0 : (dats m 0 c).arrAt 2 (cfgs 0).N = Spec.qcodes (m ((c : Thread nD τ).loc main_arg0)) :=
  arr2 m c _ <| (after0_2 m c t0).trans <| (out2 _ _).trans (congrArg (Spec.qcodes (C := 1280)) (b0 m c))
theorem fin_1 : (dats m 0 c).arrAt 3 (cfgs 0).N = Spec.qscales (m ((c : Thread nD τ).loc main_arg0)) :=
  arr3 m c _ <| (after0_3 m c t0).trans <| (out3 _ _).trans (congrArg (Spec.qscales (C := 1280)) (b0 m c))
theorem fin_2 : (dats m 0 c).arrAt 4 (cfgs 0).N = Spec.qcodes (m ((c : Thread nD τ).loc main_arg1)) :=
  arr4 m c _ <| (after0_4 m c t0).trans <| (out4 _ _).trans (congrArg (Spec.qcodes (C := 2048)) (b1 m c))
theorem fin_3 : (dats m 0 c).arrAt 5 (cfgs 0).N = Spec.qscales (m ((c : Thread nD τ).loc main_arg1)) :=
  arr5 m c _ <| (after0_5 m c t0).trans <| (out5 _ _).trans (congrArg (Spec.qscales (C := 2048)) (b1 m c))

/-- The run: the four results, and the arguments unchanged. -/
theorem run_res (ρ : Dev nD → PrngReg) : θ_run defs (onTc (τ := τ) (main (F := Ideal))) ⟨m, fun _ => 0, ρ⟩ (fun r => ∀ c : Dev nD,
      r.2.mem ((c.tc : Thread nD τ).loc main_v0_0) = Spec.qcodes (m ((c : Thread nD τ).loc main_arg0)) ∧
      r.2.mem ((c.tc : Thread nD τ).loc main_v0_1) = Spec.qscales (m ((c : Thread nD τ).loc main_arg0)) ∧
      r.2.mem ((c.tc : Thread nD τ).loc main_v0_2) = Spec.qcodes (m ((c : Thread nD τ).loc main_arg1)) ∧
      r.2.mem ((c.tc : Thread nD τ).loc main_v0_3) = Spec.qscales (m ((c : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1)) :=
  (θ_run defs _ _).mono (fun _ h c => ⟨((h.1 c).1 2).trans (fin_0 m c), ((h.1 c).1 3).trans (fin_1 m c),
      ((h.1 c).1 4).trans (fin_2 m c), ((h.1 c).1 5).trans (fin_3 m c), h.2 c⟩) (θ_run_and (run_main m ρ) (unchanged m ρ))

end Cert.QReferenceIdeal.Hand
-- ==== Proof.QAlg.lean ====
/-
The third slice and its reference end with equal results.
-/
module

public import proofs.«01_k».proof.Proof.QKernelIdealIn
public import proofs.«01_k».proof.Proof.QRefRun
public import proofs.«01_k».proof.Defs

@[expose] public section

noncomputable section

namespace Cert

open Idealize.ShloMosaic Idealize.ShloMosaic.TcCoe

theorem qalgebraic_all : algebraic_QKernelIdeal_QReferenceIdeal (hQKernelIdeal := Cert.QKernelIdeal.Gen.facts) (hQReferenceIdeal := Cert.QReferenceIdeal.Gen.facts) :=
  fun m g m' g' _ hm => ⟨fun c => Spec.qcodes (m ((c.tc : Thread Cert.QKernelIdeal.nD Cert.QKernelIdeal.τ).loc Cert.QKernelIdeal.main_arg0)), fun c => Spec.qscales (m ((c.tc : Thread Cert.QKernelIdeal.nD Cert.QKernelIdeal.τ).loc Cert.QKernelIdeal.main_arg0)), fun c => Spec.qcodes (m ((c.tc : Thread Cert.QKernelIdeal.nD Cert.QKernelIdeal.τ).loc Cert.QKernelIdeal.main_arg1)), fun c => Spec.qscales (m ((c.tc : Thread Cert.QKernelIdeal.nD Cert.QKernelIdeal.τ).loc Cert.QKernelIdeal.main_arg1)),
    Cert.QKernelIdeal.Hand.run_res m g,
    (θ_run _ _ _).mono (fun _ h c => ⟨(h c).1.trans (congrArg Spec.qcodes (hm c).1),
      (h c).2.1.trans (congrArg Spec.qscales (hm c).1),
      (h c).2.2.1.trans (congrArg Spec.qcodes (hm c).2),
      (h c).2.2.2.1.trans (congrArg Spec.qscales (hm c).2),
      (h c).2.2.2.2.1,
      (h c).2.2.2.2.2⟩) (Cert.QReferenceIdeal.Hand.run_res m' g')⟩

end Cert
-- ==== Proof.lean ====
/-
The proof of the certificate's claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.XKernel
public import proofs.«01_k».proof.Proof.Gen.XKernel.Skeleton
public import proofs.«01_k».proof.Proof.Gen.XKernel.Launch
public import proofs.«01_k».proof.Proof.Gen.XKernel.Points
public import proofs.«01_k».proof.Proof.Gen.XKernel.Frame
public import proofs.«01_k».proof.Proof.Gen.XKernelIdeal
public import proofs.«01_k».proof.Proof.Gen.XKernelIdeal.Skeleton
public import proofs.«01_k».proof.Proof.Gen.XKernelIdeal.Launch
public import proofs.«01_k».proof.Proof.Gen.XKernelIdeal.Points
public import proofs.«01_k».proof.Proof.Gen.XKernelIdeal.Frame
public import proofs.«01_k».proof.Proof.Gen.XReferenceIdeal
public import proofs.«01_k».proof.Proof.Gen.XReferenceIdeal.Skeleton
public import proofs.«01_k».proof.Proof.Gen.XReferenceIdeal.Launch
public import proofs.«01_k».proof.Proof.Gen.XReferenceIdeal.Points
public import proofs.«01_k».proof.Proof.Gen.XReferenceIdeal.Frame
public import proofs.«01_k».proof.Proof.Gen.QKernel
public import proofs.«01_k».proof.Proof.Gen.QKernel.Skeleton
public import proofs.«01_k».proof.Proof.Gen.QKernel.Launch
public import proofs.«01_k».proof.Proof.Gen.QKernel.Points
public import proofs.«01_k».proof.Proof.Gen.QKernel.Frame
public import proofs.«01_k».proof.Proof.Gen.QKernelIdeal
public import proofs.«01_k».proof.Proof.Gen.QKernelIdeal.Skeleton
public import proofs.«01_k».proof.Proof.Gen.QKernelIdeal.Launch
public import proofs.«01_k».proof.Proof.Gen.QKernelIdeal.Points
public import proofs.«01_k».proof.Proof.Gen.QKernelIdeal.Frame
public import proofs.«01_k».proof.Proof.Gen.QReferenceIdeal
public import proofs.«01_k».proof.Proof.Gen.QReferenceIdeal.Skeleton
public import proofs.«01_k».proof.Proof.Gen.QReferenceIdeal.Launch
public import proofs.«01_k».proof.Proof.Gen.QReferenceIdeal.Points
public import proofs.«01_k».proof.Proof.Gen.QReferenceIdeal.Frame
public import proofs.«01_k».proof.Proof.KernelFrame
public import proofs.«01_k».proof.Proof.KernelIdealFrame
public import proofs.«01_k».proof.Proof.Alg
public import proofs.«01_k».proof.Proof.XAlg
public import proofs.«01_k».proof.Proof.QAlg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.XKernel.Gen.facts, Cert.XKernelIdeal.Gen.facts, Cert.XReferenceIdeal.Gen.facts,
  Cert.QKernel.Gen.facts, Cert.QKernelIdeal.Gen.facts, Cert.QReferenceIdeal.Gen.facts,
  fun m g _ => Cert.Kernel.Hand.frame_all m g, fun m g _ => Cert.KernelIdeal.Hand.frame_all m g,
  fun m g _ => Cert.ReferenceIdeal.Gen.frame m g,
  fun m g _ => Cert.XKernel.Gen.frame m g, fun m g _ => Cert.XKernelIdeal.Gen.frame m g,
  fun m g _ => Cert.XReferenceIdeal.Gen.frame m g,
  fun m g _ => Cert.QKernel.Gen.frame m g, fun m g _ => Cert.QKernelIdeal.Gen.frame m g,
  fun m g _ => Cert.QReferenceIdeal.Gen.frame m g,
  trivial, Cert.algebraic_all, trivial, Cert.xalgebraic_all, trivial, Cert.qalgebraic_all⟩

end Cert.Proof

end
